-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v24) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v26) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v4_0)) (v1 : (c : Dev Cert.Kernel37Ideal.nD) → Buf (Elt Ideal) ((c.tc : Thread Cert.Kernel37Ideal.nD Cert.Kernel37Ideal.τ).loc Cert.Kernel37Ideal.main_v4_1)) (v2 : (c : Dev Cert.Kernel37Ideal.nD) → Buf (Elt Ideal) ((c.tc : Thread Cert.Kernel37Ideal.nD Cert.Kernel37Ideal.τ).loc Cert.Kernel37Ideal.main_v4_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4_0) = v0 c
          ∧ r.2.mem ((c.tc : Thread Cert.Kernel37Ideal.nD Cert.Kernel37Ideal.τ).loc Cert.Kernel37Ideal.main_v4_1) = v1 c
          ∧ r.2.mem ((c.tc : Thread Cert.Kernel37Ideal.nD Cert.Kernel37Ideal.τ).loc Cert.Kernel37Ideal.main_v4_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v24) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v26) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v24) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v26) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v4_0)) (v1 : (c : Dev Cert.Kernel41Ideal.nD) → Buf (Elt Ideal) ((c.tc : Thread Cert.Kernel41Ideal.nD Cert.Kernel41Ideal.τ).loc Cert.Kernel41Ideal.main_v4_1)) (v2 : (c : Dev Cert.Kernel41Ideal.nD) → Buf (Elt Ideal) ((c.tc : Thread Cert.Kernel41Ideal.nD Cert.Kernel41Ideal.τ).loc Cert.Kernel41Ideal.main_v4_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v4_0) = v0 c
          ∧ r.2.mem ((c.tc : Thread Cert.Kernel41Ideal.nD Cert.Kernel41Ideal.τ).loc Cert.Kernel41Ideal.main_v4_1) = v1 c
          ∧ r.2.mem ((c.tc : Thread Cert.Kernel41Ideal.nD Cert.Kernel41Ideal.τ).loc Cert.Kernel41Ideal.main_v4_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v24) = v0 c
          ∧ r.2.mem ((c.tc : Thread Cert.Reference41Ideal.nD Cert.Reference41Ideal.τ).loc Cert.Reference41Ideal.main_v25) = v1 c
          ∧ r.2.mem ((c.tc : Thread Cert.Reference41Ideal.nD Cert.Reference41Ideal.τ).loc Cert.Reference41Ideal.main_v26) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v4_0)) (v1 : (c : Dev Cert.Kernel42Ideal.nD) → Buf (Elt Ideal) ((c.tc : Thread Cert.Kernel42Ideal.nD Cert.Kernel42Ideal.τ).loc Cert.Kernel42Ideal.main_v4_1)) (v2 : (c : Dev Cert.Kernel42Ideal.nD) → Buf (Elt Ideal) ((c.tc : Thread Cert.Kernel42Ideal.nD Cert.Kernel42Ideal.τ).loc Cert.Kernel42Ideal.main_v4_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v4_0) = v0 c
          ∧ r.2.mem ((c.tc : Thread Cert.Kernel42Ideal.nD Cert.Kernel42Ideal.τ).loc Cert.Kernel42Ideal.main_v4_1) = v1 c
          ∧ r.2.mem ((c.tc : Thread Cert.Kernel42Ideal.nD Cert.Kernel42Ideal.τ).loc Cert.Kernel42Ideal.main_v4_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v24) = v0 c
          ∧ r.2.mem ((c.tc : Thread Cert.Reference42Ideal.nD Cert.Reference42Ideal.τ).loc Cert.Reference42Ideal.main_v25) = v1 c
          ∧ r.2.mem ((c.tc : Thread Cert.Reference42Ideal.nD Cert.Reference42Ideal.τ).loc Cert.Reference42Ideal.main_v26) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v23) = v0 c
          ∧ r.2.mem ((c.tc : Thread Cert.Reference43Ideal.nD Cert.Reference43Ideal.τ).loc Cert.Reference43Ideal.main_v4) = v1 c
          ∧ r.2.mem ((c.tc : Thread Cert.Reference43Ideal.nD Cert.Reference43Ideal.τ).loc Cert.Reference43Ideal.main_v10) = v2 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v4_0)) (v1 : (c : Dev Cert.Kernel44Ideal.nD) → Buf (Elt Ideal) ((c.tc : Thread Cert.Kernel44Ideal.nD Cert.Kernel44Ideal.τ).loc Cert.Kernel44Ideal.main_v4_1)) (v2 : (c : Dev Cert.Kernel44Ideal.nD) → Buf (Elt Ideal) ((c.tc : Thread Cert.Kernel44Ideal.nD Cert.Kernel44Ideal.τ).loc Cert.Kernel44Ideal.main_v4_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v4_0) = v0 c
          ∧ r.2.mem ((c.tc : Thread Cert.Kernel44Ideal.nD Cert.Kernel44Ideal.τ).loc Cert.Kernel44Ideal.main_v4_1) = v1 c
          ∧ r.2.mem ((c.tc : Thread Cert.Kernel44Ideal.nD Cert.Kernel44Ideal.τ).loc Cert.Kernel44Ideal.main_v4_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v24) = v0 c
          ∧ r.2.mem ((c.tc : Thread Cert.Reference44Ideal.nD Cert.Reference44Ideal.τ).loc Cert.Reference44Ideal.main_v25) = v1 c
          ∧ r.2.mem ((c.tc : Thread Cert.Reference44Ideal.nD Cert.Reference44Ideal.τ).loc Cert.Reference44Ideal.main_v26) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)) →
    ∃ (v0 : (c : Dev Cert.Kernel45Ideal.nD) → Buf (Elt Ideal) ((c.tc : Thread Cert.Kernel45Ideal.nD Cert.Kernel45Ideal.τ).loc Cert.Kernel45Ideal.main_v4_0)) (v1 : (c : Dev Cert.Kernel45Ideal.nD) → Buf (Elt Ideal) ((c.tc : Thread Cert.Kernel45Ideal.nD Cert.Kernel45Ideal.τ).loc Cert.Kernel45Ideal.main_v4_1)) (v2 : (c : Dev Cert.Kernel45Ideal.nD) → Buf (Elt Ideal) ((c.tc : Thread Cert.Kernel45Ideal.nD Cert.Kernel45Ideal.τ).loc Cert.Kernel45Ideal.main_v4_2)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v4_0) = v0 c
          ∧ r.2.mem ((c.tc : Thread Cert.Kernel45Ideal.nD Cert.Kernel45Ideal.τ).loc Cert.Kernel45Ideal.main_v4_1) = v1 c
          ∧ r.2.mem ((c.tc : Thread Cert.Kernel45Ideal.nD Cert.Kernel45Ideal.τ).loc Cert.Kernel45Ideal.main_v4_2) = v2 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v24) = v0 c
          ∧ r.2.mem ((c.tc : Thread Cert.Reference45Ideal.nD Cert.Reference45Ideal.τ).loc Cert.Reference45Ideal.main_v25) = v1 c
          ∧ r.2.mem ((c.tc : Thread Cert.Reference45Ideal.nD Cert.Reference45Ideal.τ).loc Cert.Reference45Ideal.main_v26) = v2 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)) →
    ∃ (v0 : (c : Dev Cert.Kernel46Ideal.nD) → Buf (Elt Ideal) ((c.tc : Thread Cert.Kernel46Ideal.nD Cert.Kernel46Ideal.τ).loc Cert.Kernel46Ideal.main_v4_0)) (v1 : (c : Dev Cert.Kernel46Ideal.nD) → Buf (Elt Ideal) ((c.tc : Thread Cert.Kernel46Ideal.nD Cert.Kernel46Ideal.τ).loc Cert.Kernel46Ideal.main_v4_1)) (v2 : (c : Dev Cert.Kernel46Ideal.nD) → Buf (Elt Ideal) ((c.tc : Thread Cert.Kernel46Ideal.nD Cert.Kernel46Ideal.τ).loc Cert.Kernel46Ideal.main_v4_2)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v4_0) = v0 c
          ∧ r.2.mem ((c.tc : Thread Cert.Kernel46Ideal.nD Cert.Kernel46Ideal.τ).loc Cert.Kernel46Ideal.main_v4_1) = v1 c
          ∧ r.2.mem ((c.tc : Thread Cert.Kernel46Ideal.nD Cert.Kernel46Ideal.τ).loc Cert.Kernel46Ideal.main_v4_2) = v2 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v24) = v0 c
          ∧ r.2.mem ((c.tc : Thread Cert.Reference46Ideal.nD Cert.Reference46Ideal.τ).loc Cert.Reference46Ideal.main_v25) = v1 c
          ∧ r.2.mem ((c.tc : Thread Cert.Reference46Ideal.nD Cert.Reference46Ideal.τ).loc Cert.Reference46Ideal.main_v26) = v2 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v3)) (v1 : (c : Dev Cert.Kernel47Ideal.nD) → Buf (Elt Ideal) ((c.tc : Thread Cert.Kernel47Ideal.nD Cert.Kernel47Ideal.τ).loc Cert.Kernel47Ideal.main_v0_1)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v3) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v8) = v0 c
          ∧ r.2.mem ((c.tc : Thread Cert.Reference47Ideal.nD Cert.Reference47Ideal.τ).loc Cert.Reference47Ideal.main_v14) = v1 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
-- ==== Kernel.lean ====
abbrev S4096x3072 : Shape := ⟨2, ![4096, 3072]⟩
abbrev S4096x512 : Shape := ⟨2, ![4096, 512]⟩
abbrev S4096x1024 : Shape := ⟨2, ![4096, 1024]⟩
abbrev S4x64x256x128 : Shape := ⟨4, ![4, 64, 256, 128]⟩
abbrev S256x512 : Shape := ⟨2, ![256, 512]⟩
abbrev S256x1024 : Shape := ⟨2, ![256, 1024]⟩
abbrev S4x4x256x128 : Shape := ⟨4, ![4, 4, 256, 128]⟩
abbrev S4x256x128 : Shape := ⟨3, ![4, 256, 128]⟩
abbrev S64x128 : Shape := ⟨2, ![64, 128]⟩
abbrev S64x64 : Shape := ⟨2, ![64, 64]⟩
abbrev S1x128 : Shape := ⟨2, ![1, 128]⟩
abbrev S64x256 : Shape := ⟨2, ![64, 256]⟩
abbrev S256x128 : Shape := ⟨2, ![256, 128]⟩
abbrev S1x256x128 : Shape := ⟨3, ![1, 256, 128]⟩
abbrev S1x1x256x128 : Shape := ⟨4, ![1, 1, 256, 128]⟩
abbrev S128 : Shape := ⟨1, ![128]⟩
abbrev S64x1 : Shape := ⟨2, ![64, 1]⟩

abbrev nBuf : Space → Nat
  | .hbm => 9
  | .vmem => 34
  | .smem => 0
  | _ => 0

abbrev bufTy : (tb : Table) → Fin (tcTables nBuf tb) → BufTy
  | .hbm, ⟨0, _⟩ => ⟨S4096x3072, .bf16⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S4x64x256x128, .f32⟩
  | .hbm, ⟨5, _⟩ => ⟨S4096x512, .bf16⟩
  | .hbm, ⟨6, _⟩ => ⟨S4096x512, .bf16⟩
  | .hbm, ⟨7, _⟩ => ⟨S4096x1024, .bf16⟩
  | .hbm, ⟨8, _⟩ => ⟨S4096x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S4x4x256x128, .f32⟩
  | .local _ .vmem, ⟨11, _⟩ => ⟨S4x4x256x128, .f32⟩
  | .local _ .vmem, ⟨12, _⟩ => ⟨S4x256x128, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x1024, .bf16⟩
  | .local _ .vmem, ⟨18, _⟩ => ⟨S256x1024, .bf16⟩
  | .local _ .vmem, ⟨19, _⟩ => ⟨S256x512, .f32⟩
  | .local _ .vmem, ⟨20, _⟩ => ⟨S256x512, .f32⟩
  | .local _ .vmem, ⟨21, _⟩ => ⟨S4x4x256x128, .f32⟩
  | .local _ .vmem, ⟨22, _⟩ => ⟨S4x4x256x128, .f32⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x1024, .bf16⟩
  | .local _ .vmem, ⟨30, _⟩ => ⟨S256x1024, .bf16⟩
  | .local _ .vmem, ⟨31, _⟩ => ⟨S256x512, .f32⟩
  | .local _ .vmem, ⟨32, _⟩ => ⟨S256x512, .f32⟩
  | .local _ .vmem, ⟨33, _⟩ => ⟨S4x256x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi c1_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi c1_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_4 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x4x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S4096x3072 : Shape := ⟨2, ![4096, 3072]⟩
abbrev S4096x512 : Shape := ⟨2, ![4096, 512]⟩
abbrev S4096x1024 : Shape := ⟨2, ![4096, 1024]⟩
abbrev S1x4096x3072 : Shape := ⟨3, ![1, 4096, 3072]⟩
abbrev S1x4096x512 : Shape := ⟨3, ![1, 4096, 512]⟩
abbrev S1x4096x1024 : Shape := ⟨3, ![1, 4096, 1024]⟩
abbrev S1x64x64x4x128 : Shape := ⟨5, ![1, 64, 64, 4, 128]⟩
abbrev S_ : Shape := ⟨0, ![]⟩
abbrev S1x64x64x4x256 : Shape := ⟨5, ![1, 64, 64, 4, 256]⟩
abbrev S1x64x1x4x128 : Shape := ⟨5, ![1, 64, 1, 4, 128]⟩
abbrev S1x64x4x128 : Shape := ⟨4, ![1, 64, 4, 128]⟩
abbrev S64x1x4x128x256 : Shape := ⟨5, ![64, 1, 4, 128, 256]⟩
abbrev S64x1x4x128 : Shape := ⟨4, ![64, 1, 4, 128]⟩
abbrev S64x1x64x4x128 : Shape := ⟨5, ![64, 1, 64, 4, 128]⟩
abbrev S1x4x128x256 : Shape := ⟨4, ![1, 4, 128, 256]⟩
abbrev S64x1x64x4x256 : Shape := ⟨5, ![64, 1, 64, 4, 256]⟩
abbrev S64x1x4x128x1 : Shape := ⟨5, ![64, 1, 4, 128, 1]⟩
abbrev S1x1x4x128 : Shape := ⟨4, ![1, 1, 4, 128]⟩
abbrev S1x4x128 : Shape := ⟨3, ![1, 4, 128]⟩
abbrev S1x1x4x128x256 : Shape := ⟨5, ![1, 1, 4, 128, 256]⟩
abbrev S1x1x64x4x128 : Shape := ⟨5, ![1, 1, 64, 4, 128]⟩
abbrev S1x4x128x1 : Shape := ⟨4, ![1, 4, 128, 1]⟩
abbrev S1x4x256x64 : Shape := ⟨4, ![1, 4, 256, 64]⟩
abbrev S1x64x4x256 : Shape := ⟨4, ![1, 64, 4, 256]⟩
abbrev S1x1x64x4x256 : Shape := ⟨5, ![1, 1, 64, 4, 256]⟩
abbrev S1x1x4x128x1 : Shape := ⟨5, ![1, 1, 4, 128, 1]⟩
abbrev S1x4x64x128 : Shape := ⟨4, ![1, 4, 64, 128]⟩
abbrev S1x4x256x128 : Shape := ⟨4, ![1, 4, 256, 128]⟩
abbrev S4x128 : Shape := ⟨2, ![4, 128]⟩
abbrev S64x1x4x256x64 : Shape := ⟨5, ![64, 1, 4, 256, 64]⟩
abbrev S64x1x4x128x64 : Shape := ⟨5, ![64, 1, 4, 128, 64]⟩
abbrev S64x4x128 : Shape := ⟨3, ![64, 4, 128]⟩

abbrev nBuf : Space → Nat
  | .hbm => 237
  | .vmem => 0
  | .smem => 0
  | _ => 0

abbrev hbmTy0_0 (i : Nat) : BufTy := match i % 128 with
  | 0 => ⟨S4096x3072, .bf16⟩
  | 1 => ⟨S4096x512, .f32⟩
  | 2 => ⟨S4096x1024, .f32⟩
  | 3 => ⟨S4096x3072, .f32⟩
  | 4 => ⟨S1x4096x3072, .f32⟩
  | 5 => ⟨S1x4096x512, .f32⟩
  | 6 => ⟨S1x4096x512, .f32⟩
  | 7 => ⟨S1x4096x1024, .f32⟩
  | 8 => ⟨S1x4096x512, .f32⟩
  | 9 => ⟨S1x64x64x4x128, .f32⟩
  | 10 => ⟨S_, .f32⟩
  | 11 => ⟨S1x64x64x4x128, .f32⟩
  | 12 => ⟨S1x64x64x4x128, .f32⟩
  | 13 => ⟨S1x64x64x4x128, .f32⟩
  | 14 => ⟨S1x64x64x4x256, .f32⟩
  | 15 => ⟨S1x64x64x4x128, .f32⟩
  | 16 => ⟨S_, .f32⟩
  | 17 => ⟨S_, .f32⟩
  | 18 => ⟨S1x64x64x4x128, .f32⟩
  | 19 => ⟨S1x64x1x4x128, .f32⟩
  | 20 => ⟨S1x64x4x128, .f32⟩
  | 21 => ⟨S1x64x1x4x128, .f32⟩
  | 22 => ⟨S1x64x64x4x128, .f32⟩
  | 23 => ⟨S1x64x64x4x128, .f32⟩
  | 24 => ⟨S1x64x64x4x128, .f32⟩
  | 25 => ⟨S1x64x64x4x128, .f32⟩
  | 26 => ⟨S64x1x4x128x256, .f32⟩
  | 27 => ⟨S64x1x4x128, .f32⟩
  | 28 => ⟨S64x1x4x128, .f32⟩
  | 29 => ⟨S64x1x64x4x128, .f32⟩
  | 30 => ⟨S_, .f32⟩
  | 31 => ⟨S1x4x128x256, .f32⟩
  | 32 => ⟨S_, .f32⟩
  | 33 => ⟨S64x1x64x4x256, .f32⟩
  | 34 => ⟨S_, .f32⟩
  | 35 => ⟨S64x1x4x128x1, .f32⟩
  | 36 => ⟨S_, .f32⟩
  | 37 => ⟨S64x1x4x128x256, .f32⟩
  | 38 => ⟨S_, .f32⟩
  | 39 => ⟨S64x1x4x128x256, .f32⟩
  | 40 => ⟨S_, .i32⟩
  | 41 => ⟨S64x1x4x128, .f32⟩
  | 42 => ⟨S64x1x4x128x256, .f32⟩
  | 43 => ⟨S64x1x64x4x128, .f32⟩
  | 44 => ⟨S_, .i32⟩
  | 45 => ⟨S1x4x128x256, .f32⟩
  | 46 => ⟨S64x1x64x4x256, .f32⟩
  | 47 => ⟨S64x1x4x128x1, .f32⟩
  | 48 => ⟨S64x1x4x128x256, .f32⟩
  | 49 => ⟨S64x1x4x128x256, .f32⟩
  | 50 => ⟨S_, .i32⟩
  | 51 => ⟨S_, .i1⟩
  | 52 => ⟨S_, .i32⟩
  | 53 => ⟨S_, .i32⟩
  | 54 => ⟨S_, .i32⟩
  | 55 => ⟨S1x1x4x128, .f32⟩
  | 56 => ⟨S1x4x128, .f32⟩
  | 57 => ⟨S_, .i32⟩
  | 58 => ⟨S_, .i32⟩
  | 59 => ⟨S_, .i32⟩
  | 60 => ⟨S_, .i32⟩
  | 61 => ⟨S1x1x4x128x256, .f32⟩
  | 62 => ⟨S1x4x128x256, .f32⟩
  | 63 => ⟨S_, .i32⟩
  | 64 => ⟨S_, .i32⟩
  | 65 => ⟨S_, .i32⟩
  | 66 => ⟨S_, .i32⟩
  | 67 => ⟨S1x1x64x4x128, .f32⟩
  | 68 => ⟨S1x64x4x128, .f32⟩
  | 69 => ⟨S1x4x128x1, .f32⟩
  | 70 => ⟨S1x4x128x256, .f32⟩
  | 71 => ⟨S1x4x128x256, .f32⟩
  | 72 => ⟨S1x4x128x256, .f32⟩
  | 73 => ⟨S1x4x256x64, .f32⟩
  | 74 => ⟨S1x64x4x256, .f32⟩
  | 75 => ⟨S1x1x64x4x256, .f32⟩
  | 76 => ⟨S_, .i32⟩
  | 77 => ⟨S_, .i32⟩
  | 78 => ⟨S_, .i32⟩
  | 79 => ⟨S_, .i32⟩
  | 80 => ⟨S64x1x64x4x256, .f32⟩
  | 81 => ⟨S1x1x4x128x1, .f32⟩
  | 82 => ⟨S_, .i32⟩
  | 83 => ⟨S_, .i32⟩
  | 84 => ⟨S_, .i32⟩
  | 85 => ⟨S_, .i32⟩
  | 86 => ⟨S64x1x4x128x1, .f32⟩
  | 87 => ⟨S1x1x4x128x256, .f32⟩
  | 88 => ⟨S_, .i32⟩
  | 89 => ⟨S_, .i32⟩
  | 90 => ⟨S_, .i32⟩
  | 91 => ⟨S_, .i32⟩
  | 92 => ⟨S64x1x4x128x256, .f32⟩
  | 93 => ⟨S1x1x4x128x256, .f32⟩
  | 94 => ⟨S_, .i32⟩
  | 95 => ⟨S_, .i32⟩
  | 96 => ⟨S_, .i32⟩
  | 97 => ⟨S_, .i32⟩
  | 98 => ⟨S64x1x4x128x256, .f32⟩
  | 99 => ⟨S_, .i32⟩
  | 100 => ⟨S_, .i32⟩
  | 101 => ⟨S1x64x64x4x256, .f32⟩
  | 102 => ⟨S1x4096x1024, .f32⟩
  | 103 => ⟨S1x4096x1024, .f32⟩
  | 104 => ⟨S_, .f32⟩
  | 105 => ⟨S1x4x128x256, .f32⟩
  | 106 => ⟨S1x64x64x4x256, .f32⟩
  | 107 => ⟨S64x1x64x4x256, .f32⟩
  | 108 => ⟨S_, .f32⟩
  | 109 => ⟨S1x4x128x256, .f32⟩
  | 110 => ⟨S_, .f32⟩
  | 111 => ⟨S64x1x4x128, .f32⟩
  | 112 => ⟨S_, .f32⟩
  | 113 => ⟨S64x1x4x128x256, .f32⟩
  | 114 => ⟨S_, .f32⟩
  | 115 => ⟨S64x1x64x4x128, .f32⟩
  | 116 => ⟨S_, .i32⟩
  | 117 => ⟨S64x1x64x4x256, .f32⟩
  | 118 => ⟨S64x1x4x128x1, .f32⟩
  | 119 => ⟨S64x1x4x128x256, .f32⟩
  | 120 => ⟨S64x1x64x4x128, .f32⟩
  | 121 => ⟨S64x1x4x128x256, .f32⟩
  | 122 => ⟨S_, .i32⟩
  | 123 => ⟨S1x4x128x256, .f32⟩
  | 124 => ⟨S64x1x4x128, .f32⟩
  | 125 => ⟨S64x1x4x128x256, .f32⟩
  | 126 => ⟨S64x1x64x4x128, .f32⟩
  | 127 => ⟨S_, .i32⟩
  | _ => ⟨S4096x3072, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S1x1x64x4x256, .f32⟩
  | 10 => ⟨S1x64x4x256, .f32⟩
  | 11 => ⟨S_, .i32⟩
  | 12 => ⟨S_, .i32⟩
  | 13 => ⟨S_, .i32⟩
  | 14 => ⟨S_, .i32⟩
  | 15 => ⟨S1x1x4x128x1, .f32⟩
  | 16 => ⟨S1x4x128x1, .f32⟩
  | 17 => ⟨S_, .i32⟩
  | 18 => ⟨S_, .i32⟩
  | 19 => ⟨S_, .i32⟩
  | 20 => ⟨S_, .i32⟩
  | 21 => ⟨S1x1x4x128x256, .f32⟩
  | 22 => ⟨S1x4x128x256, .f32⟩
  | 23 => ⟨S_, .i32⟩
  | 24 => ⟨S_, .i32⟩
  | 25 => ⟨S_, .i32⟩
  | 26 => ⟨S_, .i32⟩
  | 27 => ⟨S1x1x64x4x128, .f32⟩
  | 28 => ⟨S1x64x4x128, .f32⟩
  | 29 => ⟨S_, .i32⟩
  | 30 => ⟨S_, .i32⟩
  | 31 => ⟨S_, .i32⟩
  | 32 => ⟨S_, .i32⟩
  | 33 => ⟨S1x1x4x128x256, .f32⟩
  | 34 => ⟨S1x4x128x256, .f32⟩
  | 35 => ⟨S1x4x256x64, .f32⟩
  | 36 => ⟨S1x4x64x128, .f32⟩
  | 37 => ⟨S1x64x4x128, .f32⟩
  | 38 => ⟨S1x4x256x128, .f32⟩
  | 39 => ⟨S1x4x128x256, .f32⟩
  | 40 => ⟨S1x4x128x256, .f32⟩
  | 41 => ⟨S1x4x128x256, .f32⟩
  | 42 => ⟨S_, .f32⟩
  | 43 => ⟨S1x4x128, .f32⟩
  | 44 => ⟨S1x4x128x1, .f32⟩
  | 45 => ⟨S1x4x128x256, .f32⟩
  | 46 => ⟨S1x4x128x256, .f32⟩
  | 47 => ⟨S_, .f32⟩
  | 48 => ⟨S4x128, .f32⟩
  | 49 => ⟨S1x4x128, .f32⟩
  | 50 => ⟨S1x1x4x128, .f32⟩
  | 51 => ⟨S_, .i32⟩
  | 52 => ⟨S_, .i32⟩
  | 53 => ⟨S_, .i32⟩
  | 54 => ⟨S64x1x4x128, .f32⟩
  | 55 => ⟨S1x1x4x128x256, .f32⟩
  | 56 => ⟨S_, .i32⟩
  | 57 => ⟨S_, .i32⟩
  | 58 => ⟨S_, .i32⟩
  | 59 => ⟨S_, .i32⟩
  | 60 => ⟨S64x1x4x128x256, .f32⟩
  | 61 => ⟨S1x1x64x4x128, .f32⟩
  | 62 => ⟨S_, .i32⟩
  | 63 => ⟨S_, .i32⟩
  | 64 => ⟨S_, .i32⟩
  | 65 => ⟨S_, .i32⟩
  | 66 => ⟨S64x1x64x4x128, .f32⟩
  | 67 => ⟨S_, .i32⟩
  | 68 => ⟨S_, .i32⟩
  | 69 => ⟨S1x64x64x4x128, .f32⟩
  | 70 => ⟨S64x1x4x128, .f32⟩
  | 71 => ⟨S1x64x4x128, .f32⟩
  | 72 => ⟨S64x1x4x256x64, .f32⟩
  | 73 => ⟨S1x64x64x4x256, .f32⟩
  | 74 => ⟨S64x1x4x128x64, .f32⟩
  | 75 => ⟨S1x64x64x4x128, .f32⟩
  | 76 => ⟨S1x64x64x4x128, .f32⟩
  | 77 => ⟨S1x64x64x4x128, .f32⟩
  | 78 => ⟨S1x64x64x4x128, .f32⟩
  | 79 => ⟨S_, .f32⟩
  | 80 => ⟨S1x64x4x128, .f32⟩
  | 81 => ⟨S1x64x1x4x128, .f32⟩
  | 82 => ⟨S1x64x64x4x128, .f32⟩
  | 83 => ⟨S_, .f32⟩
  | 84 => ⟨S64x4x128, .f32⟩
  | 85 => ⟨S1x64x4x128, .f32⟩
  | 86 => ⟨S1x64x4x128, .f32⟩
  | 87 => ⟨S1x64x1x4x128, .f32⟩
  | 88 => ⟨S_, .f32⟩
  | 89 => ⟨S1x64x64x4x128, .f32⟩
  | 90 => ⟨S1x64x64x4x128, .f32⟩
  | 91 => ⟨S_, .f32⟩
  | 92 => ⟨S_, .f32⟩
  | 93 => ⟨S1x64x64x4x128, .f32⟩
  | 94 => ⟨S1x4096x512, .f32⟩
  | 95 => ⟨S1x4096x1024, .f32⟩
  | 96 => ⟨S1x4096x512, .f32⟩
  | 97 => ⟨S_, .f32⟩
  | 98 => ⟨S1x64x64x4x128, .f32⟩
  | 99 => ⟨S1x64x64x4x128, .f32⟩
  | 100 => ⟨S1x4096x512, .f32⟩
  | 101 => ⟨S4096x1024, .f32⟩
  | 102 => ⟨S4096x512, .f32⟩
  | 103 => ⟨S4096x512, .bf16⟩
  | 104 => ⟨S4096x512, .f32⟩
  | 105 => ⟨S4096x512, .bf16⟩
  | 106 => ⟨S4096x1024, .f32⟩
  | 107 => ⟨S4096x1024, .bf16⟩
  | 108 => ⟨S4096x512, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_call0_cst : Ref sig .tc := ⟨.hbm, 16, rfl⟩
abbrev main_call0_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_c : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev main_v29_6 : Ref sig .tc := ⟨.hbm, 47, rfl⟩
abbrev main_v29_7 : Ref sig .tc := ⟨.hbm, 48, rfl⟩
abbrev main_v29_8 : Ref sig .tc := ⟨.hbm, 49, rfl⟩
abbrev main_while0c_c_23 : Ref sig .tc := ⟨.hbm, 50, rfl⟩
abbrev main_while0c_v75 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_v0 : Ref sig .tc := ⟨.hbm, 55, rfl⟩
abbrev main_while0b_v75 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_c_1 : Ref sig .tc := ⟨.hbm, 59, rfl⟩
abbrev main_while0b_call2_c_2 : Ref sig .tc := ⟨.hbm, 60, rfl⟩
abbrev main_while0b_call2_v0 : Ref sig .tc := ⟨.hbm, 61, rfl⟩
abbrev main_while0b_v76 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_call3_c_1 : Ref sig .tc := ⟨.hbm, 65, rfl⟩
abbrev main_while0b_call3_c_2 : Ref sig .tc := ⟨.hbm, 66, rfl⟩
abbrev main_while0b_call3_v0 : Ref sig .tc := ⟨.hbm, 67, rfl⟩
abbrev main_while0b_v77 : Ref sig .tc := ⟨.hbm, 68, rfl⟩
abbrev main_while0b_v78 : Ref sig .tc := ⟨.hbm, 69, rfl⟩
abbrev main_while0b_v79 : Ref sig .tc := ⟨.hbm, 70, rfl⟩
abbrev main_while0b_v80 : Ref sig .tc := ⟨.hbm, 71, rfl⟩
abbrev main_while0b_v81 : Ref sig .tc := ⟨.hbm, 72, rfl⟩
abbrev main_while0b_v82 : Ref sig .tc := ⟨.hbm, 73, rfl⟩
abbrev main_while0b_v83 : Ref sig .tc := ⟨.hbm, 74, rfl⟩
abbrev main_while0b_call4_v0 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_c_2 : Ref sig .tc := ⟨.hbm, 79, rfl⟩
abbrev main_while0b_v84 : Ref sig .tc := ⟨.hbm, 80, rfl⟩
abbrev main_while0b_call5_v0 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_c_1 : Ref sig .tc := ⟨.hbm, 84, rfl⟩
abbrev main_while0b_call5_c_2 : Ref sig .tc := ⟨.hbm, 85, rfl⟩
abbrev main_while0b_v85 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_v86 : Ref sig .tc := ⟨.hbm, 92, rfl⟩
abbrev main_while0b_call7_v0 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_c_2 : Ref sig .tc := ⟨.hbm, 97, rfl⟩
abbrev main_while0b_v87 : Ref sig .tc := ⟨.hbm, 98, rfl⟩
abbrev main_while0b_c_23 : Ref sig .tc := ⟨.hbm, 99, rfl⟩
abbrev main_while0b_v88 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_cst_5 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_cst_6 : Ref sig .tc := ⟨.hbm, 108, rfl⟩
abbrev main_v36 : Ref sig .tc := ⟨.hbm, 109, rfl⟩
abbrev main_cst_7 : Ref sig .tc := ⟨.hbm, 110, rfl⟩
abbrev main_v37 : Ref sig .tc := ⟨.hbm, 111, rfl⟩
abbrev main_cst_8 : Ref sig .tc := ⟨.hbm, 112, rfl⟩
abbrev main_v38 : Ref sig .tc := ⟨.hbm, 113, rfl⟩
abbrev main_cst_9 : Ref sig .tc := ⟨.hbm, 114, rfl⟩
abbrev main_v39 : Ref sig .tc := ⟨.hbm, 115, rfl⟩
abbrev main_c_10 : Ref sig .tc := ⟨.hbm, 116, rfl⟩
abbrev main_v40_0 : Ref sig .tc := ⟨.hbm, 117, rfl⟩
abbrev main_v40_1 : Ref sig .tc := ⟨.hbm, 118, rfl⟩
abbrev main_v40_2 : Ref sig .tc := ⟨.hbm, 119, rfl⟩
abbrev main_v40_3 : Ref sig .tc := ⟨.hbm, 120, rfl⟩
abbrev main_v40_4 : Ref sig .tc := ⟨.hbm, 121, rfl⟩
abbrev main_v40_5 : Ref sig .tc := ⟨.hbm, 122, rfl⟩
abbrev main_v40_6 : Ref sig .tc := ⟨.hbm, 123, rfl⟩
abbrev main_v40_7 : Ref sig .tc := ⟨.hbm, 124, rfl⟩
abbrev main_v40_8 : Ref sig .tc := ⟨.hbm, 125, rfl⟩
abbrev main_v40_9 : Ref sig .tc := ⟨.hbm, 126, rfl⟩
abbrev main_while1c_c_24 : Ref sig .tc := ⟨.hbm, 127, rfl⟩
abbrev main_while1c_v75 : Ref sig .tc := ⟨.hbm, 128, rfl⟩
abbrev main_while1b_c_24 : Ref sig .tc := ⟨.hbm, 129, rfl⟩
abbrev main_while1b_v75 : Ref sig .tc := ⟨.hbm, 130, rfl⟩
abbrev main_while1b_c_25 : Ref sig .tc := ⟨.hbm, 131, rfl⟩
abbrev main_while1b_v76 : Ref sig .tc := ⟨.hbm, 132, rfl⟩
abbrev main_while1b_call8_c : Ref sig .tc := ⟨.hbm, 133, rfl⟩
abbrev main_while1b_call8_c_0 : Ref sig .tc := ⟨.hbm, 134, rfl⟩
abbrev main_while1b_call8_c_1 : Ref sig .tc := ⟨.hbm, 135, rfl⟩
abbrev main_while1b_call8_c_2 : Ref sig .tc := ⟨.hbm, 136, rfl⟩
abbrev main_while1b_call8_v0 : Ref sig .tc := ⟨.hbm, 137, rfl⟩
abbrev main_while1b_v77 : Ref sig .tc := ⟨.hbm, 138, rfl⟩
abbrev main_while1b_call9_c : Ref sig .tc := ⟨.hbm, 139, rfl⟩
abbrev main_while1b_call9_c_0 : Ref sig .tc := ⟨.hbm, 140, rfl⟩
abbrev main_while1b_call9_c_1 : Ref sig .tc := ⟨.hbm, 141, rfl⟩
abbrev main_while1b_call9_c_2 : Ref sig .tc := ⟨.hbm, 142, rfl⟩
abbrev main_while1b_call9_v0 : Ref sig .tc := ⟨.hbm, 143, rfl⟩
abbrev main_while1b_v78 : Ref sig .tc := ⟨.hbm, 144, rfl⟩
abbrev main_while1b_call10_c : Ref sig .tc := ⟨.hbm, 145, rfl⟩
abbrev main_while1b_call10_c_0 : Ref sig .tc := ⟨.hbm, 146, rfl⟩
abbrev main_while1b_call10_c_1 : Ref sig .tc := ⟨.hbm, 147, rfl⟩
abbrev main_while1b_call10_c_2 : Ref sig .tc := ⟨.hbm, 148, rfl⟩
abbrev main_while1b_call10_v0 : Ref sig .tc := ⟨.hbm, 149, rfl⟩
abbrev main_while1b_v79 : Ref sig .tc := ⟨.hbm, 150, rfl⟩
abbrev main_while1b_call11_c : Ref sig .tc := ⟨.hbm, 151, rfl⟩
abbrev main_while1b_call11_c_0 : Ref sig .tc := ⟨.hbm, 152, rfl⟩
abbrev main_while1b_call11_c_1 : Ref sig .tc := ⟨.hbm, 153, rfl⟩
abbrev main_while1b_call11_c_2 : Ref sig .tc := ⟨.hbm, 154, rfl⟩
abbrev main_while1b_call11_v0 : Ref sig .tc := ⟨.hbm, 155, rfl⟩
abbrev main_while1b_v80 : Ref sig .tc := ⟨.hbm, 156, rfl⟩
abbrev main_while1b_call12_c : Ref sig .tc := ⟨.hbm, 157, rfl⟩
abbrev main_while1b_call12_c_0 : Ref sig .tc := ⟨.hbm, 158, rfl⟩
abbrev main_while1b_call12_c_1 : Ref sig .tc := ⟨.hbm, 159, rfl⟩
abbrev main_while1b_call12_c_2 : Ref sig .tc := ⟨.hbm, 160, rfl⟩
abbrev main_while1b_call12_v0 : Ref sig .tc := ⟨.hbm, 161, rfl⟩
abbrev main_while1b_v81 : Ref sig .tc := ⟨.hbm, 162, rfl⟩
abbrev main_while1b_v82 : Ref sig .tc := ⟨.hbm, 163, rfl⟩
abbrev main_while1b_v83 : Ref sig .tc := ⟨.hbm, 164, rfl⟩
abbrev main_while1b_v84 : Ref sig .tc := ⟨.hbm, 165, rfl⟩
abbrev main_while1b_v85 : Ref sig .tc := ⟨.hbm, 166, rfl⟩
abbrev main_while1b_v86 : Ref sig .tc := ⟨.hbm, 167, rfl⟩
abbrev main_while1b_v87 : Ref sig .tc := ⟨.hbm, 168, rfl⟩
abbrev main_while1b_v88 : Ref sig .tc := ⟨.hbm, 169, rfl⟩
abbrev main_while1b_cst_26 : Ref sig .tc := ⟨.hbm, 170, rfl⟩
abbrev main_while1b_v89 : Ref sig .tc := ⟨.hbm, 171, rfl⟩
abbrev main_while1b_v90 : Ref sig .tc := ⟨.hbm, 172, rfl⟩
abbrev main_while1b_v91 : Ref sig .tc := ⟨.hbm, 173, rfl⟩
abbrev main_while1b_v92 : Ref sig .tc := ⟨.hbm, 174, rfl⟩
abbrev main_while1b_cst_27 : Ref sig .tc := ⟨.hbm, 175, rfl⟩
abbrev main_while1b_v93 : Ref sig .tc := ⟨.hbm, 176, rfl⟩
abbrev main_while1b_v94 : Ref sig .tc := ⟨.hbm, 177, rfl⟩
abbrev main_while1b_call13_v0 : Ref sig .tc := ⟨.hbm, 178, rfl⟩
abbrev main_while1b_call13_c : Ref sig .tc := ⟨.hbm, 179, rfl⟩
abbrev main_while1b_call13_c_0 : Ref sig .tc := ⟨.hbm, 180, rfl⟩
abbrev main_while1b_call13_c_1 : Ref sig .tc := ⟨.hbm, 181, rfl⟩
abbrev main_while1b_v95 : Ref sig .tc := ⟨.hbm, 182, rfl⟩
abbrev main_while1b_call14_v0 : Ref sig .tc := ⟨.hbm, 183, rfl⟩
abbrev main_while1b_call14_c : Ref sig .tc := ⟨.hbm, 184, rfl⟩
abbrev main_while1b_call14_c_0 : Ref sig .tc := ⟨.hbm, 185, rfl⟩
abbrev main_while1b_call14_c_1 : Ref sig .tc := ⟨.hbm, 186, rfl⟩
abbrev main_while1b_call14_c_2 : Ref sig .tc := ⟨.hbm, 187, rfl⟩
abbrev main_while1b_v96 : Ref sig .tc := ⟨.hbm, 188, rfl⟩
abbrev main_while1b_call15_v0 : Ref sig .tc := ⟨.hbm, 189, rfl⟩
abbrev main_while1b_call15_c : Ref sig .tc := ⟨.hbm, 190, rfl⟩
abbrev main_while1b_call15_c_0 : Ref sig .tc := ⟨.hbm, 191, rfl⟩
abbrev main_while1b_call15_c_1 : Ref sig .tc := ⟨.hbm, 192, rfl⟩
abbrev main_while1b_call15_c_2 : Ref sig .tc := ⟨.hbm, 193, rfl⟩
abbrev main_while1b_v97 : Ref sig .tc := ⟨.hbm, 194, rfl⟩
abbrev main_while1b_c_28 : Ref sig .tc := ⟨.hbm, 195, rfl⟩
abbrev main_while1b_v98 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev main_v48 : Ref sig .tc := ⟨.hbm, 204, rfl⟩
abbrev main_v49 : Ref sig .tc := ⟨.hbm, 205, rfl⟩
abbrev main_v50 : Ref sig .tc := ⟨.hbm, 206, rfl⟩
abbrev main_cst_11 : Ref sig .tc := ⟨.hbm, 207, rfl⟩
abbrev main_v51 : Ref sig .tc := ⟨.hbm, 208, rfl⟩
abbrev main_v52 : Ref sig .tc := ⟨.hbm, 209, rfl⟩
abbrev main_v53 : Ref sig .tc := ⟨.hbm, 210, rfl⟩
abbrev main_cst_12 : Ref sig .tc := ⟨.hbm, 211, rfl⟩
abbrev main_v54 : Ref sig .tc := ⟨.hbm, 212, rfl⟩
abbrev main_v55 : Ref sig .tc := ⟨.hbm, 213, rfl⟩
abbrev main_v56 : Ref sig .tc := ⟨.hbm, 214, rfl⟩
abbrev main_v57 : Ref sig .tc := ⟨.hbm, 215, rfl⟩
abbrev main_cst_13 : Ref sig .tc := ⟨.hbm, 216, rfl⟩
abbrev main_v58 : Ref sig .tc := ⟨.hbm, 217, rfl⟩
abbrev main_v59 : Ref sig .tc := ⟨.hbm, 218, rfl⟩
abbrev main_call16_call0_cst : Ref sig .tc := ⟨.hbm, 219, rfl⟩
abbrev main_call16_call0_v0 : Ref sig .tc := ⟨.hbm, 220, rfl⟩
abbrev main_v60 : Ref sig .tc := ⟨.hbm, 221, rfl⟩
abbrev main_v61 : Ref sig .tc := ⟨.hbm, 222, rfl⟩
abbrev main_v62 : Ref sig .tc := ⟨.hbm, 223, rfl⟩
abbrev main_v63 : Ref sig .tc := ⟨.hbm, 224, rfl⟩
abbrev main_cst_14 : Ref sig .tc := ⟨.hbm, 225, rfl⟩
abbrev main_v64 : Ref sig .tc := ⟨.hbm, 226, rfl⟩
abbrev main_v65 : Ref sig .tc := ⟨.hbm, 227, rfl⟩
abbrev main_v66 : Ref sig .tc := ⟨.hbm, 228, rfl⟩
abbrev main_v67 : Ref sig .tc := ⟨.hbm, 229, rfl⟩
abbrev main_v68 : Ref sig .tc := ⟨.hbm, 230, rfl⟩
abbrev main_v69 : Ref sig .tc := ⟨.hbm, 231, rfl⟩
abbrev main_v70 : Ref sig .tc := ⟨.hbm, 232, rfl⟩
abbrev main_v71 : Ref sig .tc := ⟨.hbm, 233, rfl⟩
abbrev main_v72 : Ref sig .tc := ⟨.hbm, 234, rfl⟩
abbrev main_v73 : Ref sig .tc := ⟨.hbm, 235, rfl⟩
abbrev main_v74 : Ref sig .tc := ⟨.hbm, 236, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x6144 : Shape := ⟨2, ![4096, 6144]⟩
abbrev S8x1024x768 : Shape := ⟨3, ![8, 1024, 768]⟩
abbrev S4096x1024 : Shape := ⟨2, ![4096, 1024]⟩
abbrev S1024x1536 : Shape := ⟨2, ![1024, 1536]⟩
abbrev S2x1024x768 : Shape := ⟨3, ![2, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S2x1024x768, .bf16⟩
  | .local _ .vmem, ⟨3, _⟩ => ⟨S2x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x6144 : Shape := ⟨2, ![4096, 6144]⟩
abbrev S8x1024x768 : Shape := ⟨3, ![8, 1024, 768]⟩
abbrev S_ : Shape := ⟨0, ![]⟩
abbrev S4096x1024 : Shape := ⟨2, ![4096, 1024]⟩
abbrev S1024x8x768 : Shape := ⟨3, ![1024, 8, 768]⟩
abbrev S1024x6144 : Shape := ⟨2, ![1024, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S8x1024x768, .f32⟩
  | .hbm, ⟨3, _⟩ => ⟨S_, .f32⟩
  | .hbm, ⟨4, _⟩ => ⟨S4096x1024, .f32⟩
  | .hbm, ⟨5, _⟩ => ⟨S1024x8x768, .f32⟩
  | .hbm, ⟨6, _⟩ => ⟨S1024x6144, .f32⟩
  | .hbm, ⟨7, _⟩ => ⟨S4096x6144, .f32⟩
  | .hbm, ⟨8, _⟩ => ⟨S4096x6144, .f32⟩
  | .hbm, ⟨9, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x6144 : Shape := ⟨2, ![4096, 6144]⟩
abbrev S8x1024x768 : Shape := ⟨3, ![8, 1024, 768]⟩
abbrev S4096x768 : Shape := ⟨2, ![4096, 768]⟩
abbrev S1x1024x768 : Shape := ⟨3, ![1, 1024, 768]⟩
abbrev S8x128 : Shape := ⟨2, ![8, 128]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S8x1024x768, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x6144 : Shape := ⟨2, ![4096, 6144]⟩
abbrev S_ : Shape := ⟨0, ![]⟩
abbrev S8x1024x768 : Shape := ⟨3, ![8, 1024, 768]⟩
abbrev S1024x8x768 : Shape := ⟨3, ![1024, 8, 768]⟩
abbrev S1024x6144 : Shape := ⟨2, ![1024, 6144]⟩
abbrev S6144x1024 : Shape := ⟨2, ![6144, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S_, .f32⟩
  | .hbm, ⟨4, _⟩ => ⟨S8x1024x768, .f32⟩
  | .hbm, ⟨5, _⟩ => ⟨S1024x8x768, .f32⟩
  | .hbm, ⟨6, _⟩ => ⟨S1024x6144, .f32⟩
  | .hbm, ⟨7, _⟩ => ⟨S4096x6144, .f32⟩
  | .hbm, ⟨8, _⟩ => ⟨S4096x6144, .f32⟩
  | .hbm, ⟨9, _⟩ => ⟨S6144x1024, .f32⟩
  | .hbm, ⟨10, _⟩ => ⟨S1024x6144, .f32⟩
  | .hbm, ⟨11, _⟩ => ⟨S1024x8x768, .f32⟩
  | .hbm, ⟨12, _⟩ => ⟨S8x1024x768, .f32⟩
  | .hbm, ⟨13, _⟩ => ⟨S8x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4096x1024 : Shape := ⟨2, ![4096, 1024]⟩
abbrev S3072x1024 : Shape := ⟨2, ![3072, 1024]⟩
abbrev S4096x3072 : Shape := ⟨2, ![4096, 3072]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S3072x1024, .bf16⟩
  | .hbm, ⟨2, _⟩ => ⟨S4096x3072, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S3072x1024 : Shape := ⟨2, ![3072, 1024]⟩
abbrev S_ : Shape := ⟨0, ![]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3072x1024, .bf16⟩
  | .hbm, ⟨2, _⟩ => ⟨S3072x1024, .f32⟩
  | .hbm, ⟨3, _⟩ => ⟨S_, .f32⟩
  | .hbm, ⟨4, _⟩ => ⟨S4096x3072, .f32⟩
  | .hbm, ⟨5, _⟩ => ⟨S4096x1024, .f32⟩
  | .hbm, ⟨6, _⟩ => ⟨S4096x3072, .f32⟩
  | .hbm, ⟨7, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x3072 : Shape := ⟨2, ![4096, 3072]⟩
abbrev S4096x1024 : Shape := ⟨2, ![4096, 1024]⟩
abbrev S3072x1024 : Shape := ⟨2, ![3072, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S4096x3072, .f32⟩
  | .hbm, ⟨3, _⟩ => ⟨S_, .f32⟩
  | .hbm, ⟨4, _⟩ => ⟨S3072x1024, .f32⟩
  | .hbm, ⟨5, _⟩ => ⟨S4096x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S8x1024x768 : Shape := ⟨3, ![8, 1024, 768]⟩
abbrev S4096x6144 : Shape := ⟨2, ![4096, 6144]⟩
abbrev S2048x1024 : Shape := ⟨2, ![2048, 1024]⟩
abbrev S1x1024x768 : Shape := ⟨3, ![1, 1024, 768]⟩
abbrev S2048x768 : Shape := ⟨2, ![2048, 768]⟩
abbrev S8x128 : Shape := ⟨2, ![8, 128]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x1024, .f32⟩
  | .hbm, ⟨3, _⟩ => ⟨S8x1024x768, .f32⟩
  | .hbm, ⟨4, _⟩ => ⟨S1024x8x768, .f32⟩
  | .hbm, ⟨5, _⟩ => ⟨S1024x6144, .f32⟩
  | .hbm, ⟨6, _⟩ => ⟨S4096x6144, .f32⟩
  | .hbm, ⟨7, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x3072, .f32⟩
  | .hbm, ⟨3, _⟩ => ⟨S3072x1024, .f32⟩
  | .hbm, ⟨4, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S1024x3072, .f32⟩
  | .hbm, ⟨3, _⟩ => ⟨S_, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S4096x1536 : Shape := ⟨2, ![4096, 1536]⟩
abbrev S512x1536 : Shape := ⟨2, ![512, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S512x1536, .bf16⟩
  | .local _ .vmem, ⟨5, _⟩ => ⟨S512x1536, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S_, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S1024x1536 : Shape := ⟨2, ![1024, 1536]⟩
abbrev S2048x1536 : Shape := ⟨2, ![2048, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4096x2048, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x896 : Shape := ⟨2, ![4096, 896]⟩
abbrev S1024x896 : Shape := ⟨2, ![1024, 896]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x896, .f32⟩
  | .hbm, ⟨1, _⟩ => ⟨S1024x896, .bf16⟩
  | .hbm, ⟨2, _⟩ => ⟨S4096x1024, .f32⟩
  | .local _ .vmem, ⟨0, _⟩ => ⟨S1024x896, .f32⟩
  | .local _ .vmem, ⟨1, _⟩ => ⟨S1024x896, .f32⟩
  | .local _ .vmem, ⟨2, _⟩ => ⟨S1024x896, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x896 : Shape := ⟨2, ![4096, 896]⟩
abbrev S1024x896 : Shape := ⟨2, ![1024, 896]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x896, .f32⟩
  | .hbm, ⟨1, _⟩ => ⟨S1024x896, .bf16⟩
  | .hbm, ⟨2, _⟩ => ⟨S1024x896, .f32⟩
  | .hbm, ⟨3, _⟩ => ⟨S_, .f32⟩
  | .hbm, ⟨4, _⟩ => ⟨S4096x1024, .f32⟩
  | .hbm, ⟨5, _⟩ => ⟨S4096x896, .f32⟩
  | .hbm, ⟨6, _⟩ => ⟨S4096x1024, .f32⟩
  | _, _ => ⟨S4096x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x1024 : Shape := ⟨2, ![4096, 1024]⟩
abbrev S1024x896 : Shape := ⟨2, ![1024, 896]⟩
abbrev S4096x896 : Shape := ⟨2, ![4096, 896]⟩
abbrev S2048x1024 : Shape := ⟨2, ![2048, 1024]⟩
abbrev S2048x896 : Shape := ⟨2, ![2048, 896]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x896, .bf16⟩
  | .hbm, ⟨2, _⟩ => ⟨S4096x896, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S2048x896, .f32⟩
  | .local _ .vmem, ⟨4, _⟩ => ⟨S2048x896, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x896 : Shape := ⟨2, ![1024, 896]⟩
abbrev S4096x896 : Shape := ⟨2, ![4096, 896]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x896, .bf16⟩
  | .hbm, ⟨2, _⟩ => ⟨S4096x1024, .f32⟩
  | .hbm, ⟨3, _⟩ => ⟨S1024x896, .f32⟩
  | .hbm, ⟨4, _⟩ => ⟨S4096x896, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x4096 : Shape := ⟨2, ![4096, 4096]⟩
abbrev S8x512x512 : Shape := ⟨3, ![8, 512, 512]⟩
abbrev S4096x512 : Shape := ⟨2, ![4096, 512]⟩
abbrev S2048x1024 : Shape := ⟨2, ![2048, 1024]⟩
abbrev S2x512x512 : Shape := ⟨3, ![2, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x512x512, .bf16⟩
  | .hbm, ⟨2, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S2x512x512, .bf16⟩
  | .local _ .vmem, ⟨3, _⟩ => ⟨S2x512x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x4096 : Shape := ⟨2, ![4096, 4096]⟩
abbrev S8x512x512 : Shape := ⟨3, ![8, 512, 512]⟩
abbrev S512x8x512 : Shape := ⟨3, ![512, 8, 512]⟩
abbrev S512x4096 : Shape := ⟨2, ![512, 4096]⟩
abbrev S_ : Shape := ⟨0, ![]⟩
abbrev S4096x512 : Shape := ⟨2, ![4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x512x512, .bf16⟩
  | .hbm, ⟨2, _⟩ => ⟨S512x8x512, .bf16⟩
  | .hbm, ⟨3, _⟩ => ⟨S512x4096, .bf16⟩
  | .hbm, ⟨4, _⟩ => ⟨S512x4096, .f32⟩
  | .hbm, ⟨5, _⟩ => ⟨S_, .f32⟩
  | .hbm, ⟨6, _⟩ => ⟨S4096x512, .f32⟩
  | .hbm, ⟨7, _⟩ => ⟨S4096x4096, .f32⟩
  | .hbm, ⟨8, _⟩ => ⟨S4096x4096, .f32⟩
  | .hbm, ⟨9, _⟩ => ⟨S4096x512, .f32⟩
  | .hbm, ⟨10, _⟩ => ⟨S4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S4096x512 : Shape := ⟨2, ![4096, 512]⟩
abbrev S4096x4096 : Shape := ⟨2, ![4096, 4096]⟩
abbrev S8x512x512 : Shape := ⟨3, ![8, 512, 512]⟩
abbrev S1x512x512 : Shape := ⟨3, ![1, 512, 512]⟩
abbrev S8x128 : Shape := ⟨2, ![8, 128]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S8x512x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S1x512x512, .bf16⟩
  | .local _ .vmem, ⟨4, _⟩ => ⟨S1x512x512, .bf16⟩
  | .local _ .vmem, ⟨5, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩
abbrev S512x8x512 : Shape := ⟨3, ![512, 8, 512]⟩
abbrev S8x512x512 : Shape := ⟨3, ![8, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x512, .f32⟩
  | .hbm, ⟨3, _⟩ => ⟨S_, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x8x512, .f32⟩
  | .hbm, ⟨10, _⟩ => ⟨S8x512x512, .f32⟩
  | .hbm, ⟨11, _⟩ => ⟨S8x512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S4096x512 : Shape := ⟨2, ![4096, 512]⟩
abbrev S8x512x512 : Shape := ⟨3, ![8, 512, 512]⟩
abbrev S4096x4096 : Shape := ⟨2, ![4096, 4096]⟩
abbrev S2048x512 : Shape := ⟨2, ![2048, 512]⟩
abbrev S1x512x512 : Shape := ⟨3, ![1, 512, 512]⟩
abbrev S8x128 : Shape := ⟨2, ![8, 128]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S4096x4096, .bf16⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .bf16⟩
  | .local _ .vmem, ⟨5, _⟩ => ⟨S2048x512, .bf16⟩
  | .local _ .vmem, ⟨6, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x512 : Shape := ⟨2, ![4096, 512]⟩
abbrev S8x512x512 : Shape := ⟨3, ![8, 512, 512]⟩
abbrev S512x8x512 : Shape := ⟨3, ![512, 8, 512]⟩
abbrev S512x4096 : Shape := ⟨2, ![512, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S512x8x512, .bf16⟩
  | .hbm, ⟨3, _⟩ => ⟨S512x4096, .bf16⟩
  | .hbm, ⟨4, _⟩ => ⟨S4096x512, .f32⟩
  | .hbm, ⟨5, _⟩ => ⟨S512x4096, .f32⟩
  | .hbm, ⟨6, _⟩ => ⟨S4096x4096, .f32⟩
  | .hbm, ⟨7, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel23.lean ====
abbrev S4096x2048 : Shape := ⟨2, ![4096, 2048]⟩
abbrev S8x256x256 : Shape := ⟨3, ![8, 256, 256]⟩
abbrev S4096x256 : Shape := ⟨2, ![4096, 256]⟩
abbrev S2048x512 : Shape := ⟨2, ![2048, 512]⟩
abbrev S2x256x256 : Shape := ⟨3, ![2, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x256x256, .bf16⟩
  | .hbm, ⟨2, _⟩ => ⟨S4096x256, .bf16⟩
  | .local _ .vmem, ⟨0, _⟩ => ⟨S2048x512, .bf16⟩
  | .local _ .vmem, ⟨1, _⟩ => ⟨S2048x512, .bf16⟩
  | .local _ .vmem, ⟨2, _⟩ => ⟨S2x256x256, .bf16⟩
  | .local _ .vmem, ⟨3, _⟩ => ⟨S2x256x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x2048 : Shape := ⟨2, ![4096, 2048]⟩
abbrev S8x256x256 : Shape := ⟨3, ![8, 256, 256]⟩
abbrev S256x8x256 : Shape := ⟨3, ![256, 8, 256]⟩
abbrev S256x2048 : Shape := ⟨2, ![256, 2048]⟩
abbrev S_ : Shape := ⟨0, ![]⟩
abbrev S4096x256 : Shape := ⟨2, ![4096, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x256, .bf16⟩
  | .hbm, ⟨2, _⟩ => ⟨S256x8x256, .bf16⟩
  | .hbm, ⟨3, _⟩ => ⟨S256x2048, .bf16⟩
  | .hbm, ⟨4, _⟩ => ⟨S256x2048, .f32⟩
  | .hbm, ⟨5, _⟩ => ⟨S_, .f32⟩
  | .hbm, ⟨6, _⟩ => ⟨S4096x256, .f32⟩
  | .hbm, ⟨7, _⟩ => ⟨S4096x2048, .f32⟩
  | .hbm, ⟨8, _⟩ => ⟨S4096x2048, .f32⟩
  | .hbm, ⟨9, _⟩ => ⟨S4096x256, .f32⟩
  | .hbm, ⟨10, _⟩ => ⟨S4096x256, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel24.lean ====
abbrev S4096x256 : Shape := ⟨2, ![4096, 256]⟩
abbrev S4096x2048 : Shape := ⟨2, ![4096, 2048]⟩
abbrev S8x256x256 : Shape := ⟨3, ![8, 256, 256]⟩
abbrev S1x256x256 : Shape := ⟨3, ![1, 256, 256]⟩
abbrev S8x128 : Shape := ⟨2, ![8, 128]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S8x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | .local _ .vmem, ⟨5, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S_, .f32⟩
  | .hbm, ⟨4, _⟩ => ⟨S256x2048, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x8x256, .f32⟩
  | .hbm, ⟨10, _⟩ => ⟨S8x256x256, .f32⟩
  | .hbm, ⟨11, _⟩ => ⟨S8x256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel25.lean ====
abbrev S4096x256 : Shape := ⟨2, ![4096, 256]⟩
abbrev S8x256x256 : Shape := ⟨3, ![8, 256, 256]⟩
abbrev S4096x2048 : Shape := ⟨2, ![4096, 2048]⟩
abbrev S2048x256 : Shape := ⟨2, ![2048, 256]⟩
abbrev S1x256x256 : Shape := ⟨3, ![1, 256, 256]⟩
abbrev S8x128 : Shape := ⟨2, ![8, 128]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S8x256x256, .bf16⟩
  | .hbm, ⟨2, _⟩ => ⟨S4096x2048, .bf16⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S2048x256, .bf16⟩
  | .local _ .vmem, ⟨5, _⟩ => ⟨S2048x256, .bf16⟩
  | .local _ .vmem, ⟨6, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x256 : Shape := ⟨2, ![4096, 256]⟩
abbrev S8x256x256 : Shape := ⟨3, ![8, 256, 256]⟩
abbrev S256x8x256 : Shape := ⟨3, ![256, 8, 256]⟩
abbrev S256x2048 : Shape := ⟨2, ![256, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S8x256x256, .bf16⟩
  | .hbm, ⟨2, _⟩ => ⟨S256x8x256, .bf16⟩
  | .hbm, ⟨3, _⟩ => ⟨S256x2048, .bf16⟩
  | .hbm, ⟨4, _⟩ => ⟨S4096x256, .f32⟩
  | .hbm, ⟨5, _⟩ => ⟨S256x2048, .f32⟩
  | .hbm, ⟨6, _⟩ => ⟨S4096x2048, .f32⟩
  | .hbm, ⟨7, _⟩ => ⟨S4096x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel26.lean ====
abbrev S4096x1024 : Shape := ⟨2, ![4096, 1024]⟩
abbrev S4096x896 : Shape := ⟨2, ![4096, 896]⟩
abbrev S1024x896 : Shape := ⟨2, ![1024, 896]⟩
abbrev S2048x1024 : Shape := ⟨2, ![2048, 1024]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x896, .f32⟩
  | .hbm, ⟨2, _⟩ => ⟨S1024x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .f32⟩
  | .local _ .vmem, ⟨3, _⟩ => ⟨S2048x896, .f32⟩
  | .local _ .vmem, ⟨4, _⟩ => ⟨S1024x896, .bf16⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S4096x896 : Shape := ⟨2, ![4096, 896]⟩
abbrev S_ : Shape := ⟨0, ![]⟩
abbrev S1024x896 : Shape := ⟨2, ![1024, 896]⟩
abbrev S896x1024 : Shape := ⟨2, ![896, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x896, .f32⟩
  | .hbm, ⟨2, _⟩ => ⟨S4096x1024, .f32⟩
  | .hbm, ⟨3, _⟩ => ⟨S_, .f32⟩
  | .hbm, ⟨4, _⟩ => ⟨S1024x896, .f32⟩
  | .hbm, ⟨5, _⟩ => ⟨S4096x896, .f32⟩
  | .hbm, ⟨6, _⟩ => ⟨S896x1024, .f32⟩
  | .hbm, ⟨7, _⟩ => ⟨S1024x896, .f32⟩
  | .hbm, ⟨8, _⟩ => ⟨S1024x896, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x256 : Shape := ⟨2, ![4096, 256]⟩
abbrev S4096x1024 : Shape := ⟨2, ![4096, 1024]⟩
abbrev S8x256x128 : Shape := ⟨3, ![8, 256, 128]⟩
abbrev S4096x128 : Shape := ⟨2, ![4096, 128]⟩
abbrev S1x256x128 : Shape := ⟨3, ![1, 256, 128]⟩
abbrev S8x128 : Shape := ⟨2, ![8, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S8x256x128, .bf16⟩
  | .local _ .vmem, ⟨0, _⟩ => ⟨S4096x256, .f32⟩
  | .local _ .vmem, ⟨1, _⟩ => ⟨S4096x128, .f32⟩
  | .local _ .vmem, ⟨2, _⟩ => ⟨S4096x128, .f32⟩
  | .local _ .vmem, ⟨3, _⟩ => ⟨S1x256x128, .bf16⟩
  | .local _ .vmem, ⟨4, _⟩ => ⟨S1x256x128, .bf16⟩
  | .local _ .vmem, ⟨5, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x8x128, .f32⟩
  | .hbm, ⟨8, _⟩ => ⟨S8x256x128, .f32⟩
  | .hbm, ⟨9, _⟩ => ⟨S8x256x128, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S4096x256 : Shape := ⟨2, ![4096, 256]⟩
abbrev S8x256x128 : Shape := ⟨3, ![8, 256, 128]⟩
abbrev S4096x1024 : Shape := ⟨2, ![4096, 1024]⟩
abbrev S2048x256 : Shape := ⟨2, ![2048, 256]⟩
abbrev S1x256x128 : Shape := ⟨3, ![1, 256, 128]⟩
abbrev S2048x128 : Shape := ⟨2, ![2048, 128]⟩
abbrev S8x128 : Shape := ⟨2, ![8, 128]⟩
abbrev S256x128 : Shape := ⟨2, ![256, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S8x256x128, .bf16⟩
  | .hbm, ⟨2, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S1x256x128, .bf16⟩
  | .local _ .vmem, ⟨3, _⟩ => ⟨S1x256x128, .bf16⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x256 : Shape := ⟨2, ![4096, 256]⟩
abbrev S8x256x128 : Shape := ⟨3, ![8, 256, 128]⟩
abbrev S256x8x128 : Shape := ⟨3, ![256, 8, 128]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8x256x128, .bf16⟩
  | .hbm, ⟨2, _⟩ => ⟨S256x8x128, .bf16⟩
  | .hbm, ⟨3, _⟩ => ⟨S256x1024, .bf16⟩
  | .hbm, ⟨4, _⟩ => ⟨S256x1024, .f32⟩
  | .hbm, ⟨5, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S2x128x832 : Shape := ⟨3, ![2, 128, 832]⟩
abbrev S256x832 : Shape := ⟨2, ![256, 832]⟩

abbrev nBuf : Space → Nat
  | .hbm => 11
  | .vmem => 7
  | .smem => 0
  | _ => 0

abbrev bufTy : (tb : Table) → Fin (tcTables nBuf tb) → BufTy
  | .hbm, ⟨0, _⟩ => ⟨S2x128x832, .f32⟩
  | .hbm, ⟨1, _⟩ => ⟨S2x128x832, .f32⟩
  | .hbm, ⟨2, _⟩ => ⟨S2x128x832, .f32⟩
  | .hbm, ⟨3, _⟩ => ⟨S2x128x832, .f32⟩
  | .hbm, ⟨4, _⟩ => ⟨S256x832, .f32⟩
  | .hbm, ⟨5, _⟩ => ⟨S256x832, .f32⟩
  | .hbm, ⟨6, _⟩ => ⟨S256x832, .f32⟩
  | .hbm, ⟨7, _⟩ => ⟨S256x832, .f32⟩
  | .hbm, ⟨8, _⟩ => ⟨S256x832, .f32⟩
  | .hbm, ⟨9, _⟩ => ⟨S256x832, .f32⟩
  | .hbm, ⟨10, _⟩ => ⟨S256x832, .f32⟩
  | .local _ .vmem, ⟨0, _⟩ => ⟨S256x832, .f32⟩
  | .local _ .vmem, ⟨1, _⟩ => ⟨S256x832, .f32⟩
  | .local _ .vmem, ⟨2, _⟩ => ⟨S256x832, .f32⟩
  | .local _ .vmem, ⟨3, _⟩ => ⟨S256x832, .f32⟩
  | .local _ .vmem, ⟨4, _⟩ => ⟨S256x832, .f32⟩
  | .local _ .vmem, ⟨5, _⟩ => ⟨S256x832, .f32⟩
  | .local _ .vmem, ⟨6, _⟩ => ⟨S256x832, .f32⟩
  | _, _ => ⟨S2x128x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x832 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x832 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x832 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x832 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x832 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S2x128x832 : Shape := ⟨3, ![2, 128, 832]⟩
abbrev S_ : Shape := ⟨0, ![]⟩
abbrev S256x832 : Shape := ⟨2, ![256, 832]⟩

abbrev nBuf : Space → Nat
  | .hbm => 40
  | .vmem => 0
  | .smem => 0
  | _ => 0

abbrev bufTy : (tb : Table) → Fin (tcTables nBuf tb) → BufTy
  | .hbm, ⟨0, _⟩ => ⟨S2x128x832, .f32⟩
  | .hbm, ⟨1, _⟩ => ⟨S2x128x832, .f32⟩
  | .hbm, ⟨2, _⟩ => ⟨S2x128x832, .f32⟩
  | .hbm, ⟨3, _⟩ => ⟨S2x128x832, .f32⟩
  | .hbm, ⟨4, _⟩ => ⟨S_, .f32⟩
  | .hbm, ⟨5, _⟩ => ⟨S2x128x832, .f32⟩
  | .hbm, ⟨6, _⟩ => ⟨S2x128x832, .f32⟩
  | .hbm, ⟨7, _⟩ => ⟨S_, .f32⟩
  | .hbm, ⟨8, _⟩ => ⟨S2x128x832, .f32⟩
  | .hbm, ⟨9, _⟩ => ⟨S2x128x832, .f32⟩
  | .hbm, ⟨10, _⟩ => ⟨S2x128x832, .f32⟩
  | .hbm, ⟨11, _⟩ => ⟨S_, .f32⟩
  | .hbm, ⟨12, _⟩ => ⟨S2x128x832, .f32⟩
  | .hbm, ⟨13, _⟩ => ⟨S2x128x832, .f32⟩
  | .hbm, ⟨14, _⟩ => ⟨S2x128x832, .f32⟩
  | .hbm, ⟨15, _⟩ => ⟨S_, .f32⟩
  | .hbm, ⟨16, _⟩ => ⟨S2x128x832, .f32⟩
  | .hbm, ⟨17, _⟩ => ⟨S2x128x832, .f32⟩
  | .hbm, ⟨18, _⟩ => ⟨S2x128x832, .f32⟩
  | .hbm, ⟨19, _⟩ => ⟨S_, .f32⟩
  | .hbm, ⟨20, _⟩ => ⟨S2x128x832, .f32⟩
  | .hbm, ⟨21, _⟩ => ⟨S2x128x832, .f32⟩
  | .hbm, ⟨22, _⟩ => ⟨S_, .f32⟩
  | .hbm, ⟨23, _⟩ => ⟨S2x128x832, .f32⟩
  | .hbm, ⟨24, _⟩ => ⟨S2x128x832, .f32⟩
  | .hbm, ⟨25, _⟩ => ⟨S2x128x832, .f32⟩
  | .hbm, ⟨26, _⟩ => ⟨S_, .f32⟩
  | .hbm, ⟨27, _⟩ => ⟨S2x128x832, .f32⟩
  | .hbm, ⟨28, _⟩ => ⟨S2x128x832, .f32⟩
  | .hbm, ⟨29, _⟩ => ⟨S2x128x832, .f32⟩
  | .hbm, ⟨30, _⟩ => ⟨S_, .f32⟩
  | .hbm, ⟨31, _⟩ => ⟨S2x128x832, .f32⟩
  | .hbm, ⟨32, _⟩ => ⟨S2x128x832, .f32⟩
  | .hbm, ⟨33, _⟩ => ⟨S2x128x832, .f32⟩
  | .hbm, ⟨34, _⟩ => ⟨S_, .f32⟩
  | .hbm, ⟨35, _⟩ => ⟨S2x128x832, .f32⟩
  | .hbm, ⟨36, _⟩ => ⟨S2x128x832, .f32⟩
  | .hbm, ⟨37, _⟩ => ⟨S256x832, .f32⟩
  | .hbm, ⟨38, _⟩ => ⟨S256x832, .f32⟩
  | .hbm, ⟨39, _⟩ => ⟨S256x832, .f32⟩
  | _, _ => ⟨S2x128x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2x512x384 : Shape := ⟨3, ![2, 512, 384]⟩
abbrev S1024x384 : Shape := ⟨2, ![1024, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x512x384, .f32⟩
  | .hbm, ⟨1, _⟩ => ⟨S2x512x384, .f32⟩
  | .hbm, ⟨2, _⟩ => ⟨S2x512x384, .f32⟩
  | .hbm, ⟨3, _⟩ => ⟨S2x512x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S2x512x384 : Shape := ⟨3, ![2, 512, 384]⟩
abbrev S_ : Shape := ⟨0, ![]⟩
abbrev S1024x384 : Shape := ⟨2, ![1024, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x512x384, .f32⟩
  | .hbm, ⟨1, _⟩ => ⟨S2x512x384, .f32⟩
  | .hbm, ⟨2, _⟩ => ⟨S2x512x384, .f32⟩
  | .hbm, ⟨3, _⟩ => ⟨S2x512x384, .f32⟩
  | .hbm, ⟨4, _⟩ => ⟨S_, .f32⟩
  | .hbm, ⟨5, _⟩ => ⟨S2x512x384, .f32⟩
  | .hbm, ⟨6, _⟩ => ⟨S2x512x384, .f32⟩
  | .hbm, ⟨7, _⟩ => ⟨S_, .f32⟩
  | .hbm, ⟨8, _⟩ => ⟨S2x512x384, .f32⟩
  | .hbm, ⟨9, _⟩ => ⟨S2x512x384, .f32⟩
  | .hbm, ⟨10, _⟩ => ⟨S2x512x384, .f32⟩
  | .hbm, ⟨11, _⟩ => ⟨S_, .f32⟩
  | .hbm, ⟨12, _⟩ => ⟨S2x512x384, .f32⟩
  | .hbm, ⟨13, _⟩ => ⟨S2x512x384, .f32⟩
  | .hbm, ⟨14, _⟩ => ⟨S2x512x384, .f32⟩
  | .hbm, ⟨15, _⟩ => ⟨S_, .f32⟩
  | .hbm, ⟨16, _⟩ => ⟨S2x512x384, .f32⟩
  | .hbm, ⟨17, _⟩ => ⟨S2x512x384, .f32⟩
  | .hbm, ⟨18, _⟩ => ⟨S2x512x384, .f32⟩
  | .hbm, ⟨19, _⟩ => ⟨S_, .f32⟩
  | .hbm, ⟨20, _⟩ => ⟨S2x512x384, .f32⟩
  | .hbm, ⟨21, _⟩ => ⟨S2x512x384, .f32⟩
  | .hbm, ⟨22, _⟩ => ⟨S_, .f32⟩
  | .hbm, ⟨23, _⟩ => ⟨S2x512x384, .f32⟩
  | .hbm, ⟨24, _⟩ => ⟨S2x512x384, .f32⟩
  | .hbm, ⟨25, _⟩ => ⟨S2x512x384, .f32⟩
  | .hbm, ⟨26, _⟩ => ⟨S_, .f32⟩
  | .hbm, ⟨27, _⟩ => ⟨S2x512x384, .f32⟩
  | .hbm, ⟨28, _⟩ => ⟨S2x512x384, .f32⟩
  | .hbm, ⟨29, _⟩ => ⟨S2x512x384, .f32⟩
  | .hbm, ⟨30, _⟩ => ⟨S_, .f32⟩
  | .hbm, ⟨31, _⟩ => ⟨S2x512x384, .f32⟩
  | .hbm, ⟨32, _⟩ => ⟨S2x512x384, .f32⟩
  | .hbm, ⟨33, _⟩ => ⟨S2x512x384, .f32⟩
  | .hbm, ⟨34, _⟩ => ⟨S_, .f32⟩
  | .hbm, ⟨35, _⟩ => ⟨S2x512x384, .f32⟩
  | .hbm, ⟨36, _⟩ => ⟨S2x512x384, .f32⟩
  | .hbm, ⟨37, _⟩ => ⟨S1024x384, .f32⟩
  | .hbm, ⟨38, _⟩ => ⟨S1024x384, .f32⟩
  | .hbm, ⟨39, _⟩ => ⟨S1024x384, .f32⟩
  | _, _ => ⟨S2x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S2x256x256 : Shape := ⟨3, ![2, 256, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S2x1024x386 : Shape := ⟨3, ![2, 1024, 386]⟩
abbrev S2048x386 : Shape := ⟨2, ![2048, 386]⟩
abbrev S512x386 : Shape := ⟨2, ![512, 386]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x386, .f32⟩
  | .hbm, ⟨1, _⟩ => ⟨S2x1024x386, .f32⟩
  | .hbm, ⟨2, _⟩ => ⟨S2x1024x386, .f32⟩
  | .hbm, ⟨3, _⟩ => ⟨S2x1024x386, .f32⟩
  | .hbm, ⟨4, _⟩ => ⟨S2048x386, .f32⟩
  | .hbm, ⟨5, _⟩ => ⟨S2048x386, .f32⟩
  | .hbm, ⟨6, _⟩ => ⟨S2048x386, .f32⟩
  | .hbm, ⟨7, _⟩ => ⟨S2048x386, .f32⟩
  | .hbm, ⟨8, _⟩ => ⟨S2048x386, .f32⟩
  | .hbm, ⟨9, _⟩ => ⟨S2048x386, .f32⟩
  | .hbm, ⟨10, _⟩ => ⟨S2048x386, .f32⟩
  | .local _ .vmem, ⟨0, _⟩ => ⟨S512x386, .f32⟩
  | .local _ .vmem, ⟨1, _⟩ => ⟨S512x386, .f32⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | _, _ => ⟨S2x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S2x1024x386 : Shape := ⟨3, ![2, 1024, 386]⟩
abbrev S_ : Shape := ⟨0, ![]⟩
abbrev S2048x386 : Shape := ⟨2, ![2048, 386]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x386, .f32⟩
  | .hbm, ⟨1, _⟩ => ⟨S2x1024x386, .f32⟩
  | .hbm, ⟨2, _⟩ => ⟨S2x1024x386, .f32⟩
  | .hbm, ⟨3, _⟩ => ⟨S2x1024x386, .f32⟩
  | .hbm, ⟨4, _⟩ => ⟨S_, .f32⟩
  | .hbm, ⟨5, _⟩ => ⟨S2x1024x386, .f32⟩
  | .hbm, ⟨6, _⟩ => ⟨S2x1024x386, .f32⟩
  | .hbm, ⟨7, _⟩ => ⟨S_, .f32⟩
  | .hbm, ⟨8, _⟩ => ⟨S2x1024x386, .f32⟩
  | .hbm, ⟨9, _⟩ => ⟨S2x1024x386, .f32⟩
  | .hbm, ⟨10, _⟩ => ⟨S2x1024x386, .f32⟩
  | .hbm, ⟨11, _⟩ => ⟨S_, .f32⟩
  | .hbm, ⟨12, _⟩ => ⟨S2x1024x386, .f32⟩
  | .hbm, ⟨13, _⟩ => ⟨S2x1024x386, .f32⟩
  | .hbm, ⟨14, _⟩ => ⟨S2x1024x386, .f32⟩
  | .hbm, ⟨15, _⟩ => ⟨S_, .f32⟩
  | .hbm, ⟨16, _⟩ => ⟨S2x1024x386, .f32⟩
  | .hbm, ⟨17, _⟩ => ⟨S2x1024x386, .f32⟩
  | .hbm, ⟨18, _⟩ => ⟨S2x1024x386, .f32⟩
  | .hbm, ⟨19, _⟩ => ⟨S_, .f32⟩
  | .hbm, ⟨20, _⟩ => ⟨S2x1024x386, .f32⟩
  | .hbm, ⟨21, _⟩ => ⟨S2x1024x386, .f32⟩
  | .hbm, ⟨22, _⟩ => ⟨S_, .f32⟩
  | .hbm, ⟨23, _⟩ => ⟨S2x1024x386, .f32⟩
  | .hbm, ⟨24, _⟩ => ⟨S2x1024x386, .f32⟩
  | .hbm, ⟨25, _⟩ => ⟨S2x1024x386, .f32⟩
  | .hbm, ⟨26, _⟩ => ⟨S_, .f32⟩
  | .hbm, ⟨27, _⟩ => ⟨S2x1024x386, .f32⟩
  | .hbm, ⟨28, _⟩ => ⟨S2x1024x386, .f32⟩
  | .hbm, ⟨29, _⟩ => ⟨S2x1024x386, .f32⟩
  | .hbm, ⟨30, _⟩ => ⟨S_, .f32⟩
  | .hbm, ⟨31, _⟩ => ⟨S2x1024x386, .f32⟩
  | .hbm, ⟨32, _⟩ => ⟨S2x1024x386, .f32⟩
  | .hbm, ⟨33, _⟩ => ⟨S2x1024x386, .f32⟩
  | .hbm, ⟨34, _⟩ => ⟨S_, .f32⟩
  | .hbm, ⟨35, _⟩ => ⟨S2x1024x386, .f32⟩
  | .hbm, ⟨36, _⟩ => ⟨S2x1024x386, .f32⟩
  | .hbm, ⟨37, _⟩ => ⟨S2048x386, .f32⟩
  | .hbm, ⟨38, _⟩ => ⟨S2048x386, .f32⟩
  | .hbm, ⟨39, _⟩ => ⟨S2048x386, .f32⟩
  | _, _ => ⟨S2x1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel38.lean ====
abbrev S2x16x64 : Shape := ⟨3, ![2, 16, 64]⟩
abbrev S32x64 : Shape := ⟨2, ![32, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S2x16x64 : Shape := ⟨3, ![2, 16, 64]⟩
abbrev S_ : Shape := ⟨0, ![]⟩
abbrev S32x64 : Shape := ⟨2, ![32, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S_, .f32⟩
  | .hbm, ⟨5, _⟩ => ⟨S2x16x64, .f32⟩
  | .hbm, ⟨6, _⟩ => ⟨S2x16x64, .f32⟩
  | .hbm, ⟨7, _⟩ => ⟨S_, .f32⟩
  | .hbm, ⟨8, _⟩ => ⟨S2x16x64, .f32⟩
  | .hbm, ⟨9, _⟩ => ⟨S2x16x64, .f32⟩
  | .hbm, ⟨10, _⟩ => ⟨S2x16x64, .f32⟩
  | .hbm, ⟨11, _⟩ => ⟨S_, .f32⟩
  | .hbm, ⟨12, _⟩ => ⟨S2x16x64, .f32⟩
  | .hbm, ⟨13, _⟩ => ⟨S2x16x64, .f32⟩
  | .hbm, ⟨14, _⟩ => ⟨S2x16x64, .f32⟩
  | .hbm, ⟨15, _⟩ => ⟨S_, .f32⟩
  | .hbm, ⟨16, _⟩ => ⟨S2x16x64, .f32⟩
  | .hbm, ⟨17, _⟩ => ⟨S2x16x64, .f32⟩
  | .hbm, ⟨18, _⟩ => ⟨S2x16x64, .f32⟩
  | .hbm, ⟨19, _⟩ => ⟨S_, .f32⟩
  | .hbm, ⟨20, _⟩ => ⟨S2x16x64, .f32⟩
  | .hbm, ⟨21, _⟩ => ⟨S2x16x64, .f32⟩
  | .hbm, ⟨22, _⟩ => ⟨S_, .f32⟩
  | .hbm, ⟨23, _⟩ => ⟨S2x16x64, .f32⟩
  | .hbm, ⟨24, _⟩ => ⟨S2x16x64, .f32⟩
  | .hbm, ⟨25, _⟩ => ⟨S2x16x64, .f32⟩
  | .hbm, ⟨26, _⟩ => ⟨S_, .f32⟩
  | .hbm, ⟨27, _⟩ => ⟨S2x16x64, .f32⟩
  | .hbm, ⟨28, _⟩ => ⟨S2x16x64, .f32⟩
  | .hbm, ⟨29, _⟩ => ⟨S2x16x64, .f32⟩
  | .hbm, ⟨30, _⟩ => ⟨S_, .f32⟩
  | .hbm, ⟨31, _⟩ => ⟨S2x16x64, .f32⟩
  | .hbm, ⟨32, _⟩ => ⟨S2x16x64, .f32⟩
  | .hbm, ⟨33, _⟩ => ⟨S2x16x64, .f32⟩
  | .hbm, ⟨34, _⟩ => ⟨S_, .f32⟩
  | .hbm, ⟨35, _⟩ => ⟨S2x16x64, .f32⟩
  | .hbm, ⟨36, _⟩ => ⟨S2x16x64, .f32⟩
  | .hbm, ⟨37, _⟩ => ⟨S32x64, .f32⟩
  | .hbm, ⟨38, _⟩ => ⟨S32x64, .f32⟩
  | .hbm, ⟨39, _⟩ => ⟨S32x64, .f32⟩
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel39.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference39Ideal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference40Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference41Ideal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel42.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference42Ideal.lean ====
abbrev S4x3x704 : Shape := ⟨3, ![4, 3, 704]⟩
abbrev S_ : Shape := ⟨0, ![]⟩
abbrev S12x704 : Shape := ⟨2, ![12, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S4x3x704, .f32⟩
  | .hbm, ⟨7, _⟩ => ⟨S_, .f32⟩
  | .hbm, ⟨8, _⟩ => ⟨S4x3x704, .f32⟩
  | .hbm, ⟨9, _⟩ => ⟨S4x3x704, .f32⟩
  | .hbm, ⟨10, _⟩ => ⟨S4x3x704, .f32⟩
  | .hbm, ⟨11, _⟩ => ⟨S_, .f32⟩
  | .hbm, ⟨12, _⟩ => ⟨S4x3x704, .f32⟩
  | .hbm, ⟨13, _⟩ => ⟨S4x3x704, .f32⟩
  | .hbm, ⟨14, _⟩ => ⟨S4x3x704, .f32⟩
  | .hbm, ⟨15, _⟩ => ⟨S_, .f32⟩
  | .hbm, ⟨16, _⟩ => ⟨S4x3x704, .f32⟩
  | .hbm, ⟨17, _⟩ => ⟨S4x3x704, .f32⟩
  | .hbm, ⟨18, _⟩ => ⟨S4x3x704, .f32⟩
  | .hbm, ⟨19, _⟩ => ⟨S_, .f32⟩
  | .hbm, ⟨20, _⟩ => ⟨S4x3x704, .f32⟩
  | .hbm, ⟨21, _⟩ => ⟨S4x3x704, .f32⟩
  | .hbm, ⟨22, _⟩ => ⟨S_, .f32⟩
  | .hbm, ⟨23, _⟩ => ⟨S4x3x704, .f32⟩
  | .hbm, ⟨24, _⟩ => ⟨S4x3x704, .f32⟩
  | .hbm, ⟨25, _⟩ => ⟨S4x3x704, .f32⟩
  | .hbm, ⟨26, _⟩ => ⟨S_, .f32⟩
  | .hbm, ⟨27, _⟩ => ⟨S4x3x704, .f32⟩
  | .hbm, ⟨28, _⟩ => ⟨S4x3x704, .f32⟩
  | .hbm, ⟨29, _⟩ => ⟨S4x3x704, .f32⟩
  | .hbm, ⟨30, _⟩ => ⟨S_, .f32⟩
  | .hbm, ⟨31, _⟩ => ⟨S4x3x704, .f32⟩
  | .hbm, ⟨32, _⟩ => ⟨S4x3x704, .f32⟩
  | .hbm, ⟨33, _⟩ => ⟨S4x3x704, .f32⟩
  | .hbm, ⟨34, _⟩ => ⟨S_, .f32⟩
  | .hbm, ⟨35, _⟩ => ⟨S4x3x704, .f32⟩
  | .hbm, ⟨36, _⟩ => ⟨S4x3x704, .f32⟩
  | .hbm, ⟨37, _⟩ => ⟨S12x704, .f32⟩
  | .hbm, ⟨38, _⟩ => ⟨S12x704, .f32⟩
  | .hbm, ⟨39, _⟩ => ⟨S12x704, .f32⟩
  | _, _ => ⟨S4x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel43.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference43Ideal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel44.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference44Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel45.lean ====
abbrev S4x256x128 : Shape := ⟨3, ![4, 256, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference45Ideal.lean ====
abbrev S4x256x128 : Shape := ⟨3, ![4, 256, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S_, .f32⟩
  | .hbm, ⟨5, _⟩ => ⟨S4x256x128, .f32⟩
  | .hbm, ⟨6, _⟩ => ⟨S4x256x128, .f32⟩
  | .hbm, ⟨7, _⟩ => ⟨S_, .f32⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S_, .f32⟩
  | .hbm, ⟨12, _⟩ => ⟨S4x256x128, .f32⟩
  | .hbm, ⟨13, _⟩ => ⟨S4x256x128, .f32⟩
  | .hbm, ⟨14, _⟩ => ⟨S4x256x128, .f32⟩
  | .hbm, ⟨15, _⟩ => ⟨S_, .f32⟩
  | .hbm, ⟨16, _⟩ => ⟨S4x256x128, .f32⟩
  | .hbm, ⟨17, _⟩ => ⟨S4x256x128, .f32⟩
  | .hbm, ⟨18, _⟩ => ⟨S4x256x128, .f32⟩
  | .hbm, ⟨19, _⟩ => ⟨S_, .f32⟩
  | .hbm, ⟨20, _⟩ => ⟨S4x256x128, .f32⟩
  | .hbm, ⟨21, _⟩ => ⟨S4x256x128, .f32⟩
  | .hbm, ⟨22, _⟩ => ⟨S_, .f32⟩
  | .hbm, ⟨23, _⟩ => ⟨S4x256x128, .f32⟩
  | .hbm, ⟨24, _⟩ => ⟨S4x256x128, .f32⟩
  | .hbm, ⟨25, _⟩ => ⟨S4x256x128, .f32⟩
  | .hbm, ⟨26, _⟩ => ⟨S_, .f32⟩
  | .hbm, ⟨27, _⟩ => ⟨S4x256x128, .f32⟩
  | .hbm, ⟨28, _⟩ => ⟨S4x256x128, .f32⟩
  | .hbm, ⟨29, _⟩ => ⟨S4x256x128, .f32⟩
  | .hbm, ⟨30, _⟩ => ⟨S_, .f32⟩
  | .hbm, ⟨31, _⟩ => ⟨S4x256x128, .f32⟩
  | .hbm, ⟨32, _⟩ => ⟨S4x256x128, .f32⟩
  | .hbm, ⟨33, _⟩ => ⟨S4x256x128, .f32⟩
  | .hbm, ⟨34, _⟩ => ⟨S_, .f32⟩
  | .hbm, ⟨35, _⟩ => ⟨S4x256x128, .f32⟩
  | .hbm, ⟨36, _⟩ => ⟨S4x256x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel46.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference46Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel47.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32_7 : BitVec 32 := 0#32
  let v12 : BitVec 1 := Scalar.cmpi .sgt arg0 c0_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference47Ideal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.FwdKit.lean ====
/- What the runs of the forward kernel share: the blocks its windows stage, the closed form of its one condition,
the staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev V (c : Dev nD) (b : Ref sig .tc) : Buf (Elt F) ((c : Thread nD τ).loc b) := m ((c : Thread nD τ).loc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 16 % 1 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

abbrev VO0_4 : View sig .tc .vmem S256x1024 .f32 := (Memref.whole cc0_stg4_0 : Memref sig .tc .vmem S256x1024 .f32).view

abbrev VO0_5 : View sig .tc .vmem S4x4x256x128 .f32 := (Memref.whole cc0_stg5_0 : Memref sig .tc .vmem S4x4x256x128 .f32).view

abbrev ms0_0 (t : Fin cfg0.N) : Memref sig .tc .vmem S256x512 .bf16 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S256x512 .bf16 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S256x1024 .bf16 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S256x512 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S256x1024 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S4x4x256x128 .f32 := win0_5.stage (cfg0.slots t 5)

abbrev hs0_5 (t : Fin cfg0.N) : (ms0_5 t).IsWhole := hstage0_5 ((cfg0.slots t 5).cast nbuf0_5)

abbrev scM0_0 : Memref sig .tc .vmem S4x256x128 .f32 := Memref.whole cc0_scratch0

abbrev VS0_0 : View sig .tc .vmem S4x256x128 .f32 := scM0_0.view

/-- What rides beside this kernel's scratch through its points: the other kernel's staging buffers and scratch at some
    contents, the generator register at some state. -/
def Side (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_scratch0), ((c : Thread nD τ).loc cc1_scratch0) ↦{fullShare} f)) ∗ (∃ r, prngReg c r))

/-- What the launch hands the kernel is its scratch at some contents, and the rest. -/
theorem PhiA0_eq (c : Dev nD) :
    (Pipeline.ΦA spec0 c : sProp 𝕄)
      = iprop(iprop((∃ d, owns (c : Thread nD τ) scM0_0 fullShare d)) ∗ Side c) := by
  unfold Pipeline.ΦA Side; rw [scopedRest0_eq]; simp only [scM0_0, owns_whole]
  refine Idealize.SL.BI.Entails.antisymm (show BIBase.Entails (PROP := sProp 𝕄) _ _ from ?_) (show BIBase.Entails (PROP := sProp 𝕄) _ _ from ?_)
  · iintro ⟨⟨A, h0, h1, h2, h3, h4, h5, h6, h7, h8, h9, h10, h11, h12, h13, h14, h15, h16, h17, h18, h19, h20⟩, P⟩
    isplitl [A]; · iexact A
    isplitr [P]; swap; · iexact P
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    isplitl [h17]; · iexact h17
    isplitl [h18]; · iexact h18
    isplitl [h19]; · iexact h19
    iexact h20
  · iintro ⟨A, ⟨h0, h1, h2, h3, h4, h5, h6, h7, h8, h9, h10, h11, h12, h13, h14, h15, h16, h17, h18, h19, h20⟩, P⟩
    isplitr [P]; swap; · iexact P
    isplitl [A]; · iexact A
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    isplitl [h17]; · iexact h17
    isplitl [h18]; · iexact h18
    isplitl [h19]; · iexact h19
    iexact h20

end Cert.KernelIdeal.R0

end
-- ==== Proof.FwdRunA.lean ====
/- The forward kernel's body at the first grid point, where the carried state is reset to zero. -/
module

public import proofs.«01_k».proof.Proof.FwdKit

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1024000 in

noncomputable def kernelRun0_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S256x1024 .f32) (harg6 : arg6.IsWhole) (arg7 : Memref sig .tc .vmem S4x4x256x128 .f32) (harg7 : arg7.IsWhole) (arg8 : Memref sig .tc .vmem S4x256x128 .f32) (harg8 : arg8.IsWhole) (hc0 : cond0_0 i)
    (x0 : Vec F S256x512 .bf16) (x1 : Vec F S256x512 .bf16) (x2 : Vec F S256x1024 .bf16) (x3 : Vec F S256x512 .f32) :
    Σ' (L4 : List (View.Piece (Elt F) S256x1024 .f32)), Σ' (L5 : List (View.Piece (Elt F) S4x4x256x128 .f32)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_gla_fwd_2 i arg2 harg2 arg3 harg3 arg4 harg4 arg5 harg5 arg6 harg6 arg7 harg7 arg8 harg8) K } := by
  refine ⟨?_, ?_, ?_, fun E K => ?run⟩
  case run =>
    simp only [cc0_gla_fwd_2_eq_skeleton]; unfold cc0_gla_fwd_2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.R0

end
-- ==== Proof.FwdRunB.lean ====
/- The forward kernel's body at a later grid point, over the carried state the point before left. -/
module

public import proofs.«01_k».proof.Proof.FwdRunA

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1012000 in

noncomputable def kernelRun0_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S256x1024 .f32) (harg6 : arg6.IsWhole) (arg7 : Memref sig .tc .vmem S4x4x256x128 .f32) (harg7 : arg7.IsWhole) (arg8 : Memref sig .tc .vmem S4x256x128 .f32) (harg8 : arg8.IsWhole) (hc0 : ¬cond0_0 i)
    (x0 : Vec F S256x512 .bf16) (x1 : Vec F S256x512 .bf16) (x2 : Vec F S256x1024 .bf16) (x3 : Vec F S256x512 .f32) (xs0 : Vec F S4x256x128 .f32) :
    Σ' (L4 : List (View.Piece (Elt F) S256x1024 .f32)), Σ' (L5 : List (View.Piece (Elt F) S4x4x256x128 .f32)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_gla_fwd_2 i arg2 harg2 arg3 harg3 arg4 harg4 arg5 harg5 arg6 harg6 arg7 harg7 arg8 harg8) K } := by
  refine ⟨?_, ?_, ?_, fun E K => ?run⟩
  case run =>
    simp only [cc0_gla_fwd_2_eq_skeleton]; unfold cc0_gla_fwd_2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.R0

end
-- ==== Proof.FwdDat.lean ====
/- What the forward kernel leaves point by point, and that its body meets it. -/
module

public import proofs.«01_k».proof.Proof.FwdRunB

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section
variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S256x1024 .f32) (harg6 : arg6.IsWhole) (arg7 : Memref sig .tc .vmem S4x4x256x128 .f32) (harg7 : arg7.IsWhole) (arg8 : Memref sig .tc .vmem S4x256x128 .f32) (harg8 : arg8.IsWhole) (hc0 : cond0_0 i)
    (x0 : Vec F S256x512 .bf16) (x1 : Vec F S256x512 .bf16) (x2 : Vec F S256x1024 .bf16) (x3 : Vec F S256x512 .f32)

theorem cover0_A_4 (y : S256x1024.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S64x256.size (by sl_kernel_rfl) y

def out0_A_4 : Vec F S256x1024 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

theorem cover0_A_5 (y : S4x4x256x128.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1x1x256x128.size (by sl_kernel_rfl) y

def out0_A_5 : Vec F S4x4x256x128 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

theorem scover0_A_0 (y : S4x256x128.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_wholeMem (kernelRun0_A c i arg2 harg2 arg3 harg3 arg4 harg4 arg5 harg5 arg6 harg6 arg7 harg7 arg8 harg8 hc0 x0 x1 x2 x3).2.2.1 (by sl_whole_mem) y

def sout0_A_0 : Vec F S4x256x128 .f32 :=
  VS0_0.read (Elt F) (VS0_0.writes (Elt F) VS0_0.junk (kernelRun0_A c i arg2 harg2 arg3 harg3 arg4 harg4 arg5 harg5 arg6 harg6 arg7 harg7 arg8 harg8 hc0 x0 x1 x2 x3).2.2.1)

end

section
variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S256x1024 .f32) (harg6 : arg6.IsWhole) (arg7 : Memref sig .tc .vmem S4x4x256x128 .f32) (harg7 : arg7.IsWhole) (arg8 : Memref sig .tc .vmem S4x256x128 .f32) (harg8 : arg8.IsWhole) (hc0 : ¬cond0_0 i)
    (x0 : Vec F S256x512 .bf16) (x1 : Vec F S256x512 .bf16) (x2 : Vec F S256x1024 .bf16) (x3 : Vec F S256x512 .f32) (xs0 : Vec F S4x256x128 .f32)

theorem cover0_B_4 (y : S256x1024.Idx) :
    ∃ pc ∈ (kernelRun0_B c i arg2 harg2 arg3 harg3 arg4 harg4 arg5 harg5 arg6 harg6 arg7 harg7 arg8 harg8 hc0 x0 x1 x2 x3 xs0).1, y ∈ pc.1.set :=
  View.cover_of_tiledL (kernelRun0_B c i arg2 harg2 arg3 harg3 arg4 harg4 arg5 harg5 arg6 harg6 arg7 harg7 arg8 harg8 hc0 x0 x1 x2 x3 xs0).1 S64x256.size (by sl_kernel_rfl) y

def out0_B_4 : Vec F S256x1024 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xs0).1)

theorem cover0_B_5 (y : S4x4x256x128.Idx) :
    ∃ pc ∈ (kernelRun0_B c i arg2 harg2 arg3 harg3 arg4 harg4 arg5 harg5 arg6 harg6 arg7 harg7 arg8 harg8 hc0 x0 x1 x2 x3 xs0).2.1, y ∈ pc.1.set :=
  View.cover_of_tiledL (kernelRun0_B c i arg2 harg2 arg3 harg3 arg4 harg4 arg5 harg5 arg6 harg6 arg7 harg7 arg8 harg8 hc0 x0 x1 x2 x3 xs0).2.1 S1x1x256x128.size (by sl_kernel_rfl) y

def out0_B_5 : Vec F S4x4x256x128 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xs0).2.1)

theorem scover0_B_0 (y : S4x256x128.Idx) :
    ∃ pc ∈ (kernelRun0_B c i arg2 harg2 arg3 harg3 arg4 harg4 arg5 harg5 arg6 harg6 arg7 harg7 arg8 harg8 hc0 x0 x1 x2 x3 xs0).2.2.1, y ∈ pc.1.set :=
  View.cover_of_tiledL (kernelRun0_B c i arg2 harg2 arg3 harg3 arg4 harg4 arg5 harg5 arg6 harg6 arg7 harg7 arg8 harg8 hc0 x0 x1 x2 x3 xs0).2.2.1 S1x256x128.size (by sl_kernel_rfl) y

def sout0_B_0 : Vec F S4x256x128 .f32 :=
  VS0_0.read (Elt F) (VS0_0.writes (Elt F) VS0_0.junk (kernelRun0_B c i arg2 harg2 arg3 harg3 arg4 harg4 arg5 harg5 arg6 harg6 arg7 harg7 arg8 harg8 hc0 x0 x1 x2 x3 xs0).2.2.1)

end

def outsAt0 (c : Dev nD) : (n : ℕ) → n < cfg0.N → Vec F S256x1024 .f32 × Vec F S4x4x256x128 .f32 × Vec F S4x256x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ Side c)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ Side c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ Side c) := by
  cases n with
  | zero => exact absurd rfl hz
  | succ n => rfl

def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dat m c).A w = V m c (Pipeline.arrRef spec0 w) := by
  dsimp only [dat]

theorem PhiS_castSucc (c : Dev nD) (t : Fin cfg0.N) :
    (dat m c).Φ t.castSucc = PhiS m c t.val (Nat.le_of_lt t.isLt) := by
  dsimp only [dat]; exact Pipeline.Dat.Φ_castSucc (PhiS m c) t

theorem after0_0 (c : Dev nD) (t : Fin cfg0.N) : (dat m c).after 0 t = iblk m c 0 t := by dsimp only [dat]

theorem after0_1 (c : Dev nD) (t : Fin cfg0.N) : (dat m c).after 1 t = iblk m c 1 t := by dsimp only [dat]

theorem after0_2 (c : Dev nD) (t : Fin cfg0.N) : (dat m c).after 2 t = iblk m c 2 t := by dsimp only [dat]

theorem after0_3 (c : Dev nD) (t : Fin cfg0.N) : (dat m c).after 3 t = iblk m c 3 t := by dsimp only [dat]

theorem after0_4 (c : Dev nD) (t : Fin cfg0.N) : (dat m c).after 4 t = (outsAt0 m c t.val t.isLt).1 := by dsimp only [dat]

theorem after0_5 (c : Dev nD) (t : Fin cfg0.N) : (dat m c).after 5 t = (outsAt0 m c t.val t.isLt).2.1 := by dsimp only [dat]

theorem before0_0 (c : Dev nD) (t : Fin cfg0.N) (d) : (dat m c).before 0 t d = iblk m c 0 t :=
  before0_0_of m (dat m c) (A_eq m c 0) (after0_0 m c) t d

theorem before0_1 (c : Dev nD) (t : Fin cfg0.N) (d) : (dat m c).before 1 t d = iblk m c 1 t :=
  before0_1_of m (dat m c) (A_eq m c 1) (after0_1 m c) t d

theorem before0_2 (c : Dev nD) (t : Fin cfg0.N) (d) : (dat m c).before 2 t d = iblk m c 2 t :=
  before0_2_of m (dat m c) (A_eq m c 2) (after0_2 m c) t d

theorem before0_3 (c : Dev nD) (t : Fin cfg0.N) (d) : (dat m c).before 3 t d = iblk m c 3 t :=
  before0_3_of m (dat m c) (A_eq m c 3) (after0_3 m c) t d

def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d)))

def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t))

set_option maxHeartbeats 3200000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m c).owesAt () t.succ = (dat m c).owesAt () t.castSucc from rfl,
    after0_0, after0_1, after0_2, after0_3, after0_4, after0_5]
  rw [show (dat m c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dat m c).Φ t ⊢ Pipeline.ΦA spec0 c := by
  rw [show (dat m c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dat m c).Φ (Fin.last cfg0.N) ⊢ Pipeline.ΦA spec0 c :=
  Phi_out m c _ (by rw [Fin.val_last]; have : cfg0.N = 16 := N_0; omega)

end Cert.KernelIdeal.R0

end
-- ==== Proof.BwdKit.lean ====
/- What the runs of the backward kernel share: the blocks its windows stage, the closed form of its one condition,
the staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev V (c : Dev nD) (b : Ref sig .tc) : Buf (Elt F) ((c : Thread nD τ).loc b) := m ((c : Thread nD τ).loc b)

def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid1.Coords) : Prop := (Scalar.cmpi .ne (Scalar.extui (Scalar.cmpi .eq (BitVec.ofNat 32 (i 1).val) 0#32)) 0#32) = 1#1

theorem hcond0_0 : ∀ t : Fin cfg1.N, cond0_0 (grid1.coords t) ↔ t.val % 16 = 0 :=
  (fun t => by
    have ht : t.val < 16 := Nat.lt_of_lt_of_eq t.isLt N_1
    have e0 : (grid1.coords t 0).val = t.val / 16 % 1 := Pipeline.Grid.coords_val t 0 (by decide) rfl
    have e1 : (grid1.coords t 1).val = t.val / 1 % 16 := Pipeline.Grid.coords_val t 1 (by decide) rfl
    simp only [cond0_0, e0, e1]
    word_cmp
   : ∀ t : Fin grid1.N, cond0_0 (grid1.coords t) ↔ t.val % 16 = 0)

abbrev VO0_6 : View sig .tc .vmem S256x512 .bf16 := (Memref.whole cc1_stg6_0 : Memref sig .tc .vmem S256x512 .bf16).view

abbrev VO0_7 : View sig .tc .vmem S256x512 .bf16 := (Memref.whole cc1_stg7_0 : Memref sig .tc .vmem S256x512 .bf16).view

abbrev VO0_8 : View sig .tc .vmem S256x1024 .bf16 := (Memref.whole cc1_stg8_0 : Memref sig .tc .vmem S256x1024 .bf16).view

abbrev VO0_9 : View sig .tc .vmem S256x512 .f32 := (Memref.whole cc1_stg9_0 : Memref sig .tc .vmem S256x512 .f32).view

abbrev ms0_0 (t : Fin cfg1.N) : Memref sig .tc .vmem S256x512 .bf16 := win1_0.stage (cfg1.slots t 0)

abbrev hs0_0 (t : Fin cfg1.N) : (ms0_0 t).IsWhole := hstage1_0 ((cfg1.slots t 0).cast nbuf1_0)

abbrev ms0_1 (t : Fin cfg1.N) : Memref sig .tc .vmem S256x512 .bf16 := win1_1.stage (cfg1.slots t 1)

abbrev hs0_1 (t : Fin cfg1.N) : (ms0_1 t).IsWhole := hstage1_1 ((cfg1.slots t 1).cast nbuf1_1)

abbrev ms0_2 (t : Fin cfg1.N) : Memref sig .tc .vmem S256x1024 .bf16 := win1_2.stage (cfg1.slots t 2)

abbrev hs0_2 (t : Fin cfg1.N) : (ms0_2 t).IsWhole := hstage1_2 ((cfg1.slots t 2).cast nbuf1_2)

abbrev ms0_3 (t : Fin cfg1.N) : Memref sig .tc .vmem S256x512 .f32 := win1_3.stage (cfg1.slots t 3)

abbrev hs0_3 (t : Fin cfg1.N) : (ms0_3 t).IsWhole := hstage1_3 ((cfg1.slots t 3).cast nbuf1_3)

abbrev ms0_4 (t : Fin cfg1.N) : Memref sig .tc .vmem S4x4x256x128 .f32 := win1_4.stage (cfg1.slots t 4)

abbrev hs0_4 (t : Fin cfg1.N) : (ms0_4 t).IsWhole := hstage1_4 ((cfg1.slots t 4).cast nbuf1_4)

abbrev ms0_5 (t : Fin cfg1.N) : Memref sig .tc .vmem S256x1024 .f32 := win1_5.stage (cfg1.slots t 5)

abbrev hs0_5 (t : Fin cfg1.N) : (ms0_5 t).IsWhole := hstage1_5 ((cfg1.slots t 5).cast nbuf1_5)

abbrev ms0_6 (t : Fin cfg1.N) : Memref sig .tc .vmem S256x512 .bf16 := win1_6.stage (cfg1.slots t 6)

abbrev hs0_6 (t : Fin cfg1.N) : (ms0_6 t).IsWhole := hstage1_6 ((cfg1.slots t 6).cast nbuf1_6)

abbrev ms0_7 (t : Fin cfg1.N) : Memref sig .tc .vmem S256x512 .bf16 := win1_7.stage (cfg1.slots t 7)

abbrev hs0_7 (t : Fin cfg1.N) : (ms0_7 t).IsWhole := hstage1_7 ((cfg1.slots t 7).cast nbuf1_7)

abbrev ms0_8 (t : Fin cfg1.N) : Memref sig .tc .vmem S256x1024 .bf16 := win1_8.stage (cfg1.slots t 8)

abbrev hs0_8 (t : Fin cfg1.N) : (ms0_8 t).IsWhole := hstage1_8 ((cfg1.slots t 8).cast nbuf1_8)

abbrev ms0_9 (t : Fin cfg1.N) : Memref sig .tc .vmem S256x512 .f32 := win1_9.stage (cfg1.slots t 9)

abbrev hs0_9 (t : Fin cfg1.N) : (ms0_9 t).IsWhole := hstage1_9 ((cfg1.slots t 9).cast nbuf1_9)

abbrev scM0_0 : Memref sig .tc .vmem S4x256x128 .f32 := Memref.whole cc1_scratch0

abbrev VS0_0 : View sig .tc .vmem S4x256x128 .f32 := scM0_0.view

/-- What rides beside this kernel's scratch through its points: the other kernel's staging buffers and scratch at some
    contents, the generator register at some state. -/
def Side (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f)) ∗ (∃ r, prngReg c r))

/-- What the launch hands the kernel is its scratch at some contents, and the rest. -/
theorem PhiA0_eq (c : Dev nD) :
    (Pipeline.ΦA spec1 c : sProp 𝕄)
      = iprop(iprop((∃ d, owns (c : Thread nD τ) scM0_0 fullShare d)) ∗ Side c) := by
  unfold Pipeline.ΦA Side; rw [scopedRest1_eq]; simp only [scM0_0, owns_whole]
  refine Idealize.SL.BI.Entails.antisymm (show BIBase.Entails (PROP := sProp 𝕄) _ _ from ?_) (show BIBase.Entails (PROP := sProp 𝕄) _ _ from ?_)
  · iintro ⟨⟨h0, h1, h2, h3, h4, h5, h6, h7, h8, h9, h10, h11, h12, A⟩, P⟩
    isplitl [A]; · iexact A
    isplitr [P]; swap; · iexact P
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    iexact h12
  · iintro ⟨A, ⟨h0, h1, h2, h3, h4, h5, h6, h7, h8, h9, h10, h11, h12⟩, P⟩
    isplitr [P]; swap; · iexact P
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    iexact A

end Cert.KernelIdeal.R1

end
-- ==== Proof.BwdRunA.lean ====
/- The backward kernel's body at the first grid point, where the carried state is reset to zero. -/
module

public import proofs.«01_k».proof.Proof.BwdKit

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1628000 in

noncomputable def kernelRun0_A (c : Dev nD) (i : grid1.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x512 .f32) (harg11 : arg11.IsWhole) (arg12 : Memref sig .tc .vmem S4x256x128 .f32) (harg12 : arg12.IsWhole) (hc0 : cond0_0 i)
    (x0 : Vec F S256x512 .bf16) (x1 : Vec F S256x512 .bf16) (x2 : Vec F S256x1024 .bf16) (x3 : Vec F S256x512 .f32) (x4 : Vec F S4x4x256x128 .f32) (x5 : Vec F S256x1024 .f32) :
    Σ' (L6 : List (View.Piece (Elt F) S256x512 .bf16)), Σ' (L7 : List (View.Piece (Elt F) S256x512 .bf16)), Σ' (L8 : List (View.Piece (Elt F) S256x1024 .bf16)), Σ' (L9 : List (View.Piece (Elt F) S256x512 .f32)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd_3 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_3_eq_skeleton]; unfold cc1_gla_bwd_3_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.R1

end
-- ==== Proof.BwdRunB.lean ====
/- The backward kernel's body at a later grid point, over the carried state the point before left. -/
module

public import proofs.«01_k».proof.Proof.BwdRunA

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1616000 in

noncomputable def kernelRun0_B (c : Dev nD) (i : grid1.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x512 .f32) (harg11 : arg11.IsWhole) (arg12 : Memref sig .tc .vmem S4x256x128 .f32) (harg12 : arg12.IsWhole) (hc0 : ¬cond0_0 i)
    (x0 : Vec F S256x512 .bf16) (x1 : Vec F S256x512 .bf16) (x2 : Vec F S256x1024 .bf16) (x3 : Vec F S256x512 .f32) (x4 : Vec F S4x4x256x128 .f32) (x5 : Vec F S256x1024 .f32) (xs0 : Vec F S4x256x128 .f32) :
    Σ' (L6 : List (View.Piece (Elt F) S256x512 .bf16)), Σ' (L7 : List (View.Piece (Elt F) S256x512 .bf16)), Σ' (L8 : List (View.Piece (Elt F) S256x1024 .bf16)), Σ' (L9 : List (View.Piece (Elt F) S256x512 .f32)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd_3 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_3_eq_skeleton]; unfold cc1_gla_bwd_3_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.R1

end
-- ==== Proof.BwdDat.lean ====
/- What the backward kernel leaves point by point, and that its body meets it. -/
module

public import proofs.«01_k».proof.Proof.BwdRunB

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section
variable (c : Dev nD) (i : grid1.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x512 .f32) (harg11 : arg11.IsWhole) (arg12 : Memref sig .tc .vmem S4x256x128 .f32) (harg12 : arg12.IsWhole) (hc0 : cond0_0 i)
    (x0 : Vec F S256x512 .bf16) (x1 : Vec F S256x512 .bf16) (x2 : Vec F S256x1024 .bf16) (x3 : Vec F S256x512 .f32) (x4 : Vec F S4x4x256x128 .f32) (x5 : Vec F S256x1024 .f32)

theorem cover0_A_6 (y : S256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S64x128.size (by sl_kernel_rfl) y

def out0_A_6 : Vec F S256x512 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

theorem cover0_A_7 (y : S256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S64x128.size (by sl_kernel_rfl) y

def out0_A_7 : Vec F S256x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

theorem cover0_A_8 (y : S256x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1 S64x256.size (by sl_kernel_rfl) y

def out0_A_8 : Vec F S256x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1)

theorem cover0_A_9 (y : S256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1 S64x128.size (by sl_kernel_rfl) y

def out0_A_9 : Vec F S256x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1)

theorem scover0_A_0 (y : S4x256x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1 (by sl_whole_mem) y

def sout0_A_0 : Vec F S4x256x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1)

end

section
variable (c : Dev nD) (i : grid1.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x512 .f32) (harg11 : arg11.IsWhole) (arg12 : Memref sig .tc .vmem S4x256x128 .f32) (harg12 : arg12.IsWhole) (hc0 : ¬cond0_0 i)
    (x0 : Vec F S256x512 .bf16) (x1 : Vec F S256x512 .bf16) (x2 : Vec F S256x1024 .bf16) (x3 : Vec F S256x512 .f32) (x4 : Vec F S4x4x256x128 .f32) (x5 : Vec F S256x1024 .f32) (xs0 : Vec F S4x256x128 .f32)

theorem cover0_B_6 (y : S256x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).1 S64x128.size (by sl_kernel_rfl) y

def out0_B_6 : Vec F S256x512 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).1)

theorem cover0_B_7 (y : S256x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.1 S64x128.size (by sl_kernel_rfl) y

def out0_B_7 : Vec F S256x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.1)

theorem cover0_B_8 (y : S256x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.1 S64x256.size (by sl_kernel_rfl) y

def out0_B_8 : Vec F S256x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.1)

theorem cover0_B_9 (y : S256x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1 S64x128.size (by sl_kernel_rfl) y

def out0_B_9 : Vec F S256x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1)

theorem scover0_B_0 (y : S4x256x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1 S1x256x128.size (by sl_kernel_rfl) y

def sout0_B_0 : Vec F S4x256x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1)

end

def outsAt0 (c : Dev nD) : (n : ℕ) → n < cfg1.N → Vec F S256x512 .bf16 × Vec F S256x512 .bf16 × Vec F S256x1024 .bf16 × Vec F S256x512 .f32 × Vec F S4x256x128 .f32
  | 0, hn => (out0_A_6 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2)

theorem outsAt0_A (c : Dev nD) (t : Fin cfg1.N) (h0 : t.val % 16 = 0) :
    outsAt0 m c t.val t.isLt = (out0_A_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg1.N) (h0 : ¬t.val % 16 = 0) :
    outsAt0 m c t.val t.isLt = (out0_B_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg1.N → sProp 𝕄
  | 0, _ => Pipeline.ΦA spec1 c
  | n + 1, hn => iprop(iprop(owns (c : Thread nD τ) scM0_0 fullShare ((outsAt0 m c n hn).2.2.2.2)) ∗ Side c)

theorem PhiS_zero (c : Dev nD) (n : ℕ) (h : n ≤ cfg1.N) (hz : n = 0) : PhiS m c n h = Pipeline.ΦA spec1 c := by
  subst hz; rfl

theorem PhiS_succ (c : Dev nD) (n : ℕ) (hn : n < cfg1.N) :
    PhiS m c (n + 1) hn = iprop(iprop(owns (c : Thread nD τ) scM0_0 fullShare ((outsAt0 m c n hn).2.2.2.2)) ∗ Side c) := rfl

theorem PhiS_pos (c : Dev nD) (n : ℕ) (h : n ≤ cfg1.N) (hz : n ≠ 0) :
    PhiS m c n h = iprop(iprop(owns (c : Thread nD τ) scM0_0 fullShare ((outsAt0 m c (n - 1) (by omega)).2.2.2.2)) ∗ Side c) := by
  cases n with
  | zero => exact absurd rfl hz
  | succ n => rfl

def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q w := Pipeline.shareOf spec1 w
  owed _ := 0

theorem A_eq (c : Dev nD) (w : Fin cfg1.W) : (dat m c).A w = V m c (Pipeline.arrRef spec1 w) := by
  dsimp only [dat]

theorem PhiS_castSucc (c : Dev nD) (t : Fin cfg1.N) :
    (dat m c).Φ t.castSucc = PhiS m c t.val (Nat.le_of_lt t.isLt) := by
  dsimp only [dat]; exact Pipeline.Dat.Φ_castSucc (PhiS m c) t

theorem after0_0 (c : Dev nD) (t : Fin cfg1.N) : (dat m c).after 0 t = iblk m c 0 t := by dsimp only [dat]

theorem after0_1 (c : Dev nD) (t : Fin cfg1.N) : (dat m c).after 1 t = iblk m c 1 t := by dsimp only [dat]

theorem after0_2 (c : Dev nD) (t : Fin cfg1.N) : (dat m c).after 2 t = iblk m c 2 t := by dsimp only [dat]

theorem after0_3 (c : Dev nD) (t : Fin cfg1.N) : (dat m c).after 3 t = iblk m c 3 t := by dsimp only [dat]

theorem after0_4 (c : Dev nD) (t : Fin cfg1.N) : (dat m c).after 4 t = iblk m c 4 t := by dsimp only [dat]

theorem after0_5 (c : Dev nD) (t : Fin cfg1.N) : (dat m c).after 5 t = iblk m c 5 t := by dsimp only [dat]

theorem after0_6 (c : Dev nD) (t : Fin cfg1.N) : (dat m c).after 6 t = (outsAt0 m c t.val t.isLt).1 := by dsimp only [dat]

theorem after0_7 (c : Dev nD) (t : Fin cfg1.N) : (dat m c).after 7 t = (outsAt0 m c t.val t.isLt).2.1 := by dsimp only [dat]

theorem after0_8 (c : Dev nD) (t : Fin cfg1.N) : (dat m c).after 8 t = (outsAt0 m c t.val t.isLt).2.2.1 := by dsimp only [dat]

theorem after0_9 (c : Dev nD) (t : Fin cfg1.N) : (dat m c).after 9 t = (outsAt0 m c t.val t.isLt).2.2.2.1 := by dsimp only [dat]

theorem before0_0 (c : Dev nD) (t : Fin cfg1.N) (d) : (dat m c).before 0 t d = iblk m c 0 t :=
  before0_0_of m (dat m c) (A_eq m c 0) (after0_0 m c) t d

theorem before0_1 (c : Dev nD) (t : Fin cfg1.N) (d) : (dat m c).before 1 t d = iblk m c 1 t :=
  before0_1_of m (dat m c) (A_eq m c 1) (after0_1 m c) t d

theorem before0_2 (c : Dev nD) (t : Fin cfg1.N) (d) : (dat m c).before 2 t d = iblk m c 2 t :=
  before0_2_of m (dat m c) (A_eq m c 2) (after0_2 m c) t d

theorem before0_3 (c : Dev nD) (t : Fin cfg1.N) (d) : (dat m c).before 3 t d = iblk m c 3 t :=
  before0_3_of m (dat m c) (A_eq m c 3) (after0_3 m c) t d

theorem before0_4 (c : Dev nD) (t : Fin cfg1.N) (d) : (dat m c).before 4 t d = iblk m c 4 t :=
  before0_4_of m (dat m c) (A_eq m c 4) (after0_4 m c) t d

theorem before0_5 (c : Dev nD) (t : Fin cfg1.N) (d) : (dat m c).before 5 t d = iblk m c 5 t :=
  before0_5_of m (dat m c) (A_eq m c 5) (after0_5 m c) t d

def bodyPre (c : Dev nD) (t : Fin cfg1.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d)))

def bodyPost (c : Dev nD) (t : Fin cfg1.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t))

set_option maxHeartbeats 6400000 in

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4, before0_5]
  rw [show (dat m c).owesAt () t.succ = (dat m c).owesAt () t.castSucc from rfl,
    after0_0, after0_1, after0_2, after0_3, after0_4, after0_5, after0_6, after0_7, after0_8, after0_9]
  rw [show (dat m c).Φ t.succ = PhiS m c (t.val + 1) t.isLt from rfl, PhiS_succ]
  have hN : t.val < 16 := lt_of_lt_of_eq t.isLt (show cfg1.N = 16 from N_1)
  by_cases h0 : t.val % 16 = 0
  · by_cases hz : t.val = 0
    · rw [PhiS_castSucc m c t, PhiS_zero m c _ _ hz, PhiA0_eq]
      rw [outsAt0_A m c t h0]
      unfold out0_A_6 out0_A_7 out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid1.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc m c t, PhiS_pos m c _ _ hz]
      rw [outsAt0_B m c t h0]
      unfold out0_B_6 out0_B_7 out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid1.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

theorem hin (c : Dev nD) : Pipeline.ΦA spec1 c ⊢ (dat m c).Φ 0 := by
  rw [show (dat m c).Φ 0 = PhiS m c 0 (Nat.zero_le _) from rfl, PhiS_zero m c 0 _ rfl]
  try exact Idealize.SL.BI.Entails.refl _

theorem Phi_out (c : Dev nD) (t : Fin (cfg1.N + 1)) (ht : t.val ≠ 0) : (dat m c).Φ t ⊢ Pipeline.ΦA spec1 c := by
  rw [show (dat m c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dat m c).Φ (Fin.last cfg1.N) ⊢ Pipeline.ΦA spec1 c :=
  Phi_out m c _ (by rw [Fin.val_last]; have : cfg1.N = 16 := N_1; omega)

end Cert.KernelIdeal.R1

end
-- ==== Proof.GlaRun.lean ====
/- The run of the two kernels: the forward kernel from the launch memory, the backward kernel from what the forward
kernel left. Every buffer that outlives the run ends at `W2`, and every semaphore at zero. -/
module

public import proofs.«01_k».proof.Proof.FwdDat
public import proofs.«01_k».proof.Proof.BwdDat
public import Idealize.ShloMosaic.Lib.Claim
public import Idealize.ShloMosaic.Lib.Pipeline.RegionsLoop
public import Idealize.ShloMosaic.Lib.Pipeline.FrameSuffix

@[expose] public section

set_option maxRecDepth 16384

noncomputable section

namespace Cert.KernelIdeal.Both

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)

/-- Core `c`'s buffers after the forward kernel: its arrays at what it wrote back, every other buffer as launched. -/
def W1 (c : Dev nD) : Valuation τ sig (Elt F) :=
  Pipeline.withArrays spec0 c (W0 m c) fun w => (R0.dat m c).arrAt w cfg0.N

theorem W1_arr (c : Dev nD) (w : Fin cfg0.W) :
    W1 m c (Proc.devRef .tc (Pipeline.arrRef spec0 w)) = (R0.dat m c).arrAt w cfg0.N := by
  unfold W1; exact (R0.dat m c).withArrays_arrAt launch₀0.sharedIn _ (R0.A_eq m c) w

theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((R0.dat m c).arrAt_in w (h w rfl) _).trans (R0.A_eq m c w))
  · exact W1_of_ne m c r fun w e => hw ⟨w, e⟩

theorem hF0 (c : Dev nD) (w : Fin cfg0.W) : (R0.dat m c).arrAt w cfg0.N = W1 m c (Proc.devRef .tc (Pipeline.arrRef spec0 w)) :=
  (W1_arr m c w).symm

theorem hrest0 (c : Dev nD) : ∀ b, b ∉ Finset.univ.image (Pipeline.arrRef spec0) → W1 m c (Proc.devRef .tc b) = R0.V m c b :=
  fun b hb => W1_of_ne m c b fun w e => hb (Finset.mem_image.mpr ⟨w, Finset.mem_univ _, e⟩)

/-- The memory the backward kernel is entered with. -/
abbrev m1 : (ℓ : Loc nD τ sig) → Buf (Elt F) ℓ := fun ℓ => W1 m ℓ.1 ℓ.2

/-- Core `c`'s buffers after the backward kernel. -/
def W2 (c : Dev nD) : Valuation τ sig (Elt F) :=
  Pipeline.withArrays spec1 c (W1 m c) fun w => (R1.dat (m1 m) c).arrAt w cfg1.N

theorem W2_arr (c : Dev nD) (w : Fin cfg1.W) :
    W2 m c (Proc.devRef .tc (Pipeline.arrRef spec1 w)) = (R1.dat (m1 m) c).arrAt w cfg1.N := by
  unfold W2; exact (R1.dat (m1 m) c).withArrays_arrAt launch₀1.sharedIn _ (R1.A_eq (m1 m) c) w

theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((R1.dat (m1 m) c).arrAt_in w (h w rfl) _).trans (R1.A_eq (m1 m) c w))
  · exact W2_of_ne m c r fun w e => hw ⟨w, e⟩

theorem hF1 (c : Dev nD) (w : Fin cfg1.W) : (R1.dat (m1 m) c).arrAt w cfg1.N = W2 m c (Proc.devRef .tc (Pipeline.arrRef spec1 w)) :=
  (W2_arr m c w).symm

theorem hrest1 (c : Dev nD) : ∀ b, b ∉ Finset.univ.image (Pipeline.arrRef spec1) → W2 m c (Proc.devRef .tc b) = R1.V (m1 m) c b :=
  fun b hb => W2_of_ne m c b fun w e => hb (Finset.mem_image.mpr ⟨w, Finset.mem_univ _, e⟩)

abbrev adm : (p : Fin 2) → (pcfgs (F := F) p).Adm := fun p => (cfgs p).toPCfg_adm

/-- Each kernel's proof data, at the memory it is entered with. -/
def pdats : (p : Fin 2) → (c : Dev nD) → Dat τ (Elt F) Unit ℕ (UR sig nD τ) ℕ (Pipeline.pin (pcfgs (F := F)) adm p) c
  | ⟨0, _⟩ => fun c => R0.dat m c
  | ⟨1, _⟩ => fun c => R1.dat (m1 m) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W2 m c) ∗ ∃ r, prngReg c r)

set_option backward.isDefEq.respectTransparency.types false in
/-- The forward kernel as a segment of the run: its arrays split out of the buffers, and put back with what it wrote. -/

def reg0 : Pipeline.RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (R0.body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (R0.V m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (R0.V m c) (R0.A_eq m c)
    rw [show unscopedBufs c (R0.V m c) = StableHlo.held (c : Thread nD τ) (Pipeline.ucRefs τ sig) (W0 m c) from Pipeline.unscopedBufs_held c (W0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (R0.hin m c)
    unfold Pipeline.ΦA
    iintro ⟨Hp, -, Hr⟩
    isplitl [Hr]; · iexact Hr
    iexact Hp
  hout c := by
    rw [Pipeline.ownSems0_none]
    refine BI.BIBase.Entails.trans (R0.hout m c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (R0.V m c) (R1.V (m1 m) c) ((pdats m 0 c).arrAt · cfg0.N) (hF0 m c) (hrest0 m c)
    rw [show unscopedBufs c (R1.V (m1 m) c) = StableHlo.held (c : Thread nD τ) (Pipeline.ucRefs τ sig) (W1 m c) from Pipeline.unscopedBufs_held c (W1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward kernel as a segment of the run, entered with what the forward kernel left. -/

def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (R1.body_obligation (m1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R1.V (m1 m) c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (R1.V (m1 m) c) (R1.A_eq (m1 m) c)
    rw [show unscopedBufs c (R1.V (m1 m) c) = StableHlo.held (c : Thread nD τ) (Pipeline.ucRefs τ sig) (W1 m c) from Pipeline.unscopedBufs_held c (W1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (R1.hin (m1 m) c)
    unfold Pipeline.ΦA
    iintro ⟨Hp, -, Hr⟩
    isplitl [Hr]; · iexact Hr
    iexact Hp
  hout c := by
    rw [Pipeline.ownSems0_none]
    refine BI.BIBase.Entails.trans (R1.hout (m1 m) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (R1.V (m1 m) c) (fun b => W2 m c (Proc.devRef .tc b)) ((pdats m 1 c).arrAt · cfg1.N) (hF1 m c) (hrest1 m c)
    rw [show unscopedBufs c (fun b => W2 m c (Proc.devRef .tc b)) = StableHlo.held (c : Thread nD τ) (Pipeline.ucRefs τ sig) (W2 m c) from Pipeline.unscopedBufs_held c (W2 m c)] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The two kernels in order. -/
abbrev segs : List (Pipeline.Seg (pcfgs (F := F)) adm (pdats m) () defs₀ 𝒱₀ L lv) :=
  [ .region (reg0 m),
    .region (reg1 m) ]

theorem main_run (c : Dev nD) : main (F := F) c = Pipeline.Seg.run (segs m) := (main_chain c).trans (by chain_rfl)

theorem no_unscoped : ∀ sm : SemLoc sig, sm.isScoped .tc = true := by decide

set_option backward.isDefEq.respectTransparency.types false in

theorem run_main : θ_run defs (onTc (τ := τ) (main (F := F))) ⟨m, fun _ => 0, ρ⟩ (fun r => (∀ c : Dev nD, ∀ b ∈ Pipeline.ucRefs τ sig, r.2.mem ((c : Thread nD τ).1, b) = W2 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (no_unscoped g.2))⟩)

/-- An argument array is none of either kernel's output arrays, so it ends as launched. -/
theorem W2_arg (c : Dev nD) (a : Ref sig .tc)
    (h0 : ∀ w : Fin cfg0.W, Pipeline.arrRef spec0 w = a → (cfg0.win w).isOut = false)
    (h1 : ∀ w : Fin cfg1.W, Pipeline.arrRef spec1 w = a → (cfg1.win w).isOut = false) :
    W2 m c (Proc.devRef .tc a) = m ((c : Thread nD τ).loc a) :=
  (W2_of m c a h1).trans (W1_of m c a h0)

theorem W2_main_arg0 (c : Dev nD) : W2 m c (Proc.devRef .tc main_arg0) = m ((c : Thread nD τ).loc main_arg0) :=
  W2_arg m c main_arg0 (by decide +kernel) (by decide +kernel)
theorem W2_main_arg1 (c : Dev nD) : W2 m c (Proc.devRef .tc main_arg1) = m ((c : Thread nD τ).loc main_arg1) :=
  W2_arg m c main_arg1 (by decide +kernel) (by decide +kernel)
theorem W2_main_arg2 (c : Dev nD) : W2 m c (Proc.devRef .tc main_arg2) = m ((c : Thread nD τ).loc main_arg2) :=
  W2_arg m c main_arg2 (by decide +kernel) (by decide +kernel)

end Cert.KernelIdeal.Both

end
-- ==== Proof.RefLists.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference as lists of operations: the stretches of `@main` around its two loops, the stretches of each loop's body, and
that the program is the chain of them.  For each list: no operation allocates a buffer, and the buffers it writes. -/

@[expose] public section

noncomputable section

namespace Cert.ReferenceIdeal.Two

open Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Idealize.ShloMosaic.StableHlo renaming unary_bufs_sub → un, binary_bufs_sub → bi, nullary_bufs_sub → nu, reshape_bufs_sub → re

variable {F : FTy → Type} [FloatOps F]

/-- The contents of a buffer. -/
abbrev Held (F : FTy → Type) (s : Shape) (e : EltTy) : Type := (⟨s, e⟩ : BufTy).Contents (Elt F)

/-- Each touches buffers of the tensor core only. -/
abbrev Within (l : List (HloOp τ sig (Elt F))) : Prop := l.Forall fun op => op.bufs ⊆ tcRefs τ sig

/-- None allocates a buffer. -/
abbrev Fresh (l : List (HloOp τ sig (Elt F))) : Prop := l.Forall fun op => op.fresh = ∅

/-- The buffers they write are among `W`. -/
abbrev Writes (l : List (HloOp τ sig (Elt F))) (W : List (Ref sig .tc)) : Prop := l.Forall fun op => op.writes ⊆ (W.map (Proc.devRef (τ := τ) .tc)).toFinset

/-- A kernel-free program of the device. -/
abbrev Host (F : FTy → Type) [FloatOps F] := Prog (TpuEff nD τ sig (Elt F) (HostLoop.Sig (Pipeline.Sig Λ₀ (Fin 0) fun p => (pcfgs (F := F) p).Adm) 2) .tc) PUnit

/-! ## @main as segments and as a chain of items (Lib/Pipeline/Regions.lean `θ_run_regions_kit`, `Pipeline.chain`) -/

/-- 13 host operations of @main, in order. -/
abbrev hostOps0 : List (HloOp τ sig (Elt F)) :=
  [ unary main_arg0 main_v0 ((extf .f32 · bitsLt_bf16_f32) : Held F S4096x3072 .bf16 → Held F S4096x3072 .f32),
    unary main_v0 main_v1 (broadcastInDim S1x4096x3072 ![1, 2] bcast_S4096x3072_S1x4096x3072_1_2 : Held F S4096x3072 .f32 → Held F S1x4096x3072 .f32),
    unary main_v1 main_v2 ((extractStridedSlice S1x4096x512 ![0, 0, 0] · slices_S1x4096x3072_S1x4096x512_0_0_0) : Held F S1x4096x3072 .f32 → Held F S1x4096x512 .f32),
    unary main_v1 main_v3 ((extractStridedSlice S1x4096x512 ![0, 0, 512] · slices_S1x4096x3072_S1x4096x512_0_0_512) : Held F S1x4096x3072 .f32 → Held F S1x4096x512 .f32),
    unary main_v1 main_v4 ((extractStridedSlice S1x4096x1024 ![0, 0, 1024] · slices_S1x4096x3072_S1x4096x1024_0_0_1024) : Held F S1x4096x3072 .f32 → Held F S1x4096x1024 .f32),
    unary main_arg1 main_v5 (broadcastInDim S1x4096x512 ![1, 2] bcast_S4096x512_S1x4096x512_1_2 : Held F S4096x512 .f32 → Held F S1x4096x512 .f32),
    reshape main_v2 main_v6 (rfl : (.f32 : EltTy) = .f32) shapeCasts_S1x4096x512_S1x64x64x4x128,
    nullary main_cst (constant S_ .f32 0x3DB504F3#32),
    unary main_cst main_v7 (broadcastInDim S1x64x64x4x128 ![] bcast_S_S1x64x64x4x128 : Held F S_ .f32 → Held F S1x64x64x4x128 .f32),
    binary main_v6 main_v7 main_v8 (mulf : Held F S1x64x64x4x128 .f32 → Held F S1x64x64x4x128 .f32 → Held F S1x64x64x4x128 .f32),
    reshape main_v3 main_v9 (rfl : (.f32 : EltTy) = .f32) shapeCasts_S1x4096x512_S1x64x64x4x128,
    reshape main_v4 main_v10 (rfl : (.f32 : EltTy) = .f32) shapeCasts_S1x4096x1024_S1x64x64x4x256,
    reshape main_v5 main_v11 (rfl : (.f32 : EltTy) = .f32) shapeCasts_S1x4096x512_S1x64x64x4x128 ]
theorem hostOps0_sub : Within (F := F) hostOps0 :=
  ⟨un .., un .., un .., un .., un .., un .., re .., nu .., un .., bi .., re .., re .., re ..⟩
/-- 3 host operations of @cumsum (main_call0), in order. -/
abbrev hostOps0_1 : List (HloOp τ sig (Elt F)) :=
  [ TRef.nullary (.of main_call0_call0_cst : TRef sig ⟨S_, .f32⟩) (constant S_ .f32 0x00000000#32),
    TRef.unary (.of main_call0_call0_cst : TRef sig ⟨S_, .f32⟩) (.of main_call0_call0_v0 : TRef sig ⟨S_, .f32⟩) (broadcastInDim S_ ![] bcast_S_S_),
    TRef.binary (.of main_v11 : TRef sig ⟨S1x64x64x4x128, .f32⟩) (.of main_call0_call0_v0 : TRef sig ⟨S_, .f32⟩) (.of main_v12 : TRef sig ⟨S1x64x64x4x128, .f32⟩) (fun x v => Host.reduceWindowAdd ![1, 1, 64, 1, 1] ![1, 1, 1, 1, 1] ![0, 0, 63, 0, 0] ![0, 0, 0, 0, 0] x v reduceWindows_S1x64x64x4x128_S1x64x64x4x128_w1s1p0_0_w1s1p0_0_w64s1p63_0_w1s1p0_0_w1s1p0_0 h_S_) ]
theorem hostOps0_1_sub : Within (F := F) hostOps0_1 :=
  ⟨nu .., un .., bi ..⟩
/-- 31 host operations of @main, in order. -/
abbrev hostOps0_2 : List (HloOp τ sig (Elt F)) :=
  [ unary main_v12 main_v13 ((extractStridedSlice S1x64x1x4x128 ![0, 0, 63, 0, 0] · slices_S1x64x64x4x128_S1x64x1x4x128_0_0_63_0_0) : Held F S1x64x64x4x128 .f32 → Held F S1x64x1x4x128 .f32),
    reshape main_v13 main_v14 (rfl : (.f32 : EltTy) = .f32) shapeCasts_S1x64x1x4x128_S1x64x4x128,
    unary main_v14 main_v15 (broadcastInDim S1x64x1x4x128 ![0, 1, 3, 4] bcast_S1x64x4x128_S1x64x1x4x128_0_1_3_4 : Held F S1x64x4x128 .f32 → Held F S1x64x1x4x128 .f32),
    unary main_v15 main_v16 (broadcastInDim S1x64x64x4x128 ![0, 1, 2, 3, 4] bcast_S1x64x1x4x128_S1x64x64x4x128_0_1_2_3_4 : Held F S1x64x1x4x128 .f32 → Held F S1x64x64x4x128 .f32),
    binary main_v16 main_v12 main_v17 (subf : Held F S1x64x64x4x128 .f32 → Held F S1x64x64x4x128 .f32 → Held F S1x64x64x4x128 .f32),
    unary main_v17 main_v18 (Host.exp : Held F S1x64x64x4x128 .f32 → Held F S1x64x64x4x128 .f32),
    binary main_v9 main_v18 main_v19 (mulf : Held F S1x64x64x4x128 .f32 → Held F S1x64x64x4x128 .f32 → Held F S1x64x64x4x128 .f32),
    binary main_v19 main_v10 main_v20 ((fun l r => Host.dotGeneral dot_S1x64x64x4x128_S1x64x64x4x256_S64x1x4x128x256_2_2_4_4_103_103 none l r) : Held F S1x64x64x4x128 .f32 → Held F S1x64x64x4x256 .f32 → Held F S64x1x4x128x256 .f32),
    unary main_v14 main_v21 ((transpose S64x1x4x128 [1, 0, 2, 3] · transposes_S1x64x4x128_S64x1x4x128_1_0_2_3) : Held F S1x64x4x128 .f32 → Held F S64x1x4x128 .f32),
    unary main_v21 main_v22 (Host.exp : Held F S64x1x4x128 .f32 → Held F S64x1x4x128 .f32),
    unary main_v8 main_v23 ((transpose S64x1x64x4x128 [1, 0, 2, 3, 4] · transposes_S1x64x64x4x128_S64x1x64x4x128_1_0_2_3_4) : Held F S1x64x64x4x128 .f32 → Held F S64x1x64x4x128 .f32),
    nullary main_cst_0 (constant S_ .f32 0x00000000#32),
    unary main_cst_0 main_v24 (broadcastInDim S1x4x128x256 ![] bcast_S_S1x4x128x256 : Held F S_ .f32 → Held F S1x4x128x256 .f32),
    nullary main_cst_1 (constant S_ .f32 0x00000000#32),
    unary main_cst_1 main_v25 (broadcastInDim S64x1x64x4x256 ![] bcast_S_S64x1x64x4x256 : Held F S_ .f32 → Held F S64x1x64x4x256 .f32),
    nullary main_cst_2 (constant S_ .f32 0x00000000#32),
    unary main_cst_2 main_v26 (broadcastInDim S64x1x4x128x1 ![] bcast_S_S64x1x4x128x1 : Held F S_ .f32 → Held F S64x1x4x128x1 .f32),
    nullary main_cst_3 (constant S_ .f32 0x00000000#32),
    unary main_cst_3 main_v27 (broadcastInDim S64x1x4x128x256 ![] bcast_S_S64x1x4x128x256 : Held F S_ .f32 → Held F S64x1x4x128x256 .f32),
    nullary main_cst_4 (constant S_ .f32 0x00000000#32),
    unary main_cst_4 main_v28 (broadcastInDim S64x1x4x128x256 ![] bcast_S_S64x1x4x128x256 : Held F S_ .f32 → Held F S64x1x4x128x256 .f32),
    nullary main_c (constantI S_ 32 0#32),
    unary main_v22 main_v29_0 id,
    unary main_v20 main_v29_1 id,
    unary main_v23 main_v29_2 id,
    unary main_c main_v29_3 id,
    unary main_v24 main_v29_4 id,
    unary main_v25 main_v29_5 id,
    unary main_v26 main_v29_6 id,
    unary main_v27 main_v29_7 id,
    unary main_v28 main_v29_8 id ]
theorem hostOps0_2_sub : Within (F := F) hostOps0_2 :=
  ⟨un .., re .., un .., un .., bi .., un .., bi .., bi .., un .., un .., un .., nu .., un .., nu .., un .., nu .., un .., nu .., un .., nu .., un .., nu .., un .., un .., un .., un .., un .., un .., un .., un .., un ..⟩
/-- 26 host operations of @main, in order. -/
abbrev hostOps0_3 : List (HloOp τ sig (Elt F)) :=
  [ unary main_v29_5 main_v30 ((transpose S1x64x64x4x256 [1, 0, 2, 3, 4] · transposes_S64x1x64x4x256_S1x64x64x4x256_1_0_2_3_4) : Held F S64x1x64x4x256 .f32 → Held F S1x64x64x4x256 .f32),
    reshape main_v30 main_v31 (rfl : (.f32 : EltTy) = .f32) shapeCasts_S1x64x64x4x256_S1x4096x1024,
    unary main_arg2 main_v32 (broadcastInDim S1x4096x1024 ![1, 2] bcast_S4096x1024_S1x4096x1024_1_2 : Held F S4096x1024 .f32 → Held F S1x4096x1024 .f32),
    nullary main_cst_5 (constant S_ .f32 0x00000000#32),
    unary main_cst_5 main_v33 (broadcastInDim S1x4x128x256 ![] bcast_S_S1x4x128x256 : Held F S_ .f32 → Held F S1x4x128x256 .f32),
    reshape main_v32 main_v34 (rfl : (.f32 : EltTy) = .f32) shapeCasts_S1x4096x1024_S1x64x64x4x256,
    unary main_v34 main_v35 ((transpose S64x1x64x4x256 [1, 0, 2, 3, 4] · transposes_S1x64x64x4x256_S64x1x64x4x256_1_0_2_3_4) : Held F S1x64x64x4x256 .f32 → Held F S64x1x64x4x256 .f32),
    nullary main_cst_6 (constant S_ .f32 0x00000000#32),
    unary main_cst_6 main_v36 (broadcastInDim S1x4x128x256 ![] bcast_S_S1x4x128x256 : Held F S_ .f32 → Held F S1x4x128x256 .f32),
    nullary main_cst_7 (constant S_ .f32 0x00000000#32),
    unary main_cst_7 main_v37 (broadcastInDim S64x1x4x128 ![] bcast_S_S64x1x4x128 : Held F S_ .f32 → Held F S64x1x4x128 .f32),
    nullary main_cst_8 (constant S_ .f32 0x00000000#32),
    unary main_cst_8 main_v38 (broadcastInDim S64x1x4x128x256 ![] bcast_S_S64x1x4x128x256 : Held F S_ .f32 → Held F S64x1x4x128x256 .f32),
    nullary main_cst_9 (constant S_ .f32 0x00000000#32),
    unary main_cst_9 main_v39 (broadcastInDim S64x1x64x4x128 ![] bcast_S_S64x1x64x4x128 : Held F S_ .f32 → Held F S64x1x64x4x128 .f32),
    nullary main_c_10 (constantI S_ 32 0#32),
    unary main_v35 main_v40_0 id,
    unary main_v29_6 main_v40_1 id,
    unary main_v29_7 main_v40_2 id,
    unary main_v23 main_v40_3 id,
    unary main_v29_8 main_v40_4 id,
    unary main_c_10 main_v40_5 id,
    unary main_v36 main_v40_6 id,
    unary main_v37 main_v40_7 id,
    unary main_v38 main_v40_8 id,
    unary main_v39 main_v40_9 id ]
theorem hostOps0_3_sub : Within (F := F) hostOps0_3 :=
  ⟨un .., re .., un .., nu .., un .., re .., un .., nu .., un .., nu .., un .., nu .., un .., nu .., un .., nu .., un .., un .., un .., un .., un .., un .., un .., un .., un .., un ..⟩
/-- 22 host operations of @main, in order. -/
abbrev hostOps0_4 : List (HloOp τ sig (Elt F)) :=
  [ unary main_v40_9 main_v41 ((transpose S1x64x64x4x128 [1, 0, 2, 3, 4] · transposes_S64x1x64x4x128_S1x64x64x4x128_1_0_2_3_4) : Held F S64x1x64x4x128 .f32 → Held F S1x64x64x4x128 .f32),
    binary main_v40_7 main_v22 main_v42 (mulf : Held F S64x1x4x128 .f32 → Held F S64x1x4x128 .f32 → Held F S64x1x4x128 .f32),
    unary main_v42 main_v43 ((transpose S1x64x4x128 [1, 0, 2, 3] · transposes_S64x1x4x128_S1x64x4x128_1_0_2_3) : Held F S64x1x4x128 .f32 → Held F S1x64x4x128 .f32),
    binary main_v40_8 main_v19 main_v44 ((fun l r => Host.dotGeneral dot_S64x1x4x128x256_S1x64x64x4x128_S64x1x4x256x64_3_4_4_2_012_103 none l r) : Held F S64x1x4x128x256 .f32 → Held F S1x64x64x4x128 .f32 → Held F S64x1x4x256x64 .f32),
    unary main_v44 main_v45 ((transpose S1x64x64x4x256 [1, 0, 4, 2, 3] · transposes_S64x1x4x256x64_S1x64x64x4x256_1_0_4_2_3) : Held F S64x1x4x256x64 .f32 → Held F S1x64x64x4x256 .f32),
    binary main_v40_8 main_v10 main_v46 ((fun l r => Host.dotGeneral dot_S64x1x4x128x256_S1x64x64x4x256_S64x1x4x128x64_4_4_3_2_012_103 none l r) : Held F S64x1x4x128x256 .f32 → Held F S1x64x64x4x256 .f32 → Held F S64x1x4x128x64 .f32),
    unary main_v46 main_v47 ((transpose S1x64x64x4x128 [1, 0, 4, 2, 3] · transposes_S64x1x4x128x64_S1x64x64x4x128_1_0_4_2_3) : Held F S64x1x4x128x64 .f32 → Held F S1x64x64x4x128 .f32),
    binary main_v9 main_v47 main_v48 (mulf : Held F S1x64x64x4x128 .f32 → Held F S1x64x64x4x128 .f32 → Held F S1x64x64x4x128 .f32),
    binary main_v47 main_v18 main_v49 (mulf : Held F S1x64x64x4x128 .f32 → Held F S1x64x64x4x128 .f32 → Held F S1x64x64x4x128 .f32),
    binary main_v48 main_v18 main_v50 (mulf : Held F S1x64x64x4x128 .f32 → Held F S1x64x64x4x128 .f32 → Held F S1x64x64x4x128 .f32),
    nullary main_cst_11 (constant S_ .f32 0x00000000#32),
    binary main_v50 main_cst_11 main_v51 ((fun x v => Host.reduceAdd x v reducesTo_S1x64x64x4x128_S1x64x4x128_d2 h_S_) : Held F S1x64x64x4x128 .f32 → Held F S_ .f32 → Held F S1x64x4x128 .f32),
    reshape main_v51 main_v52 (rfl : (.f32 : EltTy) = .f32) shapeCasts_S1x64x4x128_S1x64x1x4x128,
    unary main_v50 main_v53 (Host.negf : Held F S1x64x64x4x128 .f32 → Held F S1x64x64x4x128 .f32),
    nullary main_cst_12 (constant S_ .f32 0x00000000#32),
    binary main_v52 main_cst_12 main_v54 ((fun x v => Host.reduceAdd x v reducesTo_S1x64x1x4x128_S64x4x128_d0_2 h_S_) : Held F S1x64x1x4x128 .f32 → Held F S_ .f32 → Held F S64x4x128 .f32),
    unary main_v54 main_v55 (broadcastInDim S1x64x4x128 ![1, 2, 3] bcast_S64x4x128_S1x64x4x128_1_2_3 : Held F S64x4x128 .f32 → Held F S1x64x4x128 .f32),
    binary main_v43 main_v55 main_v56 (addf : Held F S1x64x4x128 .f32 → Held F S1x64x4x128 .f32 → Held F S1x64x4x128 .f32),
    unary main_v56 main_v57 (broadcastInDim S1x64x1x4x128 ![0, 1, 3, 4] bcast_S1x64x4x128_S1x64x1x4x128_0_1_3_4 : Held F S1x64x4x128 .f32 → Held F S1x64x1x4x128 .f32),
    nullary main_cst_13 (constant S_ .f32 0x00000000#32),
    binary main_v57 main_cst_13 main_v58 ((fun x v => pad S1x64x64x4x128 ![0, 0, 63, 0, 0] ![0, 0, 0, 0, 0] ![0, 0, 0, 0, 0] x v pads_S1x64x1x4x128_S1x64x64x4x128_000_000_6300_000_000 h_S_) : Held F S1x64x1x4x128 .f32 → Held F S_ .f32 → Held F S1x64x64x4x128 .f32),
    binary main_v53 main_v58 main_v59 (addf : Held F S1x64x64x4x128 .f32 → Held F S1x64x64x4x128 .f32 → Held F S1x64x64x4x128 .f32) ]
theorem hostOps0_4_sub : Within (F := F) hostOps0_4 :=
  ⟨un .., bi .., un .., bi .., un .., bi .., un .., bi .., bi .., bi .., nu .., bi .., re .., un .., nu .., bi .., un .., bi .., un .., nu .., bi .., bi ..⟩
/-- 3 host operations of @cumsum_9 (main_call16), in order. -/
abbrev hostOps0_5 : List (HloOp τ sig (Elt F)) :=
  [ TRef.nullary (.of main_call16_call0_cst : TRef sig ⟨S_, .f32⟩) (constant S_ .f32 0x00000000#32),
    TRef.unary (.of main_call16_call0_cst : TRef sig ⟨S_, .f32⟩) (.of main_call16_call0_v0 : TRef sig ⟨S_, .f32⟩) (broadcastInDim S_ ![] bcast_S_S_),
    TRef.binary (.of main_v59 : TRef sig ⟨S1x64x64x4x128, .f32⟩) (.of main_call16_call0_v0 : TRef sig ⟨S_, .f32⟩) (.of main_v60 : TRef sig ⟨S1x64x64x4x128, .f32⟩) (fun x v => Host.reduceWindowAdd ![1, 1, 64, 1, 1] ![1, 1, 1, 1, 1] ![0, 0, 0, 0, 0] ![0, 0, 63, 0, 0] x v reduceWindows_S1x64x64x4x128_S1x64x64x4x128_w1s1p0_0_w1s1p0_0_w64s1p0_63_w1s1p0_0_w1s1p0_0 h_S_) ]
theorem hostOps0_5_sub : Within (F := F) hostOps0_5 :=
  ⟨nu .., un .., bi ..⟩
/-- 15 host operations of @main, in order. -/
abbrev hostOps0_6 : List (HloOp τ sig (Elt F)) :=
  [ reshape main_v60 main_v61 (rfl : (.f32 : EltTy) = .f32) shapeCasts_S1x64x64x4x128_S1x4096x512,
    reshape main_v45 main_v62 (rfl : (.f32 : EltTy) = .f32) shapeCasts_S1x64x64x4x256_S1x4096x1024,
    reshape main_v49 main_v63 (rfl : (.f32 : EltTy) = .f32) shapeCasts_S1x64x64x4x128_S1x4096x512,
    nullary main_cst_14 (constant S_ .f32 0x3DB504F3#32),
    unary main_cst_14 main_v64 (broadcastInDim S1x64x64x4x128 ![] bcast_S_S1x64x64x4x128 : Held F S_ .f32 → Held F S1x64x64x4x128 .f32),
    binary main_v41 main_v64 main_v65 (mulf : Held F S1x64x64x4x128 .f32 → Held F S1x64x64x4x128 .f32 → Held F S1x64x64x4x128 .f32),
    reshape main_v65 main_v66 (rfl : (.f32 : EltTy) = .f32) shapeCasts_S1x64x64x4x128_S1x4096x512,
    reshape main_v31 main_v67 (rfl : (.f32 : EltTy) = .f32) shapeCasts_S1x4096x1024_S4096x1024,
    reshape main_v66 main_v68 (rfl : (.f32 : EltTy) = .f32) shapeCasts_S1x4096x512_S4096x512,
    unary main_v68 main_v69 ((truncf .bf16 · bitsLt_bf16_f32) : Held F S4096x512 .f32 → Held F S4096x512 .bf16),
    reshape main_v63 main_v70 (rfl : (.f32 : EltTy) = .f32) shapeCasts_S1x4096x512_S4096x512,
    unary main_v70 main_v71 ((truncf .bf16 · bitsLt_bf16_f32) : Held F S4096x512 .f32 → Held F S4096x512 .bf16),
    reshape main_v62 main_v72 (rfl : (.f32 : EltTy) = .f32) shapeCasts_S1x4096x1024_S4096x1024,
    unary main_v72 main_v73 ((truncf .bf16 · bitsLt_bf16_f32) : Held F S4096x1024 .f32 → Held F S4096x1024 .bf16),
    reshape main_v61 main_v74 (rfl : (.f32 : EltTy) = .f32) shapeCasts_S1x4096x512_S4096x512 ]
theorem hostOps0_6_sub : Within (F := F) hostOps0_6 :=
  ⟨re .., re .., re .., nu .., un .., bi .., re .., re .., re .., un .., re .., un .., re .., un .., re ..⟩
/-- 14 host operations of @main, window 0 (statements 1 … 60), in order. -/
abbrev main_part0_ops3 : List (HloOp τ sig (Elt F)) :=
  [ unary main_v29_5 main_v30 ((transpose S1x64x64x4x256 [1, 0, 2, 3, 4] · transposes_S64x1x64x4x256_S1x64x64x4x256_1_0_2_3_4) : Held F S64x1x64x4x256 .f32 → Held F S1x64x64x4x256 .f32),
    reshape main_v30 main_v31 (rfl : (.f32 : EltTy) = .f32) shapeCasts_S1x64x64x4x256_S1x4096x1024,
    unary main_arg2 main_v32 (broadcastInDim S1x4096x1024 ![1, 2] bcast_S4096x1024_S1x4096x1024_1_2 : Held F S4096x1024 .f32 → Held F S1x4096x1024 .f32),
    nullary main_cst_5 (constant S_ .f32 0x00000000#32),
    unary main_cst_5 main_v33 (broadcastInDim S1x4x128x256 ![] bcast_S_S1x4x128x256 : Held F S_ .f32 → Held F S1x4x128x256 .f32),
    reshape main_v32 main_v34 (rfl : (.f32 : EltTy) = .f32) shapeCasts_S1x4096x1024_S1x64x64x4x256,
    unary main_v34 main_v35 ((transpose S64x1x64x4x256 [1, 0, 2, 3, 4] · transposes_S1x64x64x4x256_S64x1x64x4x256_1_0_2_3_4) : Held F S1x64x64x4x256 .f32 → Held F S64x1x64x4x256 .f32),
    nullary main_cst_6 (constant S_ .f32 0x00000000#32),
    unary main_cst_6 main_v36 (broadcastInDim S1x4x128x256 ![] bcast_S_S1x4x128x256 : Held F S_ .f32 → Held F S1x4x128x256 .f32),
    nullary main_cst_7 (constant S_ .f32 0x00000000#32),
    unary main_cst_7 main_v37 (broadcastInDim S64x1x4x128 ![] bcast_S_S64x1x4x128 : Held F S_ .f32 → Held F S64x1x4x128 .f32),
    nullary main_cst_8 (constant S_ .f32 0x00000000#32),
    unary main_cst_8 main_v38 (broadcastInDim S64x1x4x128x256 ![] bcast_S_S64x1x4x128x256 : Held F S_ .f32 → Held F S64x1x4x128x256 .f32),
    nullary main_cst_9 (constant S_ .f32 0x00000000#32) ]
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ seq hostOps0,
    seq hostOps0_1,
    seq hostOps0_2,
    HostLoop.enter 0 ]
  (seq main_part0_ops3) : Host F) := by
  rewrite [StableHlo.chainK_seq_cons, Pipeline.chainK_cons, StableHlo.chainK_seq_cons, Pipeline.chainK_cons]
  chain_rfl

/-- 12 host operations of @main, window 1 (statements 61 … 112), in order. -/
abbrev main_part1_ops0 : List (HloOp τ sig (Elt F)) :=
  [ unary main_cst_9 main_v39 (broadcastInDim S64x1x64x4x128 ![] bcast_S_S64x1x64x4x128 : Held F S_ .f32 → Held F S64x1x64x4x128 .f32),
    nullary main_c_10 (constantI S_ 32 0#32),
    unary main_v35 main_v40_0 id,
    unary main_v29_6 main_v40_1 id,
    unary main_v29_7 main_v40_2 id,
    unary main_v23 main_v40_3 id,
    unary main_v29_8 main_v40_4 id,
    unary main_c_10 main_v40_5 id,
    unary main_v36 main_v40_6 id,
    unary main_v37 main_v40_7 id,
    unary main_v38 main_v40_8 id,
    unary main_v39 main_v40_9 id ]
/-- The last window of `main` (`main_part1`, statements 61 … 112) is the chain of ITS items, each item aligned with the window's
    statements, then `chain_rfl`. -/
theorem main_part1_chain (c : Dev nD) : main_part1 (F := F) c = (Pipeline.chain
  [ seq main_part1_ops0,
    HostLoop.enter 1,
    seq hostOps0_4,
    seq hostOps0_5,
    seq hostOps0_6 ] : Host F) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops). -/
theorem main_chain_windows (c : Dev nD) : main (F := F) c = (Pipeline.chain
  [ seq hostOps0,
    seq hostOps0_1,
    seq hostOps0_2,
    HostLoop.enter 0,
    seq main_part0_ops3,
    seq main_part1_ops0,
    HostLoop.enter 1,
    seq hostOps0_4,
    seq hostOps0_5,
    seq hostOps0_6 ] : Host F) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [hostOps0],
    .ops [hostOps0_1],
    .ops [hostOps0_2],
    .prog (HostLoop.enter 0),
    .ops [main_part0_ops3, main_part1_ops0],
    .prog (HostLoop.enter 1),
    .ops [hostOps0_4],
    .ops [hostOps0_5],
    .ops [hostOps0_6] ]

/-- The windows' item list is `main_groups` with each stretch cut into its window pieces (`StableHlo.Group.cut`): the two
    lists are the same, by `chain_rfl`. -/
theorem main_chain_cut (c : Dev nD) : (Pipeline.chain
  [ seq hostOps0,
    seq hostOps0_1,
    seq hostOps0_2,
    HostLoop.enter 0,
    seq main_part0_ops3,
    seq main_part1_ops0,
    HostLoop.enter 1,
    seq hostOps0_4,
    seq hostOps0_5,
    seq hostOps0_6 ] : Host F) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ seq hostOps0,
    seq hostOps0_1,
    seq hostOps0_2,
    HostLoop.enter 0,
    seq hostOps0_3,
    HostLoop.enter 1,
    seq hostOps0_4,
    seq hostOps0_5,
    seq hostOps0_6 ] : Host F) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ seq hostOps0,
    seq hostOps0_1,
    seq hostOps0_2,
    HostLoop.enter 0,
    seq hostOps0_3,
    HostLoop.enter 1,
    seq hostOps0_4,
    seq hostOps0_5,
    seq hostOps0_6 ] : Host F) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @dynamic_index_in_dim (main_while0b_call1), in order. -/
abbrev while0Ops0 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v29_0 : TRef sig ⟨S64x1x4x128, .f32⟩) ![(.of main_v29_3 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x1x4x128, .f32⟩) (fun x i => Host.dynamicSlice S1x1x4x128 x (fun k => (i k (Shape.Idx.first h_S_)).toInt) sliceFits_S64x1x4x128_S1x1x4x128),
    TRef.reshape (.of main_while0b_call1_v0 : TRef sig ⟨S1x1x4x128, .f32⟩) (.of main_while0b_v75 : TRef sig ⟨S1x4x128, .f32⟩) (rfl : (.f32 : EltTy) = .f32) shapeCasts_S1x1x4x128_S1x4x128 ]
theorem while0Ops0_sub : Within (F := F) while0Ops0 :=
  ⟨nu .., nu .., nu .., unaryIndexed_bufs_sub .., re ..⟩
/-- 6 host operations of @dynamic_index_in_dim_1 (main_while0b_call2), in order. -/
abbrev while0Ops0_1 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v29_1 : TRef sig ⟨S64x1x4x128x256, .f32⟩) ![(.of main_v29_3 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while0b_call2_v0 : TRef sig ⟨S1x1x4x128x256, .f32⟩) (.of main_while0b_v76 : TRef sig ⟨S1x4x128x256, .f32⟩) (rfl : (.f32 : EltTy) = .f32) shapeCasts_S1x1x4x128x256_S1x4x128x256 ]
theorem while0Ops0_1_sub : Within (F := F) while0Ops0_1 :=
  ⟨nu .., nu .., nu .., nu .., unaryIndexed_bufs_sub .., re ..⟩
/-- 6 host operations of @dynamic_index_in_dim_2 (main_while0b_call3), in order. -/
abbrev while0Ops0_2 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.unaryIndexed (.of main_v29_2 : TRef sig ⟨S64x1x64x4x128, .f32⟩) ![(.of main_v29_3 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_call3_v0 : TRef sig ⟨S1x1x64x4x128, .f32⟩) (fun x i => Host.dynamicSlice S1x1x64x4x128 x (fun k => (i k (Shape.Idx.first h_S_)).toInt) sliceFits_S64x1x64x4x128_S1x1x64x4x128),
    TRef.reshape (.of main_while0b_call3_v0 : TRef sig ⟨S1x1x64x4x128, .f32⟩) (.of main_while0b_v77 : TRef sig ⟨S1x64x4x128, .f32⟩) (rfl : (.f32 : EltTy) = .f32) shapeCasts_S1x1x64x4x128_S1x64x4x128 ]
theorem while0Ops0_2_sub : Within (F := F) while0Ops0_2 :=
  ⟨nu .., nu .., nu .., nu .., unaryIndexed_bufs_sub .., re ..⟩
/-- 6 host operations of host loop 0's body region, in order. -/
abbrev while0Ops0_3 : List (HloOp τ sig (Elt F)) :=
  [ unary main_while0b_v75 main_while0b_v78 (broadcastInDim S1x4x128x1 ![0, 1, 2] bcast_S1x4x128_S1x4x128x1_0_1_2 : Held F S1x4x128 .f32 → Held F S1x4x128x1 .f32),
    unary main_while0b_v78 main_while0b_v79 (broadcastInDim S1x4x128x256 ![0, 1, 2, 3] bcast_S1x4x128x1_S1x4x128x256_0_1_2_3 : Held F S1x4x128x1 .f32 → Held F S1x4x128x256 .f32),
    binary main_v29_4 main_while0b_v79 main_while0b_v80 (mulf : Held F S1x4x128x256 .f32 → Held F S1x4x128x256 .f32 → Held F S1x4x128x256 .f32),
    binary main_while0b_v80 main_while0b_v76 main_while0b_v81 (addf : Held F S1x4x128x256 .f32 → Held F S1x4x128x256 .f32 → Held F S1x4x128x256 .f32),
    binary main_while0b_v81 main_while0b_v77 main_while0b_v82 ((fun l r => Host.dotGeneral dot_S1x4x128x256_S1x64x4x128_S1x4x256x64_2_3_3_1_01_02 none l r) : Held F S1x4x128x256 .f32 → Held F S1x64x4x128 .f32 → Held F S1x4x256x64 .f32),
    unary main_while0b_v82 main_while0b_v83 ((transpose S1x64x4x256 [0, 3, 1, 2] · transposes_S1x4x256x64_S1x64x4x256_0_3_1_2) : Held F S1x4x256x64 .f32 → Held F S1x64x4x256 .f32) ]
theorem while0Ops0_3_sub : Within (F := F) while0Ops0_3 :=
  ⟨un .., un .., bi .., bi .., bi .., un ..⟩
/-- 6 host operations of @dynamic_update_index_in_dim (main_while0b_call4), in order. -/
abbrev while0Ops0_4 : List (HloOp τ sig (Elt F)) :=
  [ TRef.unary (.of main_while0b_v83 : TRef sig ⟨S1x64x4x256, .f32⟩) (.of main_while0b_call4_v0 : TRef sig ⟨S1x1x64x4x256, .f32⟩) (broadcastInDim S1x1x64x4x256 ![1, 2, 3, 4] bcast_S1x64x4x256_S1x1x64x4x256_1_2_3_4),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.binaryIndexed (.of main_v29_5 : TRef sig ⟨S64x1x64x4x256, .f32⟩) (.of main_while0b_call4_v0 : TRef sig ⟨S1x1x64x4x256, .f32⟩) ![(.of main_v29_3 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_v84 : TRef sig ⟨S64x1x64x4x256, .f32⟩) (fun x u i => Host.dynamicUpdateSlice x u (fun k => (i k (Shape.Idx.first h_S_)).toInt) updateFits_S64x1x64x4x256_S1x1x64x4x256) ]
theorem while0Ops0_4_sub : Within (F := F) while0Ops0_4 :=
  ⟨un .., nu .., nu .., nu .., nu .., binaryIndexed_bufs_sub ..⟩
/-- 6 host operations of @dynamic_update_index_in_dim_3 (main_while0b_call5), in order. -/
abbrev while0Ops0_5 : List (HloOp τ sig (Elt F)) :=
  [ TRef.unary (.of main_while0b_v78 : TRef sig ⟨S1x4x128x1, .f32⟩) (.of main_while0b_call5_v0 : TRef sig ⟨S1x1x4x128x1, .f32⟩) (broadcastInDim S1x1x4x128x1 ![1, 2, 3, 4] bcast_S1x4x128x1_S1x1x4x128x1_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v29_6 : TRef sig ⟨S64x1x4x128x1, .f32⟩) (.of main_while0b_call5_v0 : TRef sig ⟨S1x1x4x128x1, .f32⟩) ![(.of main_v29_3 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v85 : TRef sig ⟨S64x1x4x128x1, .f32⟩) (fun x u i => Host.dynamicUpdateSlice x u (fun k => (i k (Shape.Idx.first h_S_)).toInt) updateFits_S64x1x4x128x1_S1x1x4x128x1) ]
theorem while0Ops0_5_sub : Within (F := F) while0Ops0_5 :=
  ⟨un .., nu .., nu .., nu .., nu .., binaryIndexed_bufs_sub ..⟩
/-- 6 host operations of @dynamic_update_index_in_dim_4 (main_while0b_call6), in order. -/
abbrev while0Ops0_6 : List (HloOp τ sig (Elt F)) :=
  [ TRef.unary (.of main_v29_4 : TRef sig ⟨S1x4x128x256, .f32⟩) (.of main_while0b_call6_v0 : TRef sig ⟨S1x1x4x128x256, .f32⟩) (broadcastInDim S1x1x4x128x256 ![1, 2, 3, 4] bcast_S1x4x128x256_S1x1x4x128x256_1_2_3_4),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.nullary (.of main_while0b_call6_c_2 : TRef sig ⟨S_, .i32⟩) (constantI S_ 32 0#32),
    TRef.binaryIndexed (.of main_v29_7 : TRef sig ⟨S64x1x4x128x256, .f32⟩) (.of main_while0b_call6_v0 : TRef sig ⟨S1x1x4x128x256, .f32⟩) ![(.of main_v29_3 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩), (.of main_while0b_call6_c_2 : TRef sig ⟨S_, .i32⟩)] (.of main_while0b_v86 : TRef sig ⟨S64x1x4x128x256, .f32⟩) (fun x u i => Host.dynamicUpdateSlice x u (fun k => (i k (Shape.Idx.first h_S_)).toInt) updateFits_S64x1x4x128x256_S1x1x4x128x256) ]
theorem while0Ops0_6_sub : Within (F := F) while0Ops0_6 :=
  ⟨un .., nu .., nu .., nu .., nu .., binaryIndexed_bufs_sub ..⟩
/-- 6 host operations of @dynamic_update_index_in_dim_4 (main_while0b_call7), in order. -/
abbrev while0Ops0_7 : List (HloOp τ sig (Elt F)) :=
  [ TRef.unary (.of main_while0b_v81 : TRef sig ⟨S1x4x128x256, .f32⟩) (.of main_while0b_call7_v0 : TRef sig ⟨S1x1x4x128x256, .f32⟩) (broadcastInDim S1x1x4x128x256 ![1, 2, 3, 4] bcast_S1x4x128x256_S1x1x4x128x256_1_2_3_4),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.nullary (.of main_while0b_call7_c_2 : TRef sig ⟨S_, .i32⟩) (constantI S_ 32 0#32),
    TRef.binaryIndexed (.of main_v29_8 : TRef sig ⟨S64x1x4x128x256, .f32⟩) (.of main_while0b_call7_v0 : TRef sig ⟨S1x1x4x128x256, .f32⟩) ![(.of main_v29_3 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩), (.of main_while0b_call7_c_2 : TRef sig ⟨S_, .i32⟩)] (.of main_while0b_v87 : TRef sig ⟨S64x1x4x128x256, .f32⟩) (fun x u i => Host.dynamicUpdateSlice x u (fun k => (i k (Shape.Idx.first h_S_)).toInt) updateFits_S64x1x4x128x256_S1x1x4x128x256) ]
theorem while0Ops0_7_sub : Within (F := F) while0Ops0_7 :=
  ⟨un .., nu .., nu .., nu .., nu .., binaryIndexed_bufs_sub ..⟩
/-- 8 host operations of host loop 0's body region, in order. -/
abbrev while0Ops0_8 : List (HloOp τ sig (Elt F)) :=
  [ nullary main_while0b_c_23 (constantI S_ 32 1#32),
    binary main_v29_3 main_while0b_c_23 main_while0b_v88 (addi : Held F S_ .i32 → Held F S_ .i32 → Held F S_ .i32),
    unary main_while0b_v88 main_v29_3 id,
    unary main_while0b_v81 main_v29_4 id,
    unary main_while0b_v84 main_v29_5 id,
    unary main_while0b_v85 main_v29_6 id,
    unary main_while0b_v86 main_v29_7 id,
    unary main_while0b_v87 main_v29_8 id ]
theorem while0Ops0_8_sub : Within (F := F) while0Ops0_8 :=
  ⟨nu .., bi .., un .., un .., un .., un .., un .., un ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8 ] : Host F) := by
  rewrite [Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- 4 host operations of host loop 1's body region, in order. -/
abbrev while1Ops0 : List (HloOp τ sig (Elt F)) :=
  [ nullary main_while1b_c_24 (constantI S_ 32 64#32),
    binary main_while1b_c_24 main_v40_5 main_while1b_v75 (subi : Held F S_ .i32 → Held F S_ .i32 → Held F S_ .i32),
    nullary main_while1b_c_25 (constantI S_ 32 1#32),
    binary main_while1b_v75 main_while1b_c_25 main_while1b_v76 (subi : Held F S_ .i32 → Held F S_ .i32 → Held F S_ .i32) ]
theorem while1Ops0_sub : Within (F := F) while1Ops0 :=
  ⟨nu .., bi .., nu .., bi ..⟩
/-- 6 host operations of @dynamic_index_in_dim_5 (main_while1b_call8), in order. -/
abbrev while1Ops0_1 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v40_0 : TRef sig ⟨S64x1x64x4x256, .f32⟩) ![(.of main_while1b_v76 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x64x4x256, .f32⟩) (fun x i => Host.dynamicSlice S1x1x64x4x256 x (fun k => (i k (Shape.Idx.first h_S_)).toInt) sliceFits_S64x1x64x4x256_S1x1x64x4x256),
    TRef.reshape (.of main_while1b_call8_v0 : TRef sig ⟨S1x1x64x4x256, .f32⟩) (.of main_while1b_v77 : TRef sig ⟨S1x64x4x256, .f32⟩) (rfl : (.f32 : EltTy) = .f32) shapeCasts_S1x1x64x4x256_S1x64x4x256 ]
theorem while1Ops0_1_sub : Within (F := F) while1Ops0_1 :=
  ⟨nu .., nu .., nu .., nu .., unaryIndexed_bufs_sub .., re ..⟩
/-- 6 host operations of @dynamic_index_in_dim_6 (main_while1b_call9), in order. -/
abbrev while1Ops0_2 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v40_1 : TRef sig ⟨S64x1x4x128x1, .f32⟩) ![(.of main_while1b_v76 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x1x4x128x1, .f32⟩) (fun x i => Host.dynamicSlice S1x1x4x128x1 x (fun k => (i k (Shape.Idx.first h_S_)).toInt) sliceFits_S64x1x4x128x1_S1x1x4x128x1),
    TRef.reshape (.of main_while1b_call9_v0 : TRef sig ⟨S1x1x4x128x1, .f32⟩) (.of main_while1b_v78 : TRef sig ⟨S1x4x128x1, .f32⟩) (rfl : (.f32 : EltTy) = .f32) shapeCasts_S1x1x4x128x1_S1x4x128x1 ]
theorem while1Ops0_2_sub : Within (F := F) while1Ops0_2 :=
  ⟨nu .., nu .., nu .., nu .., unaryIndexed_bufs_sub .., re ..⟩
/-- 6 host operations of @dynamic_index_in_dim_1 (main_while1b_call10), in order. -/
abbrev while1Ops0_3 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.unaryIndexed (.of main_v40_2 : TRef sig ⟨S64x1x4x128x256, .f32⟩) ![(.of main_while1b_v76 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_call10_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while1b_call10_v0 : TRef sig ⟨S1x1x4x128x256, .f32⟩) (.of main_while1b_v79 : TRef sig ⟨S1x4x128x256, .f32⟩) (rfl : (.f32 : EltTy) = .f32) shapeCasts_S1x1x4x128x256_S1x4x128x256 ]
theorem while1Ops0_3_sub : Within (F := F) while1Ops0_3 :=
  ⟨nu .., nu .., nu .., nu .., unaryIndexed_bufs_sub .., re ..⟩
/-- 6 host operations of @dynamic_index_in_dim_2 (main_while1b_call11), in order. -/
abbrev while1Ops0_4 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.unaryIndexed (.of main_v40_3 : TRef sig ⟨S64x1x64x4x128, .f32⟩) ![(.of main_while1b_v76 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_call11_v0 : TRef sig ⟨S1x1x64x4x128, .f32⟩) (fun x i => Host.dynamicSlice S1x1x64x4x128 x (fun k => (i k (Shape.Idx.first h_S_)).toInt) sliceFits_S64x1x64x4x128_S1x1x64x4x128),
    TRef.reshape (.of main_while1b_call11_v0 : TRef sig ⟨S1x1x64x4x128, .f32⟩) (.of main_while1b_v80 : TRef sig ⟨S1x64x4x128, .f32⟩) (rfl : (.f32 : EltTy) = .f32) shapeCasts_S1x1x64x4x128_S1x64x4x128 ]
theorem while1Ops0_4_sub : Within (F := F) while1Ops0_4 :=
  ⟨nu .., nu .., nu .., nu .., unaryIndexed_bufs_sub .., re ..⟩
/-- 6 host operations of @dynamic_index_in_dim_1 (main_while1b_call12), in order. -/
abbrev while1Ops0_5 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.nullary (.of main_while1b_call12_c_2 : TRef sig ⟨S_, .i32⟩) (constantI S_ 32 0#32),
    TRef.unaryIndexed (.of main_v40_4 : TRef sig ⟨S64x1x4x128x256, .f32⟩) ![(.of main_while1b_v76 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩), (.of main_while1b_call12_c_2 : TRef sig ⟨S_, .i32⟩)] (.of main_while1b_call12_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while1b_call12_v0 : TRef sig ⟨S1x1x4x128x256, .f32⟩) (.of main_while1b_v81 : TRef sig ⟨S1x4x128x256, .f32⟩) (rfl : (.f32 : EltTy) = .f32) shapeCasts_S1x1x4x128x256_S1x4x128x256 ]
theorem while1Ops0_5_sub : Within (F := F) while1Ops0_5 :=
  ⟨nu .., nu .., nu .., nu .., unaryIndexed_bufs_sub .., re ..⟩
/-- 15 host operations of host loop 1's body region, in order. -/
abbrev while1Ops0_6 : List (HloOp τ sig (Elt F)) :=
  [ unary main_while1b_v77 main_while1b_v82 ((transpose S1x4x256x64 [0, 2, 3, 1] · transposes_S1x64x4x256_S1x4x256x64_0_2_3_1) : Held F S1x64x4x256 .f32 → Held F S1x4x256x64 .f32),
    binary main_while1b_v82 main_while1b_v81 main_while1b_v83 ((fun l r => Host.dotGeneral dot_S1x4x256x64_S1x4x128x256_S1x4x64x128_2_3_3_2_01_01 none l r) : Held F S1x4x256x64 .f32 → Held F S1x4x128x256 .f32 → Held F S1x4x64x128 .f32),
    unary main_while1b_v83 main_while1b_v84 ((transpose S1x64x4x128 [0, 2, 1, 3] · transposes_S1x4x64x128_S1x64x4x128_0_2_1_3) : Held F S1x4x64x128 .f32 → Held F S1x64x4x128 .f32),
    binary main_while1b_v82 main_while1b_v80 main_while1b_v85 ((fun l r => Host.dotGeneral dot_S1x4x256x64_S1x64x4x128_S1x4x256x128_3_1_2_3_01_02 none l r) : Held F S1x4x256x64 .f32 → Held F S1x64x4x128 .f32 → Held F S1x4x256x128 .f32),
    unary main_while1b_v85 main_while1b_v86 ((transpose S1x4x128x256 [0, 1, 3, 2] · transposes_S1x4x256x128_S1x4x128x256_0_1_3_2) : Held F S1x4x256x128 .f32 → Held F S1x4x128x256 .f32),
    binary main_v40_6 main_while1b_v86 main_while1b_v87 (addf : Held F S1x4x128x256 .f32 → Held F S1x4x128x256 .f32 → Held F S1x4x128x256 .f32),
    binary main_while1b_v79 main_while1b_v87 main_while1b_v88 (mulf : Held F S1x4x128x256 .f32 → Held F S1x4x128x256 .f32 → Held F S1x4x128x256 .f32),
    nullary main_while1b_cst_26 (constant S_ .f32 0x00000000#32),
    binary main_while1b_v88 main_while1b_cst_26 main_while1b_v89 ((fun x v => Host.reduceAdd x v reducesTo_S1x4x128x256_S1x4x128_d3 h_S_) : Held F S1x4x128x256 .f32 → Held F S_ .f32 → Held F S1x4x128 .f32),
    reshape main_while1b_v89 main_while1b_v90 (rfl : (.f32 : EltTy) = .f32) shapeCasts_S1x4x128_S1x4x128x1,
    unary main_while1b_v78 main_while1b_v91 (broadcastInDim S1x4x128x256 ![0, 1, 2, 3] bcast_S1x4x128x1_S1x4x128x256_0_1_2_3 : Held F S1x4x128x1 .f32 → Held F S1x4x128x256 .f32),
    binary main_while1b_v87 main_while1b_v91 main_while1b_v92 (mulf : Held F S1x4x128x256 .f32 → Held F S1x4x128x256 .f32 → Held F S1x4x128x256 .f32),
    nullary main_while1b_cst_27 (constant S_ .f32 0x00000000#32),
    binary main_while1b_v90 main_while1b_cst_27 main_while1b_v93 ((fun x v => Host.reduceAdd x v reducesTo_S1x4x128x1_S4x128_d0_3 h_S_) : Held F S1x4x128x1 .f32 → Held F S_ .f32 → Held F S4x128 .f32),
    unary main_while1b_v93 main_while1b_v94 (broadcastInDim S1x4x128 ![1, 2] bcast_S4x128_S1x4x128_1_2 : Held F S4x128 .f32 → Held F S1x4x128 .f32) ]
theorem while1Ops0_6_sub : Within (F := F) while1Ops0_6 :=
  ⟨un .., bi .., un .., bi .., un .., bi .., bi .., nu .., bi .., re .., un .., bi .., nu .., bi .., un ..⟩
/-- 5 host operations of @dynamic_update_index_in_dim_7 (main_while1b_call13), in order. -/
abbrev while1Ops0_7 : List (HloOp τ sig (Elt F)) :=
  [ TRef.unary (.of main_while1b_v94 : TRef sig ⟨S1x4x128, .f32⟩) (.of main_while1b_call13_v0 : TRef sig ⟨S1x1x4x128, .f32⟩) (broadcastInDim S1x1x4x128 ![1, 2, 3] bcast_S1x4x128_S1x1x4x128_1_2_3),
    TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.binaryIndexed (.of main_v40_7 : TRef sig ⟨S64x1x4x128, .f32⟩) (.of main_while1b_call13_v0 : TRef sig ⟨S1x1x4x128, .f32⟩) ![(.of main_while1b_v76 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_v95 : TRef sig ⟨S64x1x4x128, .f32⟩) (fun x u i => Host.dynamicUpdateSlice x u (fun k => (i k (Shape.Idx.first h_S_)).toInt) updateFits_S64x1x4x128_S1x1x4x128) ]
theorem while1Ops0_7_sub : Within (F := F) while1Ops0_7 :=
  ⟨un .., nu .., nu .., nu .., binaryIndexed_bufs_sub ..⟩
/-- 6 host operations of @dynamic_update_index_in_dim_4 (main_while1b_call14), in order. -/
abbrev while1Ops0_8 : List (HloOp τ sig (Elt F)) :=
  [ TRef.unary (.of main_while1b_v87 : TRef sig ⟨S1x4x128x256, .f32⟩) (.of main_while1b_call14_v0 : TRef sig ⟨S1x1x4x128x256, .f32⟩) (broadcastInDim S1x1x4x128x256 ![1, 2, 3, 4] bcast_S1x4x128x256_S1x1x4x128x256_1_2_3_4),
    TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.nullary (.of main_while1b_call14_c_2 : TRef sig ⟨S_, .i32⟩) (constantI S_ 32 0#32),
    TRef.binaryIndexed (.of main_v40_8 : TRef sig ⟨S64x1x4x128x256, .f32⟩) (.of main_while1b_call14_v0 : TRef sig ⟨S1x1x4x128x256, .f32⟩) ![(.of main_while1b_v76 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩), (.of main_while1b_call14_c_2 : TRef sig ⟨S_, .i32⟩)] (.of main_while1b_v96 : TRef sig ⟨S64x1x4x128x256, .f32⟩) (fun x u i => Host.dynamicUpdateSlice x u (fun k => (i k (Shape.Idx.first h_S_)).toInt) updateFits_S64x1x4x128x256_S1x1x4x128x256) ]
theorem while1Ops0_8_sub : Within (F := F) while1Ops0_8 :=
  ⟨un .., nu .., nu .., nu .., nu .., binaryIndexed_bufs_sub ..⟩
/-- 6 host operations of @dynamic_update_index_in_dim_8 (main_while1b_call15), in order. -/
abbrev while1Ops0_9 : List (HloOp τ sig (Elt F)) :=
  [ TRef.unary (.of main_while1b_v84 : TRef sig ⟨S1x64x4x128, .f32⟩) (.of main_while1b_call15_v0 : TRef sig ⟨S1x1x64x4x128, .f32⟩) (broadcastInDim S1x1x64x4x128 ![1, 2, 3, 4] bcast_S1x64x4x128_S1x1x64x4x128_1_2_3_4),
    TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.nullary (.of main_while1b_call15_c_2 : TRef sig ⟨S_, .i32⟩) (constantI S_ 32 0#32),
    TRef.binaryIndexed (.of main_v40_9 : TRef sig ⟨S64x1x64x4x128, .f32⟩) (.of main_while1b_call15_v0 : TRef sig ⟨S1x1x64x4x128, .f32⟩) ![(.of main_while1b_v76 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩), (.of main_while1b_call15_c_2 : TRef sig ⟨S_, .i32⟩)] (.of main_while1b_v97 : TRef sig ⟨S64x1x64x4x128, .f32⟩) (fun x u i => Host.dynamicUpdateSlice x u (fun k => (i k (Shape.Idx.first h_S_)).toInt) updateFits_S64x1x64x4x128_S1x1x64x4x128) ]
theorem while1Ops0_9_sub : Within (F := F) while1Ops0_9 :=
  ⟨un .., nu .., nu .., nu .., nu .., binaryIndexed_bufs_sub ..⟩
/-- 7 host operations of host loop 1's body region, in order. -/
abbrev while1Ops0_10 : List (HloOp τ sig (Elt F)) :=
  [ nullary main_while1b_c_28 (constantI S_ 32 1#32),
    binary main_v40_5 main_while1b_c_28 main_while1b_v98 (addi : Held F S_ .i32 → Held F S_ .i32 → Held F S_ .i32),
    unary main_while1b_v98 main_v40_5 id,
    unary main_while1b_v92 main_v40_6 id,
    unary main_while1b_v95 main_v40_7 id,
    unary main_while1b_v96 main_v40_8 id,
    unary main_while1b_v97 main_v40_9 id ]
theorem while1Ops0_10_sub : Within (F := F) while1Ops0_10 :=
  ⟨nu .., bi .., un .., un .., un .., un .., un ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10 ] : Host F) := by
  rewrite [StableHlo.chain_seq_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

theorem hostOps0_fresh : Fresh (F := F) hostOps0 := forall_fresh_of_map rfl
abbrev hostOps0_W : List (Ref sig .tc) := [main_v0, main_v1, main_v2, main_v3, main_v4, main_v5, main_v6, main_cst, main_v7, main_v8, main_v9, main_v10, main_v11]
theorem hostOps0_writes : Writes (F := F) hostOps0 hostOps0_W := forall_writes_sub_of_map rfl
theorem hostOps0_1_fresh : Fresh (F := F) hostOps0_1 := forall_fresh_of_map rfl
abbrev hostOps0_1_W : List (Ref sig .tc) := [main_call0_call0_cst, main_call0_call0_v0, main_v12]
theorem hostOps0_1_writes : Writes (F := F) hostOps0_1 hostOps0_1_W := forall_writes_sub_of_map rfl
theorem hostOps0_2_fresh : Fresh (F := F) hostOps0_2 := forall_fresh_of_map rfl
abbrev hostOps0_2_W : List (Ref sig .tc) := [main_v13, main_v14, main_v15, main_v16, main_v17, main_v18, main_v19, main_v20, main_v21, main_v22, main_v23, main_cst_0, main_v24, main_cst_1, main_v25, main_cst_2, main_v26, main_cst_3, main_v27, main_cst_4, main_v28, main_c, main_v29_0, main_v29_1, main_v29_2, main_v29_3, main_v29_4, main_v29_5, main_v29_6, main_v29_7, main_v29_8]
theorem hostOps0_2_writes : Writes (F := F) hostOps0_2 hostOps0_2_W := forall_writes_sub_of_map rfl
theorem hostOps0_3_fresh : Fresh (F := F) hostOps0_3 := forall_fresh_of_map rfl
abbrev hostOps0_3_W : List (Ref sig .tc) := [main_v30, main_v31, main_v32, main_cst_5, main_v33, main_v34, main_v35, main_cst_6, main_v36, main_cst_7, main_v37, main_cst_8, main_v38, main_cst_9, main_v39, main_c_10, main_v40_0, main_v40_1, main_v40_2, main_v40_3, main_v40_4, main_v40_5, main_v40_6, main_v40_7, main_v40_8, main_v40_9]
theorem hostOps0_3_writes : Writes (F := F) hostOps0_3 hostOps0_3_W := forall_writes_sub_of_map rfl
theorem hostOps0_4_fresh : Fresh (F := F) hostOps0_4 := forall_fresh_of_map rfl
abbrev hostOps0_4_W : List (Ref sig .tc) := [main_v41, main_v42, main_v43, main_v44, main_v45, main_v46, main_v47, main_v48, main_v49, main_v50, main_cst_11, main_v51, main_v52, main_v53, main_cst_12, main_v54, main_v55, main_v56, main_v57, main_cst_13, main_v58, main_v59]
theorem hostOps0_4_writes : Writes (F := F) hostOps0_4 hostOps0_4_W := forall_writes_sub_of_map rfl
theorem hostOps0_5_fresh : Fresh (F := F) hostOps0_5 := forall_fresh_of_map rfl
abbrev hostOps0_5_W : List (Ref sig .tc) := [main_call16_call0_cst, main_call16_call0_v0, main_v60]
theorem hostOps0_5_writes : Writes (F := F) hostOps0_5 hostOps0_5_W := forall_writes_sub_of_map rfl
theorem hostOps0_6_fresh : Fresh (F := F) hostOps0_6 := forall_fresh_of_map rfl
abbrev hostOps0_6_W : List (Ref sig .tc) := [main_v61, main_v62, main_v63, main_cst_14, main_v64, main_v65, main_v66, main_v67, main_v68, main_v69, main_v70, main_v71, main_v72, main_v73, main_v74]
theorem hostOps0_6_writes : Writes (F := F) hostOps0_6 hostOps0_6_W := forall_writes_sub_of_map rfl
theorem while0Ops0_fresh : Fresh (F := F) while0Ops0 := forall_fresh_of_map rfl
abbrev while0Ops0_W : List (Ref sig .tc) := [main_while0b_call1_c, main_while0b_call1_c_0, main_while0b_call1_c_1, main_while0b_call1_v0, main_while0b_v75]
theorem while0Ops0_writes : Writes (F := F) while0Ops0 while0Ops0_W := forall_writes_sub_of_map rfl
theorem while0Ops0_1_fresh : Fresh (F := F) while0Ops0_1 := forall_fresh_of_map rfl
abbrev while0Ops0_1_W : List (Ref sig .tc) := [main_while0b_call2_c, main_while0b_call2_c_0, main_while0b_call2_c_1, main_while0b_call2_c_2, main_while0b_call2_v0, main_while0b_v76]
theorem while0Ops0_1_writes : Writes (F := F) while0Ops0_1 while0Ops0_1_W := forall_writes_sub_of_map rfl
theorem while0Ops0_2_fresh : Fresh (F := F) while0Ops0_2 := forall_fresh_of_map rfl
abbrev while0Ops0_2_W : List (Ref sig .tc) := [main_while0b_call3_c, main_while0b_call3_c_0, main_while0b_call3_c_1, main_while0b_call3_c_2, main_while0b_call3_v0, main_while0b_v77]
theorem while0Ops0_2_writes : Writes (F := F) while0Ops0_2 while0Ops0_2_W := forall_writes_sub_of_map rfl
theorem while0Ops0_3_fresh : Fresh (F := F) while0Ops0_3 := forall_fresh_of_map rfl
abbrev while0Ops0_3_W : List (Ref sig .tc) := [main_while0b_v78, main_while0b_v79, main_while0b_v80, main_while0b_v81, main_while0b_v82, main_while0b_v83]
theorem while0Ops0_3_writes : Writes (F := F) while0Ops0_3 while0Ops0_3_W := forall_writes_sub_of_map rfl
theorem while0Ops0_4_fresh : Fresh (F := F) while0Ops0_4 := forall_fresh_of_map rfl
abbrev while0Ops0_4_W : List (Ref sig .tc) := [main_while0b_call4_v0, main_while0b_call4_c, main_while0b_call4_c_0, main_while0b_call4_c_1, main_while0b_call4_c_2, main_while0b_v84]
theorem while0Ops0_4_writes : Writes (F := F) while0Ops0_4 while0Ops0_4_W := forall_writes_sub_of_map rfl
theorem while0Ops0_5_fresh : Fresh (F := F) while0Ops0_5 := forall_fresh_of_map rfl
abbrev while0Ops0_5_W : List (Ref sig .tc) := [main_while0b_call5_v0, main_while0b_call5_c, main_while0b_call5_c_0, main_while0b_call5_c_1, main_while0b_call5_c_2, main_while0b_v85]
theorem while0Ops0_5_writes : Writes (F := F) while0Ops0_5 while0Ops0_5_W := forall_writes_sub_of_map rfl
theorem while0Ops0_6_fresh : Fresh (F := F) while0Ops0_6 := forall_fresh_of_map rfl
abbrev while0Ops0_6_W : List (Ref sig .tc) := [main_while0b_call6_v0, main_while0b_call6_c, main_while0b_call6_c_0, main_while0b_call6_c_1, main_while0b_call6_c_2, main_while0b_v86]
theorem while0Ops0_6_writes : Writes (F := F) while0Ops0_6 while0Ops0_6_W := forall_writes_sub_of_map rfl
theorem while0Ops0_7_fresh : Fresh (F := F) while0Ops0_7 := forall_fresh_of_map rfl
abbrev while0Ops0_7_W : List (Ref sig .tc) := [main_while0b_call7_v0, main_while0b_call7_c, main_while0b_call7_c_0, main_while0b_call7_c_1, main_while0b_call7_c_2, main_while0b_v87]
theorem while0Ops0_7_writes : Writes (F := F) while0Ops0_7 while0Ops0_7_W := forall_writes_sub_of_map rfl
theorem while0Ops0_8_fresh : Fresh (F := F) while0Ops0_8 := forall_fresh_of_map rfl
abbrev while0Ops0_8_W : List (Ref sig .tc) := [main_while0b_c_23, main_while0b_v88, main_v29_3, main_v29_4, main_v29_5, main_v29_6, main_v29_7, main_v29_8]
theorem while0Ops0_8_writes : Writes (F := F) while0Ops0_8 while0Ops0_8_W := forall_writes_sub_of_map rfl
theorem while1Ops0_fresh : Fresh (F := F) while1Ops0 := forall_fresh_of_map rfl
abbrev while1Ops0_W : List (Ref sig .tc) := [main_while1b_c_24, main_while1b_v75, main_while1b_c_25, main_while1b_v76]
theorem while1Ops0_writes : Writes (F := F) while1Ops0 while1Ops0_W := forall_writes_sub_of_map rfl
theorem while1Ops0_1_fresh : Fresh (F := F) while1Ops0_1 := forall_fresh_of_map rfl
abbrev while1Ops0_1_W : List (Ref sig .tc) := [main_while1b_call8_c, main_while1b_call8_c_0, main_while1b_call8_c_1, main_while1b_call8_c_2, main_while1b_call8_v0, main_while1b_v77]
theorem while1Ops0_1_writes : Writes (F := F) while1Ops0_1 while1Ops0_1_W := forall_writes_sub_of_map rfl
theorem while1Ops0_2_fresh : Fresh (F := F) while1Ops0_2 := forall_fresh_of_map rfl
abbrev while1Ops0_2_W : List (Ref sig .tc) := [main_while1b_call9_c, main_while1b_call9_c_0, main_while1b_call9_c_1, main_while1b_call9_c_2, main_while1b_call9_v0, main_while1b_v78]
theorem while1Ops0_2_writes : Writes (F := F) while1Ops0_2 while1Ops0_2_W := forall_writes_sub_of_map rfl
theorem while1Ops0_3_fresh : Fresh (F := F) while1Ops0_3 := forall_fresh_of_map rfl
abbrev while1Ops0_3_W : List (Ref sig .tc) := [main_while1b_call10_c, main_while1b_call10_c_0, main_while1b_call10_c_1, main_while1b_call10_c_2, main_while1b_call10_v0, main_while1b_v79]
theorem while1Ops0_3_writes : Writes (F := F) while1Ops0_3 while1Ops0_3_W := forall_writes_sub_of_map rfl
theorem while1Ops0_4_fresh : Fresh (F := F) while1Ops0_4 := forall_fresh_of_map rfl
abbrev while1Ops0_4_W : List (Ref sig .tc) := [main_while1b_call11_c, main_while1b_call11_c_0, main_while1b_call11_c_1, main_while1b_call11_c_2, main_while1b_call11_v0, main_while1b_v80]
theorem while1Ops0_4_writes : Writes (F := F) while1Ops0_4 while1Ops0_4_W := forall_writes_sub_of_map rfl
theorem while1Ops0_5_fresh : Fresh (F := F) while1Ops0_5 := forall_fresh_of_map rfl
abbrev while1Ops0_5_W : List (Ref sig .tc) := [main_while1b_call12_c, main_while1b_call12_c_0, main_while1b_call12_c_1, main_while1b_call12_c_2, main_while1b_call12_v0, main_while1b_v81]
theorem while1Ops0_5_writes : Writes (F := F) while1Ops0_5 while1Ops0_5_W := forall_writes_sub_of_map rfl
theorem while1Ops0_6_fresh : Fresh (F := F) while1Ops0_6 := forall_fresh_of_map rfl
abbrev while1Ops0_6_W : List (Ref sig .tc) := [main_while1b_v82, main_while1b_v83, main_while1b_v84, main_while1b_v85, main_while1b_v86, main_while1b_v87, main_while1b_v88, main_while1b_cst_26, main_while1b_v89, main_while1b_v90, main_while1b_v91, main_while1b_v92, main_while1b_cst_27, main_while1b_v93, main_while1b_v94]
theorem while1Ops0_6_writes : Writes (F := F) while1Ops0_6 while1Ops0_6_W := forall_writes_sub_of_map rfl
theorem while1Ops0_7_fresh : Fresh (F := F) while1Ops0_7 := forall_fresh_of_map rfl
abbrev while1Ops0_7_W : List (Ref sig .tc) := [main_while1b_call13_v0, main_while1b_call13_c, main_while1b_call13_c_0, main_while1b_call13_c_1, main_while1b_v95]
theorem while1Ops0_7_writes : Writes (F := F) while1Ops0_7 while1Ops0_7_W := forall_writes_sub_of_map rfl
theorem while1Ops0_8_fresh : Fresh (F := F) while1Ops0_8 := forall_fresh_of_map rfl
abbrev while1Ops0_8_W : List (Ref sig .tc) := [main_while1b_call14_v0, main_while1b_call14_c, main_while1b_call14_c_0, main_while1b_call14_c_1, main_while1b_call14_c_2, main_while1b_v96]
theorem while1Ops0_8_writes : Writes (F := F) while1Ops0_8 while1Ops0_8_W := forall_writes_sub_of_map rfl
theorem while1Ops0_9_fresh : Fresh (F := F) while1Ops0_9 := forall_fresh_of_map rfl
abbrev while1Ops0_9_W : List (Ref sig .tc) := [main_while1b_call15_v0, main_while1b_call15_c, main_while1b_call15_c_0, main_while1b_call15_c_1, main_while1b_call15_c_2, main_while1b_v97]
theorem while1Ops0_9_writes : Writes (F := F) while1Ops0_9 while1Ops0_9_W := forall_writes_sub_of_map rfl
theorem while1Ops0_10_fresh : Fresh (F := F) while1Ops0_10 := forall_fresh_of_map rfl
abbrev while1Ops0_10_W : List (Ref sig .tc) := [main_while1b_c_28, main_while1b_v98, main_v40_5, main_v40_6, main_v40_7, main_v40_8, main_v40_9]
theorem while1Ops0_10_writes : Writes (F := F) while1Ops0_10 while1Ops0_10_W := forall_writes_sub_of_map rfl

/-- The operations of loop 0's condition: the bound, and the counter compared with it. -/
abbrev cond0 : List (HloOp τ sig (Elt F)) :=
  [ nullary main_while0c_c_23 (constantI S_ 32 64#32),
    binary main_v29_3 main_while0c_c_23 main_while0c_v75 (cmpi .slt) ]
abbrev cond0_W : List (Ref sig .tc) := [main_while0c_c_23, main_while0c_v75]
theorem cond0_writes : Writes (F := F) cond0 cond0_W := forall_writes_sub_of_map rfl

/-- The operations of loop 1's condition: the bound, and the counter compared with it. -/
abbrev cond1 : List (HloOp τ sig (Elt F)) :=
  [ nullary main_while1c_c_24 (constantI S_ 32 64#32),
    binary main_v40_5 main_while1c_c_24 main_while1c_v75 (cmpi .slt) ]
abbrev cond1_W : List (Ref sig .tc) := [main_while1c_c_24, main_while1c_v75]
theorem cond1_writes : Writes (F := F) cond1 cond1_W := forall_writes_sub_of_map rfl

theorem fr {l : List (HloOp τ sig (Elt F))} : Fresh l → ∀ op ∈ l, op.fresh = ∅ := List.forall_iff_forall_mem.mp

/-- The stretches before the first loop. -/
abbrev pre : List (List (HloOp τ sig (Elt F))) := [hostOps0, hostOps0_1, hostOps0_2]
theorem pre_plain : Plain (pre (F := F)) := .cons hostOps0_sub (hf := fr hostOps0_fresh) (.cons hostOps0_1_sub (hf := fr hostOps0_1_fresh) (.cons hostOps0_2_sub (hf := fr hostOps0_2_fresh) (.nil)))

/-- The stretch between the loops. -/
abbrev mid : List (List (HloOp τ sig (Elt F))) := [hostOps0_3]
theorem mid_plain : Plain (mid (F := F)) := .cons hostOps0_3_sub (hf := fr hostOps0_3_fresh) (.nil)

/-- The stretches after the second loop. -/
abbrev post : List (List (HloOp τ sig (Elt F))) := [hostOps0_4, hostOps0_5, hostOps0_6]
theorem post_plain : Plain (post (F := F)) := .cons hostOps0_4_sub (hf := fr hostOps0_4_fresh) (.cons hostOps0_5_sub (hf := fr hostOps0_5_fresh) (.cons hostOps0_6_sub (hf := fr hostOps0_6_fresh) (.nil)))

/-- The first loop's body. -/
abbrev body0 : List (List (HloOp τ sig (Elt F))) := [while0Ops0, while0Ops0_1, while0Ops0_2, while0Ops0_3, while0Ops0_4, while0Ops0_5, while0Ops0_6, while0Ops0_7, while0Ops0_8]
theorem body0_plain : Plain (body0 (F := F)) := .cons while0Ops0_sub (hf := fr while0Ops0_fresh) (.cons while0Ops0_1_sub (hf := fr while0Ops0_1_fresh) (.cons while0Ops0_2_sub (hf := fr while0Ops0_2_fresh) (.cons while0Ops0_3_sub (hf := fr while0Ops0_3_fresh) (.cons while0Ops0_4_sub (hf := fr while0Ops0_4_fresh) (.cons while0Ops0_5_sub (hf := fr while0Ops0_5_fresh) (.cons while0Ops0_6_sub (hf := fr while0Ops0_6_fresh) (.cons while0Ops0_7_sub (hf := fr while0Ops0_7_fresh) (.cons while0Ops0_8_sub (hf := fr while0Ops0_8_fresh) (.nil)))))))))

/-- The second loop's body. -/
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10]
theorem body1_plain : Plain (body1 (F := F)) := .cons while1Ops0_sub (hf := fr while1Ops0_fresh) (.cons while1Ops0_1_sub (hf := fr while1Ops0_1_fresh) (.cons while1Ops0_2_sub (hf := fr while1Ops0_2_fresh) (.cons while1Ops0_3_sub (hf := fr while1Ops0_3_fresh) (.cons while1Ops0_4_sub (hf := fr while1Ops0_4_fresh) (.cons while1Ops0_5_sub (hf := fr while1Ops0_5_fresh) (.cons while1Ops0_6_sub (hf := fr while1Ops0_6_fresh) (.cons while1Ops0_7_sub (hf := fr while1Ops0_7_fresh) (.cons while1Ops0_8_sub (hf := fr while1Ops0_8_fresh) (.cons while1Ops0_9_sub (hf := fr while1Ops0_9_fresh) (.cons while1Ops0_10_sub (hf := fr while1Ops0_10_fresh) (.nil)))))))))))

end Cert.ReferenceIdeal.Two

end
-- ==== Proof.RefRun.lean ====
module

public import proofs.«01_k».proof.Proof.RefLists

/-! The run of the reference: two counted loops of 64 trips with stretches of host operations before, between and after them.
Every execution ends with each buffer at the fold of the operations (`finalR`). -/

@[expose] public section

noncomputable section

namespace Cert.ReferenceIdeal.Two

open Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]
variable (m : (ℓ : Loc nD τ sig) → Buf (Elt F) ℓ) (ρ : Dev nD → PrngReg)

/-- The buffers at the first loop's entry. -/
abbrev in0 (c : Dev nD) : Valuation τ sig (Elt F) := afterL pre (launchContents m c)
/-- The buffers before the `k`-th run of the first loop's condition. -/
abbrev at0 (k : ℕ) (c : Dev nD) : Valuation τ sig (Elt F) := atTrip cond0 body0 (in0 m) k c
/-- The buffers at the second loop's entry. -/
abbrev in1 (c : Dev nD) : Valuation τ sig (Elt F) := afterL mid (after cond0 (at0 m 64 c))
/-- The buffers before the `k`-th run of the second loop's condition. -/
abbrev at1 (k : ℕ) (c : Dev nD) : Valuation τ sig (Elt F) := atTrip cond1 body1 (in1 m) k c
/-- The buffers at the end. -/
abbrev finalR (c : Dev nD) : Valuation τ sig (Elt F) := afterL post (after cond1 (at1 m 64 c))

/-! ## The counter of loop 0 -/

set_option maxRecDepth 100000 in
theorem ctr_step0 (X : Valuation τ sig (Elt F)) :
    after while0Ops0_8 X (Proc.devRef .tc main_v29_3) = addi (X (Proc.devRef .tc main_v29_3)) (constantI S_ 32 1#32) := by
  after_results
  rfl

/-- The counter is zero at the loop's entry. -/
theorem ctr_in0 (c : Dev nD) : in0 m c (Proc.devRef .tc main_v29_3) = fun _ => (0#32 : BitVec 32) := by
  simp only [in0, pre, afterL_cons, afterL_nil]
  after_reads_simp
  rfl

/-- Before the `k`-th condition the counter holds `k`. -/
theorem ctr_at0 (c : Dev nD) : ∀ k, at0 m k c (Proc.devRef .tc main_v29_3) = fun _ => Scf.iv 0#32 1#32 k
  | 0 => by rw [show at0 m 0 c = in0 m c from rfl, ctr_in0, Scf.iv_zero]
  | k + 1 => by
    rw [show at0 m (k + 1) c = afterL body0 (after cond0 (at0 m k c)) from rfl]
    simp only [body0, afterL_cons, afterL_nil]
    rw [ctr_step0, after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub cond0 _ cond0_writes (by decide +kernel), ctr_at0 c k, Scf.iv_succ]
    rfl

-- `iapply` of a rule stated for any thread unifies at the TensorCore thread only when definitions may unfold in a type
set_option backward.isDefEq.respectTransparency.types false in
/-- The condition answers whether the trip count is below 64 and leaves the buffers at its own operations. -/
theorem cond_spec0 : CondSpec (pcfgs (F := F)) defs₀ loops (main_while0_cond (F := F)) cond0 body0 (in0 m) 64 := by
  intro k hk c bd
  have hctr := ctr_at0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v29_3 HostLoop.idx0)
        (HloOp.result _ (at0 m k c) main_while0c_c_23 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-! ## The counter of loop 1 -/

set_option maxRecDepth 100000 in
theorem ctr_step1 (X : Valuation τ sig (Elt F)) :
    after while1Ops0_10 X (Proc.devRef .tc main_v40_5) = addi (X (Proc.devRef .tc main_v40_5)) (constantI S_ 32 1#32) := by
  after_results
  rfl

/-- The counter is zero at the loop's entry. -/
theorem ctr_in1 (c : Dev nD) : in1 m c (Proc.devRef .tc main_v40_5) = fun _ => (0#32 : BitVec 32) := by
  simp only [in1, mid, afterL_cons, afterL_nil]
  after_reads_simp
  rfl

/-- Before the `k`-th condition the counter holds `k`. -/
theorem ctr_at1 (c : Dev nD) : ∀ k, at1 m k c (Proc.devRef .tc main_v40_5) = fun _ => Scf.iv 0#32 1#32 k
  | 0 => by rw [show at1 m 0 c = in1 m c from rfl, ctr_in1, Scf.iv_zero]
  | k + 1 => by
    rw [show at1 m (k + 1) c = afterL body1 (after cond1 (at1 m k c)) from rfl]
    simp only [body1, afterL_cons, afterL_nil]
    rw [ctr_step1, after_of_writes_sub while1Ops0_9 _ while1Ops0_9_writes (by decide +kernel), after_of_writes_sub while1Ops0_8 _ while1Ops0_8_writes (by decide +kernel), after_of_writes_sub while1Ops0_7 _ while1Ops0_7_writes (by decide +kernel), after_of_writes_sub while1Ops0_6 _ while1Ops0_6_writes (by decide +kernel), after_of_writes_sub while1Ops0_5 _ while1Ops0_5_writes (by decide +kernel), after_of_writes_sub while1Ops0_4 _ while1Ops0_4_writes (by decide +kernel), after_of_writes_sub while1Ops0_3 _ while1Ops0_3_writes (by decide +kernel), after_of_writes_sub while1Ops0_2 _ while1Ops0_2_writes (by decide +kernel), after_of_writes_sub while1Ops0_1 _ while1Ops0_1_writes (by decide +kernel), after_of_writes_sub while1Ops0 _ while1Ops0_writes (by decide +kernel), after_of_writes_sub cond1 _ cond1_writes (by decide +kernel), ctr_at1 c k, Scf.iv_succ]
    rfl

-- `iapply` of a rule stated for any thread unifies at the TensorCore thread only when definitions may unfold in a type
set_option backward.isDefEq.respectTransparency.types false in
/-- The condition answers whether the trip count is below 64 and leaves the buffers at its own operations. -/
theorem cond_spec1 : CondSpec (pcfgs (F := F)) defs₀ loops (main_while1_cond (F := F)) cond1 body1 (in1 m) 64 := by
  intro k hk c bd
  have hctr := ctr_at1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v40_5 HostLoop.idx0)
        (HloOp.result _ (at1 m k c) main_while1c_c_24 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-! ## The run -/

local notation "𝕄" => MT nD τ sig Unit (Elt F) ℕ (Option PUnit) ℕ

/-- No kernel is launched: nothing is admitted, no ticket exists, no semaphore has a level. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
/-- What each core carries beside its buffers. -/
abbrev Owe (c : Dev nD) : sProp 𝕄 := iprop(∃ W, owes (c : Thread nD τ) (0 : CellTallies nD τ sig Unit) W)

/-- A condition's specification with what the core owes carried through it. -/
theorem loopCond {cond : Prog (TpuEff nD τ sig (Elt F) (HostLoop.Sig (Pipeline.Sig Λ₀ (Fin 0) fun p => (pcfgs (F := F) p).Adm) 2) .tc) (Elt F .i1)}
    {cops : List (HloOp τ sig (Elt F))} {body : List (List (HloOp τ sig (Elt F)))} {W₀ : Dev nD → Valuation τ sig (Elt F)} {n : ℕ}
    (h : CondSpec (pcfgs (F := F)) defs₀ loops cond cops body W₀ n) :
    LoopCond (pcfgs (F := F)) defs₀ Variants.none loops Owe cond cops body W₀ n := by
  intro k hk c bd
  refine BIBase.Entails.trans (Q := iprop(iprop(boundary (c : Thread nD τ) ∗ held (c : Thread nD τ) (ucRefs τ sig) (atTrip cops body W₀ k c)) ∗ Owe c)) ?_
    (((sep_mono_left (h k hk c bd)).trans (wp_frame_r _ _ _)).trans (wp_mono _ _ _ fun v => ?_))
  · iintro ⟨Hb, Hh, Ho⟩
    isplitl [Hb Hh]
    · isplitl [Hb] <;> iassumption
    · iexact Ho
  · iintro ⟨⟨%hv, Hb, Hh⟩, Ho⟩
    isplitr; · ipureintro; exact hv
    isplitl [Hb]; · iexact Hb
    isplitl [Hh] <;> iassumption

/-- The program in segments. -/
def segs : List (CSeg (pcfgs (F := F)) noAdm defs₀ Variants.none noL noLv loops noTk) :=
  segsOf _ _ _ _ _ _ _ _ Owe pre pre_plain (launchContents m)
    ++ (loopSeg _ _ _ _ _ _ _ _ 0 main_while0_cond main_while0_body rfl cond0 body0 body0_plain (by rw [while0_body_chain]; rfl) 64 (in0 m) Owe (loopCond (cond_spec0 m))
      :: (segsOf _ _ _ _ _ _ _ _ Owe mid mid_plain (fun c => after cond0 (at0 m 64 c))
        ++ (loopSeg _ _ _ _ _ _ _ _ 1 main_while1_cond main_while1_body rfl cond1 body1 body1_plain (by rw [while1_body_chain]; rfl) 64 (in1 m) Owe (loopCond (cond_spec1 m))
          :: segsOf _ _ _ _ _ _ _ _ Owe post post_plain (fun c => after cond1 (at1 m 64 c)))))

theorem segs_prog (c : Dev nD) : main (F := F) c = Pipeline.chain ((segs m).map CSeg.prog) := by
  unfold segs
  rw [List.map_append, List.map_cons, List.map_append, List.map_cons, segsOf_prog, segsOf_prog, segsOf_prog, main_chain]
  rfl

theorem segs_chains : CSeg.Chains (fun c => iprop(held (c : Thread nD τ) (ucRefs τ sig) (launchContents m c) ∗ Owe c)) (segs m)
    (fun c => iprop(iprop(held (c : Thread nD τ) (ucRefs τ sig) (finalR m c)) ∗ ∃ W, owes (c : Thread nD τ) (0 : CellTallies nD τ sig Unit) W)) := by
  unfold segs
  exact CSeg.Chains.append (segsOf_chains _ _ _ _ _ _ _ _ Owe pre pre_plain _)
    ⟨fun _ => .rfl, CSeg.Chains.append (segsOf_chains _ _ _ _ _ _ _ _ Owe mid mid_plain _)
      ⟨fun _ => .rfl, segsOf_chains _ _ _ _ _ _ _ _ Owe post post_plain _⟩⟩

theorem cells_injective : Function.Injective (Pipeline.cellOf (nD := nD) (τ := τ) (Pipeline.pin (pcfgs (F := F)) noAdm)) :=
  fun k => k.1.elim0

/-- The program has no unscoped semaphore. -/
theorem no_unscoped : ∀ sm : SemLoc sig, sm.isScoped .tc = true := by decide

/-- From any memory with zero counters every weakly fair execution of the reference ends with each tensor buffer at the fold. -/
theorem run_final : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalR m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs noAdm cells_injective defs₀ Variants.none noL noLv loops noTk m ρ main (segs m)
    (fun c Q => by
      rw [segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owe c))
    (Tₙ := fun c => iprop(held (c : Thread nD τ) (ucRefs τ sig) (finalR m c)))
    (hch := segs_chains m)
    (hinit := by
      refine Pipeline.initEach noL noLv fun c => ?_
      rw [show unscopedBufs c (fun b => m ((c : Thread nD τ).loc b)) = held (c : Thread nD τ) (ucRefs τ sig) (launchContents m c) from unscopedBufs_held c (launchContents m c)]
      iintro ⟨⟨Hh, -, Ho, -, -, -⟩, -⟩
      imodintro
      isplitl [Hh]; · iexact Hh
      iexists ∅; iexact Ho)
    (QY := fun c s => ∀ b ∈ ucRefs τ sig, s.mem ((c : Dev nD), b) = finalR m c b)
    (hfin := fun c s' => by
      unfold held
      iintro ⟨Hh, Hs⟩
      ihave Hr := (pointsTo_read_all (ucRefs τ sig) (fun b => ((c : Dev nD), b)) (fun b => finalR m c b) s') $$ [Hh Hs]
      · isplitl [Hh] <;> iassumption
      icases Hr with ⟨%h, Hs⟩
      imodintro
      isplitr; · ipureintro; exact h
      iexact Hs)
    (hQ := fun s h hz => ⟨fun c b hb => h c _ (devRef_mem_ucRefs b hb), funext fun g => hz g (.inr (no_unscoped g.2))⟩)

/-- Every buffer the program writes. -/
abbrev written : List (Ref sig .tc) := hostOps0_W ++ hostOps0_1_W ++ hostOps0_2_W ++ hostOps0_3_W ++ hostOps0_4_W ++ hostOps0_5_W ++ hostOps0_6_W ++ while0Ops0_W ++ while0Ops0_1_W ++ while0Ops0_2_W ++ while0Ops0_3_W ++ while0Ops0_4_W ++ while0Ops0_5_W ++ while0Ops0_6_W ++ while0Ops0_7_W ++ while0Ops0_8_W ++ while1Ops0_W ++ while1Ops0_1_W ++ while1Ops0_2_W ++ while1Ops0_3_W ++ while1Ops0_4_W ++ while1Ops0_5_W ++ while1Ops0_6_W ++ while1Ops0_7_W ++ while1Ops0_8_W ++ while1Ops0_9_W ++ while1Ops0_10_W ++ cond0_W ++ cond1_W

/-- A buffer the program does not write ends as it began. -/
theorem finalR_kept (c : Dev nD) (r : Ref sig .tc) (h : r ∉ written) : finalR m c (Proc.devRef .tc r) = m ((c.tc : Thread nD τ).loc r) := by
  have o : ∀ {W : List (Ref sig .tc)}, W ⊆ written → r ∉ W := fun s x => h (s x)
  have h0 : ∀ k, at0 m k c (Proc.devRef .tc r) = m ((c.tc : Thread nD τ).loc r) := by
    intro k
    induction k with
    | zero =>
      show in0 m c _ = _
      simp only [in0, pre, afterL_cons, afterL_nil]
      rw [after_of_writes_sub hostOps0_2 _ hostOps0_2_writes (o (by decide +kernel)), after_of_writes_sub hostOps0_1 _ hostOps0_1_writes (o (by decide +kernel)), after_of_writes_sub hostOps0 _ hostOps0_writes (o (by decide +kernel))]
    | succ k ih =>
      rw [show at0 m (k + 1) c = afterL body0 (after cond0 (at0 m k c)) from rfl]
      simp only [body0, afterL_cons, afterL_nil]
      rw [after_of_writes_sub while0Ops0_8 _ while0Ops0_8_writes (o (by decide +kernel)), after_of_writes_sub while0Ops0_7 _ while0Ops0_7_writes (o (by decide +kernel)), after_of_writes_sub while0Ops0_6 _ while0Ops0_6_writes (o (by decide +kernel)), after_of_writes_sub while0Ops0_5 _ while0Ops0_5_writes (o (by decide +kernel)), after_of_writes_sub while0Ops0_4 _ while0Ops0_4_writes (o (by decide +kernel)), after_of_writes_sub while0Ops0_3 _ while0Ops0_3_writes (o (by decide +kernel)), after_of_writes_sub while0Ops0_2 _ while0Ops0_2_writes (o (by decide +kernel)), after_of_writes_sub while0Ops0_1 _ while0Ops0_1_writes (o (by decide +kernel)), after_of_writes_sub while0Ops0 _ while0Ops0_writes (o (by decide +kernel)), after_of_writes_sub cond0 _ cond0_writes (o (by decide +kernel)), ih]
  have h1 : ∀ k, at1 m k c (Proc.devRef .tc r) = m ((c.tc : Thread nD τ).loc r) := by
    intro k
    induction k with
    | zero =>
      show in1 m c _ = _
      simp only [in1, mid, afterL_cons, afterL_nil]
      rw [after_of_writes_sub hostOps0_3 _ hostOps0_3_writes (o (by decide +kernel)), after_of_writes_sub cond0 _ cond0_writes (o (by decide +kernel)), h0]
    | succ k ih =>
      rw [show at1 m (k + 1) c = afterL body1 (after cond1 (at1 m k c)) from rfl]
      simp only [body1, afterL_cons, afterL_nil]
      rw [after_of_writes_sub while1Ops0_10 _ while1Ops0_10_writes (o (by decide +kernel)), after_of_writes_sub while1Ops0_9 _ while1Ops0_9_writes (o (by decide +kernel)), after_of_writes_sub while1Ops0_8 _ while1Ops0_8_writes (o (by decide +kernel)), after_of_writes_sub while1Ops0_7 _ while1Ops0_7_writes (o (by decide +kernel)), after_of_writes_sub while1Ops0_6 _ while1Ops0_6_writes (o (by decide +kernel)), after_of_writes_sub while1Ops0_5 _ while1Ops0_5_writes (o (by decide +kernel)), after_of_writes_sub while1Ops0_4 _ while1Ops0_4_writes (o (by decide +kernel)), after_of_writes_sub while1Ops0_3 _ while1Ops0_3_writes (o (by decide +kernel)), after_of_writes_sub while1Ops0_2 _ while1Ops0_2_writes (o (by decide +kernel)), after_of_writes_sub while1Ops0_1 _ while1Ops0_1_writes (o (by decide +kernel)), after_of_writes_sub while1Ops0 _ while1Ops0_writes (o (by decide +kernel)), after_of_writes_sub cond1 _ cond1_writes (o (by decide +kernel)), ih]
  simp only [finalR, post, afterL_cons, afterL_nil]
  rw [after_of_writes_sub hostOps0_6 _ hostOps0_6_writes (o (by decide +kernel)), after_of_writes_sub hostOps0_5 _ hostOps0_5_writes (o (by decide +kernel)), after_of_writes_sub hostOps0_4 _ hostOps0_4_writes (o (by decide +kernel)), after_of_writes_sub cond1 _ cond1_writes (o (by decide +kernel)), h1]

theorem finalR_main_arg0 (c : Dev nD) : finalR m c (Proc.devRef .tc main_arg0) = m ((c.tc : Thread nD τ).loc main_arg0) :=
  finalR_kept m c main_arg0 (by decide +kernel)

theorem finalR_main_arg1 (c : Dev nD) : finalR m c (Proc.devRef .tc main_arg1) = m ((c.tc : Thread nD τ).loc main_arg1) :=
  finalR_kept m c main_arg1 (by decide +kernel)

theorem finalR_main_arg2 (c : Dev nD) : finalR m c (Proc.devRef .tc main_arg2) = m ((c.tc : Thread nD τ).loc main_arg2) :=
  finalR_kept m c main_arg2 (by decide +kernel)

end Cert.ReferenceIdeal.Two

end
-- ==== Proof.SameText.lean ====
/- The kernel's two prints, at the machine's words and at the extended reals, are one text: their body tables and their main programs are equal. -/
module

public import proofs.«01_k».proof.Proof.Gen.Kernel
public import proofs.«01_k».proof.Proof.Gen.KernelIdeal
public import Idealize.ShloMosaic.Lib.Tactic

@[expose] public section

set_option maxRecDepth 65536

namespace Cert.SameText

open Idealize.ShloMosaic Idealize.SL.Sem Idealize.ShloMosaic.Tactic

variable {F : FTy → Type} [FloatOps F]

/-- The two body tables are equal, over any float values. -/
theorem defs_eq : Cert.Kernel.defs (F := F) = Cert.KernelIdeal.defs (F := F) := by
  sl_kernel_rfl

/-- The two main programs are equal, over any float values. -/
theorem main_eq : Cert.Kernel.main (F := F) = Cert.KernelIdeal.main (F := F) := by
  sl_kernel_rfl

end Cert.SameText

end
-- ==== Proof.Gla.lean ====
module
public import Idealize.ShloMosaic.Lib.Pointwise
public import Idealize.ShloMosaic.PureOps.Ideal
@[expose] public section

/-!
# The gated linear attention step, as mathematics

The sequence is cut in 64 chunks of 64 rows. Four heads share the columns: head `h` owns columns `128 h …` of the
queries, keys and log gates and columns `256 h …` of the values. An array is read through two natural numbers, its row
and its column; the packed array `x` holds queries, keys and values side by side, `l` the log gates, `d` the gradient of
the output. All values are extended reals.
-/

namespace Cert.Gla

open Idealize.ShloMosaic

/-- An array read through two natural numbers. -/
abbrev Arr : Type := ℕ → ℕ → EReal

/-- A two-dimensional array as a function of two natural numbers, 0 outside. -/
noncomputable def arr {M N : ℕ} (f : (⟨2, ![M, N]⟩ : Shape).Idx → EReal) : Arr :=
  fun i j => if h : i < M ∧ j < N then f (ix2 ⟨i, h.1⟩ ⟨j, h.2⟩) else 0

/-- The factor `1 / √128` in single precision. -/
noncomputable def scale : EReal := Ideal.ofBits .f32 0x3DB504F3#32

/-- The query row times the factor. -/
noncomputable def qs (x : Arr) (n h r a : ℕ) : EReal := x (64 * n + r) (128 * h + a) * scale

/-- The key entry. -/
noncomputable def key (x : Arr) (n h r a : ℕ) : EReal := x (64 * n + r) (512 + 128 * h + a)

/-- The value entry. -/
noncomputable def val (x : Arr) (n h r d : ℕ) : EReal := x (64 * n + r) (1024 + 256 * h + d)

/-- The entry of the output's gradient. -/
noncomputable def dout (d : Arr) (n h r e : ℕ) : EReal := d (64 * n + r) (256 * h + e)

/-- The log gates of a chunk summed down to row `r`. -/
noncomputable def cum (l : Arr) (n h r a : ℕ) : EReal :=
  ∑ s : Fin 64, if s.val ≤ r then l (64 * n + s.val) (128 * h + a) else 0

/-- What is left of the gate from row `r` to the end of its chunk. -/
noncomputable def gate (l : Arr) (n h r a : ℕ) : EReal := Ideal.exp (cum l n h 63 a - cum l n h r a)

/-- The gate of a whole chunk. -/
noncomputable def decay (l : Arr) (n h a : ℕ) : EReal := Ideal.exp (cum l n h 63 a)

/-- The decayed key. -/
noncomputable def kdec (x l : Arr) (n h r a : ℕ) : EReal := key x n h r a * gate l n h r a

/-- What a chunk adds to the state. -/
noncomputable def upd (x l : Arr) (n h d a : ℕ) : EReal := ∑ s : Fin 64, val x n h s.val d * kdec x l n h s.val a

/-- The state before chunk `n`. -/
noncomputable def state (x l : Arr) : ℕ → ℕ → ℕ → ℕ → EReal
  | 0, _, _, _ => 0
  | n + 1, h, d, a => state x l n h d a * decay l n h a + upd x l n h d a

/-- The output. -/
noncomputable def out (x l : Arr) (n h r d : ℕ) : EReal := ∑ a : Fin 128, qs x n h r a.val * state x l (n + 1) h d a.val

/-- What a chunk's own rows add to the gradient of the state after it. -/
noncomputable def gadd (x d : Arr) (n h e a : ℕ) : EReal := ∑ s : Fin 64, dout d n h s.val e * qs x n h s.val a

/-- The gradient carried back to the state after chunk `63 - k`, once `k` chunks have been walked from the end. -/
noncomputable def carry (x l d : Arr) : ℕ → ℕ → ℕ → ℕ → EReal
  | 0, _, _, _ => 0
  | k + 1, h, e, a => (carry x l d k h e a + gadd x d (63 - k) h e a) * decay l (63 - k) h a

/-- The gradient of the state after chunk `n`. -/
noncomputable def grad (x l d : Arr) (n h e a : ℕ) : EReal := carry x l d (63 - n) h e a + gadd x d n h e a

/-- The gradient of the queries. -/
noncomputable def dq (x l d : Arr) (n h r a : ℕ) : EReal :=
  (∑ e : Fin 256, dout d n h r e.val * state x l (n + 1) h e.val a) * scale

/-- The gradient of the decayed keys. -/
noncomputable def dkdec (x l d : Arr) (n h r a : ℕ) : EReal := ∑ e : Fin 256, val x n h r e.val * grad x l d n h e.val a

/-- The gradient of the keys. -/
noncomputable def dk (x l d : Arr) (n h r a : ℕ) : EReal := dkdec x l d n h r a * gate l n h r a

/-- The gradient of the values. -/
noncomputable def dv (x l d : Arr) (n h r e : ℕ) : EReal := ∑ a : Fin 128, kdec x l n h r a.val * grad x l d n h e a.val

/-- The gradient of what is left of the gate, times that gate. -/
noncomputable def wgt (x l d : Arr) (n h r a : ℕ) : EReal := dkdec x l d n h r a * key x n h r a * gate l n h r a

/-- The gradient of the chunk's summed log gate. -/
noncomputable def dtot (x l d : Arr) (n h a : ℕ) : EReal :=
  (∑ s : Fin 64, wgt x l d n h s.val a) + (∑ e : Fin 256, grad x l d n h e.val a * state x l n h e.val a) * decay l n h a

/-- The gradient of the running sum of log gates. -/
noncomputable def dcum (x l d : Arr) (n h r a : ℕ) : EReal :=
  if r = 63 then dtot x l d n h a - wgt x l d n h r a else -wgt x l d n h r a

/-- The gradient of the log gates. -/
noncomputable def dla (x l d : Arr) (n h r a : ℕ) : EReal :=
  ∑ s : Fin 64, if r ≤ s.val then dcum x l d n h s.val a else 0

end Cert.Gla
end
-- ==== Proof.KerPiece.lean ====
module
public import proofs.«01_k».proof.Proof.Gla
public import proofs.«01_k».proof.Proof.Gen.KernelIdeal.Skeleton
public import Idealize.ShloMosaic.Lib.Pointwise
@[expose] public section

/-!
# What one chunk of one head computes

Both calls walk the rows in chunks of 64 and, within a chunk, the four heads. One such piece reads a tile of queries,
keys, values and log gates (and, on the way back, of the output's gradient and the saved state) and the head's running
state. Here is what it stores, first as vectors, then entry by entry in the terms of `Cert.Gla`.
-/

namespace Cert.KernelIdeal.Piece

open Cert.KernelIdeal Cert.KernelIdeal.Gen Cert.Gla
open Idealize.ShloMosaic Idealize.ShloMosaic.TcCoe Idealize.ShloMosaic.Tactic

variable (la : Vec Ideal S64x128 .f32) (q k : Vec Ideal S64x128 .bf16) (v : Vec Ideal S64x256 .bf16)
  (s : Vec Ideal S1x256x128 .f32) (sp : Vec Ideal S1x1x256x128 .f32) (g : Vec Ideal S64x256 .f32)

/-! ## The vectors -/

/-- The state after the chunk. -/
noncomputable def newState : FVec Ideal S1x256x128 .f32 := k0_pay10 (k0_pay4 la k v) (k0_pay8 la s)

/-- The state before the chunk, as it is saved. -/
noncomputable def saved : FVec Ideal S1x1x256x128 .f32 := k0_pay7 s

/-- The output tile. -/
noncomputable def outTile : FVec Ideal S64x256 .f32 := k0_pay11 (k0_pay4 la k v) (k0_pay5 q) (k0_pay8 la s)

/-- The gradient carried to the chunk before. -/
noncomputable def newCarry : FVec Ideal S1x256x128 .f32 := k1_pay23 (k1_pay10 la) (k1_pay14 (k1_pay9 q) (k1_pay13 g) s)

/-- The tile of the queries' gradient. -/
noncomputable def dqTile : FVec Ideal S64x128 .bf16 := k1_pay16 (k1_pay12 la k v sp) (k1_pay13 g)

/-- The tile of the keys' gradient. -/
noncomputable def dkTile : FVec Ideal S64x128 .bf16 := k1_pay19 (k1_pay6 la) v (k1_pay9 q) (k1_pay13 g) s

/-- The tile of the values' gradient. -/
noncomputable def dvTile : FVec Ideal S64x256 .bf16 := k1_pay18 (k1_pay8 la k) (k1_pay9 q) (k1_pay13 g) s

/-- The tile of the gradient of the running sum of log gates. -/
noncomputable def dcumTile : FVec Ideal S64x128 .f32 :=
  k1_pay20 (k1_pay6 la) (k1_pay7 k) v (k1_pay9 q) (k1_pay10 la) (k1_pay11 sp) (k1_pay13 g) s

/-- The tile of the log gates' gradient. -/
noncomputable def dlaTile : FVec Ideal S64x128 .f32 := k1_pay22 (dcumTile la q k v s sp g) k1_pay21

/-! ## The triangles of ones -/

theorem sle_bit (r s : Fin 64) :
    IntOp.cmpi .sle (BitVec.ofNat 32 s.val) (BitVec.ofNat 32 r.val) = if s.val ≤ r.val then 1#1 else 0#1 := by
  revert r s; decide +kernel

theorem sge_bit (r s : Fin 64) :
    IntOp.cmpi .sge (BitVec.ofNat 32 s.val) (BitVec.ofNat 32 r.val) = if r.val ≤ s.val then 1#1 else 0#1 := by
  revert r s; decide +kernel

theorem last_bit (r : Fin 64) : IntOp.cmpi .eq (BitVec.ofNat 32 r.val) 63#32 = if r.val = 63 then 1#1 else 0#1 := by
  revert r; decide +kernel

theorem select_ite {p : Prop} [Decidable p] (a b : EReal) :
    Scalar.select (if p then 1#1 else 0#1) a b = if p then a else b := by
  by_cases h : p <;> simp [h, Scalar.select]

/-! ## The entries -/

variable {x l d : Arr} {n h : ℕ}
  (hla : ∀ (r : Fin 64) (a : Fin 128), la (ix2 r a) = l (64 * n + r.val) (128 * h + a.val))
  (hq : ∀ (r : Fin 64) (a : Fin 128), q (ix2 r a) = x (64 * n + r.val) (128 * h + a.val))
  (hk : ∀ (r : Fin 64) (a : Fin 128), k (ix2 r a) = key x n h r.val a.val)
  (hv : ∀ (r : Fin 64) (e : Fin 256), v (ix2 r e) = val x n h r.val e.val)
  (hg : ∀ (r : Fin 64) (e : Fin 256), g (ix2 r e) = dout d n h r.val e.val)

include hla in
theorem cum_apply (r : Fin 64) (a : Fin 128) : k0_pay2 la (ix2 r a) = cum l n h r.val a.val := by
  pointwise [k0_pay2]
  simp only [sle_bit, select_ite, hla, cum]

include hla in
theorem cum_apply' (r : Fin 64) (a : Fin 128) : k1_pay4 la (ix2 r a) = cum l n h r.val a.val :=
  cum_apply la hla r a

include hla hk hv in
theorem newState_apply (hs : ∀ (e : Fin 256) (a : Fin 128), s (ix3 0 e a) = state x l n h e.val a.val)
    (e : Fin 256) (a : Fin 128) : newState la k v s (ix3 0 e a) = state x l (n + 1) h e.val a.val := by
  pointwise [newState, k0_pay10, k0_pay9, k0_pay8, k0_pay6, k0_pay4, k0_pay3]
  simp only [cum_apply la hla, hk, hv, hs]
  rfl

theorem saved_apply (e : Fin 256) (a : Fin 128) : saved s (ix4 0 0 e a) = s (ix3 0 e a) := by
  pointwise [saved, k0_pay7, k0_pay6]

include hla hq hk hv in
theorem outTile_apply (hs : ∀ (e : Fin 256) (a : Fin 128), s (ix3 0 e a) = state x l n h e.val a.val)
    (r : Fin 64) (e : Fin 256) : outTile la q k v s (ix2 r e) = out x l n h r.val e.val := by
  pointwise [outTile, k0_pay11, k0_pay9, k0_pay8, k0_pay6, k0_pay5, k0_pay4, k0_pay3]
  simp only [cum_apply la hla, hk, hv, hs, hq]
  rfl

include hla hq hg in
theorem newCarry_apply {c : ℕ} (hn : n = 63 - c) (hs : ∀ (e : Fin 256) (a : Fin 128), s (ix3 0 e a) = carry x l d c h e.val a.val)
    (e : Fin 256) (a : Fin 128) : newCarry la q s g (ix3 0 e a) = carry x l d (c + 1) h e.val a.val := by
  subst hn
  pointwise [newCarry, k1_pay23, k1_pay14, k1_pay13, k1_pay10, k1_pay9, k1_pay5]
  simp only [cum_apply' la hla, hq, hg, hs]
  rfl

include hla hk hv hg in
theorem dqTile_apply (hsp : ∀ (e : Fin 256) (a : Fin 128), sp (ix4 0 0 e a) = state x l n h e.val a.val)
    (r : Fin 64) (a : Fin 128) : dqTile la k v sp g (ix2 r a) = dq x l d n h r.val a.val := by
  pointwise [dqTile, k1_pay16, k1_pay13, k1_pay12, k1_pay11, k1_pay10, k1_pay8, k1_pay7, k1_pay6, k1_pay5]
  simp only [cum_apply' la hla, hk, hv, hg, hsp]
  rfl

include hq hv hg in
theorem dkdec_apply (hs : ∀ (e : Fin 256) (a : Fin 128), s (ix3 0 e a) = carry x l d (63 - n) h e.val a.val)
    (r : Fin 64) (a : Fin 128) : k1_pay17 v (k1_pay9 q) (k1_pay13 g) s (ix2 r a) = dkdec x l d n h r.val a.val := by
  pointwise [k1_pay17, k1_pay15, k1_pay14, k1_pay13, k1_pay9]
  simp only [hq, hv, hg, hs]
  rfl

include hla in
theorem gate_apply (r : Fin 64) (a : Fin 128) : k1_pay6 la (ix2 r a) = gate l n h r.val a.val := by
  pointwise [k1_pay6, k1_pay5]
  simp only [cum_apply' la hla]
  rfl

include hla hq hv hg in
theorem dkTile_apply (hs : ∀ (e : Fin 256) (a : Fin 128), s (ix3 0 e a) = carry x l d (63 - n) h e.val a.val)
    (r : Fin 64) (a : Fin 128) : dkTile la q v s g (ix2 r a) = dk x l d n h r.val a.val := by
  pointwise [dkTile, k1_pay19]
  rw [dkdec_apply q v s g hq hv hg hs, gate_apply la hla]
  rfl

include hla hq hk hg in
theorem dvTile_apply (hs : ∀ (e : Fin 256) (a : Fin 128), s (ix3 0 e a) = carry x l d (63 - n) h e.val a.val)
    (r : Fin 64) (e : Fin 256) : dvTile la q k s g (ix2 r e) = dv x l d n h r.val e.val := by
  pointwise [dvTile, k1_pay18, k1_pay15, k1_pay14, k1_pay13, k1_pay9, k1_pay8, k1_pay7]
  simp only [gate_apply la hla, hq, hk, hg, hs]
  rfl

include hla hq hk hv hg in
theorem dcumTile_apply (hs : ∀ (e : Fin 256) (a : Fin 128), s (ix3 0 e a) = carry x l d (63 - n) h e.val a.val)
    (hsp : ∀ (e : Fin 256) (a : Fin 128), sp (ix4 0 0 e a) = state x l n h e.val a.val)
    (r : Fin 64) (a : Fin 128) : dcumTile la q k v s sp g (ix2 r a) = dcum x l d n h r.val a.val := by
  pointwise [dcumTile, k1_pay20, k1_pay17, k1_pay15, k1_pay14, k1_pay13, k1_pay11, k1_pay10, k1_pay9, k1_pay7, k1_pay5]
  simp only [cum_apply' la hla, gate_apply la hla, hq, hk, hv, hg, hs, hsp, last_bit, select_ite, zero_sub]
  rfl

include hla hq hk hv hg in
theorem dlaTile_apply (hs : ∀ (e : Fin 256) (a : Fin 128), s (ix3 0 e a) = carry x l d (63 - n) h e.val a.val)
    (hsp : ∀ (e : Fin 256) (a : Fin 128), sp (ix4 0 0 e a) = state x l n h e.val a.val)
    (r : Fin 64) (a : Fin 128) : dlaTile la q k v s sp g (ix2 r a) = dla x l d n h r.val a.val := by
  pointwise [dlaTile, k1_pay22, k1_pay21]
  simp only [sge_bit, select_ite, dcumTile_apply la q k v s sp g hla hq hk hv hg hs hsp]
  rfl

end Cert.KernelIdeal.Piece

end
-- ==== Proof.Pieces.lean ====
module
public import proofs.«01_k».proof.Proof.KerPiece
public import Idealize.ShloMosaic.Lib.Pipeline.Value
public import Idealize.ShloMosaic.Lib.Pipeline.ReadBack
@[expose] public section

/-!
# The pieces of one block

Both calls walk a block of 256 rows in 16 pieces, piece `k` belonging to head `k % 4`. The running states are kept in a
scratch array, one per head: piece `k` reads its head's state and overwrites it. So what a piece reads is what the piece
four before it stored, and a property that every step keeps holds of every read.
-/

namespace Cert.KernelIdeal.Piece

open Cert.KernelIdeal Cert.KernelIdeal.Gen Cert.Gla
open Idealize.ShloMosaic Idealize.ShloMosaic.TcCoe

/-- Stores to the scratch array, last first. -/
abbrev Stores : Type := List (View.Piece (Elt Ideal) S4x256x128 .f32)

/-- Where head `k % 4` keeps its state. -/
abbrev headR (k : ℕ) : Rect S4x256x128 :=
  Rect.unit ![k % 4, 0, 0] ![1, 256, 128] (by intro a; fin_cases a <;> simp <;> omega)

section
variable (arg : Memref sig .tc .vmem S4x256x128 .f32) (first : ℕ → Stores → Vec Ideal S1x256x128 .f32)
  (step : ℕ → Vec Ideal S1x256x128 .f32 → Vec Ideal S1x256x128 .f32) (L0 : Stores)

/-- What piece `k` reads of its head's state, `L` being the stores before it: for the first piece of a head that is
    given, afterwards it is read back. -/
noncomputable def readState (k : ℕ) (L : Stores) : Vec Ideal S1x256x128 .f32 :=
  if k < 4 then first k L else arg.view.readCov L (headR k).toLoadRect

/-- The stores before piece `k`. -/
noncomputable def stores : ℕ → Stores
  | 0 => L0
  | k + 1 => ⟨headR k, step k (readState arg first k (stores k))⟩ :: stores k

theorem headR_disjoint {j k : ℕ} (h : j % 4 ≠ k % 4) : Disjoint (headR j).set (headR k).toLoadRect.set := by
  rw [Finset.disjoint_left]
  intro y hj hk
  have hj' := (Rect.mem_set_unit.mp hj) 0
  have hk' := (Rect.mem_set_unit.mp hk) 0
  simp only [Matrix.cons_val_zero] at hj' hk'
  omega

/-- A head's state is read back as its last piece left it, whatever the other heads stored since. -/
theorem readBack (k m : ℕ) (hm : m ≤ 3) :
    arg.view.readCov (stores arg first step L0 (k + 1 + m)) (headR k).toLoadRect
      = step k (readState arg first k (stores arg first step L0 k)) := by
  induction m with
  | zero => exact View.readCov_cons_toLoadRect _ _ _ _
  | succ m ih =>
    rw [← ih (by omega)]
    exact View.readCov_cons_of_disjoint _ _ _ _ (headR_disjoint (j := k + 1 + m) (k := k) (by omega))

/-- A property of states that the first pieces' reads have and that every step keeps holds of every read. -/
theorem read_of_step (P : ℕ → Vec Ideal S1x256x128 .f32 → Prop)
    (h0 : ∀ k < 4, P k (first k (stores arg first step L0 k))) (hs : ∀ k s, k + 4 < 20 → P k s → P (k + 4) (step k s)) (k : ℕ) (hk : k < 16) :
    P k (readState arg first k (stores arg first step L0 k)) := by
  induction k using Nat.strong_induction_on with
  | _ k ih =>
    by_cases h : k < 4
    · rw [readState, if_pos h]; exact h0 k h
    · obtain ⟨j, rfl⟩ : ∃ j, k = j + 4 := ⟨k - 4, by omega⟩
      rw [readState, if_neg h]
      have e : arg.view.readCov (stores arg first step L0 (j + 4)) (headR (j + 4)).toLoadRect
          = step j (readState arg first j (stores arg first step L0 j)) := by
        rw [← readBack arg first step L0 j 3 (le_refl _)]
        rw [View.readCov_eq_canon', View.readCov_eq_canon']
        funext y
        show View.canon _ _ = View.canon _ _
        congr 1
        funext i
        fin_cases i <;> exact Fin.ext (by simp [LoadRect.idx])
      exact e ▸ hs j _ (by omega) (ih j (by omega) (by omega))

theorem headR_idx (k : ℕ) (e : Fin 256) (a : Fin 128) :
    (headR k).toLoadRect.idx (ix3 0 e a) = ix3 ⟨k % 4, Nat.mod_lt _ (by decide)⟩ e a := by
  funext i
  fin_cases i <;> exact Fin.ext (by simp [LoadRect.idx, ix3])

theorem headR_idx_last (h : Fin 4) (e : Fin 256) (a : Fin 128) :
    (headR (12 + h.val)).toLoadRect.idx (ix3 0 e a) = ix3 h e a := by
  rw [headR_idx, show (⟨(12 + h.val) % 4, Nat.mod_lt _ (by decide)⟩ : Fin 4) = h from Fin.ext (by dsimp only; omega)]

/-- What the scratch array holds of a head after the block. -/
theorem canon_stores (P : ℕ → Vec Ideal S1x256x128 .f32 → Prop)
    (h0 : ∀ k < 4, P k (first k (stores arg first step L0 k))) (hs : ∀ k s, k + 4 < 20 → P k s → P (k + 4) (step k s)) (h : Fin 4) :
    P (16 + h.val) (fun j => View.canon (stores arg first step L0 16) ((headR (12 + h.val)).toLoadRect.idx j)) := by
  have e := readBack arg first step L0 (12 + h.val) (3 - h.val) (by omega)
  rw [show 12 + h.val + 1 + (3 - h.val) = 16 by omega] at e
  have hp := hs (12 + h.val) _ (by omega) (read_of_step arg first step L0 P h0 hs (12 + h.val) (by omega))
  rw [← e, View.readCov_eq_canon', show 12 + h.val + 4 = 16 + h.val by omega] at hp
  exact hp

end

/-- The store that fills the scratch array. -/
noncomputable abbrev fill (z : Vec Ideal S4x256x128 .f32) : View.Piece (Elt Ideal) S4x256x128 .f32 :=
  ⟨Rect.unit (s := S4x256x128) ![0, 0, 0] S4x256x128.size (by decide), z⟩

/-- In the first block of a walk, which fills the scratch array with `z`, the first pieces read `z`. -/
theorem first_fill (arg : Memref sig .tc .vmem S4x256x128 .f32) (first : ℕ → Stores → Vec Ideal S1x256x128 .f32)
    (step : ℕ → Vec Ideal S1x256x128 .f32 → Vec Ideal S1x256x128 .f32) (z : Vec Ideal S4x256x128 .f32) (k m : ℕ) (hm : m ≤ k) (hk : k < 4)
    (e : Fin 256) (a : Fin 128) :
    arg.view.readCov (stores arg first step [fill z] m) (headR k).toLoadRect (ix3 0 e a)
      = z (ix3 ⟨k % 4, Nat.mod_lt _ (by decide)⟩ e a) := by
  induction m with
  | zero =>
    have hz := View.readCov_fill arg.view (off := ![0, 0, 0]) (by decide) z [] (headR k) (by decide)
    exact (congrFun hz _).trans (congrArg z (headR_idx k e a))
  | succ m ih =>
    rw [← ih (by omega)]
    have hd := headR_disjoint (j := m) (k := k) (by omega)
    have hz := View.readCov_cons_of_disjoint arg.view
      ⟨headR m, step m (readState arg first m (stores arg first step [fill z] m))⟩ (stores arg first step [fill z] m) (headR k).toLoadRect hd
    rw [stores, hz]

/-- A tile of a two-dimensional array, entry by entry. -/
theorem tile_apply {M N m n : ℕ} {e : EltTy} (arg : Memref sig .tc .vmem ⟨2, ![M, N]⟩ e) (harg : arg.IsWhole)
    (x : Vec Ideal ⟨2, ![M, N]⟩ e) (o p : ℕ) (inb) (r : Fin m) (a : Fin n) (hr : o + r.val < M) (ha : p + a.val < N) :
    View.readAt (Elt Ideal) arg.view (Rect.unit (s := ⟨2, ![M, N]⟩) ![o, p] ![m, n] inb).toLoadRect (harg.unread x) (ix2 r a)
      = x (ix2 ⟨o + r.val, hr⟩ ⟨p + a.val, ha⟩) := by
  rw [View.readAt_eq_ld, harg.read_unread]
  show x _ = x _
  congr 1
  funext i
  fin_cases i <;> exact Fin.ext (by simp [LoadRect.idx, ix2])

end Cert.KernelIdeal.Piece
end
-- ==== Proof.BwdBlock.lean ====
module
public import proofs.«01_k».proof.Proof.BwdDat
public import proofs.«01_k».proof.Proof.Pieces
@[expose] public section

/-!
# The backward call: the stores of one block

The chunks of a block are walked from the last to the first: piece `k` is chunk `3 - k / 4` of the block and head
`k % 4`. The block's stores are listed over the pieces.
-/

namespace Cert.KernelIdeal.R1

open Cert.KernelIdeal Cert.KernelIdeal.Gen Cert.KernelIdeal.Piece Cert.Gla
open Idealize.ShloMosaic Idealize.ShloMosaic.TcCoe Idealize.ShloMosaic.Tactic

/-- The tile of piece `k` in a narrow array. -/
abbrev narrowR (k : ℕ) : Rect S256x512 :=
  Rect.unit ![64 * (3 - k / 4 % 4), 128 * (k % 4)] ![64, 128] (by intro a; fin_cases a <;> simp <;> omega)

/-- The tile of piece `k` in a wide array. -/
abbrev wideR (k : ℕ) : Rect S256x1024 :=
  Rect.unit ![64 * (3 - k / 4 % 4), 256 * (k % 4)] ![64, 256] (by intro a; fin_cases a <;> simp <;> omega)

/-- The tile of piece `k` in the array of saved states. -/
abbrev savedR (k : ℕ) : Rect S4x4x256x128 :=
  Rect.unit ![k % 4, 3 - k / 4 % 4, 0, 0] ![1, 1, 256, 128] (by intro a; fin_cases a <;> simp <;> omega)

section
variable (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole)
  (x0 : Vec Ideal S256x512 .bf16) (x1 : Vec Ideal S256x512 .bf16) (x2 : Vec Ideal S256x1024 .bf16) (x3 : Vec Ideal S256x512 .f32) (x4 : Vec Ideal S4x4x256x128 .f32) (x5 : Vec Ideal S256x1024 .f32)

noncomputable abbrev tQ (k : ℕ) := View.readAt (Elt Ideal) arg2.view (narrowR k).toLoadRect (harg2.unread x0)
noncomputable abbrev tK (k : ℕ) := View.readAt (Elt Ideal) arg3.view (narrowR k).toLoadRect (harg3.unread x1)
noncomputable abbrev tV (k : ℕ) := View.readAt (Elt Ideal) arg4.view (wideR k).toLoadRect (harg4.unread x2)
noncomputable abbrev tL (k : ℕ) := View.readAt (Elt Ideal) arg5.view (narrowR k).toLoadRect (harg5.unread x3)
noncomputable abbrev tS (k : ℕ) := View.readAt (Elt Ideal) arg6.view (savedR k).toLoadRect (harg6.unread x4)
noncomputable abbrev tG (k : ℕ) := View.readAt (Elt Ideal) arg7.view (wideR k).toLoadRect (harg7.unread x5)

/-- Piece `k`'s step of its head's carried gradient. -/
noncomputable abbrev step (k : ℕ) (s : Vec Ideal S1x256x128 .f32) : Vec Ideal S1x256x128 .f32 :=
  newCarry (tL arg5 harg5 x3 k) (tQ arg2 harg2 x0 k) s (tG arg7 harg7 x5 k)
end

section
variable (c : Dev nD) (i : grid1.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x512 .f32) (harg11 : arg11.IsWhole) (arg12 : Memref sig .tc .vmem S4x256x128 .f32) (harg12 : arg12.IsWhole)
  (x0 : Vec Ideal S256x512 .bf16) (x1 : Vec Ideal S256x512 .bf16) (x2 : Vec Ideal S256x1024 .bf16) (x3 : Vec Ideal S256x512 .f32) (x4 : Vec Ideal S4x4x256x128 .f32) (x5 : Vec Ideal S256x1024 .f32) (xs0 : Vec Ideal S4x256x128 .f32)

/-- In a later block the first pieces read what the block before left. -/
noncomputable abbrev firstB (k : ℕ) (_ : Stores) : Vec Ideal S1x256x128 .f32 :=
  View.readAt (Elt Ideal) arg12.view (headR k).toLoadRect (harg12.unread xs0)

/-- The stores to the scratch array in a later block. -/
noncomputable abbrev storesB := stores arg12 (firstB arg12 harg12 xs0) (step arg2 harg2 arg5 harg5 arg7 harg7 x0 x3 x5) []

/-- The gradient piece `k` reads in a later block. -/
noncomputable abbrev readB (k : ℕ) := readState arg12 (firstB arg12 harg12 xs0) k (storesB arg2 harg2 arg5 harg5 arg7 harg7 arg12 harg12 x0 x3 x5 xs0 k)

/-- In the first block the scratch array is filled with zeros, and the first pieces read that. -/
noncomputable abbrev firstA (k : ℕ) (L : Stores) : Vec Ideal S1x256x128 .f32 := arg12.view.readCov L (headR k).toLoadRect

/-- The stores to the scratch array in the first block. -/
noncomputable abbrev storesA := stores arg12 (firstA arg12) (step arg2 harg2 arg5 harg5 arg7 harg7 x0 x3 x5) [fill (k1_pay3 (F := Ideal))]

/-- The gradient piece `k` reads in the first block. -/
noncomputable abbrev readA (k : ℕ) := readState arg12 (firstA arg12) k (storesA arg2 harg2 arg5 harg5 arg7 harg7 arg12 x0 x3 x5 k)

theorem scratch_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.2.2.1 = storesA arg2 harg2 arg5 harg5 arg7 harg7 arg12 x0 x3 x5 16 := by
  sl_kernel_rfl

theorem dq_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).1
      = (List.range 16).reverse.map fun k => ⟨narrowR k, dqTile (tL arg5 harg5 x3 k) (tK arg3 harg3 x1 k) (tV arg4 harg4 x2 k) (tS arg6 harg6 x4 k) (tG arg7 harg7 x5 k)⟩ := by
  sl_kernel_rfl

theorem dk_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.1
      = (List.range 16).reverse.map fun k => ⟨narrowR k, dkTile (tL arg5 harg5 x3 k) (tQ arg2 harg2 x0 k) (tV arg4 harg4 x2 k) (readA arg2 harg2 arg5 harg5 arg7 harg7 arg12 x0 x3 x5 k) (tG arg7 harg7 x5 k)⟩ := by
  sl_kernel_rfl

theorem dv_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.1
      = (List.range 16).reverse.map fun k => ⟨wideR k, dvTile (tL arg5 harg5 x3 k) (tQ arg2 harg2 x0 k) (tK arg3 harg3 x1 k) (readA arg2 harg2 arg5 harg5 arg7 harg7 arg12 x0 x3 x5 k) (tG arg7 harg7 x5 k)⟩ := by
  sl_kernel_rfl

theorem dla_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.2.1
      = (List.range 16).reverse.map fun k => ⟨narrowR k, dlaTile (tL arg5 harg5 x3 k) (tQ arg2 harg2 x0 k) (tK arg3 harg3 x1 k) (tV arg4 harg4 x2 k) (readA arg2 harg2 arg5 harg5 arg7 harg7 arg12 x0 x3 x5 k) (tS arg6 harg6 x4 k) (tG arg7 harg7 x5 k)⟩ := by
  sl_kernel_rfl

theorem scratch_B (hc0 : ¬ cond0_0 i) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1 = storesB arg2 harg2 arg5 harg5 arg7 harg7 arg12 harg12 x0 x3 x5 xs0 16 := by
  sl_kernel_rfl

theorem dq_B (hc0 : ¬ cond0_0 i) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0).1
      = (List.range 16).reverse.map fun k => ⟨narrowR k, dqTile (tL arg5 harg5 x3 k) (tK arg3 harg3 x1 k) (tV arg4 harg4 x2 k) (tS arg6 harg6 x4 k) (tG arg7 harg7 x5 k)⟩ := by
  sl_kernel_rfl

theorem dk_B (hc0 : ¬ cond0_0 i) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0).2.1
      = (List.range 16).reverse.map fun k => ⟨narrowR k, dkTile (tL arg5 harg5 x3 k) (tQ arg2 harg2 x0 k) (tV arg4 harg4 x2 k) (readB arg2 harg2 arg5 harg5 arg7 harg7 arg12 harg12 x0 x3 x5 xs0 k) (tG arg7 harg7 x5 k)⟩ := by
  sl_kernel_rfl

theorem dv_B (hc0 : ¬ cond0_0 i) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0).2.2.1
      = (List.range 16).reverse.map fun k => ⟨wideR k, dvTile (tL arg5 harg5 x3 k) (tQ arg2 harg2 x0 k) (tK arg3 harg3 x1 k) (readB arg2 harg2 arg5 harg5 arg7 harg7 arg12 harg12 x0 x3 x5 xs0 k) (tG arg7 harg7 x5 k)⟩ := by
  sl_kernel_rfl

theorem dla_B (hc0 : ¬ cond0_0 i) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0).2.2.2.1
      = (List.range 16).reverse.map fun k => ⟨narrowR k, dlaTile (tL arg5 harg5 x3 k) (tQ arg2 harg2 x0 k) (tK arg3 harg3 x1 k) (tV arg4 harg4 x2 k) (readB arg2 harg2 arg5 harg5 arg7 harg7 arg12 harg12 x0 x3 x5 xs0 k) (tS arg6 harg6 x4 k) (tG arg7 harg7 x5 k)⟩ := by
  sl_kernel_rfl

end

end Cert.KernelIdeal.R1

end
-- ==== Proof.BwdEntry.lean ====
module
public import proofs.«01_k».proof.Proof.BwdBlock
@[expose] public section

/-!
# The backward call: what one block stores, entry by entry

Step `t` of the backward call treats block `b = 15 - t`. Before piece `k` of that step, `4 t + k / 4` chunks have been
walked from the end of the sequence.
-/

namespace Cert.KernelIdeal.R1

open Cert.KernelIdeal Cert.KernelIdeal.Gen Cert.KernelIdeal.Piece Cert.Gla
open Idealize.ShloMosaic Idealize.ShloMosaic.TcCoe

/-! ## Arrays stored tile by tile -/

/-- What a narrow block holds when piece `k` stores the tile `T k` of the values `G`. -/
theorem canon_narrow {e : EltTy} {b : ℕ} (G : ℕ → ℕ → ℕ → ℕ → Elt Ideal e) (T : ℕ → Vec Ideal S64x128 e)
    (hT : ∀ k < 16, ∀ (r : Fin 64) (a : Fin 128), T k (ix2 r a) = G (4 * b + (3 - k / 4)) (k % 4) r.val a.val) (y : S256x512.Idx)
    (hc : ∃ p ∈ (List.range 16).reverse.map fun k => (⟨narrowR k, T k⟩ : View.Piece (Elt Ideal) S256x512 e), y ∈ p.1.set) :
    View.canon ((List.range 16).reverse.map fun k => (⟨narrowR k, T k⟩ : View.Piece (Elt Ideal) S256x512 e)) y
      = G (4 * b + (y 0).val / 64) ((y 1).val / 128) ((y 0).val % 64) ((y 1).val % 128) := by
  refine View.canon_apply_of_pieces (fun y => G (4 * b + (y 0).val / 64) ((y 1).val / 128) ((y 0).val % 64) ((y 1).val % 128)) _ ?_ y hc
  intro p hp z
  obtain ⟨k, hk, rfl⟩ := List.mem_map.mp hp
  have hk : k < 16 := by simpa using hk
  have e0 : ((narrowR k).emb z 0).val = 64 * (3 - k / 4 % 4) + (z 0).val := by simp
  have e1 : ((narrowR k).emb z 1).val = 128 * (k % 4) + (z 1).val := by simp
  show T k z = G (4 * b + ((narrowR k).emb z 0).val / 64) (((narrowR k).emb z 1).val / 128) (((narrowR k).emb z 0).val % 64) (((narrowR k).emb z 1).val % 128)
  rw [e0, e1]
  obtain ⟨r, a, rfl⟩ : ∃ (r : Fin 64) (a : Fin 128), z = ix2 r a := ⟨z 0, z 1, eq_ix2 (n0 := 64) (n1 := 128) z⟩
  refine (hT k hk r a).trans ?_
  show _ = G (4 * b + (64 * (3 - k / 4 % 4) + r.val) / 64) ((128 * (k % 4) + a.val) / 128) ((64 * (3 - k / 4 % 4) + r.val) % 64) ((128 * (k % 4) + a.val) % 128)
  congr 1 <;> omega

/-- What a wide block holds when piece `k` stores the tile `T k` of the values `G`. -/
theorem canon_wide {e : EltTy} {b : ℕ} (G : ℕ → ℕ → ℕ → ℕ → Elt Ideal e) (T : ℕ → Vec Ideal S64x256 e)
    (hT : ∀ k < 16, ∀ (r : Fin 64) (a : Fin 256), T k (ix2 r a) = G (4 * b + (3 - k / 4)) (k % 4) r.val a.val) (y : S256x1024.Idx)
    (hc : ∃ p ∈ (List.range 16).reverse.map fun k => (⟨wideR k, T k⟩ : View.Piece (Elt Ideal) S256x1024 e), y ∈ p.1.set) :
    View.canon ((List.range 16).reverse.map fun k => (⟨wideR k, T k⟩ : View.Piece (Elt Ideal) S256x1024 e)) y
      = G (4 * b + (y 0).val / 64) ((y 1).val / 256) ((y 0).val % 64) ((y 1).val % 256) := by
  refine View.canon_apply_of_pieces (fun y => G (4 * b + (y 0).val / 64) ((y 1).val / 256) ((y 0).val % 64) ((y 1).val % 256)) _ ?_ y hc
  intro p hp z
  obtain ⟨k, hk, rfl⟩ := List.mem_map.mp hp
  have hk : k < 16 := by simpa using hk
  have e0 : ((wideR k).emb z 0).val = 64 * (3 - k / 4 % 4) + (z 0).val := by simp
  have e1 : ((wideR k).emb z 1).val = 256 * (k % 4) + (z 1).val := by simp
  show T k z = G (4 * b + ((wideR k).emb z 0).val / 64) (((wideR k).emb z 1).val / 256) (((wideR k).emb z 0).val % 64) (((wideR k).emb z 1).val % 256)
  rw [e0, e1]
  obtain ⟨r, a, rfl⟩ : ∃ (r : Fin 64) (a : Fin 256), z = ix2 r a := ⟨z 0, z 1, eq_ix2 (n0 := 64) (n1 := 256) z⟩
  refine (hT k hk r a).trans ?_
  show _ = G (4 * b + (64 * (3 - k / 4 % 4) + r.val) / 64) ((256 * (k % 4) + a.val) / 256) ((64 * (3 - k / 4 % 4) + r.val) % 64) ((256 * (k % 4) + a.val) % 256)
  congr 1 <;> omega

/-- A tile of the saved states. -/
theorem saved_tile (arg : Memref sig .tc .vmem S4x4x256x128 .f32) (harg : arg.IsWhole) (x : Vec Ideal S4x4x256x128 .f32) (k : ℕ) (e : Fin 256) (a : Fin 128) :
    View.readAt (Elt Ideal) arg.view (savedR k).toLoadRect (harg.unread x) (ix4 0 0 e a)
      = x (ix4 ⟨k % 4, Nat.mod_lt _ (by decide)⟩ ⟨3 - k / 4 % 4, by omega⟩ e a) := by
  rw [View.readAt_eq_ld, harg.read_unread]
  show x _ = x _
  congr 1
  funext i
  fin_cases i <;> exact Fin.ext (by simp [LoadRect.idx, ix4])

section
variable (c : Dev nD) (i : grid1.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S4x4x256x128 .f32) (harg6 : arg6.IsWhole) (arg7 : Memref sig .tc .vmem S256x1024 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x512 .f32) (harg11 : arg11.IsWhole) (arg12 : Memref sig .tc .vmem S4x256x128 .f32) (harg12 : arg12.IsWhole)
  (x0 : Vec Ideal S256x512 .bf16) (x1 : Vec Ideal S256x512 .bf16) (x2 : Vec Ideal S256x1024 .bf16) (x3 : Vec Ideal S256x512 .f32) (x4 : Vec Ideal S4x4x256x128 .f32) (x5 : Vec Ideal S256x1024 .f32) (xs0 : Vec Ideal S4x256x128 .f32)
  {x l d : Arr} {b t : ℕ} (hbt : b + t = 15)
  (hq : ∀ (i : Fin 256) (j : Fin 512), x0 (ix2 i j) = x (256 * b + i.val) j.val)
  (hk : ∀ (i : Fin 256) (j : Fin 512), x1 (ix2 i j) = x (256 * b + i.val) (512 + j.val))
  (hv : ∀ (i : Fin 256) (j : Fin 1024), x2 (ix2 i j) = x (256 * b + i.val) (1024 + j.val))
  (hl : ∀ (i : Fin 256) (j : Fin 512), x3 (ix2 i j) = l (256 * b + i.val) j.val)
  (hp : ∀ (h m : Fin 4) (e : Fin 256) (a : Fin 128), x4 (ix4 h m e a) = state x l (4 * b + m.val) h.val e.val a.val)
  (hg : ∀ (i : Fin 256) (j : Fin 1024), x5 (ix2 i j) = d (256 * b + i.val) j.val)

include hq in
theorem tQ_apply (k : ℕ) (h : k < 16) (r : Fin 64) (a : Fin 128) :
    tQ arg2 harg2 x0 k (ix2 r a) = x (64 * (4 * b + (3 - k / 4)) + r.val) (128 * (k % 4) + a.val) := by
  rw [tQ, tile_apply _ _ _ _ _ _ _ _ (by omega) (by omega), hq]
  congr 1 <;> dsimp only <;> omega

include hk in
theorem tK_apply (k : ℕ) (h : k < 16) (r : Fin 64) (a : Fin 128) :
    tK arg3 harg3 x1 k (ix2 r a) = key x (4 * b + (3 - k / 4)) (k % 4) r.val a.val := by
  rw [tK, tile_apply _ _ _ _ _ _ _ _ (by omega) (by omega), hk]
  unfold key
  congr 1 <;> dsimp only <;> omega

include hv in
theorem tV_apply (k : ℕ) (h : k < 16) (r : Fin 64) (e : Fin 256) :
    tV arg4 harg4 x2 k (ix2 r e) = val x (4 * b + (3 - k / 4)) (k % 4) r.val e.val := by
  rw [tV, tile_apply _ _ _ _ _ _ _ _ (by omega) (by omega), hv]
  unfold val
  congr 1 <;> dsimp only <;> omega

include hl in
theorem tL_apply (k : ℕ) (h : k < 16) (r : Fin 64) (a : Fin 128) :
    tL arg5 harg5 x3 k (ix2 r a) = l (64 * (4 * b + (3 - k / 4)) + r.val) (128 * (k % 4) + a.val) := by
  rw [tL, tile_apply _ _ _ _ _ _ _ _ (by omega) (by omega), hl]
  congr 1 <;> dsimp only <;> omega

include hp in
theorem tS_apply (k : ℕ) (h : k < 16) (e : Fin 256) (a : Fin 128) :
    tS arg6 harg6 x4 k (ix4 0 0 e a) = state x l (4 * b + (3 - k / 4)) (k % 4) e.val a.val := by
  rw [tS, saved_tile, hp]
  dsimp only
  rw [show k / 4 % 4 = k / 4 by omega]

include hg in
theorem tG_apply (k : ℕ) (h : k < 16) (r : Fin 64) (e : Fin 256) :
    tG arg7 harg7 x5 k (ix2 r e) = dout d (4 * b + (3 - k / 4)) (k % 4) r.val e.val := by
  rw [tG, tile_apply _ _ _ _ _ _ _ _ (by omega) (by omega), hg]
  unfold dout
  congr 1 <;> dsimp only <;> omega

/-- A head's carried gradient before piece `k` of step `t`. -/
def IsCarry (x l d : Arr) (t k : ℕ) (s : Vec Ideal S1x256x128 .f32) : Prop :=
  ∀ (e : Fin 256) (a : Fin 128), s (ix3 0 e a) = carry x l d (4 * t + k / 4) (k % 4) e.val a.val

include hq hl hg hbt in
theorem step_isCarry (k : ℕ) (s : Vec Ideal S1x256x128 .f32) (h : k + 4 < 20) (hs : IsCarry x l d t k s) :
    IsCarry x l d t (k + 4) (step arg2 harg2 arg5 harg5 arg7 harg7 x0 x3 x5 k s) := by
  intro e a
  rw [step, newCarry_apply _ _ _ _ (tL_apply arg5 harg5 x3 hl k (by omega)) (tQ_apply arg2 harg2 x0 hq k (by omega))
    (tG_apply arg7 harg7 x5 hg k (by omega)) (c := 4 * t + k / 4) (by omega) hs]
  rw [show 4 * t + (k + 4) / 4 = 4 * t + k / 4 + 1 by omega, show (k + 4) % 4 = k % 4 by omega]

include hbt in
theorem IsCarry.at {k : ℕ} (h : k < 16) {s : Vec Ideal S1x256x128 .f32} (hs : IsCarry x l d t k s) (e : Fin 256) (a : Fin 128) :
    s (ix3 0 e a) = carry x l d (63 - (4 * b + (3 - k / 4))) (k % 4) e.val a.val := by
  rw [hs, show 63 - (4 * b + (3 - k / 4)) = 4 * t + k / 4 by omega]

/-! ## A later block -/

theorem firstB_isCarry (hs : ∀ (h : Fin 4) (e : Fin 256) (a : Fin 128), xs0 (ix3 h e a) = carry x l d (4 * t) h.val e.val a.val)
    (k : ℕ) (h : k < 4) (L : Stores) : IsCarry x l d t k (firstB arg12 harg12 xs0 k L) := by
  intro e a
  rw [firstB, View.readAt_eq_ld, harg12.read_unread]
  show xs0 ((headR k).toLoadRect.idx (ix3 0 e a)) = _
  rw [headR_idx, hs]
  dsimp only
  rw [show 4 * t + k / 4 = 4 * t by omega]

section
variable (hs : ∀ (h : Fin 4) (e : Fin 256) (a : Fin 128), xs0 (ix3 h e a) = carry x l d (4 * t) h.val e.val a.val)

include hq hl hg hbt hs in
theorem readB_isCarry (k : ℕ) (h : k < 16) : IsCarry x l d t k (readB arg2 harg2 arg5 harg5 arg7 harg7 arg12 harg12 x0 x3 x5 xs0 k) :=
  read_of_step arg12 _ _ _ (IsCarry x l d t) (fun k hk => firstB_isCarry arg12 harg12 xs0 hs k hk _)
    (step_isCarry arg2 harg2 arg5 harg5 arg7 harg7 x0 x3 x5 hbt hq hl hg) k h

include hk hv hl hg hp in
theorem out0_B_6_apply (hc0 : ¬ cond0_0 i) (y : S256x512.Idx) :
    out0_B_6 c i arg2 harg2 arg3 harg3 arg4 harg4 arg5 harg5 arg6 harg6 arg7 harg7 arg8 harg8 arg9 harg9 arg10 harg10 arg11 harg11 arg12 harg12 hc0 x0 x1 x2 x3 x4 x5 xs0 y
      = dq x l d (4 * b + (y 0).val / 64) ((y 1).val / 128) ((y 0).val % 64) ((y 1).val % 128) := by
  have hc := cover0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
  unfold out0_B_6
  rw [View.read_writes_eq_canon _ _ _ hc]
  rw [dq_B] at hc ⊢
  exact canon_narrow (dq x l d) _ (fun k h => dqTile_apply _ _ _ _ _ (tL_apply arg5 harg5 x3 hl k h) (tK_apply arg3 harg3 x1 hk k h) (tV_apply arg4 harg4 x2 hv k h) (tG_apply arg7 harg7 x5 hg k h) (tS_apply arg6 harg6 x4 hp k h)) y (hc y)

include hq hv hl hg hbt hs in
theorem out0_B_7_apply (hc0 : ¬ cond0_0 i) (y : S256x512.Idx) :
    out0_B_7 c i arg2 harg2 arg3 harg3 arg4 harg4 arg5 harg5 arg6 harg6 arg7 harg7 arg8 harg8 arg9 harg9 arg10 harg10 arg11 harg11 arg12 harg12 hc0 x0 x1 x2 x3 x4 x5 xs0 y
      = dk x l d (4 * b + (y 0).val / 64) ((y 1).val / 128) ((y 0).val % 64) ((y 1).val % 128) := by
  have hc := cover0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
  unfold out0_B_7
  rw [View.read_writes_eq_canon _ _ _ hc]
  rw [dk_B] at hc ⊢
  exact canon_narrow (dk x l d) _ (fun k h => dkTile_apply _ _ _ _ _ (tL_apply arg5 harg5 x3 hl k h) (tQ_apply arg2 harg2 x0 hq k h) (tV_apply arg4 harg4 x2 hv k h) (tG_apply arg7 harg7 x5 hg k h) ((readB_isCarry arg2 harg2 arg5 harg5 arg7 harg7 arg12 harg12 x0 x3 x5 xs0 hbt hq hl hg hs k h).at hbt h)) y (hc y)

include hq hk hl hg hbt hs in
theorem out0_B_8_apply (hc0 : ¬ cond0_0 i) (y : S256x1024.Idx) :
    out0_B_8 c i arg2 harg2 arg3 harg3 arg4 harg4 arg5 harg5 arg6 harg6 arg7 harg7 arg8 harg8 arg9 harg9 arg10 harg10 arg11 harg11 arg12 harg12 hc0 x0 x1 x2 x3 x4 x5 xs0 y
      = dv x l d (4 * b + (y 0).val / 64) ((y 1).val / 256) ((y 0).val % 64) ((y 1).val % 256) := by
  have hc := cover0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
  unfold out0_B_8
  rw [View.read_writes_eq_canon _ _ _ hc]
  rw [dv_B] at hc ⊢
  exact canon_wide (dv x l d) _ (fun k h => dvTile_apply _ _ _ _ _ (tL_apply arg5 harg5 x3 hl k h) (tQ_apply arg2 harg2 x0 hq k h) (tK_apply arg3 harg3 x1 hk k h) (tG_apply arg7 harg7 x5 hg k h) ((readB_isCarry arg2 harg2 arg5 harg5 arg7 harg7 arg12 harg12 x0 x3 x5 xs0 hbt hq hl hg hs k h).at hbt h)) y (hc y)

include hq hk hv hl hg hp hbt hs in
theorem out0_B_9_apply (hc0 : ¬ cond0_0 i) (y : S256x512.Idx) :
    out0_B_9 c i arg2 harg2 arg3 harg3 arg4 harg4 arg5 harg5 arg6 harg6 arg7 harg7 arg8 harg8 arg9 harg9 arg10 harg10 arg11 harg11 arg12 harg12 hc0 x0 x1 x2 x3 x4 x5 xs0 y
      = dla x l d (4 * b + (y 0).val / 64) ((y 1).val / 128) ((y 0).val % 64) ((y 1).val % 128) := by
  have hc := cover0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
  unfold out0_B_9
  rw [View.read_writes_eq_canon _ _ _ hc]
  rw [dla_B] at hc ⊢
  exact canon_narrow (dla x l d) _ (fun k h => dlaTile_apply _ _ _ _ _ _ _ (tL_apply arg5 harg5 x3 hl k h) (tQ_apply arg2 harg2 x0 hq k h) (tK_apply arg3 harg3 x1 hk k h) (tV_apply arg4 harg4 x2 hv k h) (tG_apply arg7 harg7 x5 hg k h) ((readB_isCarry arg2 harg2 arg5 harg5 arg7 harg7 arg12 harg12 x0 x3 x5 xs0 hbt hq hl hg hs k h).at hbt h) (tS_apply arg6 harg6 x4 hp k h)) y (hc y)

include hq hl hg hbt hs in
theorem sout0_B_0_apply (hc0 : ¬ cond0_0 i) (h : Fin 4) (e : Fin 256) (a : Fin 128) :
    sout0_B_0 c i arg2 harg2 arg3 harg3 arg4 harg4 arg5 harg5 arg6 harg6 arg7 harg7 arg8 harg8 arg9 harg9 arg10 harg10 arg11 harg11 arg12 harg12 hc0 x0 x1 x2 x3 x4 x5 xs0 (ix3 h e a) = carry x l d (4 * (t + 1)) h.val e.val a.val := by
  have hc := scover0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
  unfold sout0_B_0
  rw [View.read_writes_eq_canon _ _ _ hc, scratch_B]
  have hP := canon_stores arg12 (firstB arg12 harg12 xs0) (step arg2 harg2 arg5 harg5 arg7 harg7 x0 x3 x5) [] (IsCarry x l d t) (fun k hk => firstB_isCarry arg12 harg12 xs0 hs k hk _)
    (step_isCarry arg2 harg2 arg5 harg5 arg7 harg7 x0 x3 x5 hbt hq hl hg) h e a
  beta_reduce at hP
  rw [headR_idx_last, show 4 * t + (16 + h.val) / 4 = 4 * (t + 1) by omega, show (16 + h.val) % 4 = h.val by omega] at hP
  exact hP

end

/-! ## The first block -/

theorem firstA_isCarry (k : ℕ) (h : k < 4) : IsCarry x l d 0 k (firstA arg12 k (storesA arg2 harg2 arg5 harg5 arg7 harg7 arg12 x0 x3 x5 k)) := by
  intro e a
  rw [firstA, storesA, first_fill _ _ _ _ k k (le_refl _) h]
  rw [show 4 * 0 + k / 4 = 0 by omega]
  pointwise [k1_pay3]
  rfl

section
variable (ht : t = 0)

include hq hl hg hbt ht in
theorem readA_isCarry (k : ℕ) (h : k < 16) : IsCarry x l d t k (readA arg2 harg2 arg5 harg5 arg7 harg7 arg12 x0 x3 x5 k) := by
  subst ht
  exact read_of_step arg12 _ _ _ (IsCarry x l d 0) (firstA_isCarry arg2 harg2 arg5 harg5 arg7 harg7 arg12 x0 x3 x5)
    (step_isCarry arg2 harg2 arg5 harg5 arg7 harg7 x0 x3 x5 hbt hq hl hg) k h

include hk hv hl hg hp in
theorem out0_A_6_apply (hc0 : cond0_0 i) (y : S256x512.Idx) :
    out0_A_6 c i arg2 harg2 arg3 harg3 arg4 harg4 arg5 harg5 arg6 harg6 arg7 harg7 arg8 harg8 arg9 harg9 arg10 harg10 arg11 harg11 arg12 harg12 hc0 x0 x1 x2 x3 x4 x5 y
      = dq x l d (4 * b + (y 0).val / 64) ((y 1).val / 128) ((y 0).val % 64) ((y 1).val % 128) := by
  have hc := cover0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5
  unfold out0_A_6
  rw [View.read_writes_eq_canon _ _ _ hc]
  rw [dq_A] at hc ⊢
  exact canon_narrow (dq x l d) _ (fun k h => dqTile_apply _ _ _ _ _ (tL_apply arg5 harg5 x3 hl k h) (tK_apply arg3 harg3 x1 hk k h) (tV_apply arg4 harg4 x2 hv k h) (tG_apply arg7 harg7 x5 hg k h) (tS_apply arg6 harg6 x4 hp k h)) y (hc y)

include hq hv hl hg hbt ht in
theorem out0_A_7_apply (hc0 : cond0_0 i) (y : S256x512.Idx) :
    out0_A_7 c i arg2 harg2 arg3 harg3 arg4 harg4 arg5 harg5 arg6 harg6 arg7 harg7 arg8 harg8 arg9 harg9 arg10 harg10 arg11 harg11 arg12 harg12 hc0 x0 x1 x2 x3 x4 x5 y
      = dk x l d (4 * b + (y 0).val / 64) ((y 1).val / 128) ((y 0).val % 64) ((y 1).val % 128) := by
  have hc := cover0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5
  unfold out0_A_7
  rw [View.read_writes_eq_canon _ _ _ hc]
  rw [dk_A] at hc ⊢
  exact canon_narrow (dk x l d) _ (fun k h => dkTile_apply _ _ _ _ _ (tL_apply arg5 harg5 x3 hl k h) (tQ_apply arg2 harg2 x0 hq k h) (tV_apply arg4 harg4 x2 hv k h) (tG_apply arg7 harg7 x5 hg k h) ((readA_isCarry arg2 harg2 arg5 harg5 arg7 harg7 arg12 x0 x3 x5 hbt hq hl hg ht k h).at hbt h)) y (hc y)

include hq hk hl hg hbt ht in
theorem out0_A_8_apply (hc0 : cond0_0 i) (y : S256x1024.Idx) :
    out0_A_8 c i arg2 harg2 arg3 harg3 arg4 harg4 arg5 harg5 arg6 harg6 arg7 harg7 arg8 harg8 arg9 harg9 arg10 harg10 arg11 harg11 arg12 harg12 hc0 x0 x1 x2 x3 x4 x5 y
      = dv x l d (4 * b + (y 0).val / 64) ((y 1).val / 256) ((y 0).val % 64) ((y 1).val % 256) := by
  have hc := cover0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5
  unfold out0_A_8
  rw [View.read_writes_eq_canon _ _ _ hc]
  rw [dv_A] at hc ⊢
  exact canon_wide (dv x l d) _ (fun k h => dvTile_apply _ _ _ _ _ (tL_apply arg5 harg5 x3 hl k h) (tQ_apply arg2 harg2 x0 hq k h) (tK_apply arg3 harg3 x1 hk k h) (tG_apply arg7 harg7 x5 hg k h) ((readA_isCarry arg2 harg2 arg5 harg5 arg7 harg7 arg12 x0 x3 x5 hbt hq hl hg ht k h).at hbt h)) y (hc y)

include hq hk hv hl hg hp hbt ht in
theorem out0_A_9_apply (hc0 : cond0_0 i) (y : S256x512.Idx) :
    out0_A_9 c i arg2 harg2 arg3 harg3 arg4 harg4 arg5 harg5 arg6 harg6 arg7 harg7 arg8 harg8 arg9 harg9 arg10 harg10 arg11 harg11 arg12 harg12 hc0 x0 x1 x2 x3 x4 x5 y
      = dla x l d (4 * b + (y 0).val / 64) ((y 1).val / 128) ((y 0).val % 64) ((y 1).val % 128) := by
  have hc := cover0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5
  unfold out0_A_9
  rw [View.read_writes_eq_canon _ _ _ hc]
  rw [dla_A] at hc ⊢
  exact canon_narrow (dla x l d) _ (fun k h => dlaTile_apply _ _ _ _ _ _ _ (tL_apply arg5 harg5 x3 hl k h) (tQ_apply arg2 harg2 x0 hq k h) (tK_apply arg3 harg3 x1 hk k h) (tV_apply arg4 harg4 x2 hv k h) (tG_apply arg7 harg7 x5 hg k h) ((readA_isCarry arg2 harg2 arg5 harg5 arg7 harg7 arg12 x0 x3 x5 hbt hq hl hg ht k h).at hbt h) (tS_apply arg6 harg6 x4 hp k h)) y (hc y)

include hq hl hg hbt ht in
theorem sout0_A_0_apply (hc0 : cond0_0 i) (h : Fin 4) (e : Fin 256) (a : Fin 128) :
    sout0_A_0 c i arg2 harg2 arg3 harg3 arg4 harg4 arg5 harg5 arg6 harg6 arg7 harg7 arg8 harg8 arg9 harg9 arg10 harg10 arg11 harg11 arg12 harg12 hc0 x0 x1 x2 x3 x4 x5 (ix3 h e a) = carry x l d (4 * (t + 1)) h.val e.val a.val := by
  subst ht
  have hc := scover0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5
  unfold sout0_A_0
  rw [View.read_writes_eq_canon _ _ _ hc, scratch_A]
  have hP := canon_stores arg12 (firstA arg12) (step arg2 harg2 arg5 harg5 arg7 harg7 x0 x3 x5) [fill (k1_pay3 (F := Ideal))] (IsCarry x l d 0) (firstA_isCarry arg2 harg2 arg5 harg5 arg7 harg7 arg12 x0 x3 x5)
    (step_isCarry arg2 harg2 arg5 harg5 arg7 harg7 x0 x3 x5 hbt hq hl hg) h e a
  beta_reduce at hP
  rw [headR_idx_last, show 4 * 0 + (16 + h.val) / 4 = 4 * (0 + 1) by omega, show (16 + h.val) % 4 = h.val by omega] at hP
  exact hP

end
end
end Cert.KernelIdeal.R1

end
-- ==== Proof.FwdBlock.lean ====
module
public import proofs.«01_k».proof.Proof.FwdDat
public import proofs.«01_k».proof.Proof.Pieces
@[expose] public section

/-!
# The forward call: the stores of one block

Piece `k` is chunk `k / 4` and head `k % 4`. The block's stores are listed over the pieces.
-/

namespace Cert.KernelIdeal.R0

open Cert.KernelIdeal Cert.KernelIdeal.Gen Cert.KernelIdeal.Piece Cert.Gla
open Idealize.ShloMosaic Idealize.ShloMosaic.TcCoe Idealize.ShloMosaic.Tactic

/-- The tile of piece `k` in a narrow array. -/
abbrev narrowR (k : ℕ) : Rect S256x512 :=
  Rect.unit ![64 * (k / 4 % 4), 128 * (k % 4)] ![64, 128] (by intro a; fin_cases a <;> simp <;> omega)

/-- The tile of piece `k` in a wide array. -/
abbrev wideR (k : ℕ) : Rect S256x1024 :=
  Rect.unit ![64 * (k / 4 % 4), 256 * (k % 4)] ![64, 256] (by intro a; fin_cases a <;> simp <;> omega)

/-- The tile of piece `k` in the array of saved states. -/
abbrev savedR (k : ℕ) : Rect S4x4x256x128 :=
  Rect.unit ![k % 4, k / 4 % 4, 0, 0] ![1, 1, 256, 128] (by intro a; fin_cases a <;> simp <;> omega)

section
variable (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole)
  (x0 : Vec Ideal S256x512 .bf16) (x1 : Vec Ideal S256x512 .bf16) (x2 : Vec Ideal S256x1024 .bf16) (x3 : Vec Ideal S256x512 .f32)

noncomputable abbrev tQ (k : ℕ) := View.readAt (Elt Ideal) arg2.view (narrowR k).toLoadRect (harg2.unread x0)
noncomputable abbrev tK (k : ℕ) := View.readAt (Elt Ideal) arg3.view (narrowR k).toLoadRect (harg3.unread x1)
noncomputable abbrev tV (k : ℕ) := View.readAt (Elt Ideal) arg4.view (wideR k).toLoadRect (harg4.unread x2)
noncomputable abbrev tL (k : ℕ) := View.readAt (Elt Ideal) arg5.view (narrowR k).toLoadRect (harg5.unread x3)

/-- Piece `k`'s step of its head's state. -/
noncomputable abbrev step (k : ℕ) (s : Vec Ideal S1x256x128 .f32) : Vec Ideal S1x256x128 .f32 :=
  newState (tL arg5 harg5 x3 k) (tK arg3 harg3 x1 k) (tV arg4 harg4 x2 k) s
end

section
variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S256x1024 .f32) (harg6 : arg6.IsWhole) (arg7 : Memref sig .tc .vmem S4x4x256x128 .f32) (harg7 : arg7.IsWhole) (arg8 : Memref sig .tc .vmem S4x256x128 .f32) (harg8 : arg8.IsWhole)
  (x0 : Vec Ideal S256x512 .bf16) (x1 : Vec Ideal S256x512 .bf16) (x2 : Vec Ideal S256x1024 .bf16) (x3 : Vec Ideal S256x512 .f32) (xs0 : Vec Ideal S4x256x128 .f32)

/-- In a later block the first pieces read what the block before left. -/
noncomputable abbrev firstB (k : ℕ) (_ : Stores) : Vec Ideal S1x256x128 .f32 :=
  View.readAt (Elt Ideal) arg8.view (headR k).toLoadRect (harg8.unread xs0)

/-- The stores to the scratch array in a later block. -/
noncomputable abbrev storesB := stores arg8 (firstB arg8 harg8 xs0) (step arg3 harg3 arg4 harg4 arg5 harg5 x1 x2 x3) []

/-- The state piece `k` reads in a later block. -/
noncomputable abbrev readB (k : ℕ) := readState arg8 (firstB arg8 harg8 xs0) k (storesB arg3 harg3 arg4 harg4 arg5 harg5 arg8 harg8 x1 x2 x3 xs0 k)

theorem scratch_B (hc0 : ¬ cond0_0 i) :
    (kernelRun0_B (F := Ideal) c i arg2 harg2 arg3 harg3 arg4 harg4 arg5 harg5 arg6 harg6 arg7 harg7 arg8 harg8 hc0 x0 x1 x2 x3 xs0).2.2.1
      = storesB arg3 harg3 arg4 harg4 arg5 harg5 arg8 harg8 x1 x2 x3 xs0 16 := by
  sl_kernel_rfl

theorem out_B (hc0 : ¬ cond0_0 i) :
    (kernelRun0_B (F := Ideal) c i arg2 harg2 arg3 harg3 arg4 harg4 arg5 harg5 arg6 harg6 arg7 harg7 arg8 harg8 hc0 x0 x1 x2 x3 xs0).1
      = (List.range 16).reverse.map fun k => ⟨wideR k, outTile (tL arg5 harg5 x3 k) (tQ arg2 harg2 x0 k) (tK arg3 harg3 x1 k) (tV arg4 harg4 x2 k)
          (readB arg3 harg3 arg4 harg4 arg5 harg5 arg8 harg8 x1 x2 x3 xs0 k)⟩ := by
  sl_kernel_rfl

theorem saved_B (hc0 : ¬ cond0_0 i) :
    (kernelRun0_B (F := Ideal) c i arg2 harg2 arg3 harg3 arg4 harg4 arg5 harg5 arg6 harg6 arg7 harg7 arg8 harg8 hc0 x0 x1 x2 x3 xs0).2.1
      = (List.range 16).reverse.map fun k => ⟨savedR k, saved
          (readB arg3 harg3 arg4 harg4 arg5 harg5 arg8 harg8 x1 x2 x3 xs0 k)⟩ := by
  sl_kernel_rfl

/-- In the first block the scratch array is filled with zeros, and the first pieces read that. -/
noncomputable abbrev firstA (k : ℕ) (L : Stores) : Vec Ideal S1x256x128 .f32 := arg8.view.readCov L (headR k).toLoadRect

/-- The stores to the scratch array in the first block. -/
noncomputable abbrev storesA := stores arg8 (firstA arg8) (step arg3 harg3 arg4 harg4 arg5 harg5 x1 x2 x3)
  [fill (k0_pay1 (F := Ideal))]

/-- The state piece `k` reads in the first block. -/
noncomputable abbrev readA (k : ℕ) := readState arg8 (firstA arg8) k (storesA arg3 harg3 arg4 harg4 arg5 harg5 arg8 x1 x2 x3 k)

theorem scratch_A (hc0 : cond0_0 i) :
    (kernelRun0_A (F := Ideal) c i arg2 harg2 arg3 harg3 arg4 harg4 arg5 harg5 arg6 harg6 arg7 harg7 arg8 harg8 hc0 x0 x1 x2 x3).2.2.1
      = storesA arg3 harg3 arg4 harg4 arg5 harg5 arg8 x1 x2 x3 16 := by
  sl_kernel_rfl

theorem out_A (hc0 : cond0_0 i) :
    (kernelRun0_A (F := Ideal) c i arg2 harg2 arg3 harg3 arg4 harg4 arg5 harg5 arg6 harg6 arg7 harg7 arg8 harg8 hc0 x0 x1 x2 x3).1
      = (List.range 16).reverse.map fun k => ⟨wideR k, outTile (tL arg5 harg5 x3 k) (tQ arg2 harg2 x0 k) (tK arg3 harg3 x1 k) (tV arg4 harg4 x2 k)
          (readA arg3 harg3 arg4 harg4 arg5 harg5 arg8 x1 x2 x3 k)⟩ := by
  sl_kernel_rfl

theorem saved_A (hc0 : cond0_0 i) :
    (kernelRun0_A (F := Ideal) c i arg2 harg2 arg3 harg3 arg4 harg4 arg5 harg5 arg6 harg6 arg7 harg7 arg8 harg8 hc0 x0 x1 x2 x3).2.1
      = (List.range 16).reverse.map fun k => ⟨savedR k, saved (readA arg3 harg3 arg4 harg4 arg5 harg5 arg8 x1 x2 x3 k)⟩ := by
  sl_kernel_rfl

end

end Cert.KernelIdeal.R0

end
-- ==== Proof.FwdEntry.lean ====
module
public import proofs.«01_k».proof.Proof.FwdBlock
@[expose] public section

/-!
# The forward call: what one block stores, entry by entry

`b` is the block, so its chunks are `4 b`, …, `4 b + 3`. The blocks of the inputs are given as entries of the packed
array `x` and of the log gates `l`.
-/

namespace Cert.KernelIdeal.R0

open Cert.KernelIdeal Cert.KernelIdeal.Gen Cert.KernelIdeal.Piece Cert.Gla
open Idealize.ShloMosaic Idealize.ShloMosaic.TcCoe

/-! ## Arrays stored tile by tile -/

/-- What the output block holds when piece `k` stores the tile `T k` of the output. -/
theorem canon_out {x l : Arr} {b : ℕ} (T : ℕ → Vec Ideal S64x256 .f32)
    (hT : ∀ k < 16, ∀ (r : Fin 64) (e : Fin 256), T k (ix2 r e) = out x l (4 * b + k / 4) (k % 4) r.val e.val) (y : S256x1024.Idx)
    (hc : ∃ p ∈ (List.range 16).reverse.map fun k => (⟨wideR k, T k⟩ : View.Piece (Elt Ideal) S256x1024 .f32), y ∈ p.1.set) :
    View.canon ((List.range 16).reverse.map fun k => (⟨wideR k, T k⟩ : View.Piece (Elt Ideal) S256x1024 .f32)) y
      = out x l (4 * b + (y 0).val / 64) ((y 1).val / 256) ((y 0).val % 64) ((y 1).val % 256) := by
  refine View.canon_apply_of_pieces (fun y => out x l (4 * b + (y 0).val / 64) ((y 1).val / 256) ((y 0).val % 64) ((y 1).val % 256)) _ ?_ y hc
  intro p hp z
  obtain ⟨k, hk, rfl⟩ := List.mem_map.mp hp
  have hk : k < 16 := by simpa using hk
  have h0 : (z 0).val < 64 := (z 0).isLt
  have h1 : (z 1).val < 256 := (z 1).isLt
  have e0 : ((wideR k).emb z 0).val = 64 * (k / 4 % 4) + (z 0).val := by simp
  have e1 : ((wideR k).emb z 1).val = 256 * (k % 4) + (z 1).val := by simp
  show T k z = out x l (4 * b + ((wideR k).emb z 0).val / 64) (((wideR k).emb z 1).val / 256) (((wideR k).emb z 0).val % 64) (((wideR k).emb z 1).val % 256)
  rw [e0, e1]
  obtain ⟨r, e, rfl⟩ : ∃ (r : Fin 64) (e : Fin 256), z = ix2 r e := ⟨z 0, z 1, eq_ix2 (n0 := 64) (n1 := 256) z⟩
  refine (hT k hk r e).trans ?_
  show _ = out x l (4 * b + (64 * (k / 4 % 4) + r.val) / 64) ((256 * (k % 4) + e.val) / 256) ((64 * (k / 4 % 4) + r.val) % 64) ((256 * (k % 4) + e.val) % 256)
  congr 1 <;> omega

/-- What the block of saved states holds when piece `k` stores the tile `T k` of the states. -/
theorem canon_saved {x l : Arr} {b : ℕ} (T : ℕ → Vec Ideal S1x1x256x128 .f32)
    (hT : ∀ k < 16, ∀ (e : Fin 256) (a : Fin 128), T k (ix4 0 0 e a) = state x l (4 * b + k / 4) (k % 4) e.val a.val) (y : S4x4x256x128.Idx)
    (hc : ∃ p ∈ (List.range 16).reverse.map fun k => (⟨savedR k, T k⟩ : View.Piece (Elt Ideal) S4x4x256x128 .f32), y ∈ p.1.set) :
    View.canon ((List.range 16).reverse.map fun k => (⟨savedR k, T k⟩ : View.Piece (Elt Ideal) S4x4x256x128 .f32)) y
      = state x l (4 * b + (y 1).val) (y 0).val (y 2).val (y 3).val := by
  refine View.canon_apply_of_pieces (fun y => state x l (4 * b + (y 1).val) (y 0).val (y 2).val (y 3).val) _ ?_ y hc
  intro p hp z
  obtain ⟨k, hk, rfl⟩ := List.mem_map.mp hp
  have hk : k < 16 := by simpa using hk
  have h0 : (z 0).val < 1 := (z 0).isLt
  have h1 : (z 1).val < 1 := (z 1).isLt
  have e0 : ((savedR k).emb z 0).val = k % 4 + (z 0).val := by simp
  have e1 : ((savedR k).emb z 1).val = k / 4 % 4 + (z 1).val := by simp
  have e2 : ((savedR k).emb z 2).val = (z 2).val := by simp
  have e3 : ((savedR k).emb z 3).val = (z 3).val := by simp
  show T k z = state x l (4 * b + ((savedR k).emb z 1).val) ((savedR k).emb z 0).val ((savedR k).emb z 2).val ((savedR k).emb z 3).val
  rw [e0, e1, e2, e3]
  obtain ⟨e, a, rfl⟩ : ∃ (e : Fin 256) (a : Fin 128), z = ix4 (n0 := 1) (n1 := 1) 0 0 e a := by
    refine ⟨z 2, z 3, ?_⟩
    funext i; fin_cases i
    · exact Fin.ext (by simpa using h0)
    · exact Fin.ext (by simpa using h1)
    · rfl
    · rfl
  refine (hT k hk e a).trans ?_
  congr 1
  · show _ = 4 * b + (k / 4 % 4 + 0)
    omega

section
variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .f32) (harg5 : arg5.IsWhole) (arg6 : Memref sig .tc .vmem S256x1024 .f32) (harg6 : arg6.IsWhole) (arg7 : Memref sig .tc .vmem S4x4x256x128 .f32) (harg7 : arg7.IsWhole) (arg8 : Memref sig .tc .vmem S4x256x128 .f32) (harg8 : arg8.IsWhole)
  (x0 : Vec Ideal S256x512 .bf16) (x1 : Vec Ideal S256x512 .bf16) (x2 : Vec Ideal S256x1024 .bf16) (x3 : Vec Ideal S256x512 .f32) (xs0 : Vec Ideal S4x256x128 .f32)
  {x l : Arr} {b : ℕ}
  (hq : ∀ (i : Fin 256) (j : Fin 512), x0 (ix2 i j) = x (256 * b + i.val) j.val)
  (hk : ∀ (i : Fin 256) (j : Fin 512), x1 (ix2 i j) = x (256 * b + i.val) (512 + j.val))
  (hv : ∀ (i : Fin 256) (j : Fin 1024), x2 (ix2 i j) = x (256 * b + i.val) (1024 + j.val))
  (hl : ∀ (i : Fin 256) (j : Fin 512), x3 (ix2 i j) = l (256 * b + i.val) j.val)

include hq in
theorem tQ_apply (k : ℕ) (h : k < 16) (r : Fin 64) (a : Fin 128) :
    tQ arg2 harg2 x0 k (ix2 r a) = x (64 * (4 * b + k / 4) + r.val) (128 * (k % 4) + a.val) := by
  rw [tQ, tile_apply _ _ _ _ _ _ _ _ (by omega) (by omega), hq]
  congr 1 <;> dsimp only <;> omega

include hk in
theorem tK_apply (k : ℕ) (h : k < 16) (r : Fin 64) (a : Fin 128) :
    tK arg3 harg3 x1 k (ix2 r a) = key x (4 * b + k / 4) (k % 4) r.val a.val := by
  rw [tK, tile_apply _ _ _ _ _ _ _ _ (by omega) (by omega), hk]
  unfold key
  congr 1 <;> dsimp only <;> omega

include hv in
theorem tV_apply (k : ℕ) (h : k < 16) (r : Fin 64) (e : Fin 256) :
    tV arg4 harg4 x2 k (ix2 r e) = val x (4 * b + k / 4) (k % 4) r.val e.val := by
  rw [tV, tile_apply _ _ _ _ _ _ _ _ (by omega) (by omega), hv]
  unfold val
  congr 1 <;> dsimp only <;> omega

include hl in
theorem tL_apply (k : ℕ) (h : k < 16) (r : Fin 64) (a : Fin 128) :
    tL arg5 harg5 x3 k (ix2 r a) = l (64 * (4 * b + k / 4) + r.val) (128 * (k % 4) + a.val) := by
  rw [tL, tile_apply _ _ _ _ _ _ _ _ (by omega) (by omega), hl]
  congr 1 <;> dsimp only <;> omega

/-- A head's state before piece `k` of block `b`. -/
def IsState (x l : Arr) (b k : ℕ) (s : Vec Ideal S1x256x128 .f32) : Prop :=
  ∀ (e : Fin 256) (a : Fin 128), s (ix3 0 e a) = state x l (4 * b + k / 4) (k % 4) e.val a.val

include hk hv hl in
theorem step_isState (k : ℕ) (s : Vec Ideal S1x256x128 .f32) (h : k + 4 < 20) (hs : IsState x l b k s) :
    IsState x l b (k + 4) (step arg3 harg3 arg4 harg4 arg5 harg5 x1 x2 x3 k s) := by
  intro e a
  rw [step, newState_apply _ _ _ _ (tL_apply arg5 harg5 x3 hl k (by omega)) (tK_apply arg3 harg3 x1 hk k (by omega)) (tV_apply arg4 harg4 x2 hv k (by omega)) hs]
  congr 1 <;> omega

/-! ## A later block -/

theorem firstB_isState (hs : ∀ (h : Fin 4) (e : Fin 256) (a : Fin 128), xs0 (ix3 h e a) = state x l (4 * b) h.val e.val a.val)
    (k : ℕ) (h : k < 4) (L : Stores) : IsState x l b k (firstB arg8 harg8 xs0 k L) := by
  intro e a
  rw [firstB, View.readAt_eq_ld, harg8.read_unread]
  show xs0 ((headR k).toLoadRect.idx (ix3 0 e a)) = _
  rw [headR_idx, hs]
  congr 1 <;> omega

variable (hs : ∀ (h : Fin 4) (e : Fin 256) (a : Fin 128), xs0 (ix3 h e a) = state x l (4 * b) h.val e.val a.val)

include hk hv hl hs in
theorem readB_isState (k : ℕ) (h : k < 16) : IsState x l b k (readB arg3 harg3 arg4 harg4 arg5 harg5 arg8 harg8 x1 x2 x3 xs0 k) :=
  read_of_step arg8 _ _ _ (IsState x l b) (fun k hk => firstB_isState arg8 harg8 xs0 hs k hk _)
    (step_isState arg3 harg3 arg4 harg4 arg5 harg5 x1 x2 x3 hk hv hl) k h

include hq hk hv hl hs in
theorem out0_B_4_apply (hc0 : ¬ cond0_0 i) (y : S256x1024.Idx) :
    out0_B_4 c i arg2 harg2 arg3 harg3 arg4 harg4 arg5 harg5 arg6 harg6 arg7 harg7 arg8 harg8 hc0 x0 x1 x2 x3 xs0 y
      = out x l (4 * b + (y 0).val / 64) ((y 1).val / 256) ((y 0).val % 64) ((y 1).val % 256) := by
  have hc := cover0_B_4 (F := Ideal) c i arg2 harg2 arg3 harg3 arg4 harg4 arg5 harg5 arg6 harg6 arg7 harg7 arg8 harg8 hc0 x0 x1 x2 x3 xs0
  unfold out0_B_4
  rw [View.read_writes_eq_canon _ _ _ hc]
  rw [out_B] at hc ⊢
  exact canon_out _ (fun k h r e => outTile_apply _ _ _ _ _ (tL_apply arg5 harg5 x3 hl k h) (tQ_apply arg2 harg2 x0 hq k h)
    (tK_apply arg3 harg3 x1 hk k h) (tV_apply arg4 harg4 x2 hv k h)
    (readB_isState arg3 harg3 arg4 harg4 arg5 harg5 arg8 harg8 x1 x2 x3 xs0 hk hv hl hs k h) r e) y (hc y)

include hk hv hl hs in
theorem out0_B_5_apply (hc0 : ¬ cond0_0 i) (y : S4x4x256x128.Idx) :
    out0_B_5 c i arg2 harg2 arg3 harg3 arg4 harg4 arg5 harg5 arg6 harg6 arg7 harg7 arg8 harg8 hc0 x0 x1 x2 x3 xs0 y = state x l (4 * b + (y 1).val) (y 0).val (y 2).val (y 3).val := by
  have hc := cover0_B_5 (F := Ideal) c i arg2 harg2 arg3 harg3 arg4 harg4 arg5 harg5 arg6 harg6 arg7 harg7 arg8 harg8 hc0 x0 x1 x2 x3 xs0
  unfold out0_B_5
  rw [View.read_writes_eq_canon _ _ _ hc]
  rw [saved_B] at hc ⊢
  exact canon_saved _ (fun k h e a => (saved_apply _ e a).trans
    (readB_isState arg3 harg3 arg4 harg4 arg5 harg5 arg8 harg8 x1 x2 x3 xs0 hk hv hl hs k h e a)) y (hc y)

include hk hv hl hs in
theorem sout0_B_0_apply (hc0 : ¬ cond0_0 i) (h : Fin 4) (e : Fin 256) (a : Fin 128) :
    sout0_B_0 c i arg2 harg2 arg3 harg3 arg4 harg4 arg5 harg5 arg6 harg6 arg7 harg7 arg8 harg8 hc0 x0 x1 x2 x3 xs0 (ix3 h e a) = state x l (4 * (b + 1)) h.val e.val a.val := by
  have hc := scover0_B_0 (F := Ideal) c i arg2 harg2 arg3 harg3 arg4 harg4 arg5 harg5 arg6 harg6 arg7 harg7 arg8 harg8 hc0 x0 x1 x2 x3 xs0
  unfold sout0_B_0
  rw [View.read_writes_eq_canon _ _ _ hc, scratch_B]
  have hP := canon_stores arg8 (firstB arg8 harg8 xs0) (step arg3 harg3 arg4 harg4 arg5 harg5 x1 x2 x3) [] (IsState x l b) (fun k hk => firstB_isState arg8 harg8 xs0 hs k hk _)
    (step_isState arg3 harg3 arg4 harg4 arg5 harg5 x1 x2 x3 hk hv hl) h e a
  beta_reduce at hP
  rw [headR_idx_last, show 4 * b + (16 + h.val) / 4 = 4 * (b + 1) by omega, show (16 + h.val) % 4 = h.val by omega] at hP
  exact hP

/-! ## The first block -/

theorem firstA_isState (k : ℕ) (h : k < 4) : IsState x l 0 k (firstA arg8 k (storesA arg3 harg3 arg4 harg4 arg5 harg5 arg8 x1 x2 x3 k)) := by
  intro e a
  rw [firstA, storesA, first_fill _ _ _ _ k k (le_refl _) h]
  rw [show 4 * 0 + k / 4 = 0 by omega]
  pointwise [k0_pay1]
  rfl

section
variable (hb : b = 0)

include hk hv hl hb in
theorem readA_isState (k : ℕ) (h : k < 16) : IsState x l b k (readA arg3 harg3 arg4 harg4 arg5 harg5 arg8 x1 x2 x3 k) := by
  subst hb
  exact read_of_step arg8 _ _ _ (IsState x l 0) (firstA_isState arg3 harg3 arg4 harg4 arg5 harg5 arg8 x1 x2 x3)
    (step_isState arg3 harg3 arg4 harg4 arg5 harg5 x1 x2 x3 hk hv hl) k h

include hq hk hv hl hb in
theorem out0_A_4_apply (hc0 : cond0_0 i) (y : S256x1024.Idx) :
    out0_A_4 c i arg2 harg2 arg3 harg3 arg4 harg4 arg5 harg5 arg6 harg6 arg7 harg7 arg8 harg8 hc0 x0 x1 x2 x3 y
      = out x l (4 * b + (y 0).val / 64) ((y 1).val / 256) ((y 0).val % 64) ((y 1).val % 256) := by
  have hc := cover0_A_4 (F := Ideal) c i arg2 harg2 arg3 harg3 arg4 harg4 arg5 harg5 arg6 harg6 arg7 harg7 arg8 harg8 hc0 x0 x1 x2 x3
  unfold out0_A_4
  rw [View.read_writes_eq_canon _ _ _ hc]
  rw [out_A] at hc ⊢
  exact canon_out _ (fun k h r e => outTile_apply _ _ _ _ _ (tL_apply arg5 harg5 x3 hl k h) (tQ_apply arg2 harg2 x0 hq k h)
    (tK_apply arg3 harg3 x1 hk k h) (tV_apply arg4 harg4 x2 hv k h)
    (readA_isState arg3 harg3 arg4 harg4 arg5 harg5 arg8 x1 x2 x3 hk hv hl hb k h) r e) y (hc y)

include hk hv hl hb in
theorem out0_A_5_apply (hc0 : cond0_0 i) (y : S4x4x256x128.Idx) :
    out0_A_5 c i arg2 harg2 arg3 harg3 arg4 harg4 arg5 harg5 arg6 harg6 arg7 harg7 arg8 harg8 hc0 x0 x1 x2 x3 y = state x l (4 * b + (y 1).val) (y 0).val (y 2).val (y 3).val := by
  have hc := cover0_A_5 (F := Ideal) c i arg2 harg2 arg3 harg3 arg4 harg4 arg5 harg5 arg6 harg6 arg7 harg7 arg8 harg8 hc0 x0 x1 x2 x3
  unfold out0_A_5
  rw [View.read_writes_eq_canon _ _ _ hc]
  rw [saved_A] at hc ⊢
  exact canon_saved _ (fun k h e a => (saved_apply _ e a).trans
    (readA_isState arg3 harg3 arg4 harg4 arg5 harg5 arg8 x1 x2 x3 hk hv hl hb k h e a)) y (hc y)

include hk hv hl hb in
theorem sout0_A_0_apply (hc0 : cond0_0 i) (h : Fin 4) (e : Fin 256) (a : Fin 128) :
    sout0_A_0 c i arg2 harg2 arg3 harg3 arg4 harg4 arg5 harg5 arg6 harg6 arg7 harg7 arg8 harg8 hc0 x0 x1 x2 x3 (ix3 h e a) = state x l (4 * (b + 1)) h.val e.val a.val := by
  subst hb
  have hc := scover0_A_0 (F := Ideal) c i arg2 harg2 arg3 harg3 arg4 harg4 arg5 harg5 arg6 harg6 arg7 harg7 arg8 harg8 hc0 x0 x1 x2 x3
  unfold sout0_A_0
  rw [View.read_writes_eq_canon _ _ _ hc, scratch_A]
  have hP := canon_stores arg8 (firstA arg8) (step arg3 harg3 arg4 harg4 arg5 harg5 x1 x2 x3) [fill (k0_pay1 (F := Ideal))] (IsState x l 0)
    (firstA_isState arg3 harg3 arg4 harg4 arg5 harg5 arg8 x1 x2 x3)
    (step_isState arg3 harg3 arg4 harg4 arg5 harg5 x1 x2 x3 hk hv hl) h e a
  beta_reduce at hP
  rw [headR_idx_last, show 4 * 0 + (16 + h.val) / 4 = 4 * (0 + 1) by omega, show (16 + h.val) % 4 = h.val by omega] at hP
  exact hP

end
end
end Cert.KernelIdeal.R0

end
-- ==== Proof.FwdArr.lean ====
module
public import proofs.«01_k».proof.Proof.FwdEntry
@[expose] public section

/-!
# The forward call: what its two arrays end with
-/

namespace Cert.KernelIdeal.R0

open Cert.KernelIdeal Cert.KernelIdeal.Gen Cert.KernelIdeal.Piece Cert.Gla
open Idealize.ShloMosaic Idealize.ShloMosaic.TcCoe

variable (m : (ℓ : Loc nD τ sig) → Buf (Elt Ideal) ℓ) (c : Dev nD)

/-- The packed array on device `c`. -/
noncomputable abbrev xOf : Arr := arr (M := 4096) (N := 3072) (m ((c : Thread nD τ).loc main_arg0))

/-- The log gates on device `c`. -/
noncomputable abbrev lOf : Arr := arr (M := 4096) (N := 512) (m ((c : Thread nD τ).loc main_arg1))

/-- An entry of an array named by its two coordinates. -/
theorem arr_of {M N : ℕ} (f : (⟨2, ![M, N]⟩ : Shape).Idx → EReal) (y : (⟨2, ![M, N]⟩ : Shape).Idx) {i j : ℕ} (hi : (y 0).val = i) (hj : (y 1).val = j) :
    f y = arr f i j := by
  subst hi hj
  rw [arr, dif_pos ⟨(y 0).isLt, (y 1).isLt⟩]
  exact congrArg f (eq_ix2 y)

theorem index_0 : ∀ t : Fin cfg0.N, win0_0.index t (0 : Fin 2) = t.val ∧ win0_0.index t (1 : Fin 2) = 0 :=
  (by decide +kernel : ∀ t : Fin grid0.N, _)

theorem iblk_0 (t : Fin cfg0.N) (i : Fin 256) (j : Fin 512) :
    (iblk m c 0 t : Vec Ideal S256x512 .bf16) (ix2 i j) = xOf m c (256 * t.val + i.val) (j.val) := by
  refine arr_of _ (((cfg0.win 0).blk t).view.emb (ix2 i j)) ?_ ?_
  · show win0_0.index t (0 : Fin 2) * 256 + 1 * i.val = _
    rw [(index_0 t).1]; omega
  · show win0_0.index t (1 : Fin 2) * 512 + 1 * j.val = _
    rw [(index_0 t).2]; omega

theorem index_1 : ∀ t : Fin cfg0.N, win0_1.index t (0 : Fin 2) = t.val ∧ win0_1.index t (1 : Fin 2) = 1 :=
  (by decide +kernel : ∀ t : Fin grid0.N, _)

theorem iblk_1 (t : Fin cfg0.N) (i : Fin 256) (j : Fin 512) :
    (iblk m c 1 t : Vec Ideal S256x512 .bf16) (ix2 i j) = xOf m c (256 * t.val + i.val) (512 + j.val) := by
  refine arr_of _ (((cfg0.win 1).blk t).view.emb (ix2 i j)) ?_ ?_
  · show win0_1.index t (0 : Fin 2) * 256 + 1 * i.val = _
    rw [(index_1 t).1]; omega
  · show win0_1.index t (1 : Fin 2) * 512 + 1 * j.val = _
    rw [(index_1 t).2]; omega

theorem index_2 : ∀ t : Fin cfg0.N, win0_2.index t (0 : Fin 2) = t.val ∧ win0_2.index t (1 : Fin 2) = 1 :=
  (by decide +kernel : ∀ t : Fin grid0.N, _)

theorem iblk_2 (t : Fin cfg0.N) (i : Fin 256) (j : Fin 1024) :
    (iblk m c 2 t : Vec Ideal S256x1024 .bf16) (ix2 i j) = xOf m c (256 * t.val + i.val) (1024 + j.val) := by
  refine arr_of _ (((cfg0.win 2).blk t).view.emb (ix2 i j)) ?_ ?_
  · show win0_2.index t (0 : Fin 2) * 256 + 1 * i.val = _
    rw [(index_2 t).1]; omega
  · show win0_2.index t (1 : Fin 2) * 1024 + 1 * j.val = _
    rw [(index_2 t).2]; omega

theorem index_3 : ∀ t : Fin cfg0.N, win0_3.index t (0 : Fin 2) = t.val ∧ win0_3.index t (1 : Fin 2) = 0 :=
  (by decide +kernel : ∀ t : Fin grid0.N, _)

theorem iblk_3 (t : Fin cfg0.N) (i : Fin 256) (j : Fin 512) :
    (iblk m c 3 t : Vec Ideal S256x512 .f32) (ix2 i j) = lOf m c (256 * t.val + i.val) (j.val) := by
  refine arr_of _ (((cfg0.win 3).blk t).view.emb (ix2 i j)) ?_ ?_
  · show win0_3.index t (0 : Fin 2) * 256 + 1 * i.val = _
    rw [(index_3 t).1]; omega
  · show win0_3.index t (1 : Fin 2) * 512 + 1 * j.val = _
    rw [(index_3 t).2]; omega

/-- What the two output blocks and the scratch array hold after block `n`. -/
def Holds (n : ℕ) (p : Vec Ideal S256x1024 .f32 × Vec Ideal S4x4x256x128 .f32 × Vec Ideal S4x256x128 .f32) : Prop :=
  (∀ y : S256x1024.Idx, p.1 y = out (xOf m c) (lOf m c) (4 * n + (y 0).val / 64) ((y 1).val / 256) ((y 0).val % 64) ((y 1).val % 256))
  ∧ (∀ y : S4x4x256x128.Idx, p.2.1 y = state (xOf m c) (lOf m c) (4 * n + (y 1).val) (y 0).val (y 2).val (y 3).val)
  ∧ ∀ (h : Fin 4) (e : Fin 256) (a : Fin 128), p.2.2 (ix3 h e a) = state (xOf m c) (lOf m c) (4 * (n + 1)) h.val e.val a.val

theorem holds_first (t : Fin cfg0.N) (h0 : t.val % 16 = 0) (hb : t.val = 0) : Holds m c t.val (outsAt0 m c t.val t.isLt) := by
  rw [outsAt0_A m c t h0]
  unfold Holds
  dsimp only
  refine ⟨?_, ?_, ?_⟩
  · exact out0_A_4_apply (x := xOf m c) (l := lOf m c) (b := t.val) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk_0 m c t) (iblk_1 m c t) (iblk_2 m c t) (iblk_3 m c t) hb ((hcond0_0 t).mpr h0)
  · exact out0_A_5_apply (x := xOf m c) (l := lOf m c) (b := t.val) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk_1 m c t) (iblk_2 m c t) (iblk_3 m c t) hb ((hcond0_0 t).mpr h0)
  · exact sout0_A_0_apply (x := xOf m c) (l := lOf m c) (b := t.val) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk_1 m c t) (iblk_2 m c t) (iblk_3 m c t) hb ((hcond0_0 t).mpr h0)

theorem holds_later (t : Fin cfg0.N) (h0 : ¬ t.val % 16 = 0)
    (ih : Holds m c (t.val - 1) (outsAt0 m c (t.val - 1) (Nat.lt_of_le_of_lt (Nat.sub_le t.val 1) t.isLt))) :
    Holds m c t.val (outsAt0 m c t.val t.isLt) := by
  rw [outsAt0_B m c t h0]
  have hs := ih.2.2
  rw [show t.val - 1 + 1 = t.val by omega] at hs
  unfold Holds
  dsimp only
  refine ⟨?_, ?_, ?_⟩
  · exact out0_B_4_apply (x := xOf m c) (l := lOf m c) (b := t.val) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) _).2.2 (iblk_0 m c t) (iblk_1 m c t) (iblk_2 m c t) (iblk_3 m c t) hs (fun h => h0 ((hcond0_0 t).mp h))
  · exact out0_B_5_apply (x := xOf m c) (l := lOf m c) (b := t.val) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) _).2.2 (iblk_1 m c t) (iblk_2 m c t) (iblk_3 m c t) hs (fun h => h0 ((hcond0_0 t).mp h))
  · exact sout0_B_0_apply (x := xOf m c) (l := lOf m c) (b := t.val) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) _).2.2 (iblk_1 m c t) (iblk_2 m c t) (iblk_3 m c t) hs (fun h => h0 ((hcond0_0 t).mp h))

theorem holds (n : ℕ) (hn : n < cfg0.N) : Holds m c n (outsAt0 m c n hn) := by
  induction n with
  | zero => exact holds_first m c ⟨0, hn⟩ (Nat.zero_mod _) rfl
  | succ n ih =>
    have hN : n + 1 < 16 := lt_of_lt_of_eq hn (show cfg0.N = 16 from N_0)
    exact holds_later m c ⟨n + 1, hn⟩ (by dsimp only; omega) (ih _)

/-! ## The output -/

/-- The whole output. -/
noncomputable def outArr : Vec Ideal S4096x1024 .f32 := fun y => out (xOf m c) (lOf m c) ((y 0).val / 64) ((y 1).val / 256) ((y 0).val % 64) ((y 1).val % 256)

theorem index_4 : ∀ t : Fin cfg0.N, win0_4.index t (0 : Fin 2) = t.val ∧ win0_4.index t (1 : Fin 2) = 0 :=
  (by decide +kernel : ∀ t : Fin grid0.N, _)

theorem flushed_4 (t : Fin cfg0.N) : (dat m c).flushed 4 t = ((cfg0.win 4).blk t).view.read (Elt Ideal) (outArr m c) := by
  show (cfg0.win 4).cut (grid0.coords t) ((dat m c).after 4 t) = _
  rw [after0_4]
  funext y
  have h0 : (y 0).val < 256 := (y 0).isLt
  have h1 : (y 1).val < 1024 := (y 1).isLt
  have e0 : (((cfg0.win 4).blk t).view.emb y 0).val = 256 * t.val + (y 0).val := by
    show win0_4.index t (0 : Fin 2) * 256 + 1 * (y 0).val = _
    rw [(index_4 t).1]; omega
  have e1 : (((cfg0.win 4).blk t).view.emb y 1).val = (y 1).val := by
    show win0_4.index t (1 : Fin 2) * 1024 + 1 * (y 1).val = _
    rw [(index_4 t).2]; omega
  refine ((holds m c t.val t.isLt).1 ((cfg0.win 4).xinj (grid0.coords t) y)).trans ?_
  show _ = out (xOf m c) (lOf m c) ((((cfg0.win 4).blk t).view.emb y 0).val / 64) ((((cfg0.win 4).blk t).view.emb y 1).val / 256) ((((cfg0.win 4).blk t).view.emb y 0).val % 64) ((((cfg0.win 4).blk t).view.emb y 1).val % 256)
  rw [e0, e1]
  show out (xOf m c) (lOf m c) (4 * t.val + (y 0).val / 64) ((y 1).val / 256) ((y 0).val % 64) ((y 1).val % 256) = _
  congr 1 <;> omega

theorem mem_blk_4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v0_0).slice (win0_4.rect t)).set ↔ _
  rw [View.set_slice_whole, Rect.mem_set_unit]
  exact Iff.rfl

theorem flush_4 : ∀ t : Fin cfg0.N, (cfg0.win 4).flush t = true := (by decide +kernel : ∀ t : Fin grid0.N, win0_4.flush t = true)

/-- The output array ends with the whole output. -/
theorem final_4 : (dat m c).arrAt 4 cfg0.N = outArr m c :=
  (dat m c).arrAt_eq_of_cover 4 _ (fun t _ => flushed_4 m c t) fun i => by
    have h0 : (i 0).val < 4096 := (i 0).isLt
    have h1 : (i 1).val < 1024 := (i 1).isLt
    refine ⟨⟨(i 0).val / 256, lt_of_lt_of_eq (by omega) N_0.symm⟩, flush_4 _, ?_⟩
    rw [mem_blk_4]
    intro a
    fin_cases a
    · show win0_4.index _ (0 : Fin 2) * 256 ≤ (i 0).val ∧ (i 0).val < win0_4.index _ (0 : Fin 2) * 256 + 256
      rw [(index_4 _).1]; dsimp only; omega
    · show win0_4.index _ (1 : Fin 2) * 1024 ≤ (i 1).val ∧ (i 1).val < win0_4.index _ (1 : Fin 2) * 1024 + 1024
      rw [(index_4 _).2]; omega

/-! ## The saved states -/

/-- The states before all chunks. -/
noncomputable def savedArr : Vec Ideal S4x64x256x128 .f32 := fun y => state (xOf m c) (lOf m c) (y 1).val (y 0).val (y 2).val (y 3).val

theorem index_5 : ∀ t : Fin cfg0.N, win0_5.index t (0 : Fin 4) = 0 ∧ win0_5.index t (1 : Fin 4) = t.val
    ∧ win0_5.index t (2 : Fin 4) = 0 ∧ win0_5.index t (3 : Fin 4) = 0 :=
  (by decide +kernel : ∀ t : Fin grid0.N, _)

theorem flushed_5 (t : Fin cfg0.N) : (dat m c).flushed 5 t = ((cfg0.win 5).blk t).view.read (Elt Ideal) (savedArr m c) := by
  show (cfg0.win 5).cut (grid0.coords t) ((dat m c).after 5 t) = _
  rw [after0_5]
  funext y
  have e0 : (((cfg0.win 5).blk t).view.emb y 0).val = (y 0).val := by
    show win0_5.index t (0 : Fin 4) * 4 + 1 * (y 0).val = _
    rw [(index_5 t).1]; omega
  have e1 : (((cfg0.win 5).blk t).view.emb y 1).val = 4 * t.val + (y 1).val := by
    show win0_5.index t (1 : Fin 4) * 4 + 1 * (y 1).val = _
    rw [(index_5 t).2.1]; omega
  have e2 : (((cfg0.win 5).blk t).view.emb y 2).val = (y 2).val := by
    show win0_5.index t (2 : Fin 4) * 256 + 1 * (y 2).val = _
    rw [(index_5 t).2.2.1]; omega
  have e3 : (((cfg0.win 5).blk t).view.emb y 3).val = (y 3).val := by
    show win0_5.index t (3 : Fin 4) * 128 + 1 * (y 3).val = _
    rw [(index_5 t).2.2.2]; omega
  refine ((holds m c t.val t.isLt).2.1 ((cfg0.win 5).xinj (grid0.coords t) y)).trans ?_
  show _ = state (xOf m c) (lOf m c) (((cfg0.win 5).blk t).view.emb y 1).val (((cfg0.win 5).blk t).view.emb y 0).val (((cfg0.win 5).blk t).view.emb y 2).val (((cfg0.win 5).blk t).view.emb y 3).val
  rw [e0, e1, e2, e3]

theorem mem_blk_5 (t : Fin cfg0.N) (i : S4x64x256x128.Idx) :
    i ∈ ((cfg0.win 5).blk t).view.set ↔ ∀ a : Fin 4, win0_5.index t a * S4x4x256x128.size a ≤ (i a).val ∧ (i a).val < win0_5.index t a * S4x4x256x128.size a + S4x4x256x128.size a := by
  show i ∈ ((View.whole main_v0_1).slice (win0_5.rect t)).set ↔ _
  rw [View.set_slice_whole, Rect.mem_set_unit]
  exact Iff.rfl

theorem flush_5 : ∀ t : Fin cfg0.N, (cfg0.win 5).flush t = true := (by decide +kernel : ∀ t : Fin grid0.N, win0_5.flush t = true)

/-- The array of saved states ends with the states before all chunks. -/
theorem final_5 : (dat m c).arrAt 5 cfg0.N = savedArr m c :=
  (dat m c).arrAt_eq_of_cover 5 _ (fun t _ => flushed_5 m c t) fun i => by
    have h0 : (i 0).val < 4 := (i 0).isLt
    have h1 : (i 1).val < 64 := (i 1).isLt
    have h2 : (i 2).val < 256 := (i 2).isLt
    have h3 : (i 3).val < 128 := (i 3).isLt
    refine ⟨⟨(i 1).val / 4, lt_of_lt_of_eq (by omega) N_0.symm⟩, flush_5 _, ?_⟩
    rw [mem_blk_5]
    intro a
    fin_cases a
    · show win0_5.index _ (0 : Fin 4) * 4 ≤ (i 0).val ∧ (i 0).val < win0_5.index _ (0 : Fin 4) * 4 + 4
      rw [(index_5 _).1]; omega
    · show win0_5.index _ (1 : Fin 4) * 4 ≤ (i 1).val ∧ (i 1).val < win0_5.index _ (1 : Fin 4) * 4 + 4
      rw [(index_5 _).2.1]; dsimp only; omega
    · show win0_5.index _ (2 : Fin 4) * 256 ≤ (i 2).val ∧ (i 2).val < win0_5.index _ (2 : Fin 4) * 256 + 256
      rw [(index_5 _).2.2.1]; omega
    · show win0_5.index _ (3 : Fin 4) * 128 ≤ (i 3).val ∧ (i 3).val < win0_5.index _ (3 : Fin 4) * 128 + 128
      rw [(index_5 _).2.2.2]; omega

end Cert.KernelIdeal.R0

end
-- ==== Proof.BwdArr.lean ====
module
public import proofs.«01_k».proof.Proof.BwdEntry
public import proofs.«01_k».proof.Proof.FwdArr
@[expose] public section

/-!
# The backward call: what its four arrays end with

The call is entered with a memory whose array of saved states holds the states before all chunks.
-/

namespace Cert.KernelIdeal.R1

open Cert.KernelIdeal Cert.KernelIdeal.Gen Cert.KernelIdeal.Piece Cert.Gla
open Cert.KernelIdeal.R0 (xOf lOf arr_of)
open Idealize.ShloMosaic Idealize.ShloMosaic.TcCoe

variable (m : (ℓ : Loc nD τ sig) → Buf (Elt Ideal) ℓ) (c : Dev nD)

/-- The output's gradient on device `c`. -/
noncomputable abbrev dOf : Arr := arr (M := 4096) (N := 1024) (m ((c : Thread nD τ).loc main_arg2))

theorem lt_16 (t : Fin cfg1.N) : t.val < 16 := lt_of_lt_of_eq t.isLt (show cfg1.N = 16 from N_1)

theorem index_0 : ∀ t : Fin cfg1.N, win1_0.index t (0 : Fin 2) = 15 - t.val ∧ win1_0.index t (1 : Fin 2) = 0 :=
  (by decide +kernel : ∀ t : Fin grid1.N, _)

theorem iblk_0 (t : Fin cfg1.N) (i : Fin 256) (j : Fin 512) :
    (iblk m c 0 t : Vec Ideal S256x512 .bf16) (ix2 i j) = xOf m c (256 * (15 - t.val) + i.val) (j.val) := by
  refine arr_of _ (((cfg1.win 0).blk t).view.emb (ix2 i j)) ?_ ?_
  · show win1_0.index t (0 : Fin 2) * 256 + 1 * i.val = _
    rw [(index_0 t).1]; omega
  · show win1_0.index t (1 : Fin 2) * 512 + 1 * j.val = _
    rw [(index_0 t).2]; omega

theorem index_1 : ∀ t : Fin cfg1.N, win1_1.index t (0 : Fin 2) = 15 - t.val ∧ win1_1.index t (1 : Fin 2) = 1 :=
  (by decide +kernel : ∀ t : Fin grid1.N, _)

theorem iblk_1 (t : Fin cfg1.N) (i : Fin 256) (j : Fin 512) :
    (iblk m c 1 t : Vec Ideal S256x512 .bf16) (ix2 i j) = xOf m c (256 * (15 - t.val) + i.val) (512 + j.val) := by
  refine arr_of _ (((cfg1.win 1).blk t).view.emb (ix2 i j)) ?_ ?_
  · show win1_1.index t (0 : Fin 2) * 256 + 1 * i.val = _
    rw [(index_1 t).1]; omega
  · show win1_1.index t (1 : Fin 2) * 512 + 1 * j.val = _
    rw [(index_1 t).2]; omega

theorem index_2 : ∀ t : Fin cfg1.N, win1_2.index t (0 : Fin 2) = 15 - t.val ∧ win1_2.index t (1 : Fin 2) = 1 :=
  (by decide +kernel : ∀ t : Fin grid1.N, _)

theorem iblk_2 (t : Fin cfg1.N) (i : Fin 256) (j : Fin 1024) :
    (iblk m c 2 t : Vec Ideal S256x1024 .bf16) (ix2 i j) = xOf m c (256 * (15 - t.val) + i.val) (1024 + j.val) := by
  refine arr_of _ (((cfg1.win 2).blk t).view.emb (ix2 i j)) ?_ ?_
  · show win1_2.index t (0 : Fin 2) * 256 + 1 * i.val = _
    rw [(index_2 t).1]; omega
  · show win1_2.index t (1 : Fin 2) * 1024 + 1 * j.val = _
    rw [(index_2 t).2]; omega

theorem index_3 : ∀ t : Fin cfg1.N, win1_3.index t (0 : Fin 2) = 15 - t.val ∧ win1_3.index t (1 : Fin 2) = 0 :=
  (by decide +kernel : ∀ t : Fin grid1.N, _)

theorem iblk_3 (t : Fin cfg1.N) (i : Fin 256) (j : Fin 512) :
    (iblk m c 3 t : Vec Ideal S256x512 .f32) (ix2 i j) = lOf m c (256 * (15 - t.val) + i.val) (j.val) := by
  refine arr_of _ (((cfg1.win 3).blk t).view.emb (ix2 i j)) ?_ ?_
  · show win1_3.index t (0 : Fin 2) * 256 + 1 * i.val = _
    rw [(index_3 t).1]; omega
  · show win1_3.index t (1 : Fin 2) * 512 + 1 * j.val = _
    rw [(index_3 t).2]; omega

theorem index_5 : ∀ t : Fin cfg1.N, win1_5.index t (0 : Fin 2) = 15 - t.val ∧ win1_5.index t (1 : Fin 2) = 0 :=
  (by decide +kernel : ∀ t : Fin grid1.N, _)

theorem iblk_5 (t : Fin cfg1.N) (i : Fin 256) (j : Fin 1024) :
    (iblk m c 5 t : Vec Ideal S256x1024 .f32) (ix2 i j) = dOf m c (256 * (15 - t.val) + i.val) (j.val) := by
  refine arr_of _ (((cfg1.win 5).blk t).view.emb (ix2 i j)) ?_ ?_
  · show win1_5.index t (0 : Fin 2) * 256 + 1 * i.val = _
    rw [(index_5 t).1]; omega
  · show win1_5.index t (1 : Fin 2) * 1024 + 1 * j.val = _
    rw [(index_5 t).2]; omega

theorem index_4 : ∀ t : Fin cfg1.N, win1_4.index t (0 : Fin 4) = 0 ∧ win1_4.index t (1 : Fin 4) = 15 - t.val
    ∧ win1_4.index t (2 : Fin 4) = 0 ∧ win1_4.index t (3 : Fin 4) = 0 :=
  (by decide +kernel : ∀ t : Fin grid1.N, _)

variable (hsp : ∀ y : S4x64x256x128.Idx,
  (m ((c : Thread nD τ).loc main_v0_1) : Vec Ideal S4x64x256x128 .f32) y = state (xOf m c) (lOf m c) (y 1).val (y 0).val (y 2).val (y 3).val)

include hsp in
theorem iblk_4 (t : Fin cfg1.N) (h n : Fin 4) (e : Fin 256) (a : Fin 128) :
    (iblk m c 4 t : Vec Ideal S4x4x256x128 .f32) (ix4 h n e a) = state (xOf m c) (lOf m c) (4 * (15 - t.val) + n.val) h.val e.val a.val := by
  have e0 : (((cfg1.win 4).blk t).view.emb (ix4 h n e a) 0).val = h.val := by
    show win1_4.index t (0 : Fin 4) * 4 + 1 * h.val = _
    rw [(index_4 t).1]; omega
  have e1 : (((cfg1.win 4).blk t).view.emb (ix4 h n e a) 1).val = 4 * (15 - t.val) + n.val := by
    show win1_4.index t (1 : Fin 4) * 4 + 1 * n.val = _
    rw [(index_4 t).2.1]; omega
  have e2 : (((cfg1.win 4).blk t).view.emb (ix4 h n e a) 2).val = e.val := by
    show win1_4.index t (2 : Fin 4) * 256 + 1 * e.val = _
    rw [(index_4 t).2.2.1]; omega
  have e3 : (((cfg1.win 4).blk t).view.emb (ix4 h n e a) 3).val = a.val := by
    show win1_4.index t (3 : Fin 4) * 128 + 1 * a.val = _
    rw [(index_4 t).2.2.2]; omega
  refine (hsp (((cfg1.win 4).blk t).view.emb (ix4 h n e a))).trans ?_
  rw [e0, e1, e2, e3]

/-- A block of the gradient `G`: block `b` of a narrow array. -/
def Narrow (G : ℕ → ℕ → ℕ → ℕ → EReal) (b : ℕ) (p : S256x512.Idx → EReal) : Prop :=
  ∀ y : S256x512.Idx, p y = G (4 * b + (y 0).val / 64) ((y 1).val / 128) ((y 0).val % 64) ((y 1).val % 128)

/-- A block of the gradient `G`: block `b` of a wide array. -/
def Wide (G : ℕ → ℕ → ℕ → ℕ → EReal) (b : ℕ) (p : S256x1024.Idx → EReal) : Prop :=
  ∀ y : S256x1024.Idx, p y = G (4 * b + (y 0).val / 64) ((y 1).val / 256) ((y 0).val % 64) ((y 1).val % 256)

/-- What the four output blocks and the scratch array hold after step `t`. -/
def Holds (t : ℕ) (p : Vec Ideal S256x512 .bf16 × Vec Ideal S256x512 .bf16 × Vec Ideal S256x1024 .bf16 × Vec Ideal S256x512 .f32 × Vec Ideal S4x256x128 .f32) : Prop :=
  Narrow (dq (xOf m c) (lOf m c) (dOf m c)) (15 - t) p.1
  ∧ Narrow (dk (xOf m c) (lOf m c) (dOf m c)) (15 - t) p.2.1
  ∧ Wide (dv (xOf m c) (lOf m c) (dOf m c)) (15 - t) p.2.2.1
  ∧ Narrow (dla (xOf m c) (lOf m c) (dOf m c)) (15 - t) p.2.2.2.1
  ∧ ∀ (h : Fin 4) (e : Fin 256) (a : Fin 128), p.2.2.2.2 (ix3 h e a) = carry (xOf m c) (lOf m c) (dOf m c) (4 * (t + 1)) h.val e.val a.val

include hsp in
theorem holds_first (t : Fin cfg1.N) (h0 : t.val % 16 = 0) (hb : t.val = 0) : Holds m c t.val (outsAt0 m c t.val t.isLt) := by
  have h16 := lt_16 t
  rw [outsAt0_A m c t h0]
  unfold Holds Narrow Wide
  dsimp only
  refine ⟨?_, ?_, ?_, ?_, ?_⟩
  · exact out0_A_6_apply (x := xOf m c) (l := lOf m c) (d := dOf m c) (b := 15 - t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk_1 m c t) (iblk_2 m c t) (iblk_3 m c t) (iblk_4 m c hsp t) (iblk_5 m c t) ((hcond0_0 t).mpr h0)
  · exact out0_A_7_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (show 15 - t.val + t.val = 15 by omega) (iblk_0 m c t) (iblk_2 m c t) (iblk_3 m c t) (iblk_5 m c t) hb ((hcond0_0 t).mpr h0)
  · exact out0_A_8_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (show 15 - t.val + t.val = 15 by omega) (iblk_0 m c t) (iblk_1 m c t) (iblk_3 m c t) (iblk_5 m c t) hb ((hcond0_0 t).mpr h0)
  · exact out0_A_9_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (show 15 - t.val + t.val = 15 by omega) (iblk_0 m c t) (iblk_1 m c t) (iblk_2 m c t) (iblk_3 m c t) (iblk_4 m c hsp t) (iblk_5 m c t) hb ((hcond0_0 t).mpr h0)
  · exact sout0_A_0_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (show 15 - t.val + t.val = 15 by omega) (iblk_0 m c t) (iblk_3 m c t) (iblk_5 m c t) hb ((hcond0_0 t).mpr h0)

include hsp in
theorem holds_later (t : Fin cfg1.N) (h0 : ¬ t.val % 16 = 0)
    (ih : Holds m c (t.val - 1) (outsAt0 m c (t.val - 1) (Nat.lt_of_le_of_lt (Nat.sub_le t.val 1) t.isLt))) :
    Holds m c t.val (outsAt0 m c t.val t.isLt) := by
  have h16 := lt_16 t
  rw [outsAt0_B m c t h0]
  have hs := ih.2.2.2.2
  rw [show t.val - 1 + 1 = t.val by omega] at hs
  unfold Holds Narrow Wide
  dsimp only
  refine ⟨?_, ?_, ?_, ?_, ?_⟩
  · exact out0_B_6_apply (x := xOf m c) (l := lOf m c) (d := dOf m c) (b := 15 - t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) _).2.2.2.2 (iblk_1 m c t) (iblk_2 m c t) (iblk_3 m c t) (iblk_4 m c hsp t) (iblk_5 m c t) (fun h => h0 ((hcond0_0 t).mp h))
  · exact out0_B_7_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) _).2.2.2.2 (show 15 - t.val + t.val = 15 by omega) (iblk_0 m c t) (iblk_2 m c t) (iblk_3 m c t) (iblk_5 m c t) hs (fun h => h0 ((hcond0_0 t).mp h))
  · exact out0_B_8_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) _).2.2.2.2 (show 15 - t.val + t.val = 15 by omega) (iblk_0 m c t) (iblk_1 m c t) (iblk_3 m c t) (iblk_5 m c t) hs (fun h => h0 ((hcond0_0 t).mp h))
  · exact out0_B_9_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) _).2.2.2.2 (show 15 - t.val + t.val = 15 by omega) (iblk_0 m c t) (iblk_1 m c t) (iblk_2 m c t) (iblk_3 m c t) (iblk_4 m c hsp t) (iblk_5 m c t) hs (fun h => h0 ((hcond0_0 t).mp h))
  · exact sout0_B_0_apply (x := xOf m c) (l := lOf m c) (d := dOf m c) (b := 15 - t.val) (t := t.val) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) _).2.2.2.2 (show 15 - t.val + t.val = 15 by omega) (iblk_0 m c t) (iblk_3 m c t) (iblk_5 m c t) hs (fun h => h0 ((hcond0_0 t).mp h))

include hsp in
theorem holds (n : ℕ) (hn : n < cfg1.N) : Holds m c n (outsAt0 m c n hn) := by
  induction n with
  | zero => exact holds_first m c hsp ⟨0, hn⟩ (Nat.zero_mod _) rfl
  | succ n ih =>
    have hN : n + 1 < 16 := lt_of_lt_of_eq hn (show cfg1.N = 16 from N_1)
    exact holds_later m c hsp ⟨n + 1, hn⟩ (by dsimp only; omega) (ih _)

/-- A whole narrow array holding the gradient `G`. -/
noncomputable def narrowArr (G : ℕ → ℕ → ℕ → ℕ → EReal) : S4096x512.Idx → EReal :=
  fun y => G ((y 0).val / 64) ((y 1).val / 128) ((y 0).val % 64) ((y 1).val % 128)

/-- A whole wide array holding the gradient `G`. -/
noncomputable def wideArr (G : ℕ → ℕ → ℕ → ℕ → EReal) : S4096x1024.Idx → EReal :=
  fun y => G ((y 0).val / 64) ((y 1).val / 256) ((y 0).val % 64) ((y 1).val % 256)

/-! ## Array 1 of 4 -/

theorem index_6 : ∀ t : Fin cfg1.N, win1_6.index t (0 : Fin 2) = 15 - t.val ∧ win1_6.index t (1 : Fin 2) = 0 :=
  (by decide +kernel : ∀ t : Fin grid1.N, _)

theorem emb_6 (t : Fin cfg1.N) (y : S256x512.Idx) : (((cfg1.win 6).blk t).view.emb y 0).val = 256 * (15 - t.val) + (y 0).val
    ∧ (((cfg1.win 6).blk t).view.emb y 1).val = (y 1).val := by
  constructor
  · show win1_6.index t (0 : Fin 2) * 256 + 1 * (y 0).val = _
    rw [(index_6 t).1]; omega
  · show win1_6.index t (1 : Fin 2) * 512 + 1 * (y 1).val = _
    rw [(index_6 t).2]; omega

include hsp in
theorem flushed_6 (t : Fin cfg1.N) : (dat m c).flushed 6 t = ((cfg1.win 6).blk t).view.read (Elt Ideal) (narrowArr (dq (xOf m c) (lOf m c) (dOf m c))) := by
  show (cfg1.win 6).cut (grid1.coords t) ((dat m c).after 6 t) = _
  rw [after0_6]
  funext y
  have h0 : (y 0).val < 256 := (y 0).isLt
  have h1 : (y 1).val < 512 := (y 1).isLt
  refine ((holds m c hsp t.val t.isLt).1 ((cfg1.win 6).xinj (grid1.coords t) y)).trans ?_
  show _ = dq (xOf m c) (lOf m c) (dOf m c) ((((cfg1.win 6).blk t).view.emb y 0).val / 64) ((((cfg1.win 6).blk t).view.emb y 1).val / 128) ((((cfg1.win 6).blk t).view.emb y 0).val % 64) ((((cfg1.win 6).blk t).view.emb y 1).val % 128)
  rw [(emb_6 t y).1, (emb_6 t y).2]
  show dq (xOf m c) (lOf m c) (dOf m c) (4 * (15 - t.val) + (y 0).val / 64) ((y 1).val / 128) ((y 0).val % 64) ((y 1).val % 128) = _
  congr 1 <;> omega

theorem mem_blk_6 (t : Fin cfg1.N) (i : S4096x512.Idx) :
    i ∈ ((cfg1.win 6).blk t).view.set ↔ ∀ a : Fin 2, win1_6.index t a * S256x512.size a ≤ (i a).val ∧ (i a).val < win1_6.index t a * S256x512.size a + S256x512.size a := by
  show i ∈ ((View.whole main_v1_0).slice (win1_6.rect t)).set ↔ _
  rw [View.set_slice_whole, Rect.mem_set_unit]
  exact Iff.rfl

theorem flush_6 : ∀ t : Fin cfg1.N, (cfg1.win 6).flush t = true := (by decide +kernel : ∀ t : Fin grid1.N, win1_6.flush t = true)

include hsp in
theorem final_6 : (dat m c).arrAt 6 cfg1.N = narrowArr (dq (xOf m c) (lOf m c) (dOf m c)) :=
  (dat m c).arrAt_eq_of_cover 6 _ (fun t _ => flushed_6 m c hsp t) fun i => by
    have h0 : (i 0).val < 4096 := (i 0).isLt
    have h1 : (i 1).val < 512 := (i 1).isLt
    refine ⟨⟨15 - (i 0).val / 256, lt_of_lt_of_eq (by omega) N_1.symm⟩, flush_6 _, ?_⟩
    rw [mem_blk_6]
    intro a
    fin_cases a
    · show win1_6.index _ (0 : Fin 2) * 256 ≤ (i 0).val ∧ (i 0).val < win1_6.index _ (0 : Fin 2) * 256 + 256
      rw [(index_6 _).1]; dsimp only; omega
    · show win1_6.index _ (1 : Fin 2) * 512 ≤ (i 1).val ∧ (i 1).val < win1_6.index _ (1 : Fin 2) * 512 + 512
      rw [(index_6 _).2]; omega

/-! ## Array 2 of 4 -/

theorem index_7 : ∀ t : Fin cfg1.N, win1_7.index t (0 : Fin 2) = 15 - t.val ∧ win1_7.index t (1 : Fin 2) = 0 :=
  (by decide +kernel : ∀ t : Fin grid1.N, _)

theorem emb_7 (t : Fin cfg1.N) (y : S256x512.Idx) : (((cfg1.win 7).blk t).view.emb y 0).val = 256 * (15 - t.val) + (y 0).val
    ∧ (((cfg1.win 7).blk t).view.emb y 1).val = (y 1).val := by
  constructor
  · show win1_7.index t (0 : Fin 2) * 256 + 1 * (y 0).val = _
    rw [(index_7 t).1]; omega
  · show win1_7.index t (1 : Fin 2) * 512 + 1 * (y 1).val = _
    rw [(index_7 t).2]; omega

include hsp in
theorem flushed_7 (t : Fin cfg1.N) : (dat m c).flushed 7 t = ((cfg1.win 7).blk t).view.read (Elt Ideal) (narrowArr (dk (xOf m c) (lOf m c) (dOf m c))) := by
  show (cfg1.win 7).cut (grid1.coords t) ((dat m c).after 7 t) = _
  rw [after0_7]
  funext y
  have h0 : (y 0).val < 256 := (y 0).isLt
  have h1 : (y 1).val < 512 := (y 1).isLt
  refine ((holds m c hsp t.val t.isLt).2.1 ((cfg1.win 7).xinj (grid1.coords t) y)).trans ?_
  show _ = dk (xOf m c) (lOf m c) (dOf m c) ((((cfg1.win 7).blk t).view.emb y 0).val / 64) ((((cfg1.win 7).blk t).view.emb y 1).val / 128) ((((cfg1.win 7).blk t).view.emb y 0).val % 64) ((((cfg1.win 7).blk t).view.emb y 1).val % 128)
  rw [(emb_7 t y).1, (emb_7 t y).2]
  show dk (xOf m c) (lOf m c) (dOf m c) (4 * (15 - t.val) + (y 0).val / 64) ((y 1).val / 128) ((y 0).val % 64) ((y 1).val % 128) = _
  congr 1 <;> omega

theorem mem_blk_7 (t : Fin cfg1.N) (i : S4096x512.Idx) :
    i ∈ ((cfg1.win 7).blk t).view.set ↔ ∀ a : Fin 2, win1_7.index t a * S256x512.size a ≤ (i a).val ∧ (i a).val < win1_7.index t a * S256x512.size a + S256x512.size a := by
  show i ∈ ((View.whole main_v1_1).slice (win1_7.rect t)).set ↔ _
  rw [View.set_slice_whole, Rect.mem_set_unit]
  exact Iff.rfl

theorem flush_7 : ∀ t : Fin cfg1.N, (cfg1.win 7).flush t = true := (by decide +kernel : ∀ t : Fin grid1.N, win1_7.flush t = true)

include hsp in
theorem final_7 : (dat m c).arrAt 7 cfg1.N = narrowArr (dk (xOf m c) (lOf m c) (dOf m c)) :=
  (dat m c).arrAt_eq_of_cover 7 _ (fun t _ => flushed_7 m c hsp t) fun i => by
    have h0 : (i 0).val < 4096 := (i 0).isLt
    have h1 : (i 1).val < 512 := (i 1).isLt
    refine ⟨⟨15 - (i 0).val / 256, lt_of_lt_of_eq (by omega) N_1.symm⟩, flush_7 _, ?_⟩
    rw [mem_blk_7]
    intro a
    fin_cases a
    · show win1_7.index _ (0 : Fin 2) * 256 ≤ (i 0).val ∧ (i 0).val < win1_7.index _ (0 : Fin 2) * 256 + 256
      rw [(index_7 _).1]; dsimp only; omega
    · show win1_7.index _ (1 : Fin 2) * 512 ≤ (i 1).val ∧ (i 1).val < win1_7.index _ (1 : Fin 2) * 512 + 512
      rw [(index_7 _).2]; omega

/-! ## Array 3 of 4 -/

theorem index_8 : ∀ t : Fin cfg1.N, win1_8.index t (0 : Fin 2) = 15 - t.val ∧ win1_8.index t (1 : Fin 2) = 0 :=
  (by decide +kernel : ∀ t : Fin grid1.N, _)

theorem emb_8 (t : Fin cfg1.N) (y : S256x1024.Idx) : (((cfg1.win 8).blk t).view.emb y 0).val = 256 * (15 - t.val) + (y 0).val
    ∧ (((cfg1.win 8).blk t).view.emb y 1).val = (y 1).val := by
  constructor
  · show win1_8.index t (0 : Fin 2) * 256 + 1 * (y 0).val = _
    rw [(index_8 t).1]; omega
  · show win1_8.index t (1 : Fin 2) * 1024 + 1 * (y 1).val = _
    rw [(index_8 t).2]; omega

include hsp in
theorem flushed_8 (t : Fin cfg1.N) : (dat m c).flushed 8 t = ((cfg1.win 8).blk t).view.read (Elt Ideal) (wideArr (dv (xOf m c) (lOf m c) (dOf m c))) := by
  show (cfg1.win 8).cut (grid1.coords t) ((dat m c).after 8 t) = _
  rw [after0_8]
  funext y
  have h0 : (y 0).val < 256 := (y 0).isLt
  have h1 : (y 1).val < 1024 := (y 1).isLt
  refine ((holds m c hsp t.val t.isLt).2.2.1 ((cfg1.win 8).xinj (grid1.coords t) y)).trans ?_
  show _ = dv (xOf m c) (lOf m c) (dOf m c) ((((cfg1.win 8).blk t).view.emb y 0).val / 64) ((((cfg1.win 8).blk t).view.emb y 1).val / 256) ((((cfg1.win 8).blk t).view.emb y 0).val % 64) ((((cfg1.win 8).blk t).view.emb y 1).val % 256)
  rw [(emb_8 t y).1, (emb_8 t y).2]
  show dv (xOf m c) (lOf m c) (dOf m c) (4 * (15 - t.val) + (y 0).val / 64) ((y 1).val / 256) ((y 0).val % 64) ((y 1).val % 256) = _
  congr 1 <;> omega

theorem mem_blk_8 (t : Fin cfg1.N) (i : S4096x1024.Idx) :
    i ∈ ((cfg1.win 8).blk t).view.set ↔ ∀ a : Fin 2, win1_8.index t a * S256x1024.size a ≤ (i a).val ∧ (i a).val < win1_8.index t a * S256x1024.size a + S256x1024.size a := by
  show i ∈ ((View.whole main_v1_2).slice (win1_8.rect t)).set ↔ _
  rw [View.set_slice_whole, Rect.mem_set_unit]
  exact Iff.rfl

theorem flush_8 : ∀ t : Fin cfg1.N, (cfg1.win 8).flush t = true := (by decide +kernel : ∀ t : Fin grid1.N, win1_8.flush t = true)

include hsp in
theorem final_8 : (dat m c).arrAt 8 cfg1.N = wideArr (dv (xOf m c) (lOf m c) (dOf m c)) :=
  (dat m c).arrAt_eq_of_cover 8 _ (fun t _ => flushed_8 m c hsp t) fun i => by
    have h0 : (i 0).val < 4096 := (i 0).isLt
    have h1 : (i 1).val < 1024 := (i 1).isLt
    refine ⟨⟨15 - (i 0).val / 256, lt_of_lt_of_eq (by omega) N_1.symm⟩, flush_8 _, ?_⟩
    rw [mem_blk_8]
    intro a
    fin_cases a
    · show win1_8.index _ (0 : Fin 2) * 256 ≤ (i 0).val ∧ (i 0).val < win1_8.index _ (0 : Fin 2) * 256 + 256
      rw [(index_8 _).1]; dsimp only; omega
    · show win1_8.index _ (1 : Fin 2) * 1024 ≤ (i 1).val ∧ (i 1).val < win1_8.index _ (1 : Fin 2) * 1024 + 1024
      rw [(index_8 _).2]; omega

/-! ## Array 4 of 4 -/

theorem index_9 : ∀ t : Fin cfg1.N, win1_9.index t (0 : Fin 2) = 15 - t.val ∧ win1_9.index t (1 : Fin 2) = 0 :=
  (by decide +kernel : ∀ t : Fin grid1.N, _)

theorem emb_9 (t : Fin cfg1.N) (y : S256x512.Idx) : (((cfg1.win 9).blk t).view.emb y 0).val = 256 * (15 - t.val) + (y 0).val
    ∧ (((cfg1.win 9).blk t).view.emb y 1).val = (y 1).val := by
  constructor
  · show win1_9.index t (0 : Fin 2) * 256 + 1 * (y 0).val = _
    rw [(index_9 t).1]; omega
  · show win1_9.index t (1 : Fin 2) * 512 + 1 * (y 1).val = _
    rw [(index_9 t).2]; omega

include hsp in
theorem flushed_9 (t : Fin cfg1.N) : (dat m c).flushed 9 t = ((cfg1.win 9).blk t).view.read (Elt Ideal) (narrowArr (dla (xOf m c) (lOf m c) (dOf m c))) := by
  show (cfg1.win 9).cut (grid1.coords t) ((dat m c).after 9 t) = _
  rw [after0_9]
  funext y
  have h0 : (y 0).val < 256 := (y 0).isLt
  have h1 : (y 1).val < 512 := (y 1).isLt
  refine ((holds m c hsp t.val t.isLt).2.2.2.1 ((cfg1.win 9).xinj (grid1.coords t) y)).trans ?_
  show _ = dla (xOf m c) (lOf m c) (dOf m c) ((((cfg1.win 9).blk t).view.emb y 0).val / 64) ((((cfg1.win 9).blk t).view.emb y 1).val / 128) ((((cfg1.win 9).blk t).view.emb y 0).val % 64) ((((cfg1.win 9).blk t).view.emb y 1).val % 128)
  rw [(emb_9 t y).1, (emb_9 t y).2]
  show dla (xOf m c) (lOf m c) (dOf m c) (4 * (15 - t.val) + (y 0).val / 64) ((y 1).val / 128) ((y 0).val % 64) ((y 1).val % 128) = _
  congr 1 <;> omega

theorem mem_blk_9 (t : Fin cfg1.N) (i : S4096x512.Idx) :
    i ∈ ((cfg1.win 9).blk t).view.set ↔ ∀ a : Fin 2, win1_9.index t a * S256x512.size a ≤ (i a).val ∧ (i a).val < win1_9.index t a * S256x512.size a + S256x512.size a := by
  show i ∈ ((View.whole main_v1_3).slice (win1_9.rect t)).set ↔ _
  rw [View.set_slice_whole, Rect.mem_set_unit]
  exact Iff.rfl

theorem flush_9 : ∀ t : Fin cfg1.N, (cfg1.win 9).flush t = true := (by decide +kernel : ∀ t : Fin grid1.N, win1_9.flush t = true)

include hsp in
theorem final_9 : (dat m c).arrAt 9 cfg1.N = narrowArr (dla (xOf m c) (lOf m c) (dOf m c)) :=
  (dat m c).arrAt_eq_of_cover 9 _ (fun t _ => flushed_9 m c hsp t) fun i => by
    have h0 : (i 0).val < 4096 := (i 0).isLt
    have h1 : (i 1).val < 512 := (i 1).isLt
    refine ⟨⟨15 - (i 0).val / 256, lt_of_lt_of_eq (by omega) N_1.symm⟩, flush_9 _, ?_⟩
    rw [mem_blk_9]
    intro a
    fin_cases a
    · show win1_9.index _ (0 : Fin 2) * 256 ≤ (i 0).val ∧ (i 0).val < win1_9.index _ (0 : Fin 2) * 256 + 256
      rw [(index_9 _).1]; dsimp only; omega
    · show win1_9.index _ (1 : Fin 2) * 512 ≤ (i 1).val ∧ (i 1).val < win1_9.index _ (1 : Fin 2) * 512 + 512
      rw [(index_9 _).2]; omega

end Cert.KernelIdeal.R1

end
-- ==== Proof.KerVal.lean ====
module
public import proofs.«01_k».proof.Proof.BwdArr
public import proofs.«01_k».proof.Proof.GlaRun
@[expose] public section

/-!
# The run of the two calls: what its five results hold
-/

namespace Cert.KernelIdeal.Both

open Cert.KernelIdeal Cert.KernelIdeal.Gen Cert.Gla
open Cert.KernelIdeal.R0 (xOf lOf)
open Cert.KernelIdeal.R1 (dOf narrowArr wideArr)
open Idealize.ShloMosaic Idealize.ShloMosaic.TcCoe

variable (m : (ℓ : Loc nD τ sig) → Buf (Elt Ideal) ℓ) (c : Dev nD)

theorem xOf_m1 : xOf (m1 m) c = xOf m c :=
  congrArg (arr (M := 4096) (N := 3072)) (W1_of m c main_arg0 (by decide +kernel))

theorem lOf_m1 : lOf (m1 m) c = lOf m c :=
  congrArg (arr (M := 4096) (N := 512)) (W1_of m c main_arg1 (by decide +kernel))

theorem dOf_m1 : dOf (m1 m) c = dOf m c :=
  congrArg (arr (M := 4096) (N := 1024)) (W1_of m c main_arg2 (by decide +kernel))

theorem saved_m1 (y : S4x64x256x128.Idx) :
    (m1 m ((c : Thread nD τ).loc main_v0_1) : Vec Ideal S4x64x256x128 .f32) y = state (xOf (m1 m) c) (lOf (m1 m) c) (y 1).val (y 0).val (y 2).val (y 3).val := by
  rw [xOf_m1, lOf_m1]
  exact congrFun ((W1_arr m c 5).trans (R0.final_5 m c)) y

theorem W2_o : W2 m c (Proc.devRef .tc main_v0_0) = R0.outArr m c :=
  ((W2_of_ne m c main_v0_0 (by decide +kernel)).trans (W1_arr m c 4)).trans (R0.final_4 m c)

theorem W2_dq : W2 m c (Proc.devRef .tc main_v1_0) = narrowArr (dq (xOf m c) (lOf m c) (dOf m c)) := by
  have h := (W2_arr m c 6).trans (R1.final_6 (m1 m) c (saved_m1 m c))
  rwa [xOf_m1, lOf_m1, dOf_m1] at h

theorem W2_dk : W2 m c (Proc.devRef .tc main_v1_1) = narrowArr (dk (xOf m c) (lOf m c) (dOf m c)) := by
  have h := (W2_arr m c 7).trans (R1.final_7 (m1 m) c (saved_m1 m c))
  rwa [xOf_m1, lOf_m1, dOf_m1] at h

theorem W2_dv : W2 m c (Proc.devRef .tc main_v1_2) = wideArr (dv (xOf m c) (lOf m c) (dOf m c)) := by
  have h := (W2_arr m c 8).trans (R1.final_8 (m1 m) c (saved_m1 m c))
  rwa [xOf_m1, lOf_m1, dOf_m1] at h

theorem W2_dla : W2 m c (Proc.devRef .tc main_v1_3) = narrowArr (dla (xOf m c) (lOf m c) (dOf m c)) := by
  have h := (W2_arr m c 9).trans (R1.final_9 (m1 m) c (saved_m1 m c))
  rwa [xOf_m1, lOf_m1, dOf_m1] at h

end Cert.KernelIdeal.Both

end
-- ==== Proof.Rows.lean ====
module
public import Idealize.ShloMosaic.Lib.Pointwise
public import Idealize.ShloMosaic.Lib.DynamicIndex
public import Idealize.ShloMosaic.Lib.Pipeline.Value
@[expose] public section

/-!
# One row of a stack, read or replaced

A stack of 64 arrays, of four or five axes. A dynamic slice that starts at row `k` reads that row; a dynamic update that
starts there replaces it and keeps the others.
-/

namespace Cert.ReferenceIdeal.Rows
open Idealize.ShloMosaic

/-- The start at row `k` and at nought on the other axes. -/
abbrev start4 (k : ℕ) : Fin 4 → ℕ := ![k, 0, 0, 0]
/-- The start at row `k` and at nought on the other axes. -/
abbrev start5 (k : ℕ) : Fin 5 → ℕ := ![k, 0, 0, 0, 0]

theorem fits4 {A B C k : ℕ} (hk : k < 64) : (⟨4, ![64, A, B, C]⟩ : Shape).Slices (start4 k) ⟨4, ![1, A, B, C]⟩ := by
  refine ⟨rfl, fun a => ?_⟩
  fin_cases a <;> simp [start4] <;> omega

theorem fits5 {A B C D k : ℕ} (hk : k < 64) :
    (⟨5, ![64, A, B, C, D]⟩ : Shape).Slices (start5 k) ⟨5, ![1, A, B, C, D]⟩ := by
  refine ⟨rfl, fun a => ?_⟩
  fin_cases a <;> simp [start5] <;> omega

variable {α : Type}

theorem slice4 {A B C k : ℕ} (hk : k < 64) (x : (⟨4, ![64, A, B, C]⟩ : Shape).Idx → α) (start : Fin 4 → Int)
    (h : (⟨4, ![64, A, B, C]⟩ : Shape).Slices (fun _ => 0) ⟨4, ![1, A, B, C]⟩) (hs : ∀ a, start a = (start4 k a : Int)) :
    Host.dynamicSlice (⟨4, ![1, A, B, C]⟩ : Shape) x start h = extractStridedSlice _ (start4 k) x (fits4 hk) :=
  Host.dynamicSlice_eq_extractStridedSlice _ x start _ h (fits4 hk) hs

theorem slice5 {A B C D k : ℕ} (hk : k < 64) (x : (⟨5, ![64, A, B, C, D]⟩ : Shape).Idx → α) (start : Fin 5 → Int)
    (h : (⟨5, ![64, A, B, C, D]⟩ : Shape).Slices (fun _ => 0) ⟨5, ![1, A, B, C, D]⟩)
    (hs : ∀ a, start a = (start5 k a : Int)) :
    Host.dynamicSlice (⟨5, ![1, A, B, C, D]⟩ : Shape) x start h = extractStridedSlice _ (start5 k) x (fits5 hk) :=
  Host.dynamicSlice_eq_extractStridedSlice _ x start _ h (fits5 hk) hs

theorem update4 {A B C k : ℕ} (hk : k < 64) (x : (⟨4, ![64, A, B, C]⟩ : Shape).Idx → α)
    (u : (⟨4, ![1, A, B, C]⟩ : Shape).Idx → α) (start : Fin 4 → Int)
    (h : (⟨4, ![64, A, B, C]⟩ : Shape).Slices (fun _ => 0) ⟨4, ![1, A, B, C]⟩) (hs : ∀ a, start a = (start4 k a : Int))
    (n : Fin 64) (p : Fin A) (q : Fin B) (r : Fin C) :
    Host.dynamicUpdateSlice x u start h (ix4 n p q r) = if n.val = k then u (ix4 0 p q r) else x (ix4 n p q r) := by
  rw [Host.dynamicUpdateSlice_eq_updateSlice x u start h (start4 k) (fun a => by
    rw [hs]; fin_cases a <;> simp [start4] <;> omega) (fits4 hk)]
  unfold updateSlice
  by_cases hn : n.val = k
  · subst hn
    rw [dif_pos (by intro a; fin_cases a <;> simp [start4, ix4]), if_pos rfl]
    congr 1
    funext b
    fin_cases b <;> simp [start4, ix4]
  · rw [if_neg hn, dif_neg]
    intro hall
    have h0 : k ≤ n.val ∧ n.val < k + 1 := hall 0
    omega

theorem update5 {A B C D k : ℕ} (hk : k < 64) (x : (⟨5, ![64, A, B, C, D]⟩ : Shape).Idx → α)
    (u : (⟨5, ![1, A, B, C, D]⟩ : Shape).Idx → α) (start : Fin 5 → Int)
    (h : (⟨5, ![64, A, B, C, D]⟩ : Shape).Slices (fun _ => 0) ⟨5, ![1, A, B, C, D]⟩)
    (hs : ∀ a, start a = (start5 k a : Int)) (n : Fin 64) (p : Fin A) (q : Fin B) (r : Fin C) (t : Fin D) :
    Host.dynamicUpdateSlice x u start h (ix5 n p q r t) = if n.val = k then u (ix5 0 p q r t) else x (ix5 n p q r t) := by
  rw [Host.dynamicUpdateSlice_eq_updateSlice x u start h (start5 k) (fun a => by
    rw [hs]; fin_cases a <;> simp [start5] <;> omega) (fits5 hk)]
  unfold updateSlice
  by_cases hn : n.val = k
  · subst hn
    rw [dif_pos (by intro a; fin_cases a <;> simp [start5, ix5]), if_pos rfl]
    congr 1
    funext b
    fin_cases b <;> simp [start5, ix5]
  · rw [if_neg hn, dif_neg]
    intro hall
    have h0 : k ≤ n.val ∧ n.val < k + 1 := hall 0
    omega

/-- The word that counts the trips, as a number. -/
theorem toInt_ctr {k : ℕ} (hk : k ≤ 64) : (Scf.iv 0#32 1#32 k).toInt = (k : Int) := by
  have : k = (⟨k, by omega⟩ : Fin 65).val := rfl
  revert this
  generalize (⟨k, by omega⟩ : Fin 65) = j
  rintro rfl
  revert j
  decide +kernel

/-- The row the second loop works on at trip `k`, as a number. -/
theorem toInt_row {k : ℕ} (hk : k < 64) : (64#32 - Scf.iv 0#32 1#32 k - 1#32).toInt = ((63 - k : ℕ) : Int) := by
  have : k = (⟨k, hk⟩ : Fin 64).val := rfl
  revert this
  generalize (⟨k, hk⟩ : Fin 64) = j
  rintro rfl
  revert j
  decide +kernel

/-- A sum over axes of size one, whose only entry lies at `i`. -/
theorem sum_one {s t : Shape} {axes : List (Fin s.rank)} (h : s.ReducesTo axes t) (v : s.Idx → EReal) (init : EReal) {j : t.Idx}
    (i : s.Idx) (hi : h.drop i = j) (hu : ∀ i', h.drop i' = j → i' = i) : Ideal.hostReduceAdd h v init j = init + v i := by
  show init + ∑ i' ∈ Finset.univ.filter (fun i' => h.drop i' = j), v i' = init + v i
  congr 1
  refine Finset.sum_eq_single i (fun b hb hne => absurd (hu b (Finset.mem_filter.mp hb).2) hne) fun hni => ?_
  exact absurd (Finset.mem_filter.mpr ⟨Finset.mem_univ i, hi⟩) hni

/-- The sum over the first and the last axis, both of size one. -/
theorem sum_ends (h : (⟨4, ![1, 4, 128, 1]⟩ : Shape).ReducesTo [0, 3] ⟨2, ![4, 128]⟩)
    (v : (⟨4, ![1, 4, 128, 1]⟩ : Shape).Idx → EReal) (init : EReal) (p : Fin 4) (q : Fin 128) :
    Ideal.hostReduceAdd h v init (ix2 p q) = init + v (ix4 0 p q 0) := by
  refine sum_one h v init _ ?_ fun i' hi' => ?_
  · funext b
    fin_cases b <;> rfl
  · funext b
    fin_cases b
    · exact @Subsingleton.elim (Fin 1) _ _ _
    · exact congrFun hi' 0
    · exact congrFun hi' 1
    · exact @Subsingleton.elim (Fin 1) _ _ _

/-- The sum over the first and the third axis, both of size one. -/
theorem sum_first_third (h : (⟨5, ![1, 64, 1, 4, 128]⟩ : Shape).ReducesTo [0, 2] ⟨3, ![64, 4, 128]⟩)
    (v : (⟨5, ![1, 64, 1, 4, 128]⟩ : Shape).Idx → EReal) (init : EReal) (n : Fin 64) (p : Fin 4) (q : Fin 128) :
    Ideal.hostReduceAdd h v init (ix3 n p q) = init + v (ix5 0 n 0 p q) := by
  refine sum_one h v init _ ?_ fun i' hi' => ?_
  · funext b
    fin_cases b <;> rfl
  · funext b
    fin_cases b
    · exact @Subsingleton.elim (Fin 1) _ _ _
    · exact congrFun hi' 0
    · exact @Subsingleton.elim (Fin 1) _ _ _
    · exact congrFun hi' 1
    · exact congrFun hi' 2

end Cert.ReferenceIdeal.Rows
end
-- ==== Proof.RefLoop0.lean ====
module
public import proofs.«01_k».proof.Proof.RefRun
public import proofs.«01_k».proof.Proof.Gla
public import proofs.«01_k».proof.Proof.Rows
public import Idealize.ShloMosaic.Lib.StableHlo.ReadAt
@[expose] public section

/-!
# What the reference's first loop leaves

One trip turns the state before chunk `k` into the state after it and writes row `k` of four stacks: the chunk's output, its
gate, the state before it and the state after it. So after `k` trips the first `k` rows of each hold what `Gla` says.
-/

namespace Cert.ReferenceIdeal.Two
open Cert.ReferenceIdeal.Gen Cert.Gla Cert.ReferenceIdeal.Rows
open Idealize.ShloMosaic Idealize.ShloMosaic.TcCoe Idealize.ShloMosaic.StableHlo Idealize.ShloMosaic.Tactic

/-- What the loop reads and never writes: every chunk's gate, what it adds to the state, and its queries. -/
structure Chunks (x l : Arr) (V : Valuation τ sig (Elt Ideal)) : Prop where
  dec : ∀ (n : Fin 64) (h : Fin 4) (a : Fin 128), (V (Proc.devRef .tc main_v29_0) (ix4 n 0 h a) : EReal) = decay l n h a
  upd : ∀ (n : Fin 64) (h : Fin 4) (a : Fin 128) (e : Fin 256),
    (V (Proc.devRef .tc main_v29_1) (ix5 n 0 h a e) : EReal) = upd x l n h e a
  qs : ∀ (n r : Fin 64) (h : Fin 4) (a : Fin 128), (V (Proc.devRef .tc main_v29_2) (ix5 n 0 r h a) : EReal) = qs x n h r a

/-- The buffers after `k` trips. -/
structure Inv0 (x l : Arr) (k : ℕ) (V : Valuation τ sig (Elt Ideal)) : Prop extends Chunks x l V where
  ctr : ∀ j, (V (Proc.devRef .tc main_v29_3) j : BitVec 32).toInt = k
  st : ∀ (h : Fin 4) (a : Fin 128) (e : Fin 256), (V (Proc.devRef .tc main_v29_4) (ix4 0 h a e) : EReal) = state x l k h e a
  o : ∀ (n r : Fin 64) (h : Fin 4) (e : Fin 256), n.val < k →
    (V (Proc.devRef .tc main_v29_5) (ix5 n 0 r h e) : EReal) = out x l n h r e
  gate : ∀ (n : Fin 64) (h : Fin 4) (a : Fin 128), n.val < k →
    (V (Proc.devRef .tc main_v29_6) (ix5 n 0 h a 0) : EReal) = decay l n h a
  old : ∀ (n : Fin 64) (h : Fin 4) (a : Fin 128) (e : Fin 256), n.val < k →
    (V (Proc.devRef .tc main_v29_7) (ix5 n 0 h a e) : EReal) = state x l n h e a
  new : ∀ (n : Fin 64) (h : Fin 4) (a : Fin 128) (e : Fin 256), n.val < k →
    (V (Proc.devRef .tc main_v29_8) (ix5 n 0 h a e) : EReal) = state x l (n + 1) h e a

/-- A buffer one trip writes nothing to. -/
theorem keep_trip0 (V : Valuation τ sig (Elt Ideal)) {r : Ref sig .tc}
    (hr : r ∉ cond0_W ++ while0Ops0_W ++ while0Ops0_1_W ++ while0Ops0_2_W ++ while0Ops0_3_W ++ while0Ops0_4_W ++ while0Ops0_5_W
      ++ while0Ops0_6_W ++ while0Ops0_7_W ++ while0Ops0_8_W) :
    afterL body0 (after cond0 V) (Proc.devRef .tc r) = V (Proc.devRef .tc r) := by
  simp only [List.mem_append, not_or] at hr
  obtain ⟨⟨⟨⟨⟨⟨⟨⟨⟨hc, h0⟩, h1⟩, h2⟩, h3⟩, h4⟩, h5⟩, h6⟩, h7⟩, h8⟩ := hr
  simp only [body0, afterL_cons, afterL_nil]
  rw [after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ cond0_writes hc]

variable {x l : Arr} {k : ℕ} {V : Valuation τ sig (Elt Ideal)}

/-- The state one trip leaves. -/
theorem Inv0.st_next (I : Inv0 x l k V) (hk : k < 64) (h : Fin 4) (a : Fin 128) (e : Fin 256) :
    (afterL body0 (after cond0 V) (Proc.devRef .tc main_v29_4) (ix4 0 h a e) : EReal) = state x l (k + 1) h e a := by
  simp only [body0, afterL_cons, afterL_nil]
  after_reads_simp
  simp -implicitDefEqProofs only [StableHlo.TRef.toBuf, StableHlo.TRef.ofBuf, cast_cast, cast_eq]
  rw [slice4 hk, slice5 hk]
  · show addf _ _ _ = _
    pointwise
    rw [I.st, I.dec, I.upd, state]
  all_goals
    intro a
    fin_cases a
    · exact I.ctr _
    all_goals rfl

/-- The stack of outputs after one trip. -/
theorem Inv0.o_next (I : Inv0 x l k V) (hk : k < 64) (n r : Fin 64) (h : Fin 4) (e : Fin 256) (hn : n.val < k + 1) :
    (afterL body0 (after cond0 V) (Proc.devRef .tc main_v29_5) (ix5 n 0 r h e) : EReal) = out x l n h r e := by
  simp only [body0, afterL_cons, afterL_nil]
  after_reads_simp
  simp -implicitDefEqProofs only [StableHlo.TRef.toBuf, StableHlo.TRef.ofBuf, cast_cast, cast_eq]
  rw [slice4 hk, slice5 hk, slice5 hk]
  · refine (update5 hk _ _ _ _ ?_ n 0 r h e).trans ?_
    · intro a
      fin_cases a
      · exact I.ctr _
      all_goals rfl
    · by_cases hnk : n.val = k
      · rw [if_pos hnk]
        subst hnk
        pointwise
        simp only [I.st, I.dec, I.upd, I.qs, out, state, mul_comm]
      · rw [if_neg hnk, I.o n r h e (by omega)]
  all_goals
    intro a
    fin_cases a
    · exact I.ctr _
    all_goals rfl

/-- The stack of gates after one trip. -/
theorem Inv0.gate_next (I : Inv0 x l k V) (hk : k < 64) (n : Fin 64) (h : Fin 4) (a : Fin 128) (hn : n.val < k + 1) :
    (afterL body0 (after cond0 V) (Proc.devRef .tc main_v29_6) (ix5 n 0 h a 0) : EReal) = decay l n h a := by
  simp only [body0, afterL_cons, afterL_nil]
  after_reads_simp
  simp -implicitDefEqProofs only [StableHlo.TRef.toBuf, StableHlo.TRef.ofBuf, cast_cast, cast_eq]
  rw [slice4 hk]
  · refine (update5 hk _ _ _ _ ?_ n 0 h a 0).trans ?_
    · intro a
      fin_cases a
      · exact I.ctr _
      all_goals rfl
    · by_cases hnk : n.val = k
      · rw [if_pos hnk]
        subst hnk
        pointwise
        exact I.dec n h a
      · rw [if_neg hnk, I.gate n h a (by omega)]
  · intro a
    fin_cases a
    · exact I.ctr _
    all_goals rfl

/-- The stack of states before their chunks, after one trip. -/
theorem Inv0.old_next (I : Inv0 x l k V) (hk : k < 64) (n : Fin 64) (h : Fin 4) (a : Fin 128) (e : Fin 256)
    (hn : n.val < k + 1) :
    (afterL body0 (after cond0 V) (Proc.devRef .tc main_v29_7) (ix5 n 0 h a e) : EReal) = state x l n h e a := by
  simp only [body0, afterL_cons, afterL_nil]
  after_reads_simp
  simp -implicitDefEqProofs only [StableHlo.TRef.toBuf, StableHlo.TRef.ofBuf, cast_cast, cast_eq]
  refine (update5 hk _ _ _ _ ?_ n 0 h a e).trans ?_
  · intro a
    fin_cases a
    · exact I.ctr _
    all_goals rfl
  · by_cases hnk : n.val = k
    · rw [if_pos hnk]
      subst hnk
      pointwise
      exact I.st h a e
    · rw [if_neg hnk, I.old n h a e (by omega)]

/-- The stack of states after their chunks, after one trip. -/
theorem Inv0.new_next (I : Inv0 x l k V) (hk : k < 64) (n : Fin 64) (h : Fin 4) (a : Fin 128) (e : Fin 256)
    (hn : n.val < k + 1) :
    (afterL body0 (after cond0 V) (Proc.devRef .tc main_v29_8) (ix5 n 0 h a e) : EReal) = state x l (n + 1) h e a := by
  simp only [body0, afterL_cons, afterL_nil]
  after_reads_simp
  simp -implicitDefEqProofs only [StableHlo.TRef.toBuf, StableHlo.TRef.ofBuf, cast_cast, cast_eq]
  rw [slice4 hk, slice5 hk]
  · refine (update5 hk _ _ _ _ ?_ n 0 h a e).trans ?_
    · intro a
      fin_cases a
      · exact I.ctr _
      all_goals rfl
    · by_cases hnk : n.val = k
      · rw [if_pos hnk]
        subst hnk
        pointwise
        rw [I.st, I.dec, I.upd, state]
      · rw [if_neg hnk, I.new n h a e (by omega)]
  all_goals
    intro a
    fin_cases a
    · exact I.ctr _
    all_goals rfl

/-- The chunks' arrays are as they were. -/
theorem Chunks.next (I : Chunks x l V) : Chunks x l (afterL body0 (after cond0 V)) where
  dec n h a := by rw [keep_trip0 V (by decide +kernel)]; exact I.dec n h a
  upd n h a e := by rw [keep_trip0 V (by decide +kernel)]; exact I.upd n h a e
  qs n r h a := by rw [keep_trip0 V (by decide +kernel)]; exact I.qs n r h a

/-- One trip. -/
theorem Inv0.next (I : Inv0 x l k V) (hk : k < 64)
    (hc : afterL body0 (after cond0 V) (Proc.devRef .tc main_v29_3) = fun _ => Scf.iv 0#32 1#32 (k + 1)) :
    Inv0 x l (k + 1) (afterL body0 (after cond0 V)) where
  toChunks := I.toChunks.next
  ctr j := by rw [hc]; exact toInt_ctr (by omega)
  st := I.st_next hk
  o := I.o_next hk
  gate := I.gate_next hk
  old := I.old_next hk
  new := I.new_next hk

variable (m : (ℓ : Loc nD τ sig) → Buf (Elt Ideal) ℓ)

/-- After `k` trips, from the chunks' arrays and a state of nought. -/
theorem inv0 (c : Dev nD) (hC : Chunks x l (in0 m c))
    (hz : ∀ (h : Fin 4) (a : Fin 128) (e : Fin 256), (in0 m c (Proc.devRef .tc main_v29_4) (ix4 0 h a e) : EReal) = state x l 0 h e a) :
    ∀ k ≤ 64, Inv0 x l k (at0 m k c)
  | 0, _ => {
      toChunks := hC
      ctr := fun j => by rw [ctr_at0 m c 0]; exact toInt_ctr (Nat.zero_le _)
      st := hz
      o := fun n _ _ _ hn => absurd hn (Nat.not_lt_zero _)
      gate := fun n _ _ hn => absurd hn (Nat.not_lt_zero _)
      old := fun n _ _ _ hn => absurd hn (Nat.not_lt_zero _)
      new := fun n _ _ _ hn => absurd hn (Nat.not_lt_zero _) }
  | k + 1, hk => (inv0 c hC hz k (by omega)).next (by omega) (ctr_at0 m c (k + 1))

/-- A buffer the first loop writes nothing to. -/
theorem keep_at0 (c : Dev nD) {r : Ref sig .tc}
    (hr : r ∉ cond0_W ++ while0Ops0_W ++ while0Ops0_1_W ++ while0Ops0_2_W ++ while0Ops0_3_W ++ while0Ops0_4_W ++ while0Ops0_5_W
      ++ while0Ops0_6_W ++ while0Ops0_7_W ++ while0Ops0_8_W) :
    ∀ k, at0 m k c (Proc.devRef .tc r) = in0 m c (Proc.devRef .tc r)
  | 0 => rfl
  | k + 1 => (keep_trip0 (at0 m k c) hr).trans (keep_at0 c hr k)

end Cert.ReferenceIdeal.Two
end
-- ==== Proof.Cumsum.lean ====
module
public import proofs.«01_k».proof.Proof.Gen.ReferenceIdeal
public import Idealize.ShloMosaic.Lib.Pointwise
@[expose] public section

/-!
# Running sums of the chunk's rows

A window of 64 rows over the 64 rows of each chunk, padded with 63 zeros above, sums a chunk down to each row; padded
below, it sums from each row to the chunk's end.
-/

namespace Cert.ReferenceIdeal.Cumsum

open Cert.ReferenceIdeal Idealize.ShloMosaic

/-- The window's positions: its third coordinate. -/
def windowIdx : Fin 64 ≃ (⟨5, ![1, 1, 64, 1, 1]⟩ : Shape).Idx where
  toFun s := ix5 0 0 s 0 0
  invFun y := y 2
  left_inv s := rfl
  right_inv y := by
    funext i
    fin_cases i
    · exact Subsingleton.elim (α := Fin 1) _ _
    · exact Subsingleton.elim (α := Fin 1) _ _
    · rfl
    · exact Subsingleton.elim (α := Fin 1) _ _
    · exact Subsingleton.elim (α := Fin 1) _ _

/-- A fold of additions is a sum. -/
theorem foldl_add {n : ℕ} (g : Fin n → EReal) : (List.finRange n).foldl (fun r i => r + g i) 0 = ∑ i, g i := by
  rw [← List.sum_ofFn, List.ofFn_eq_map, List.sum_eq_foldl, List.foldl_map]

/-- The window sum over a chunk's rows, `lo` zeros above. -/
theorem window_apply (lo hi : ℕ) (x : S1x64x64x4x128.Idx → EReal) (init : S_.Idx → EReal)
    (h : S1x64x64x4x128.ReduceWindows (![1, 1, 64, 1, 1] : Fin 5 → ℕ) ![1, 1, 1, 1, 1] ![0, 0, lo, 0, 0] ![0, 0, hi, 0, 0] S1x64x64x4x128) (hu : 0 < S_.numel)
    (h0 : init (Shape.Idx.first hu) = 0) (n r : Fin 64) (p : Fin 4) (a : Fin 128) :
    Host.reduceWindowAdd (F := Ideal) (φ := .f32) ![1, 1, 64, 1, 1] ![1, 1, 1, 1, 1] ![0, 0, lo, 0, 0] ![0, 0, hi, 0, 0] x init h hu (ix5 0 n r p a)
      = ∑ w : Fin 64, if hw : lo ≤ r.val + w.val ∧ r.val + w.val - lo < 64 then x (ix5 0 n ⟨r.val + w.val - lo, hw.2⟩ p a) else 0 := by
  unfold Host.reduceWindowAdd
  show Host.reduceWindow (· + ·) _ _ _ _ x (fun _ : (⟨0, ![]⟩ : Shape).Idx => init (Shape.Idx.first hu)) h (by decide) (ix5 0 n r p a) = _
  rw [h0]
  unfold Host.reduceWindow
  dsimp only
  refine (foldl_add _).trans ?_
  refine (Equiv.sum_comp (windowIdx.trans (Shape.rowMajor (⟨5, ![1, 1, 64, 1, 1]⟩ : Shape))) _).symm.trans ?_
  refine Finset.sum_congr rfl fun w _ => ?_
  have e : ∀ i, (Shape.rowMajor (⟨5, ![1, 1, 64, 1, 1]⟩ : Shape)).symm (windowIdx.trans (Shape.rowMajor (⟨5, ![1, 1, 64, 1, 1]⟩ : Shape)) w) i
      = (ix5 0 0 w 0 0 : (⟨5, ![1, 1, 64, 1, 1]⟩ : Shape).Idx) i := fun i =>
    congrFun ((Shape.rowMajor (⟨5, ![1, 1, 64, 1, 1]⟩ : Shape)).symm_apply_apply (windowIdx w)) i
  by_cases hw : lo ≤ r.val + w.val ∧ r.val + w.val - lo < 64
  · rw [dif_pos hw, dif_pos]
    · congr 1
      funext i
      apply Fin.ext
      dsimp only
      rw [e i]
      fin_cases i <;> simp [ix5]
    · intro i
      rw [e i]
      fin_cases i <;> simp [ix5] <;> omega
  · rw [dif_neg hw, dif_neg]
    intro hi'
    have := hi' 2
    rw [e 2] at this
    simp [ix5] at this
    omega

/-- Padded above: the sum of the chunk's rows down to row `r`. -/
theorem down (x : S1x64x64x4x128.Idx → EReal) (init : S_.Idx → EReal)
    (h : S1x64x64x4x128.ReduceWindows (![1, 1, 64, 1, 1] : Fin 5 → ℕ) ![1, 1, 1, 1, 1] ![0, 0, 63, 0, 0] ![0, 0, 0, 0, 0] S1x64x64x4x128) (hu : 0 < S_.numel)
    (h0 : init (Shape.Idx.first hu) = 0) (n r : Fin 64) (p : Fin 4) (a : Fin 128) :
    Host.reduceWindowAdd (F := Ideal) (φ := .f32) ![1, 1, 64, 1, 1] ![1, 1, 1, 1, 1] ![0, 0, 63, 0, 0] ![0, 0, 0, 0, 0] x init h hu (ix5 0 n r p a)
      = ∑ s : Fin 64, if s.val ≤ r.val then x (ix5 0 n s p a) else 0 := by
  rw [window_apply 63 0 x init h hu h0, ← Finset.sum_filter, ← Finset.sum_filter_add_sum_filter_not Finset.univ (fun w : Fin 64 => 63 ≤ r.val + w.val)]
  rw [Finset.sum_eq_zero (s := Finset.univ.filter fun w : Fin 64 => ¬ 63 ≤ r.val + w.val) (fun w hw => dif_neg fun h => (Finset.mem_filter.mp hw).2 h.1), add_zero]
  refine Finset.sum_bij' (fun w _ => (⟨r.val + w.val - 63, by omega⟩ : Fin 64)) (fun s hs => (⟨s.val + 63 - r.val, by have := (Finset.mem_filter.mp hs).2; omega⟩ : Fin 64)) ?_ ?_ ?_ ?_ ?_
  · intro w hw
    simp only [Finset.mem_filter, Finset.mem_univ, true_and] at hw ⊢
    omega
  · intro s hs
    simp only [Finset.mem_filter, Finset.mem_univ, true_and] at hs ⊢
    omega
  · intro w hw
    simp only [Finset.mem_filter, Finset.mem_univ, true_and] at hw
    exact Fin.ext (by dsimp only; omega)
  · intro s hs
    simp only [Finset.mem_filter, Finset.mem_univ, true_and] at hs
    exact Fin.ext (by dsimp only; omega)
  · intro w hw
    simp only [Finset.mem_filter, Finset.mem_univ, true_and] at hw
    exact dif_pos ⟨hw, by omega⟩

/-- Padded below: the sum of the chunk's rows from row `r`. -/
theorem up (x : S1x64x64x4x128.Idx → EReal) (init : S_.Idx → EReal)
    (h : S1x64x64x4x128.ReduceWindows (![1, 1, 64, 1, 1] : Fin 5 → ℕ) ![1, 1, 1, 1, 1] ![0, 0, 0, 0, 0] ![0, 0, 63, 0, 0] S1x64x64x4x128) (hu : 0 < S_.numel)
    (h0 : init (Shape.Idx.first hu) = 0) (n r : Fin 64) (p : Fin 4) (a : Fin 128) :
    Host.reduceWindowAdd (F := Ideal) (φ := .f32) ![1, 1, 64, 1, 1] ![1, 1, 1, 1, 1] ![0, 0, 0, 0, 0] ![0, 0, 63, 0, 0] x init h hu (ix5 0 n r p a)
      = ∑ s : Fin 64, if r.val ≤ s.val then x (ix5 0 n s p a) else 0 := by
  rw [window_apply 0 63 x init h hu h0, ← Finset.sum_filter, ← Finset.sum_filter_add_sum_filter_not Finset.univ (fun w : Fin 64 => r.val + w.val < 64)]
  rw [Finset.sum_eq_zero (s := Finset.univ.filter fun w : Fin 64 => ¬ r.val + w.val < 64) (fun w hw => dif_neg fun h => (Finset.mem_filter.mp hw).2 (by omega)), add_zero]
  refine Finset.sum_bij' (fun w hw => (⟨r.val + w.val, (Finset.mem_filter.mp hw).2⟩ : Fin 64)) (fun s hs => (⟨s.val - r.val, by omega⟩ : Fin 64)) ?_ ?_ ?_ ?_ ?_
  · intro w hw
    simp only [Finset.mem_filter, Finset.mem_univ, true_and] at hw ⊢
    omega
  · intro s hs
    simp only [Finset.mem_filter, Finset.mem_univ, true_and] at hs ⊢
    omega
  · intro w hw
    exact Fin.ext (by dsimp only; omega)
  · intro s hs
    simp only [Finset.mem_filter, Finset.mem_univ, true_and] at hs
    exact Fin.ext (by dsimp only; omega)
  · intro w hw
    simp only [Finset.mem_filter, Finset.mem_univ, true_and] at hw
    exact dif_pos ⟨Nat.zero_le _, by omega⟩

end Cert.ReferenceIdeal.Cumsum

end
-- ==== Proof.RefPre.lean ====
module
public import proofs.«01_k».proof.Proof.RefLoop0
public import proofs.«01_k».proof.Proof.Cumsum
@[expose] public section

/-!
# What the reference computes before its loops

The packed array is cut in queries, keys and values, each in chunks of 64 rows and heads; the log gates are summed down each
chunk, which gives the gates, the decayed keys and what a chunk adds to the state.
-/

namespace Cert.ReferenceIdeal.Two
open Cert.ReferenceIdeal.Gen Cert.Gla Cert.ReferenceIdeal.Rows
open Idealize.ShloMosaic Idealize.ShloMosaic.TcCoe Idealize.ShloMosaic.StableHlo Idealize.ShloMosaic.Tactic

/-- The arguments hold the packed array, the log gates and the output's gradient. -/
structure Args (x l d : Arr) (V : Valuation τ sig (Elt Ideal)) : Prop where
  x : ∀ (i j : ℕ) (hi : i < 4096) (hj : j < 3072), (V (Proc.devRef .tc main_arg0) (ix2 ⟨i, hi⟩ ⟨j, hj⟩) : EReal) = x i j
  l : ∀ (i j : ℕ) (hi : i < 4096) (hj : j < 512), (V (Proc.devRef .tc main_arg1) (ix2 ⟨i, hi⟩ ⟨j, hj⟩) : EReal) = l i j
  d : ∀ (i j : ℕ) (hi : i < 4096) (hj : j < 1024), (V (Proc.devRef .tc main_arg2) (ix2 ⟨i, hi⟩ ⟨j, hj⟩) : EReal) = d i j

/-- The arrays cut in chunks and heads. -/
structure Cut (x l : Arr) (V : Valuation τ sig (Elt Ideal)) : Prop where
  qs : ∀ (n r : Fin 64) (h : Fin 4) (a : Fin 128), (V (Proc.devRef .tc main_v8) (ix5 0 n r h a) : EReal) = qs x n h r a
  key : ∀ (n r : Fin 64) (h : Fin 4) (a : Fin 128), (V (Proc.devRef .tc main_v9) (ix5 0 n r h a) : EReal) = key x n h r a
  val : ∀ (n r : Fin 64) (h : Fin 4) (e : Fin 256), (V (Proc.devRef .tc main_v10) (ix5 0 n r h e) : EReal) = val x n h r e
  l : ∀ (n r : Fin 64) (h : Fin 4) (a : Fin 128),
    (V (Proc.devRef .tc main_v11) (ix5 0 n r h a) : EReal) = l (64 * n + r) (128 * h + a)

/-- What later operations read of the arrays made before the loops. -/
structure Pre (x l : Arr) (V : Valuation τ sig (Elt Ideal)) : Prop where
  key : ∀ (n r : Fin 64) (h : Fin 4) (a : Fin 128), (V (Proc.devRef .tc main_v9) (ix5 0 n r h a) : EReal) = key x n h r a
  val : ∀ (n r : Fin 64) (h : Fin 4) (e : Fin 256), (V (Proc.devRef .tc main_v10) (ix5 0 n r h e) : EReal) = val x n h r e
  gate : ∀ (n r : Fin 64) (h : Fin 4) (a : Fin 128), (V (Proc.devRef .tc main_v18) (ix5 0 n r h a) : EReal) = gate l n h r a
  kdec : ∀ (n r : Fin 64) (h : Fin 4) (a : Fin 128), (V (Proc.devRef .tc main_v19) (ix5 0 n r h a) : EReal) = kdec x l n h r a
  dec : ∀ (n : Fin 64) (h : Fin 4) (a : Fin 128), (V (Proc.devRef .tc main_v22) (ix4 n 0 h a) : EReal) = decay l n h a
  qs : ∀ (n r : Fin 64) (h : Fin 4) (a : Fin 128), (V (Proc.devRef .tc main_v23) (ix5 n 0 r h a) : EReal) = qs x n h r a

variable {x l d : Arr} {V : Valuation τ sig (Elt Ideal)}

/-- The cutting. -/
theorem Args.cut (A : Args x l d V) : Cut x l (after hostOps0 V) where
  qs n r h a := by
    after_reads_at
    rw [A.x, Cert.Gla.qs, Cert.Gla.scale]
    congr 2 <;> omega
  key n r h a := by
    after_reads_at
    rw [A.x, Cert.Gla.key]
    congr 1 <;> omega
  val n r h e := by
    after_reads_at
    rw [A.x, Cert.Gla.val]
    congr 1 <;> omega
  l n r h a := by
    after_reads_at
    rw [A.l]
    congr 1 <;> omega

theorem Cut.cum (C : Cut x l V) (n r : Fin 64) (h : Fin 4) (a : Fin 128) :
    (after hostOps0_1 V (Proc.devRef .tc main_v12) (ix5 0 n r h a) : EReal) = cum l n h r a := by
  after_reads_simp
  simp -implicitDefEqProofs only [StableHlo.TRef.toBuf, StableHlo.TRef.ofBuf, cast_cast, cast_eq]
  refine (Cumsum.down _ _ _ _ ?_ n r h a).trans ?_
  · pointwise
  · simp only [C.l, Cert.Gla.cum]

theorem Cut.keep (C : Cut x l V) : Cut x l (after hostOps0_1 V) where
  qs n r h a := by rw [after_of_writes_sub _ _ hostOps0_1_writes (by decide +kernel)]; exact C.qs n r h a
  key n r h a := by rw [after_of_writes_sub _ _ hostOps0_1_writes (by decide +kernel)]; exact C.key n r h a
  val n r h a := by rw [after_of_writes_sub _ _ hostOps0_1_writes (by decide +kernel)]; exact C.val n r h a
  l n r h a := by rw [after_of_writes_sub _ _ hostOps0_1_writes (by decide +kernel)]; exact C.l n r h a

section
variable (C : Cut x l V) (hcum : ∀ (n r : Fin 64) (h : Fin 4) (a : Fin 128),
    (V (Proc.devRef .tc main_v12) (ix5 0 n r h a) : EReal) = Cert.Gla.cum l n h r a)
include C hcum

/-- The gates, the decayed keys and the rest. -/
theorem Cut.pre : Pre x l (after hostOps0_2 V) where
  key n r h a := by rw [after_of_writes_sub _ _ hostOps0_2_writes (by decide +kernel)]; exact C.key n r h a
  val n r h a := by rw [after_of_writes_sub _ _ hostOps0_2_writes (by decide +kernel)]; exact C.val n r h a
  gate n r h a := by
    after_reads_at
    rw [hcum, hcum]
    rfl
  kdec n r h a := by
    after_reads_at
    rw [hcum, hcum, C.key]
    rfl
  dec n h a := by
    after_reads_at
    rw [hcum]
    rfl
  qs n r h a := by
    after_reads_at
    rw [C.qs]

/-- The arrays the first loop reads. -/
theorem Cut.chunks : Chunks x l (after hostOps0_2 V) where
  dec n h a := by
    after_reads_simp
    simp -implicitDefEqProofs only [id_eq]
    pointwise
    rw [hcum]
    rfl
  upd n h a e := by
    after_reads_simp
    simp -implicitDefEqProofs only [id_eq]
    pointwise
    simp only [hcum, C.key, C.val, Cert.Gla.upd, Cert.Gla.kdec, Cert.Gla.gate]
    show @Eq EReal _ _
    exact Finset.sum_congr rfl fun s _ => mul_comm _ _
  qs n r h a := by
    after_reads_simp
    simp -implicitDefEqProofs only [id_eq]
    pointwise
    rw [C.qs]
end

/-- The first loop's state starts at nought. -/
theorem start_state (h : Fin 4) (a : Fin 128) (e : Fin 256) :
    (after hostOps0_2 V (Proc.devRef .tc main_v29_4) (ix4 0 h a e) : EReal) = state x l 0 h e a := by
  after_reads_simp
  simp -implicitDefEqProofs only [id_eq]
  pointwise
  rw [state]

variable (A : Args x l d V)
include A

/-- Before the loops. -/
theorem Args.pre : Pre x l (afterL Two.pre V) := by
  simp only [Two.pre, afterL_cons, afterL_nil]
  exact A.cut.keep.pre A.cut.cum

/-- What the first loop reads. -/
theorem Args.chunks : Chunks x l (afterL Two.pre V) := by
  simp only [Two.pre, afterL_cons, afterL_nil]
  exact A.cut.keep.chunks A.cut.cum

end Cert.ReferenceIdeal.Two
end
-- ==== Proof.RefLoop1.lean ====
module
public import proofs.«01_k».proof.Proof.RefRun
public import proofs.«01_k».proof.Proof.Gla
public import proofs.«01_k».proof.Proof.Rows
public import Idealize.ShloMosaic.Lib.StableHlo.ReadAt
@[expose] public section

/-!
# What the reference's second loop leaves

The loop walks the chunks from the last to the first: trip `k` works on chunk `63 - k`. It turns the gradient carried back to
the state after that chunk into the one carried to the state before it, and writes row `63 - k` of three stacks: what the
gradient of the chunk's gate sums to, the gradient of the state after the chunk, and the gradient of the chunk's queries.
-/

namespace Cert.ReferenceIdeal.Two
open Cert.ReferenceIdeal.Gen Cert.Gla Cert.ReferenceIdeal.Rows
open Idealize.ShloMosaic Idealize.ShloMosaic.TcCoe Idealize.ShloMosaic.StableHlo Idealize.ShloMosaic.Tactic

/-- What the loop reads and never writes: the output's gradient, the gates, the states before and after, and the queries. -/
structure Saved (x l d : Arr) (V : Valuation τ sig (Elt Ideal)) : Prop where
  dout : ∀ (n r : Fin 64) (h : Fin 4) (e : Fin 256), (V (Proc.devRef .tc main_v40_0) (ix5 n 0 r h e) : EReal) = dout d n h r e
  gate : ∀ (n : Fin 64) (h : Fin 4) (a : Fin 128), (V (Proc.devRef .tc main_v40_1) (ix5 n 0 h a 0) : EReal) = decay l n h a
  old : ∀ (n : Fin 64) (h : Fin 4) (a : Fin 128) (e : Fin 256),
    (V (Proc.devRef .tc main_v40_2) (ix5 n 0 h a e) : EReal) = state x l n h e a
  qs : ∀ (n r : Fin 64) (h : Fin 4) (a : Fin 128), (V (Proc.devRef .tc main_v40_3) (ix5 n 0 r h a) : EReal) = qs x n h r a
  new : ∀ (n : Fin 64) (h : Fin 4) (a : Fin 128) (e : Fin 256),
    (V (Proc.devRef .tc main_v40_4) (ix5 n 0 h a e) : EReal) = state x l (n + 1) h e a

/-- The buffers after `k` trips. -/
structure Inv1 (x l d : Arr) (k : ℕ) (V : Valuation τ sig (Elt Ideal)) : Prop extends Saved x l d V where
  ctr : V (Proc.devRef .tc main_v40_5) = fun _ => Scf.iv 0#32 1#32 k
  carry : ∀ (h : Fin 4) (a : Fin 128) (e : Fin 256),
    (V (Proc.devRef .tc main_v40_6) (ix4 0 h a e) : EReal) = carry x l d k h e a
  dgate : ∀ (n : Fin 64) (h : Fin 4) (a : Fin 128), 63 - n.val < k →
    (V (Proc.devRef .tc main_v40_7) (ix4 n 0 h a) : EReal) = ∑ e : Fin 256, grad x l d n h e.val a * state x l n h e.val a
  grad : ∀ (n : Fin 64) (h : Fin 4) (a : Fin 128) (e : Fin 256), 63 - n.val < k →
    (V (Proc.devRef .tc main_v40_8) (ix5 n 0 h a e) : EReal) = grad x l d n h e a
  dq : ∀ (n r : Fin 64) (h : Fin 4) (a : Fin 128), 63 - n.val < k →
    (V (Proc.devRef .tc main_v40_9) (ix5 n 0 r h a) : EReal)
      = ∑ e : Fin 256, Cert.Gla.dout d n h r e.val * state x l (n + 1) h e.val a

/-- A buffer one trip writes nothing to. -/
theorem keep_trip1 (V : Valuation τ sig (Elt Ideal)) {r : Ref sig .tc}
    (hr : r ∉ cond1_W ++ while1Ops0_W ++ while1Ops0_1_W ++ while1Ops0_2_W ++ while1Ops0_3_W ++ while1Ops0_4_W ++ while1Ops0_5_W
      ++ while1Ops0_6_W ++ while1Ops0_7_W ++ while1Ops0_8_W ++ while1Ops0_9_W ++ while1Ops0_10_W) :
    afterL body1 (after cond1 V) (Proc.devRef .tc r) = V (Proc.devRef .tc r) := by
  simp only [List.mem_append, not_or] at hr
  obtain ⟨⟨⟨⟨⟨⟨⟨⟨⟨⟨⟨hc, h0⟩, h1⟩, h2⟩, h3⟩, h4⟩, h5⟩, h6⟩, h7⟩, h8⟩, h9⟩, h10⟩ := hr
  simp only [body1, afterL_cons, afterL_nil]
  rw [after_of_writes_sub _ _ while1Ops0_10_writes h10, after_of_writes_sub _ _ while1Ops0_9_writes h9,
    after_of_writes_sub _ _ while1Ops0_8_writes h8, after_of_writes_sub _ _ while1Ops0_7_writes h7,
    after_of_writes_sub _ _ while1Ops0_6_writes h6, after_of_writes_sub _ _ while1Ops0_5_writes h5,
    after_of_writes_sub _ _ while1Ops0_4_writes h4, after_of_writes_sub _ _ while1Ops0_3_writes h3,
    after_of_writes_sub _ _ while1Ops0_2_writes h2, after_of_writes_sub _ _ while1Ops0_1_writes h1,
    after_of_writes_sub _ _ while1Ops0_writes h0, after_of_writes_sub _ _ cond1_writes hc]

variable {x l d : Arr} {k : ℕ} {V : Valuation τ sig (Elt Ideal)}

/-- The row a trip works on. -/
theorem Inv1.row (I : Inv1 x l d k V) (hk : k < 64) (j : S_.Idx) :
    (64#32 - (V (Proc.devRef .tc main_v40_5) j : BitVec 32) - 1#32).toInt = ((63 - k : ℕ) : Int) := by
  rw [I.ctr]
  exact toInt_row hk

theorem row_lt : 63 - k < 64 := by omega

/-- The gradient one trip carries on. -/
theorem Inv1.carry_next (I : Inv1 x l d k V) (hk : k < 64) (h : Fin 4) (a : Fin 128) (e : Fin 256) :
    (afterL body1 (after cond1 V) (Proc.devRef .tc main_v40_6) (ix4 0 h a e) : EReal) = Cert.Gla.carry x l d (k + 1) h e a := by
  simp only [body1, afterL_cons, afterL_nil]
  after_reads_simp
  simp -implicitDefEqProofs only [StableHlo.TRef.toBuf, StableHlo.TRef.ofBuf, cast_cast, cast_eq]
  rw [slice5 (row_lt (k := k)), slice5 (row_lt (k := k)), slice5 (row_lt (k := k))]
  · show mulf _ _ _ = _
    pointwise
    simp only [I.carry, I.gate, I.dout, I.qs, Cert.Gla.carry, gadd]
  all_goals
    intro a
    fin_cases a
    · exact I.row hk _
    all_goals rfl

/-- The stack of gradients of the states, after one trip. -/
theorem Inv1.grad_next (I : Inv1 x l d k V) (hk : k < 64) (n : Fin 64) (h : Fin 4) (a : Fin 128) (e : Fin 256)
    (hn : 63 - n.val < k + 1) :
    (afterL body1 (after cond1 V) (Proc.devRef .tc main_v40_8) (ix5 n 0 h a e) : EReal) = Cert.Gla.grad x l d n h e a := by
  simp only [body1, afterL_cons, afterL_nil]
  after_reads_simp
  simp -implicitDefEqProofs only [StableHlo.TRef.toBuf, StableHlo.TRef.ofBuf, cast_cast, cast_eq]
  rw [slice5 (row_lt (k := k)), slice5 (row_lt (k := k))]
  · refine (update5 (row_lt (k := k)) _ _ _ _ ?_ n 0 h a e).trans ?_
    · intro a
      fin_cases a
      · exact I.row hk _
      all_goals rfl
    · by_cases hnk : n.val = 63 - k
      · rw [if_pos hnk]
        pointwise
        simp only [I.carry, I.dout, I.qs, Cert.Gla.grad, gadd, hnk, show 63 - (63 - k) = k by omega]
      · rw [if_neg hnk, I.grad n h a e (by omega)]
  all_goals
    intro a
    fin_cases a
    · exact I.row hk _
    all_goals rfl

/-- The stack of gradients of the queries, after one trip. -/
theorem Inv1.dq_next (I : Inv1 x l d k V) (hk : k < 64) (n r : Fin 64) (h : Fin 4) (a : Fin 128) (hn : 63 - n.val < k + 1) :
    (afterL body1 (after cond1 V) (Proc.devRef .tc main_v40_9) (ix5 n 0 r h a) : EReal)
      = ∑ e : Fin 256, Cert.Gla.dout d n h r e.val * state x l (n + 1) h e.val a := by
  simp only [body1, afterL_cons, afterL_nil]
  after_reads_simp
  simp -implicitDefEqProofs only [StableHlo.TRef.toBuf, StableHlo.TRef.ofBuf, cast_cast, cast_eq]
  rw [slice5 (row_lt (k := k)), slice5 (row_lt (k := k))]
  · refine (update5 (row_lt (k := k)) _ _ _ _ ?_ n 0 r h a).trans ?_
    · intro a
      fin_cases a
      · exact I.row hk _
      all_goals rfl
    · by_cases hnk : n.val = 63 - k
      · rw [if_pos hnk]
        pointwise
        simp only [I.dout, I.new, hnk]
      · rw [if_neg hnk, I.dq n r h a (by omega)]
  all_goals
    intro a
    fin_cases a
    · exact I.row hk _
    all_goals rfl

/-- The stack of what the gradients of the gates sum to, after one trip. -/
theorem Inv1.dgate_next (I : Inv1 x l d k V) (hk : k < 64) (n : Fin 64) (h : Fin 4) (a : Fin 128) (hn : 63 - n.val < k + 1) :
    (afterL body1 (after cond1 V) (Proc.devRef .tc main_v40_7) (ix4 n 0 h a) : EReal)
      = ∑ e : Fin 256, Cert.Gla.grad x l d n h e.val a * state x l n h e.val a := by
  simp only [body1, afterL_cons, afterL_nil]
  after_reads_simp
  simp -implicitDefEqProofs only [StableHlo.TRef.toBuf, StableHlo.TRef.ofBuf, cast_cast, cast_eq]
  rw [slice5 (row_lt (k := k)), slice5 (row_lt (k := k)), slice5 (row_lt (k := k))]
  · refine (update4 (row_lt (k := k)) _ _ _ _ ?_ n 0 h a).trans ?_
    · intro a
      fin_cases a
      · exact I.row hk _
      all_goals rfl
    · by_cases hnk : n.val = 63 - k
      · rw [if_pos hnk]
        pointwise
        rw [sum_ends, zero_add]
        simp only [Cert.Gla.grad, gadd, hnk, show 63 - (63 - k) = k by omega]
        show @Eq EReal _ _
        refine Finset.sum_congr rfl fun e _ => ?_
        rw [mul_comm]
        refine congrArg₂ _ (congrArg₂ _ (I.carry h a e) ?_) (I.old ⟨63 - k, row_lt⟩ h a e)
        exact Finset.sum_congr rfl fun s _ => congrArg₂ _ (I.dout ⟨63 - k, row_lt⟩ s h e) (I.qs ⟨63 - k, row_lt⟩ s h a)
      · rw [if_neg hnk, I.dgate n h a (by omega)]
  all_goals
    intro a
    fin_cases a
    · exact I.row hk _
    all_goals rfl

/-- What the loop only reads is as it was. -/
theorem Saved.next (I : Saved x l d V) : Saved x l d (afterL body1 (after cond1 V)) where
  dout n r h e := by rw [keep_trip1 V (by decide +kernel)]; exact I.dout n r h e
  gate n h a := by rw [keep_trip1 V (by decide +kernel)]; exact I.gate n h a
  old n h a e := by rw [keep_trip1 V (by decide +kernel)]; exact I.old n h a e
  qs n r h a := by rw [keep_trip1 V (by decide +kernel)]; exact I.qs n r h a
  new n h a e := by rw [keep_trip1 V (by decide +kernel)]; exact I.new n h a e

/-- One trip. -/
theorem Inv1.next (I : Inv1 x l d k V) (hk : k < 64)
    (hc : afterL body1 (after cond1 V) (Proc.devRef .tc main_v40_5) = fun _ => Scf.iv 0#32 1#32 (k + 1)) :
    Inv1 x l d (k + 1) (afterL body1 (after cond1 V)) where
  toSaved := I.toSaved.next
  ctr := hc
  carry := I.carry_next hk
  dgate := I.dgate_next hk
  grad := I.grad_next hk
  dq := I.dq_next hk

variable (m : (ℓ : Loc nD τ sig) → Buf (Elt Ideal) ℓ)

/-- After `k` trips, from what is saved and a gradient of nought. -/
theorem inv1 (c : Dev nD) (hS : Saved x l d (in1 m c))
    (hz : ∀ (h : Fin 4) (a : Fin 128) (e : Fin 256),
      (in1 m c (Proc.devRef .tc main_v40_6) (ix4 0 h a e) : EReal) = Cert.Gla.carry x l d 0 h e a) :
    ∀ k ≤ 64, Inv1 x l d k (at1 m k c)
  | 0, _ => {
      toSaved := hS
      ctr := ctr_at1 m c 0
      carry := hz
      dgate := fun n _ _ hn => absurd hn (Nat.not_lt_zero _)
      grad := fun n _ _ _ hn => absurd hn (Nat.not_lt_zero _)
      dq := fun n _ _ _ hn => absurd hn (Nat.not_lt_zero _) }
  | k + 1, hk => (inv1 c hS hz k (by omega)).next (by omega) (ctr_at1 m c (k + 1))

/-- A buffer the second loop writes nothing to. -/
theorem keep_at1 (c : Dev nD) {r : Ref sig .tc}
    (hr : r ∉ cond1_W ++ while1Ops0_W ++ while1Ops0_1_W ++ while1Ops0_2_W ++ while1Ops0_3_W ++ while1Ops0_4_W ++ while1Ops0_5_W
      ++ while1Ops0_6_W ++ while1Ops0_7_W ++ while1Ops0_8_W ++ while1Ops0_9_W ++ while1Ops0_10_W) :
    ∀ k, at1 m k c (Proc.devRef .tc r) = in1 m c (Proc.devRef .tc r)
  | 0 => rfl
  | k + 1 => (keep_trip1 (at1 m k c) hr).trans (keep_at1 c hr k)

end Cert.ReferenceIdeal.Two
end
-- ==== Proof.RefPost.lean ====
module
public import proofs.«01_k».proof.Proof.RefPre
public import proofs.«01_k».proof.Proof.RefLoop1
@[expose] public section

/-!
# What the reference leaves

Between the loops the stacks of the first are handed to the second; after it the products of the keys' and values' gradients
are taken, the gradient of the gates is summed up each chunk, and the chunks are put side by side again.
-/

namespace Cert.ReferenceIdeal.Two
open Cert.ReferenceIdeal.Gen Cert.Gla Cert.ReferenceIdeal.Rows
open Idealize.ShloMosaic Idealize.ShloMosaic.TcCoe Idealize.ShloMosaic.StableHlo Idealize.ShloMosaic.Tactic

variable {x l d : Arr} {V : Valuation τ sig (Elt Ideal)}

/-! ## Between the loops -/

/-- The output's chunks side by side. -/
def Out (x l : Arr) (V : Valuation τ sig (Elt Ideal)) : Prop :=
  ∀ (i : Fin 4096) (j : Fin 1024),
    (V (Proc.devRef .tc main_v31) (ix3 0 i j) : EReal) = out x l (i / 64) (j / 256) (i % 64) (j % 256)

section
variable (I : Inv0 x l 64 V) (hq : ∀ (n r : Fin 64) (h : Fin 4) (a : Fin 128),
    (V (Proc.devRef .tc main_v23) (ix5 n 0 r h a) : EReal) = qs x n h r a)
  (hd : ∀ (i j : ℕ) (hi : i < 4096) (hj : j < 1024), (V (Proc.devRef .tc main_arg2) (ix2 ⟨i, hi⟩ ⟨j, hj⟩) : EReal) = d i j)
include I

theorem out_mid : Out x l (afterL mid (after cond0 V)) := by
  intro i j
  simp only [mid, afterL_cons, afterL_nil]
  after_reads_at
  exact I.o ⟨i.val / 64, by omega⟩ ⟨i.val % 64, by omega⟩ ⟨j.val / 256, by omega⟩ ⟨j.val % 256, by omega⟩ (by dsimp only; omega)

include hq hd

/-- What the second loop reads. -/
theorem saved_mid : Saved x l d (afterL mid (after cond0 V)) where
  dout n r h e := by
    simp only [mid, afterL_cons, afterL_nil]
    after_reads_simp
    simp -implicitDefEqProofs only [id_eq]
    pointwise
    rw [hd, Cert.Gla.dout]
    congr 1 <;> omega
  gate n h a := by
    simp only [mid, afterL_cons, afterL_nil]
    after_reads_simp
    exact I.gate n h a n.isLt
  old n h a e := by
    simp only [mid, afterL_cons, afterL_nil]
    after_reads_simp
    exact I.old n h a e n.isLt
  qs n r h a := by
    simp only [mid, afterL_cons, afterL_nil]
    after_reads_simp
    exact hq n r h a
  new n h a e := by
    simp only [mid, afterL_cons, afterL_nil]
    after_reads_simp
    exact I.new n h a e n.isLt
end

/-- The second loop's gradient starts at nought. -/
theorem start_carry (h : Fin 4) (a : Fin 128) (e : Fin 256) :
    (afterL mid V (Proc.devRef .tc main_v40_6) (ix4 0 h a e) : EReal) = carry x l d 0 h e a := by
  simp only [mid, afterL_cons, afterL_nil]
  after_reads_simp
  simp -implicitDefEqProofs only [id_eq]
  pointwise
  rw [carry]

/-! ## After the loops -/

section
variable (I : Inv1 x l d 64 V) (P : Pre x l V)
include I P

/-- The gradient of the decayed keys, as the reference takes it. -/
theorem sum_dkdec (n r : Fin 64) (h : Fin 4) (a : Fin 128) (f : Fin 256 → EReal) (g : Fin 256 → EReal)
    (hf : ∀ e, f e = V (Proc.devRef .tc main_v40_8) (ix5 n 0 h a e)) (hg : ∀ e, g e = V (Proc.devRef .tc main_v10) (ix5 0 n r h e)) :
    ∑ e : Fin 256, f e * g e = dkdec x l d n h r a := by
  rw [dkdec]
  refine Finset.sum_congr rfl fun e _ => ?_
  rw [hf, hg, I.grad n h a e (by omega), P.val, mul_comm]

theorem end_dq (i : Fin 4096) (j : Fin 512) :
    (afterL post (after cond1 V) (Proc.devRef .tc main_v69) (ix2 i j) : EReal)
      = dq x l d (i / 64) (j / 128) (i % 64) (j % 128) := by
  simp only [post, afterL_cons, afterL_nil]
  after_reads_at
  rw [I.dq _ _ _ _ (by omega)]
  rfl

theorem end_dk (i : Fin 4096) (j : Fin 512) :
    (afterL post (after cond1 V) (Proc.devRef .tc main_v71) (ix2 i j) : EReal)
      = dk x l d (i / 64) (j / 128) (i % 64) (j % 128) := by
  simp only [post, afterL_cons, afterL_nil]
  after_reads_at
  rw [sum_dkdec I P _ _ _ _ _ _ (fun _ => rfl) (fun _ => rfl), P.gate]
  rfl

/-- The gradient of the values, as the reference takes it. -/
theorem sum_dv (n r : Fin 64) (h : Fin 4) (e : Fin 256) (f : Fin 128 → EReal) (g : Fin 128 → EReal)
    (hf : ∀ a, f a = V (Proc.devRef .tc main_v40_8) (ix5 n 0 h a e)) (hg : ∀ a, g a = V (Proc.devRef .tc main_v19) (ix5 0 n r h a)) :
    ∑ a : Fin 128, f a * g a = dv x l d n h r e := by
  rw [dv]
  refine Finset.sum_congr rfl fun a _ => ?_
  rw [hf, hg, I.grad n h a e (by omega), P.kdec, mul_comm]

theorem end_dv (i : Fin 4096) (j : Fin 1024) :
    (afterL post (after cond1 V) (Proc.devRef .tc main_v73) (ix2 i j) : EReal)
      = dv x l d (i / 64) (j / 256) (i % 64) (j % 256) := by
  simp only [post, afterL_cons, afterL_nil]
  after_reads_at
  exact sum_dv I P ⟨i.val / 64, by omega⟩ ⟨i.val % 64, by omega⟩ ⟨j.val / 256, by omega⟩ ⟨j.val % 256, by omega⟩ _ _
    (fun _ => rfl) (fun _ => rfl)

/-- The gradient of the gates times themselves, as the reference takes it. -/
theorem key_wgt (n r : Fin 64) (h : Fin 4) (a : Fin 128) (k g : EReal) (f v : Fin 256 → EReal)
    (hk : k = V (Proc.devRef .tc main_v9) (ix5 0 n r h a)) (hg : g = V (Proc.devRef .tc main_v18) (ix5 0 n r h a))
    (hf : ∀ e, f e = V (Proc.devRef .tc main_v40_8) (ix5 n 0 h a e)) (hv : ∀ e, v e = V (Proc.devRef .tc main_v10) (ix5 0 n r h e)) :
    k * (∑ e : Fin 256, f e * v e) * g = wgt x l d n h r a := by
  rw [wgt, sum_dkdec I P n r h a f v hf hv, hk, hg, P.key, P.gate, mul_comm (key x n h r a)]

/-- The gradient of the running sum of log gates. -/
theorem end_dcum (n r : Fin 64) (h : Fin 4) (a : Fin 128) :
    (after hostOps0_4 (after cond1 V) (Proc.devRef .tc main_v59) (ix5 0 n r h a) : EReal) = dcum x l d n h r a := by
  after_reads_at
  rw [sum_first_third]
  by_cases hr : r.val = 63
  · rw [dif_pos ⟨by omega, by omega⟩, dcum, if_pos hr, dtot]
    refine (congrArg₂ (fun u t : EReal => -u + t)
      (key_wgt I P n r h a _ _ _ _ rfl rfl (fun _ => rfl) (fun _ => rfl))
      (congrArg₂ (fun u t : EReal => u + (0 + t)) (congrArg₂ (fun u t : EReal => u * t) (I.dgate n h a (by omega)) (P.dec n h a))
        (Finset.sum_congr rfl fun s _ => key_wgt I P n s h a _ _ _ _ rfl rfl (fun _ => rfl) (fun _ => rfl)))).trans ?_
    rw [zero_add, add_comm, sub_eq_add_neg, add_comm (_ * _)]
  · rw [dif_neg (by omega), dcum, if_neg hr, add_zero]
    exact congrArg (fun u : EReal => -u) (key_wgt I P n r h a _ _ _ _ rfl rfl (fun _ => rfl) (fun _ => rfl))

theorem end_dla (i : Fin 4096) (j : Fin 512) :
    (afterL post (after cond1 V) (Proc.devRef .tc main_v74) (ix2 i j) : EReal)
      = dla x l d (i / 64) (j / 128) (i % 64) (j % 128) := by
  have h0 : ∀ V : Valuation τ sig (Elt Ideal), (after hostOps0_6 V (Proc.devRef .tc main_v74) (ix2 i j) : EReal)
      = V (Proc.devRef .tc main_v60) (ix5 0 ⟨i / 64, by omega⟩ ⟨i % 64, by omega⟩ ⟨j / 128, by omega⟩ ⟨j % 128, by omega⟩) := by
    intro V
    after_reads_at
  have h1 : ∀ (V : Valuation τ sig (Elt Ideal)) (z : S1x64x64x4x128.Idx → EReal) (_ : V (Proc.devRef .tc main_v59) = z)
      (n r : Fin 64) (h : Fin 4) (a : Fin 128), (after hostOps0_5 V (Proc.devRef .tc main_v60) (ix5 0 n r h a) : EReal)
      = ∑ s : Fin 64, if r.val ≤ s.val then z (ix5 0 n s h a) else 0 := by
    intro V z hz n r h a
    subst hz
    after_reads_simp
    simp -implicitDefEqProofs only [StableHlo.TRef.toBuf, StableHlo.TRef.ofBuf, cast_cast, cast_eq]
    refine Cumsum.up _ _ _ _ ?_ n r h a
    pointwise
  simp only [post, afterL_cons, afterL_nil]
  rw [h0]
  refine (h1 _ _ rfl _ _ _ _).trans ?_
  rw [dla]
  show @Eq EReal _ _
  exact Finset.sum_congr rfl fun s _ => by rw [end_dcum I P]
end

theorem end_out (hO : Out x l V) (i : Fin 4096) (j : Fin 1024) :
    (afterL post (after cond1 V) (Proc.devRef .tc main_v67) (ix2 i j) : EReal)
      = out x l (i / 64) (j / 256) (i % 64) (j % 256) := by
  simp only [post, afterL_cons, afterL_nil]
  after_reads_at
  exact hO i j

end Cert.ReferenceIdeal.Two
end
-- ==== Proof.RefVal.lean ====
module
public import proofs.«01_k».proof.Proof.RefPost
@[expose] public section

/-!
# The run of the reference: what its five results hold
-/

namespace Cert.ReferenceIdeal.Two
open Cert.ReferenceIdeal.Gen Cert.Gla Cert.ReferenceIdeal.Rows
open Idealize.ShloMosaic Idealize.ShloMosaic.TcCoe Idealize.ShloMosaic.StableHlo

variable (m : (ℓ : Loc nD τ sig) → Buf (Elt Ideal) ℓ) (c : Dev nD)

/-- The packed array. -/
noncomputable def xOf : Arr := arr (M := 4096) (N := 3072) (m ((c.tc : Thread nD τ).loc main_arg0))
/-- The log gates. -/
noncomputable def lOf : Arr := arr (M := 4096) (N := 512) (m ((c.tc : Thread nD τ).loc main_arg1))
/-- The gradient of the output. -/
noncomputable def dOf : Arr := arr (M := 4096) (N := 1024) (m ((c.tc : Thread nD τ).loc main_arg2))

theorem args : Args (xOf m c) (lOf m c) (dOf m c) (launchContents m c) where
  x i j hi hj := by rw [xOf, arr, dif_pos ⟨hi, hj⟩]
  l i j hi hj := by rw [lOf, arr, dif_pos ⟨hi, hj⟩]
  d i j hi hj := by rw [dOf, arr, dif_pos ⟨hi, hj⟩]

/-- A buffer that neither loop nor the operations between them write. -/
theorem keep_loops {r : Ref sig .tc}
    (h0 : r ∉ cond0_W ++ while0Ops0_W ++ while0Ops0_1_W ++ while0Ops0_2_W ++ while0Ops0_3_W ++ while0Ops0_4_W ++ while0Ops0_5_W
      ++ while0Ops0_6_W ++ while0Ops0_7_W ++ while0Ops0_8_W)
    (hm : r ∉ hostOps0_3_W)
    (h1 : r ∉ cond1_W ++ while1Ops0_W ++ while1Ops0_1_W ++ while1Ops0_2_W ++ while1Ops0_3_W ++ while1Ops0_4_W ++ while1Ops0_5_W
      ++ while1Ops0_6_W ++ while1Ops0_7_W ++ while1Ops0_8_W ++ while1Ops0_9_W ++ while1Ops0_10_W) :
    at1 m 64 c (Proc.devRef .tc r) = in0 m c (Proc.devRef .tc r) := by
  have hc : r ∉ cond0_W := by
    simp only [List.mem_append, not_or] at h0
    exact h0.1.1.1.1.1.1.1.1.1
  refine (keep_at1 m c h1 64).trans (Eq.trans ?_ (keep_at0 m c h0 64))
  simp only [in1, mid, afterL_cons, afterL_nil]
  rw [after_of_writes_sub _ _ hostOps0_3_writes hm, after_of_writes_sub _ _ cond0_writes hc]

theorem loop0_end : Inv0 (xOf m c) (lOf m c) 64 (at0 m 64 c) :=
  inv0 m c (args m c).chunks (fun h a e => by
    simp only [in0, pre, afterL_cons, afterL_nil]
    exact start_state h a e) 64 le_rfl

theorem saved : Saved (xOf m c) (lOf m c) (dOf m c) (in1 m c) :=
  saved_mid (loop0_end m c)
    (fun n r h a => by rw [keep_at0 m c (by decide +kernel) 64]; exact (args m c).pre.qs n r h a)
    (fun i j hi hj => by
      rw [keep_at0 m c (by decide +kernel) 64]
      simp only [in0, pre, afterL_cons, afterL_nil]
      rw [after_of_writes_sub _ _ hostOps0_2_writes (by decide +kernel), after_of_writes_sub _ _ hostOps0_1_writes (by decide +kernel),
        after_of_writes_sub _ _ hostOps0_writes (by decide +kernel)]
      exact (args m c).d i j hi hj)

theorem loop1_end : Inv1 (xOf m c) (lOf m c) (dOf m c) 64 (at1 m 64 c) :=
  inv1 m c (saved m c) (fun h a e => start_carry h a e) 64 le_rfl

theorem pre_end : Pre (xOf m c) (lOf m c) (at1 m 64 c) where
  key n r h a := by rw [keep_loops m c (by decide +kernel) (by decide +kernel) (by decide +kernel)]; exact (args m c).pre.key n r h a
  val n r h a := by rw [keep_loops m c (by decide +kernel) (by decide +kernel) (by decide +kernel)]; exact (args m c).pre.val n r h a
  gate n r h a := by rw [keep_loops m c (by decide +kernel) (by decide +kernel) (by decide +kernel)]; exact (args m c).pre.gate n r h a
  kdec n r h a := by rw [keep_loops m c (by decide +kernel) (by decide +kernel) (by decide +kernel)]; exact (args m c).pre.kdec n r h a
  dec n h a := by rw [keep_loops m c (by decide +kernel) (by decide +kernel) (by decide +kernel)]; exact (args m c).pre.dec n h a
  qs n r h a := by rw [keep_loops m c (by decide +kernel) (by decide +kernel) (by decide +kernel)]; exact (args m c).pre.qs n r h a

theorem out_end : Out (xOf m c) (lOf m c) (at1 m 64 c) := by
  intro i j
  rw [keep_at1 m c (by decide +kernel) 64]
  exact out_mid (loop0_end m c) i j

/-! ## The five results -/

theorem final_o (i : Fin 4096) (j : Fin 1024) : (finalR m c (Proc.devRef .tc main_v67) (ix2 i j) : EReal)
    = out (xOf m c) (lOf m c) (i / 64) (j / 256) (i % 64) (j % 256) := end_out (out_end m c) i j

theorem final_dq (i : Fin 4096) (j : Fin 512) : (finalR m c (Proc.devRef .tc main_v69) (ix2 i j) : EReal)
    = dq (xOf m c) (lOf m c) (dOf m c) (i / 64) (j / 128) (i % 64) (j % 128) := end_dq (loop1_end m c) (pre_end m c) i j

theorem final_dk (i : Fin 4096) (j : Fin 512) : (finalR m c (Proc.devRef .tc main_v71) (ix2 i j) : EReal)
    = dk (xOf m c) (lOf m c) (dOf m c) (i / 64) (j / 128) (i % 64) (j % 128) := end_dk (loop1_end m c) (pre_end m c) i j

theorem final_dv (i : Fin 4096) (j : Fin 1024) : (finalR m c (Proc.devRef .tc main_v73) (ix2 i j) : EReal)
    = dv (xOf m c) (lOf m c) (dOf m c) (i / 64) (j / 256) (i % 64) (j % 256) := end_dv (loop1_end m c) (pre_end m c) i j

theorem final_dla (i : Fin 4096) (j : Fin 512) : (finalR m c (Proc.devRef .tc main_v74) (ix2 i j) : EReal)
    = dla (xOf m c) (lOf m c) (dOf m c) (i / 64) (j / 128) (i % 64) (j % 128) := end_dla (loop1_end m c) (pre_end m c) i j

end Cert.ReferenceIdeal.Two
end
-- ==== Proof.Equation.lean ====
module
public import proofs.«01_k».proof.Proof.KerVal
public import proofs.«01_k».proof.Proof.RefVal
@[expose] public section

/-!
# The equation

From equal arguments the reference's five results are the kernel's, entry by entry: both are what `Gla` says.
-/

namespace Cert.Equation
open Cert.Gla
open Idealize.ShloMosaic Idealize.ShloMosaic.TcCoe

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)
variable (hx : m' ((c.tc : Thread ReferenceIdeal.nD ReferenceIdeal.τ).loc ReferenceIdeal.main_arg0)
  = m ((c.tc : Thread KernelIdeal.nD KernelIdeal.τ).loc KernelIdeal.main_arg0))
variable (hl : m' ((c.tc : Thread ReferenceIdeal.nD ReferenceIdeal.τ).loc ReferenceIdeal.main_arg1)
  = m ((c.tc : Thread KernelIdeal.nD KernelIdeal.τ).loc KernelIdeal.main_arg1))
variable (hd : m' ((c.tc : Thread ReferenceIdeal.nD ReferenceIdeal.τ).loc ReferenceIdeal.main_arg2)
  = m ((c.tc : Thread KernelIdeal.nD KernelIdeal.τ).loc KernelIdeal.main_arg2))

include hx in
theorem x_eq : ReferenceIdeal.Two.xOf m' c = KernelIdeal.R0.xOf m c := congrArg (arr (M := 4096) (N := 3072)) hx
include hl in
theorem l_eq : ReferenceIdeal.Two.lOf m' c = KernelIdeal.R0.lOf m c := congrArg (arr (M := 4096) (N := 512)) hl
include hd in
theorem d_eq : ReferenceIdeal.Two.dOf m' c = KernelIdeal.R1.dOf m c := congrArg (arr (M := 4096) (N := 1024)) hd

include hx hl in
theorem o_eq : ReferenceIdeal.Two.finalR m' c (Proc.devRef .tc ReferenceIdeal.main_v67)
    = KernelIdeal.Both.W2 m c (Proc.devRef .tc KernelIdeal.main_v0_0) := by
  rw [KernelIdeal.Both.W2_o]
  funext y
  obtain ⟨i, j, rfl⟩ : ∃ (i : Fin 4096) (j : Fin 1024), y = ix2 i j := ⟨y 0, y 1, eq_ix2 y⟩
  refine (ReferenceIdeal.Two.final_o m' c i j).trans ?_
  rw [x_eq m m' c hx, l_eq m m' c hl]
  rfl

include hx hl hd

theorem dq_eq : ReferenceIdeal.Two.finalR m' c (Proc.devRef .tc ReferenceIdeal.main_v69)
    = KernelIdeal.Both.W2 m c (Proc.devRef .tc KernelIdeal.main_v1_0) := by
  rw [KernelIdeal.Both.W2_dq]
  funext y
  obtain ⟨i, j, rfl⟩ : ∃ (i : Fin 4096) (j : Fin 512), y = ix2 i j := ⟨y 0, y 1, eq_ix2 y⟩
  refine (ReferenceIdeal.Two.final_dq m' c i j).trans ?_
  rw [x_eq m m' c hx, l_eq m m' c hl, d_eq m m' c hd]
  rfl

theorem dk_eq : ReferenceIdeal.Two.finalR m' c (Proc.devRef .tc ReferenceIdeal.main_v71)
    = KernelIdeal.Both.W2 m c (Proc.devRef .tc KernelIdeal.main_v1_1) := by
  rw [KernelIdeal.Both.W2_dk]
  funext y
  obtain ⟨i, j, rfl⟩ : ∃ (i : Fin 4096) (j : Fin 512), y = ix2 i j := ⟨y 0, y 1, eq_ix2 y⟩
  refine (ReferenceIdeal.Two.final_dk m' c i j).trans ?_
  rw [x_eq m m' c hx, l_eq m m' c hl, d_eq m m' c hd]
  rfl

theorem dv_eq : ReferenceIdeal.Two.finalR m' c (Proc.devRef .tc ReferenceIdeal.main_v73)
    = KernelIdeal.Both.W2 m c (Proc.devRef .tc KernelIdeal.main_v1_2) := by
  rw [KernelIdeal.Both.W2_dv]
  funext y
  obtain ⟨i, j, rfl⟩ : ∃ (i : Fin 4096) (j : Fin 1024), y = ix2 i j := ⟨y 0, y 1, eq_ix2 y⟩
  refine (ReferenceIdeal.Two.final_dv m' c i j).trans ?_
  rw [x_eq m m' c hx, l_eq m m' c hl, d_eq m m' c hd]
  rfl

theorem dla_eq : ReferenceIdeal.Two.finalR m' c (Proc.devRef .tc ReferenceIdeal.main_v74)
    = KernelIdeal.Both.W2 m c (Proc.devRef .tc KernelIdeal.main_v1_3) := by
  rw [KernelIdeal.Both.W2_dla]
  funext y
  obtain ⟨i, j, rfl⟩ : ∃ (i : Fin 4096) (j : Fin 512), y = ix2 i j := ⟨y 0, y 1, eq_ix2 y⟩
  refine (ReferenceIdeal.Two.final_dla m' c i j).trans ?_
  rw [x_eq m m' c hx, l_eq m m' c hl, d_eq m m' c hd]
  rfl

end Cert.Equation
end
-- ==== Proof.Entries.lean ====
module
public import proofs.«01_k».proof.Defs
public import Idealize.ShloMosaic.Lib.Pointwise
public import Idealize.ShloMosaic.Lib.Pipeline.ValueKit.Geometry
@[expose] public section

/-!
# Entries of arrays named by the values of their coordinates

What the modules on the products share.
-/

namespace Cert.Entries

open Idealize.ShloMosaic Idealize.SL.Sem

/-- Offsets of a block that starts where its buffer starts. -/
theorem zero2 : (![0, 0] : Fin 2 → Nat) = fun _ => 0 := funext fun a => by fin_cases a <;> rfl

theorem zero3 : (![0, 0, 0] : Fin 3 → Nat) = fun _ => 0 := funext fun a => by fin_cases a <;> rfl

/-- Two places of a matrix with the same coordinates hold the same entry. -/
theorem same2 {A B : ℕ} (f : (⟨2, ![A, B]⟩ : Shape).Idx → EReal) (y z : (⟨2, ![A, B]⟩ : Shape).Idx)
    (h0 : (y 0).val = (z 0).val) (h1 : (y 1).val = (z 1).val) : f y = f z :=
  congrArg f (funext fun a => by fin_cases a; exacts [Fin.ext h0, Fin.ext h1])

/-- The same for an array of three dimensions. -/
theorem same3 {A B C : ℕ} (f : (⟨3, ![A, B, C]⟩ : Shape).Idx → EReal) (y z : (⟨3, ![A, B, C]⟩ : Shape).Idx)
    (h0 : (y 0).val = (z 0).val) (h1 : (y 1).val = (z 1).val) (h2 : (y 2).val = (z 2).val) : f y = f z :=
  congrArg f (funext fun a => by fin_cases a; exacts [Fin.ext h0, Fin.ext h1, Fin.ext h2])

/-- A program without semaphores that keeps `P` ends with `P` and no counter raised. -/
theorem quiet {nD : ℕ} {τ : Topo} {sig : RefSig} {Λ : Labels} {Val : EltTy → Type} {defs : Defs nD τ sig Val Λ}
    {p : (c : Thread nD τ) → Prog (TpuEff nD τ sig Val Λ c.2) PUnit} {s : MemSt nD τ sig Val} {P Q : PUnit × MemSt nD τ sig Val → Dev nD → Prop}
    (h0 : sig.nSem + sig.nDmaSem = 0) (k : ∀ r c, Q r c → P r c) (h : θ_run defs p s fun r => ∀ c, Q r c) :
    θ_run defs p s fun r => (∀ c, P r c) ∧ r.2.sem = fun _ => 0 :=
  (θ_run defs p s).mono (fun r e => ⟨fun c => k r c (e c), sem_eq_zero_of_no_sems h0 r.2⟩) h

end Cert.Entries
-- ==== Proof.Products.lean ====
module
public import proofs.«01_k».proof.Proof.Entries
@[expose] public section

/-!
# Products of two matrices, and their blocks

A matrix product as a function of its two operands, as it stands (`nn`), with its right operand transposed (`nt`) and with its
left one transposed (`tn`); and what a block of rows and columns of the result is in terms of blocks of the operands.
-/

namespace Cert.Products

open Idealize.ShloMosaic Cert.Entries

/-- Matrices of extended reals. -/
abbrev Mat (A B : ℕ) : Type := (⟨2, ![A, B]⟩ : Shape).Idx → EReal

variable {M N K m n : ℕ}

/-- Rows of the left operand times columns of the right one. -/
noncomputable def nn (x : Mat M K) (w : Mat K N) : Mat M N := fun y =>
  ∑ k : Fin K, x (ix2 (n0 := M) (y 0) k) * w (ix2 (n1 := N) k (y 1))

/-- Rows of the left operand times rows of the right one. -/
noncomputable def nt (x : Mat M K) (w : Mat N K) : Mat M N := fun y =>
  ∑ k : Fin K, x (ix2 (n0 := M) (y 0) k) * w (ix2 (n0 := N) (y 1) k)

/-- Columns of the left operand times columns of the right one. -/
noncomputable def tn (x : Mat K M) (w : Mat K N) : Mat M N := fun y =>
  ∑ k : Fin K, x (ix2 (n1 := M) k (y 0)) * w (ix2 (n1 := N) k (y 1))

/-- The places of a block that starts at row `r` and column `c` of a matrix. -/
def Placed {a b A B : ℕ} (e : (⟨2, ![a, b]⟩ : Shape).Idx → (⟨2, ![A, B]⟩ : Shape).Idx) (r c : ℕ) : Prop :=
  ∀ p, (e p 0).val = r + 1 * (p 0).val ∧ (e p 1).val = c + 1 * (p 1).val

/-- A block of `nn` whose rows are the left block's and whose columns are the right block's. -/
theorem nn_block {x : Mat M K} {w : Mat K N} {ex : (⟨2, ![m, K]⟩ : Shape).Idx → (⟨2, ![M, K]⟩ : Shape).Idx}
    {ew : (⟨2, ![K, n]⟩ : Shape).Idx → (⟨2, ![K, N]⟩ : Shape).Idx} {eo : (⟨2, ![m, n]⟩ : Shape).Idx → (⟨2, ![M, N]⟩ : Shape).Idx}
    {r r' c c' z z' : ℕ} (hx : Placed ex r' z) (hw : Placed ew z' c') (ho : Placed eo r c)
    (h : r' = r ∧ z = 0 ∧ z' = 0 ∧ c' = c) (y : (⟨2, ![m, n]⟩ : Shape).Idx) :
    nn (fun p => x (ex p)) (fun p => w (ew p)) y = nn x w (eo y) := by
  obtain ⟨rfl, rfl, rfl, rfl⟩ := h
  refine Finset.sum_congr rfl fun k _ => congrArg₂ (fun a b : EReal => a * b) (same2 x _ _ ?_ ?_) (same2 w _ _ ?_ ?_)
  · exact (hx _).1.trans (ho y).1.symm
  · exact (hx _).2.trans (by show 0 + 1 * k.val = k.val; omega)
  · exact (hw _).1.trans (by show 0 + 1 * k.val = k.val; omega)
  · exact (hw _).2.trans (ho y).2.symm

/-- A block of `nt` whose rows are the left block's and whose columns are the right block's rows. -/
theorem nt_block {x : Mat M K} {w : Mat N K} {ex : (⟨2, ![m, K]⟩ : Shape).Idx → (⟨2, ![M, K]⟩ : Shape).Idx}
    {ew : (⟨2, ![n, K]⟩ : Shape).Idx → (⟨2, ![N, K]⟩ : Shape).Idx} {eo : (⟨2, ![m, n]⟩ : Shape).Idx → (⟨2, ![M, N]⟩ : Shape).Idx}
    {r r' c c' z z' : ℕ} (hx : Placed ex r' z) (hw : Placed ew c' z') (ho : Placed eo r c)
    (h : r' = r ∧ z = 0 ∧ c' = c ∧ z' = 0) (y : (⟨2, ![m, n]⟩ : Shape).Idx) :
    nt (fun p => x (ex p)) (fun p => w (ew p)) y = nt x w (eo y) := by
  obtain ⟨rfl, rfl, rfl, rfl⟩ := h
  refine Finset.sum_congr rfl fun k _ => congrArg₂ (fun a b : EReal => a * b) (same2 x _ _ ?_ ?_) (same2 w _ _ ?_ ?_)
  · exact (hx _).1.trans (ho y).1.symm
  · exact (hx _).2.trans (by show 0 + 1 * k.val = k.val; omega)
  · exact (hw _).1.trans (ho y).2.symm
  · exact (hw _).2.trans (by show 0 + 1 * k.val = k.val; omega)

/-- A block of `tn` whose rows are the left block's columns and whose columns are the right block's. -/
theorem tn_block {x : Mat K M} {w : Mat K N} {ex : (⟨2, ![K, m]⟩ : Shape).Idx → (⟨2, ![K, M]⟩ : Shape).Idx}
    {ew : (⟨2, ![K, n]⟩ : Shape).Idx → (⟨2, ![K, N]⟩ : Shape).Idx} {eo : (⟨2, ![m, n]⟩ : Shape).Idx → (⟨2, ![M, N]⟩ : Shape).Idx}
    {r r' c c' z z' : ℕ} (hx : Placed ex z r') (hw : Placed ew z' c') (ho : Placed eo r c)
    (h : z = 0 ∧ r' = r ∧ z' = 0 ∧ c' = c) (y : (⟨2, ![m, n]⟩ : Shape).Idx) :
    tn (fun p => x (ex p)) (fun p => w (ew p)) y = tn x w (eo y) := by
  obtain ⟨rfl, rfl, rfl, rfl⟩ := h
  refine Finset.sum_congr rfl fun k _ => congrArg₂ (fun a b : EReal => a * b) (same2 x _ _ ?_ ?_) (same2 w _ _ ?_ ?_)
  · exact (hx _).1.trans (by show 0 + 1 * k.val = k.val; omega)
  · exact (hx _).2.trans (ho y).1.symm
  · exact (hw _).1.trans (by show 0 + 1 * k.val = k.val; omega)
  · exact (hw _).2.trans (ho y).2.symm

end Cert.Products
-- ==== Proof.Slabs.lean ====
module
public import proofs.«01_k».proof.Proof.Products
@[expose] public section

/-!
# Products with a weight kept in slabs, and products summed in parts

Some weights are kept as slabs of columns. `wide` puts the slabs side by side in one matrix and `slabs` takes such a matrix apart;
the lemmas on blocks say which block of the whole product a product with some of the slabs is. The last part cuts the sum over the
shared axis into equal pieces.
-/

namespace Cert.Products

open Idealize.ShloMosaic Cert.Entries

/-- Slabs of matrices of extended reals. -/
abbrev Slab (B A C : ℕ) : Type := (⟨3, ![B, A, C]⟩ : Shape).Idx → EReal

variable {M N K B C m n b : ℕ}

/-- The slabs side by side. -/
noncomputable def wide {A : ℕ} (h : N = B * C ∧ 0 < C) (w : Slab B A C) : Mat A N := fun y =>
  w (ix3 ⟨(y 1).val / C, Nat.div_lt_of_lt_mul (lt_of_lt_of_eq (y 1).isLt (h.1.trans (Nat.mul_comm B C)))⟩ (y 0) ⟨(y 1).val % C, Nat.mod_lt _ h.2⟩)

/-- A column of the wide matrix: where an entry of the slabs lies. -/
def column (h : N = B * C) (q : Fin B) (k : Fin C) : Fin N :=
  ⟨q.val * C + k.val, by
    have e : (q.val + 1) * C ≤ B * C := Nat.mul_le_mul_right C q.isLt
    rw [Nat.add_mul, Nat.one_mul] at e
    have := k.isLt; omega⟩

/-- A matrix taken apart into slabs. -/
noncomputable def slabs {A : ℕ} (h : N = B * C) (w : Mat A N) : Slab B A C := fun y => w (ix2 (y 1) (column h (y 0) (y 2)))

/-- The places of a block of slabs that starts at slab `s`, row `r` and column `c`. -/
def Placed3 {a₀ a₁ a₂ A₀ A₁ A₂ : ℕ} (e : (⟨3, ![a₀, a₁, a₂]⟩ : Shape).Idx → (⟨3, ![A₀, A₁, A₂]⟩ : Shape).Idx) (s r c : ℕ) : Prop :=
  ∀ p, (e p 0).val = s + 1 * (p 0).val ∧ (e p 1).val = r + 1 * (p 1).val ∧ (e p 2).val = c + 1 * (p 2).val

/-- An entry of some of the slabs, side by side, as an entry of all of them. -/
theorem wide_block {A : ℕ} {h : N = B * C ∧ 0 < C} {h' : n = b * C ∧ 0 < C} {w : Slab B A C}
    {ew : (⟨3, ![b, A, C]⟩ : Shape).Idx → (⟨3, ![B, A, C]⟩ : Shape).Idx} {s : ℕ} (hw : Placed3 ew s 0 0)
    (p : (⟨2, ![A, n]⟩ : Shape).Idx) (z : (⟨2, ![A, N]⟩ : Shape).Idx) (h0 : (p 0).val = (z 0).val) (h1 : s * C + (p 1).val = (z 1).val) :
    wide h' (fun q => w (ew q)) p = wide h w z := by
  refine same3 w _ _ ?_ ?_ ?_
  · refine (hw _).1.trans ?_
    show s + 1 * ((p 1).val / C) = (z 1).val / C
    rw [← h1, Nat.one_mul, Nat.add_comm (s * C), Nat.add_mul_div_right _ _ h.2, Nat.add_comm]
  · refine (hw _).2.1.trans ?_
    show 0 + 1 * (p 0).val = (z 0).val
    omega
  · refine (hw _).2.2.trans ?_
    show 0 + 1 * ((p 1).val % C) = (z 1).val % C
    rw [← h1, Nat.add_comm (s * C), Nat.add_mul_mod_self_right]; omega

/-- A product with a single slab. -/
theorem nn_one {hC : C = 1 * C ∧ 0 < C} (x : Mat M K) (w : Slab 1 K C) (y : (⟨2, ![M, C]⟩ : Shape).Idx) :
    nn x (wide hC w) y = ∑ k : Fin K, x (ix2 (n0 := M) (y 0) k) * w (ix3 (n2 := C) (0 : Fin 1) k (y 1)) :=
  Finset.sum_congr rfl fun _ _ => congrArg₂ (fun a b : EReal => a * b) rfl
    (same3 w _ _ (Nat.div_eq_of_lt (y 1).isLt) rfl (Nat.mod_eq_of_lt (y 1).isLt))

/-- A matrix taken apart into a single slab. -/
theorem slabs_one {A : ℕ} {hC : C = 1 * C} (w : Mat A C) (y : (⟨3, ![1, A, C]⟩ : Shape).Idx) :
    slabs hC w y = w (ix2 (n0 := A) (n1 := C) (y 1) (y 2)) :=
  same2 w _ _ rfl (by
    have h0 : (y 0).val = 0 := Nat.lt_one_iff.mp (y 0).isLt
    show (y 0).val * C + (y 2).val = (y 2).val
    rw [h0, Nat.zero_mul, Nat.zero_add])

/-- A block of `nn` whose columns are one slab's. -/
theorem nn_slab {hN : N = B * C ∧ 0 < C} {hC : C = 1 * C ∧ 0 < C} {x : Mat M K} {w : Slab B K C}
    {ex : (⟨2, ![m, K]⟩ : Shape).Idx → (⟨2, ![M, K]⟩ : Shape).Idx}
    {ew : (⟨3, ![1, K, C]⟩ : Shape).Idx → (⟨3, ![B, K, C]⟩ : Shape).Idx} {eo : (⟨2, ![m, C]⟩ : Shape).Idx → (⟨2, ![M, N]⟩ : Shape).Idx}
    {r r' c s z z' z'' : ℕ} (hx : Placed ex r' z) (hw : Placed3 ew s z' z'') (ho : Placed eo r c)
    (h : r' = r ∧ z = 0 ∧ z' = 0 ∧ z'' = 0 ∧ s * C = c) (y : (⟨2, ![m, C]⟩ : Shape).Idx) :
    nn (fun p => x (ex p)) (wide hC fun p => w (ew p)) y = nn x (wide hN w) (eo y) := by
  obtain ⟨rfl, rfl, rfl, rfl, rfl⟩ := h
  refine Finset.sum_congr rfl fun k _ => congrArg₂ (fun a b : EReal => a * b) (same2 x _ _ ?_ ?_) (wide_block hw _ _ rfl ?_)
  · exact (hx _).1.trans (ho y).1.symm
  · exact (hx _).2.trans (by show 0 + 1 * k.val = k.val; omega)
  · exact ((ho y).2.trans (by show _ = s * C + (y 1).val; rw [Nat.one_mul])).symm

/-- A slab of `tn` whose columns are the right block's. -/
theorem tn_slab {hN : N = B * C} {hC : C = 1 * C} {x : Mat K M} {w : Mat K N}
    {ex : (⟨2, ![K, m]⟩ : Shape).Idx → (⟨2, ![K, M]⟩ : Shape).Idx} {ew : (⟨2, ![K, C]⟩ : Shape).Idx → (⟨2, ![K, N]⟩ : Shape).Idx}
    {eo : (⟨3, ![1, m, C]⟩ : Shape).Idx → (⟨3, ![B, M, C]⟩ : Shape).Idx}
    {r r' c s z z' z'' : ℕ} (hx : Placed ex z r') (hw : Placed ew z' c) (ho : Placed3 eo s r z'')
    (h : z = 0 ∧ r' = r ∧ z' = 0 ∧ c = s * C ∧ z'' = 0) (y : (⟨3, ![1, m, C]⟩ : Shape).Idx) :
    slabs hC (tn (fun p => x (ex p)) (fun p => w (ew p))) y = slabs hN (tn x w) (eo y) := by
  obtain ⟨rfl, rfl, rfl, rfl, rfl⟩ := h
  unfold slabs tn
  refine Finset.sum_congr rfl fun k _ => congrArg₂ (fun a b : EReal => a * b) (same2 x _ _ ?_ ?_) (same2 w _ _ ?_ ?_)
  · exact (hx _).1.trans (by show 0 + 1 * k.val = k.val; omega)
  · exact (hx _).2.trans (ho y).2.1.symm
  · exact (hw _).1.trans (by show 0 + 1 * k.val = k.val; omega)
  · have h0 : (y 0).val = 0 := Nat.lt_one_iff.mp (y 0).isLt
    refine (hw _).2.trans ?_
    show s * C + 1 * ((y 0).val * C + (y 2).val) = (eo y 0).val * C + (eo y 2).val
    rw [(ho y).1, (ho y).2.2, h0]
    simp only [Nat.one_mul, Nat.zero_mul, Nat.zero_add, Nat.add_zero]

/-! ## Sums in pieces -/

/-- A sum over two ranges one after the other. -/
theorem sum_two {V W : ℕ} (h : K = V + W) (f : Fin K → EReal) :
    ∑ k, f k = ∑ k : Fin V, f ⟨k.val, by omega⟩ + ∑ k : Fin W, f ⟨V + k.val, by omega⟩ := by
  subst h
  exact Fin.sum_univ_add f

/-- The part of an entry of `nt` that the `W` columns from `z` on make. -/
noncomputable def piece (x : Mat M K) (w : Mat N K) (W z : ℕ) : Mat M N := fun y =>
  ∑ k : Fin W, if h : z + k.val < K then x (ix2 (n0 := M) (y 0) ⟨z + k.val, h⟩) * w (ix2 (n0 := N) (y 1) ⟨z + k.val, h⟩) else 0

theorem nt_two {W : ℕ} (h : K = W + W) (x : Mat M K) (w : Mat N K) (y : (⟨2, ![M, N]⟩ : Shape).Idx) :
    piece x w W 0 y + piece x w W W y = nt x w y := by
  unfold piece nt
  rw [sum_two h]
  refine congrArg₂ (fun a b : EReal => a + b) (Finset.sum_congr rfl fun k _ => ?_) (Finset.sum_congr rfl fun k _ => ?_)
  · rw [dif_pos (by omega)]
    simp only [Nat.zero_add]
  · rw [dif_pos (by omega)]

theorem nt_four {W : ℕ} (h : K = W + W + W + W) (x : Mat M K) (w : Mat N K) (y : (⟨2, ![M, N]⟩ : Shape).Idx) :
    piece x w W 0 y + piece x w W W y + piece x w W (W + W) y + piece x w W (W + W + W) y = nt x w y := by
  unfold piece nt
  rw [sum_two h, sum_two (K := W + W + W) rfl, sum_two (K := W + W) rfl]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  · rw [dif_pos (by omega)]
    simp only [Nat.zero_add]
  all_goals rw [dif_pos (by omega)]

/-- A product with two slabs. -/
theorem nt_pair {W : ℕ} {hW : W = 2 * C ∧ 0 < C} (x : Mat M W) (w : Slab 2 N C) (y : (⟨2, ![M, N]⟩ : Shape).Idx) :
    nt x (wide hW w) y = ∑ k : Fin C, x (ix2 (n0 := M) (y 0) ⟨k.val, by omega⟩) * w (ix3 (n1 := N) (0 : Fin 2) (y 1) k)
      + ∑ k : Fin C, x (ix2 (n0 := M) (y 0) ⟨C + k.val, by omega⟩) * w (ix3 (n1 := N) (1 : Fin 2) (y 1) k) := by
  unfold nt
  rw [sum_two (V := C) (W := C) (by omega)]
  refine congrArg₂ (fun a b : EReal => a + b) (Finset.sum_congr rfl fun k _ => ?_) (Finset.sum_congr rfl fun k _ => ?_)
  · exact congrArg₂ (fun a b : EReal => a * b) rfl (same3 w _ _ (Nat.div_eq_of_lt k.isLt) rfl (Nat.mod_eq_of_lt k.isLt))
  · refine congrArg₂ (fun a b : EReal => a * b) rfl (same3 w _ _ ?_ rfl ?_)
    · show (C + k.val) / C = 1
      rw [Nat.add_div_left _ hW.2, Nat.div_eq_of_lt k.isLt]
    · show (C + k.val) % C = k.val
      rw [Nat.add_mod_left, Nat.mod_eq_of_lt k.isLt]

/-- A product with some of the slabs is a piece of the product with all of them. -/
theorem nt_piece {W : ℕ} {hK : K = B * C ∧ 0 < C} {hW : W = b * C ∧ 0 < C} {x : Mat M K} {w : Slab B N C}
    {ex : (⟨2, ![m, W]⟩ : Shape).Idx → (⟨2, ![M, K]⟩ : Shape).Idx}
    {ew : (⟨3, ![b, N, C]⟩ : Shape).Idx → (⟨3, ![B, N, C]⟩ : Shape).Idx} {eo : (⟨2, ![m, N]⟩ : Shape).Idx → (⟨2, ![M, N]⟩ : Shape).Idx}
    {r r' c c' s z z' z'' : ℕ} (hx : Placed ex r' z) (hw : Placed3 ew s z' z'') (ho : Placed eo r c)
    (h : r' = r ∧ z = c' ∧ s * C = c' ∧ z' = 0 ∧ z'' = 0 ∧ c = 0) (y : (⟨2, ![m, N]⟩ : Shape).Idx) :
    nt (fun p => x (ex p)) (wide hW fun p => w (ew p)) y = piece x (wide hK w) W c' (eo y) := by
  obtain ⟨rfl, rfl, hs, rfl, rfl, rfl⟩ := h
  refine Finset.sum_congr rfl fun k _ => ?_
  have hz : (ex (ix2 (y 0) k) 1).val = z + k.val := (hx _).2.trans (by show z + 1 * k.val = _; omega)
  rw [dif_pos (hz ▸ (ex (ix2 (y 0) k) 1).isLt)]
  refine congrArg₂ (fun a b : EReal => a * b) (same2 x _ _ ?_ hz) (wide_block hw _ _ ?_ ?_)
  · exact (hx _).1.trans (ho y).1.symm
  · exact ((ho y).2.trans (by show 0 + 1 * (y 1).val = (y 1).val; omega)).symm
  · show s * C + k.val = z + k.val
    rw [hs]

/-- A matrix transposed. -/
def flip {A A' : ℕ} (x : Mat A A') : Mat A' A := fun y => x (ix2 (n0 := A) (y 1) (y 0))

/-- A product of blocks of rows is a piece of the product of the transposes. -/
theorem tn_piece {W : ℕ} {x : Mat K M} {w : Mat K N} {ex : (⟨2, ![W, m]⟩ : Shape).Idx → (⟨2, ![K, M]⟩ : Shape).Idx}
    {ew : (⟨2, ![W, n]⟩ : Shape).Idx → (⟨2, ![K, N]⟩ : Shape).Idx} {eo : (⟨2, ![m, n]⟩ : Shape).Idx → (⟨2, ![M, N]⟩ : Shape).Idx}
    {r r' c c' d z z' : ℕ} (hx : Placed ex z r') (hw : Placed ew z' c') (ho : Placed eo r c)
    (h : z = d ∧ r' = r ∧ z' = d ∧ c' = c) (y : (⟨2, ![m, n]⟩ : Shape).Idx) :
    tn (fun p => x (ex p)) (fun p => w (ew p)) y = piece (flip x) (flip w) W d (eo y) := by
  obtain ⟨rfl, rfl, rfl, rfl⟩ := h
  refine Finset.sum_congr rfl fun k _ => ?_
  have hz : (ex (ix2 k (y 0)) 0).val = z' + k.val := (hx _).1.trans (by show z' + 1 * k.val = _; omega)
  rw [dif_pos (hz ▸ (ex (ix2 k (y 0)) 0).isLt)]
  refine congrArg₂ (fun a b : EReal => a * b) (same2 x _ _ hz ?_) (same2 w _ _ ?_ ?_)
  · exact (hx _).2.trans (ho y).1.symm
  · exact (hw _).1.trans (by show z' + 1 * k.val = z' + k.val; omega)
  · exact (hw _).2.trans (ho y).2.symm

end Cert.Products
-- ==== Proof.UpFwd.lean ====
module
public import proofs.«01_k».proof.Proof.Slabs
public import proofs.«01_k».proof.Proof.Gen.Kernel6Ideal.Value
public import proofs.«01_k».proof.Proof.Gen.Reference6Ideal.Run
@[expose] public section

/-!
# The product that enters the feed-forward layer

Sixteen blocks of 2048 × 768, each with one slab of the weight.
-/

open Idealize.ShloMosaic Idealize.ShloMosaic.TcCoe Idealize.ShloMosaic.Tactic Idealize.SL.Sem Cert Cert.Entries Cert.Products

namespace Cert.Kernel6Ideal.Product

open Kernel6Ideal Kernel6Ideal.Gen Kernel6Ideal.Value

variable (m : (ℓ : Loc nD τ sig) → Buf (Elt Ideal) ℓ) (c : Dev nD)

/-- What a step writes: the product of its blocks. -/
theorem step (t : Fin cfg0.N) : (outsAt0 m c t : Mat 2048 768) = nn (K := 1024) (iblk m c 0 t) (wide (N := 768) (C := 768) (B := 1) (by decide) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero2, nn_one, eq_ix2 y]
  unfold k0_pay1
  simp only [View.readAt_eq_ld, (hs0_0 t).read_unread, (hs0_1 t).read_unread, View.ld_unit_zero (S := S2048x1024) zero2, View.ld_unit_zero (S := S1x1024x768) zero3]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (1 : Fin 3) * 1024 = 0 ∧ win0_1.index t (2 : Fin 3) * 768 = 0 ∧ win0_1.index t (0 : Fin 3) * 1 * 768 = win0_2.index t (1 : Fin 2) * 768 :=
  (by decide +kernel : ∀ t : Fin grid0.N, _)

/-- The blocks fill the array. -/
theorem covers : win0_2.Covers := by decide +kernel

/-- The whole product. -/
noncomputable abbrev whole (x : FVec Ideal S4096x1024 .bf16) (w : FVec Ideal S8x1024x768 .bf16) : Mat 4096 6144 :=
  nn (K := 1024) x (wide (N := 6144) (B := 8) (C := 768) (by decide) w)

/-- The product of the two arguments. -/
noncomputable abbrev product : Mat 4096 6144 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_slab (m := 2048) (C := 768) (ex := ((cfg0.win 0).blk t).view.emb) (ew := ((cfg0.win 1).blk t).view.emb)
    (eo := ((cfg0.win 2).blk t).view.emb) (fun _ => ⟨rfl, rfl⟩) (fun _ => ⟨rfl, rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel6Ideal.Product

namespace Cert.Reference6Ideal.Product

open Reference6Ideal Reference6Ideal.Gen

/-- What the reference's last buffer holds. -/
theorem value (x : FVec Ideal S4096x1024 .bf16) (w : FVec Ideal S8x1024x768 .bf16) :
    (truncf .bf16 (Host.dotGeneral dot_S4096x1024_S1024x6144_S4096x6144_1_0_0_1_n_n none (extf .f32 x bitsLt_bf16_f32) (shapeCast _ (transpose S1024x8x768 [1, 0, 2] (extf .f32 w bitsLt_bf16_f32) transposes_S8x1024x768_S1024x8x768_1_0_2) shapeCasts_S1024x8x768_S1024x6144)) bitsLt_bf16_f32 : FVec Ideal S4096x6144 .bf16)
    = Kernel6Ideal.Product.whole x w := by
  funext y
  unfold Kernel6Ideal.Product.whole nn wide
  rw [eq_ix2 y]
  pointwise

end Cert.Reference6Ideal.Product

namespace Cert.Up

/-- The frame of the reference. -/
theorem frame_reference : quiescent_Reference6Ideal := fun m ρ _ => quiet (by decide) (fun _ _ h => h.2) (Reference6Ideal.Value.run m ρ)

/-- The result, from memories that agree on the arguments. -/
theorem equal : algebraic_Kernel6Ideal_Reference6Ideal := fun m ρ m' ρ' _ hm =>
  ⟨fun c => Kernel6Ideal.Product.product m c,
   (θ_run Kernel6Ideal.defs _ _).mono (fun _ h c => ⟨(h c).1.trans (Kernel6Ideal.Product.final m c), (h c).2⟩) (Kernel6Ideal.Value.run_blocks m ρ),
   (θ_run Reference6Ideal.defs _ _).mono (fun _ h c =>
     ⟨(h c).1.trans ((Reference6Ideal.Product.value _ _).trans (congrArg₂ Kernel6Ideal.Product.whole (hm c).1 (hm c).2)), (h c).2⟩)
     (Reference6Ideal.Value.run m' ρ')⟩

end Cert.Up
-- ==== Proof.UpDx.lean ====
module
public import proofs.«01_k».proof.Proof.Slabs
public import proofs.«01_k».proof.Proof.Gen.Kernel2Ideal.Value
public import proofs.«01_k».proof.Proof.Gen.Reference2Ideal.Run
@[expose] public section

/-!
# The gradient of the product that enters the feed-forward layer, in its activations

Four blocks of 1024 rows. Each is summed over four grid points, 1536 of the 6144 columns at a time: the first point stores its part in a
scratch array, the next two add theirs, and the last adds its part and writes the block.
-/

open Idealize.ShloMosaic Idealize.ShloMosaic.TcCoe Idealize.ShloMosaic.Tactic Idealize.SL.Sem Cert Cert.Entries Cert.Products

namespace Cert.Kernel2Ideal.Product

open Kernel2Ideal Kernel2Ideal.Gen Kernel2Ideal.Value

variable (m : (ℓ : Loc nD τ sig) → Buf (Elt Ideal) ℓ) (c : Dev nD)

/-! ## One grid point -/

/-- What one grid point adds. -/
noncomputable abbrev part (x : Vec Ideal S1024x1536 .bf16) (w : Vec Ideal S2x1024x768 .bf16) : Mat 1024 1024 := nt (K := 1536) x (wide (B := 2) (C := 768) (by decide) w)

section
variable (c : Dev nD) (i : grid0.Coords) (a3 : Memref sig .tc .vmem S1024x1536 .bf16) (h3 : a3.IsWhole)
    (a4 : Memref sig .tc .vmem S2x1024x768 .bf16) (h4 : a4.IsWhole) (a5 : Memref sig .tc .vmem S1024x1024 .f32) (h5 : a5.IsWhole)
    (a6 : Memref sig .tc .vmem S1024x1024 .f32) (h6 : a6.IsWhole) (x : Vec Ideal S1024x1536 .bf16) (w : Vec Ideal S2x1024x768 .bf16)

theorem first (hc0 : cond0_0 i) (hc1 : ¬cond0_1 i) (hc2 : ¬cond0_2 i) (y : S1024x1024.Idx) :
    (sout0_A_0 c i a3 h3 a4 h4 a5 h5 a6 h6 hc0 hc1 hc2 x w : Vec Ideal S1024x1024 .f32) y = part x w y := by
  refine Eq.trans ?_ (nt_pair x w y).symm
  unfold sout0_A_0
  rw [View.read_writes_eq_canon _ _ _ (scover0_A_0 c i a3 h3 a4 h4 a5 h5 a6 h6 hc0 hc1 hc2 x w)]
  unfold kernelRun0_A
  dsimp only
  rw [View.canon_unit_zero zero2, eq_ix2 y]
  unfold k0_pay2 k0_pay1
  simp only [View.readAt_eq_ld, h3.read_unread, h4.read_unread]
  pointwise

theorem middle (hc0 : ¬cond0_0 i) (hc1 : cond0_1 i) (hc2 : ¬cond0_2 i) (s : Vec Ideal S1024x1024 .f32) (y : S1024x1024.Idx) :
    (sout0_B_0 c i a3 h3 a4 h4 a5 h5 a6 h6 hc0 hc1 hc2 x w s : Vec Ideal S1024x1024 .f32) y = (s y : EReal) + part x w y := by
  refine Eq.trans ?_ (congrArg (fun e : EReal => s y + e) (nt_pair x w y).symm)
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2, eq_ix2 y]
  unfold k0_pay3 k0_pay1
  simp only [View.readAt_eq_ld, h3.read_unread, h4.read_unread, h6.read_unread, View.ld_unit_zero (S := S1024x1024) zero2]
  pointwise

theorem last (hc0 : ¬cond0_0 i) (hc1 : cond0_1 i) (hc2 : cond0_2 i) (s : Vec Ideal S1024x1024 .f32) (y : S1024x1024.Idx) :
    (out0_C_2 c i a3 h3 a4 h4 a5 h5 a6 h6 hc0 hc1 hc2 x w s : Vec Ideal S1024x1024 .f32) y = (s y : EReal) + part x w y := by
  refine Eq.trans ?_ (congrArg (fun e : EReal => s y + e) (nt_pair x w y).symm)
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1024) _ zero2, eq_ix2 y]
  unfold k0_pay3 k0_pay1
  simp only [View.readAt_eq_ld, h3.read_unread, h4.read_unread, h6.read_unread, View.ld_unit_zero (S := S1024x1024) zero2]
  pointwise

end

/-! ## The four points of a block -/

/-- What point `t` adds. -/
noncomputable def added (t : Fin cfg0.N) : Mat 1024 1024 := part (iblk m c 0 t) (iblk m c 1 t)

/-- The scratch array after point `n`. -/
noncomputable def scratch (n : ℕ) (hn : n < cfg0.N) : FVec Ideal S1024x1024 .f32 := (outsAt0 m c n hn).2

theorem point_first (n : ℕ) (hn : n < cfg0.N) (h0 : n % 4 = 0) (y : S1024x1024.Idx) : (scratch m c n hn y : EReal) = added m c ⟨n, hn⟩ y := by
  unfold scratch
  rw [outsAt0_A m c ⟨n, hn⟩ h0 (by dsimp only; omega) (by dsimp only; omega)]
  have e := first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    (iblk m c 0 ⟨n, hn⟩) (iblk m c 1 ⟨n, hn⟩) ((hcond0_0 ⟨n, hn⟩).mpr h0)
    (fun h => by have := (hcond0_1 ⟨n, hn⟩).mp h; dsimp only at this; omega) (fun h => by have := (hcond0_2 ⟨n, hn⟩).mp h; dsimp only at this; omega) y
  unfold added
  dsimp only at e ⊢
  exact e

theorem point_middle (n : ℕ) (hn : n + 1 < cfg0.N) (h0 : ¬(n + 1) % 4 = 0) (h3 : ¬(n + 1) % 4 = 3) (y : S1024x1024.Idx) :
    (scratch m c (n + 1) hn y : EReal) = scratch m c n (Nat.lt_of_succ_lt hn) y + added m c ⟨n + 1, hn⟩ y := by
  unfold scratch
  rw [outsAt0_B m c ⟨n + 1, hn⟩ h0 (by dsimp only; omega) h3]
  have e := middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _)
    (iblk m c 0 ⟨n + 1, hn⟩) (iblk m c 1 ⟨n + 1, hn⟩) (fun h => h0 ((hcond0_0 ⟨n + 1, hn⟩).mp h))
    ((hcond0_1 ⟨n + 1, hn⟩).mpr (by dsimp only; omega)) (fun h => h3 ((hcond0_2 ⟨n + 1, hn⟩).mp h)) (scratch m c n (Nat.lt_of_succ_lt hn)) y
  unfold added
  unfold scratch at e
  dsimp only at e ⊢
  exact e

/-- What the last point of a block writes. -/
theorem point_last (n : ℕ) (hn : n + 3 < cfg0.N) (h0 : n % 4 = 0) (y : S1024x1024.Idx) :
    (scratch m c (n + 2) (by omega) y : EReal) + added m c ⟨n + 3, hn⟩ y
      = added m c ⟨n, by omega⟩ y + added m c ⟨n + 1, by omega⟩ y + added m c ⟨n + 2, by omega⟩ y + added m c ⟨n + 3, hn⟩ y := by
  rw [point_middle m c (n + 1) (by omega) (by omega) (by omega), point_middle m c n (by omega) (by omega) (by omega), point_first m c n (by omega) h0]

/-! ## The whole product -/

/-- The whole product. -/
noncomputable abbrev whole (x : FVec Ideal S4096x6144 .bf16) (w : FVec Ideal S8x1024x768 .bf16) : Mat 4096 1024 :=
  nt (K := 6144) x (wide (B := 8) (C := 768) (by decide) w)

/-- The product of the two arguments. -/
noncomputable abbrev product : Mat 4096 1024 := whole (m ((c : Thread nD τ).loc main_arg0)) (m ((c : Thread nD τ).loc main_arg1))

/-- Where the blocks of the points that share a block of the result lie. -/
theorem places : ∀ t t' : Fin cfg0.N, t.val / 4 = t'.val / 4 →
    win0_0.index t (0 : Fin 2) * 1024 = win0_2.index t' (0 : Fin 2) * 1024 ∧ win0_0.index t (1 : Fin 2) * 1536 = 1536 * (t.val % 4)
    ∧ win0_1.index t (0 : Fin 3) * 2 * 768 = 1536 * (t.val % 4) ∧ win0_1.index t (1 : Fin 3) * 1024 = 0 ∧ win0_1.index t (2 : Fin 3) * 768 = 0
    ∧ win0_2.index t' (1 : Fin 2) * 1024 = 0 :=
  (by decide +kernel : ∀ t t' : Fin grid0.N, _)

/-- What point `t` adds is 1536 columns' part of the whole product. -/
theorem added_eq (t t' : Fin cfg0.N) (h : t.val / 4 = t'.val / 4) (d : ℕ) (hd : 1536 * (t.val % 4) = d) (y : ((cfg0.win 2).xblock (grid0.coords t')).Idx) :
    added m c t ((cfg0.win 2).xinj (grid0.coords t') y)
      = piece (K := 6144) (m ((c : Thread nD τ).loc main_arg0) : FVec Ideal S4096x6144 .bf16)
          (wide (B := 8) (C := 768) (by decide) (m ((c : Thread nD τ).loc main_arg1) : FVec Ideal S8x1024x768 .bf16)) 1536 d (((cfg0.win 2).blk t').view.emb y) := by
  subst hd
  exact nt_piece (m := 1024) (C := 768) (b := 2) (ex := ((cfg0.win 0).blk t).view.emb) (ew := ((cfg0.win 1).blk t).view.emb)
    (eo := ((cfg0.win 2).blk t').view.emb) (fun _ => ⟨rfl, rfl⟩) (fun _ => ⟨rfl, rfl, rfl⟩) (fun _ => ⟨rfl, rfl⟩) (places t t' h) y

set_option maxRecDepth 16384 in
theorem flushed (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨t, ht⟩ := t
  obtain ⟨n, rfl⟩ : ∃ n, t = n + 3 := ⟨t - 3, by dsimp only at h3; omega⟩
  dsimp only at h3
  have hn : n % 4 = 0 := by omega
  rw [flushed2_C m c ⟨n + 3, ht⟩ (by dsimp only; omega) (by dsimp only; omega) h3]
  funext y
  have e := last c (grid0.coords ⟨n + 3, ht⟩) (ms0_0 ⟨n + 3, ht⟩) (hs0_0 ⟨n + 3, ht⟩) (ms0_1 ⟨n + 3, ht⟩) (hs0_1 ⟨n + 3, ht⟩) (ms0_2 ⟨n + 3, ht⟩) (hs0_2 ⟨n + 3, ht⟩) scM0_0 (Memref.isWhole_whole _)
    (iblk m c 0 ⟨n + 3, ht⟩) (iblk m c 1 ⟨n + 3, ht⟩)
    (fun h => by have := (hcond0_0 ⟨n + 3, ht⟩).mp h; dsimp only at this; omega) ((hcond0_1 ⟨n + 3, ht⟩).mpr (by dsimp only; omega)) ((hcond0_2 ⟨n + 3, ht⟩).mpr h3)
    (scratch m c (n + 2) (by omega)) ((cfg0.win 2).xinj (grid0.coords ⟨n + 3, ht⟩) y)
  refine e.trans ((point_last m c n ht hn _).trans ?_)
  rw [added_eq m c ⟨n, by omega⟩ ⟨n + 3, ht⟩ (by dsimp only; omega) 0 (by dsimp only; omega),
    added_eq m c ⟨n + 1, by omega⟩ ⟨n + 3, ht⟩ (by dsimp only; omega) 1536 (by dsimp only; omega),
    added_eq m c ⟨n + 2, by omega⟩ ⟨n + 3, ht⟩ (by dsimp only; omega) (1536 + 1536) (by dsimp only; omega),
    added_eq m c ⟨n + 3, ht⟩ ⟨n + 3, ht⟩ rfl (1536 + 1536 + 1536) (by dsimp only; omega)]
  exact nt_four (M := 4096) (N := 1024) (K := 6144) (W := 1536) rfl _ _ _

/-- The blocks fill the array. -/
theorem covers : win0_2.Covers := by decide +kernel

/-- What the array holds at the end. -/
theorem final : (dats m 0 c).arrAt 2 cfg0.N = product m c :=
  (dats m 0 c).arrAt_eq_of_cover 2 _ (fun t hf => flushed m c t hf) (covers.cover _ (Memref.isWhole_whole _))

end Cert.Kernel2Ideal.Product

namespace Cert.Reference2Ideal.Product

open Reference2Ideal Reference2Ideal.Gen

/-- What the reference's last buffer holds. -/
theorem value (x : FVec Ideal S4096x6144 .bf16) (w : FVec Ideal S8x1024x768 .bf16) :
    (Host.dotGeneral dot_S4096x6144_S1024x6144_S4096x1024_1_1_0_0_n_n none (extf .f32 x bitsLt_bf16_f32)
      (shapeCast _ (transpose S1024x8x768 [1, 0, 2] (extf .f32 w bitsLt_bf16_f32) transposes_S8x1024x768_S1024x8x768_1_0_2) shapeCasts_S1024x8x768_S1024x6144) : FVec Ideal S4096x1024 .f32)
    = Kernel2Ideal.Product.whole x w := by
  funext y
  unfold Kernel2Ideal.Product.whole nt wide
  rw [eq_ix2 y]
  pointwise

end Cert.Reference2Ideal.Product

namespace Cert.UpDx

/-- The frame of the reference. -/
theorem frame_reference : quiescent_Reference2Ideal := fun m ρ _ => quiet (by decide) (fun _ _ h => h.2) (Reference2Ideal.Value.run m ρ)

/-- The result, from memories that agree on the arguments. -/
theorem equal : algebraic_Kernel2Ideal_Reference2Ideal := fun m ρ m' ρ' _ hm =>
  ⟨fun c => Kernel2Ideal.Product.product m c,
   (θ_run Kernel2Ideal.defs _ _).mono (fun _ h c => ⟨(h c).1.trans (Kernel2Ideal.Product.final m c), (h c).2⟩) (Kernel2Ideal.Value.run_blocks m ρ),
   (θ_run Reference2Ideal.defs _ _).mono (fun _ h c =>
     ⟨(h c).1.trans ((Reference2Ideal.Product.value _ _).trans (congrArg₂ Kernel2Ideal.Product.whole (hm c).1 (hm c).2)), (h c).2⟩)
     (Reference2Ideal.Value.run m' ρ')⟩

end Cert.UpDx
-- ==== Proof.UpDw.lean ====
module
public import proofs.«01_k».proof.Proof.Slabs
public import proofs.«01_k».proof.Proof.Gen.Kernel3Ideal.Value
public import proofs.«01_k».proof.Proof.Gen.Reference3Ideal.Run
@[expose] public section

/-!
# The gradient of the product that enters the feed-forward layer, in its weight

Eight slabs of 1024 × 768.
-/

open Idealize.ShloMosaic Idealize.ShloMosaic.TcCoe Idealize.ShloMosaic.Tactic Idealize.SL.Sem Cert Cert.Entries Cert.Products

namespace Cert.Kernel3Ideal.Product

open Kernel3Ideal Kernel3Ideal.Gen Kernel3Ideal.Value

variable (m : (ℓ : Loc nD τ sig) → Buf (Elt Ideal) ℓ) (c : Dev nD)

/-- What a step writes: the product of its blocks. -/
theorem step (t : Fin cfg0.N) : (outsAt0 m c t : Slab 1 1024 768) = slabs (B := 1) (C := 768) (by decide) (tn (K := 4096) (M := 1024) (N := 768) (iblk m c 0 t) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero3, slabs_one, eq_ix3 y]
  unfold k0_pay1 tn
  simp only [View.readAt_eq_ld, (hs0_0 t).read_unread, (hs0_1 t).read_unread, View.ld_unit_zero (S := S4096x1024) zero2, View.ld_unit_zero (S := S4096x768) zero2]
  pointwise

/-- Where a step's blocks lie. -/
theorem places : ∀ t : Fin cfg0.N,
    win0_0.index t (0 : Fin 2) * 4096 = 0 ∧ win0_0.index t (1 : Fin 2) * 1024 = win0_2.index t (1 : Fin 3) * 1024
    ∧ win0_1.index t (0 : Fin 2) * 4096 = 0 ∧ win0_1.index t (1 : Fin 2) * 768 = win0_2.index t (0 : Fin 3) * 1 * 768 ∧ win0_2.index t (2 : Fin 3) * 768 = 0 :=
  (by decide +kernel : ∀ t : Fin grid0.N, _)

/-- The blocks fill the array. -/
theorem covers : win0_2.Covers := by decide +kernel

/-- The whole product. -/
noncomputable abbrev whole (x : FVec Ideal S4096x1024 .bf16) (w : FVec Ideal S4096x6144 .bf16) : Slab 8 1024 768 :=
  slabs (B := 8) (C := 768) (by decide) (tn (K := 4096) (M := 1024) (N := 6144) x w)

/-- The product of the two arguments. -/
noncomputable abbrev product : Slab 8 1024 768 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_slab (m := 1024) (C := 768) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel3Ideal.Product

namespace Cert.Reference3Ideal.Product

open Reference3Ideal Reference3Ideal.Gen

/-- What the reference's last buffer holds. -/
theorem value (x : FVec Ideal S4096x1024 .bf16) (w : FVec Ideal S4096x6144 .bf16) :
    (truncf .bf16 (transpose S8x1024x768 [1, 0, 2] (shapeCast _ (transpose S1024x6144 [1, 0] (Host.dotGeneral dot_S4096x6144_S4096x1024_S6144x1024_0_0_1_1_n_n none (extf .f32 w bitsLt_bf16_f32) (extf .f32 x bitsLt_bf16_f32)) transposes_S6144x1024_S1024x6144_1_0) shapeCasts_S1024x6144_S1024x8x768) transposes_S1024x8x768_S8x1024x768_1_0_2) bitsLt_bf16_f32 : FVec Ideal S8x1024x768 .bf16)
    = Kernel3Ideal.Product.whole x w := by
  funext y
  unfold Kernel3Ideal.Product.whole slabs tn
  rw [eq_ix3 y]
  refine Eq.trans ?_ (Finset.sum_congr rfl fun k _ => mul_comm (G := EReal) _ _)
  pointwise
  rfl

end Cert.Reference3Ideal.Product

namespace Cert.UpDw

/-- The frame of the reference. -/
theorem frame_reference : quiescent_Reference3Ideal := fun m ρ _ => quiet (by decide) (fun _ _ h => h.2) (Reference3Ideal.Value.run m ρ)

/-- The result, from memories that agree on the arguments. -/
theorem equal : algebraic_Kernel3Ideal_Reference3Ideal := fun m ρ m' ρ' _ hm =>
  ⟨fun c => Kernel3Ideal.Product.product m c,
   (θ_run Kernel3Ideal.defs _ _).mono (fun _ h c => ⟨(h c).1.trans (Kernel3Ideal.Product.final m c), (h c).2⟩) (Kernel3Ideal.Value.run_blocks m ρ),
   (θ_run Reference3Ideal.defs _ _).mono (fun _ h c =>
     ⟨(h c).1.trans ((Reference3Ideal.Product.value _ _).trans (congrArg₂ Kernel3Ideal.Product.whole (hm c).1 (hm c).2)), (h c).2⟩)
     (Reference3Ideal.Value.run m' ρ')⟩

end Cert.UpDw
-- ==== Proof.DownFwd.lean ====
module
public import proofs.«01_k».proof.Proof.Products
public import proofs.«01_k».proof.Proof.Gen.Kernel7Ideal.Value
public import proofs.«01_k».proof.Proof.Gen.Reference7Ideal.Run
@[expose] public section

/-!
# The product that leaves the feed-forward layer

Four blocks of 1024 rows.
-/

open Idealize.ShloMosaic Idealize.ShloMosaic.TcCoe Idealize.ShloMosaic.Tactic Idealize.SL.Sem Cert Cert.Entries Cert.Products

namespace Cert.Kernel7Ideal.Product

open Kernel7Ideal Kernel7Ideal.Gen Kernel7Ideal.Value

variable (m : (ℓ : Loc nD τ sig) → Buf (Elt Ideal) ℓ) (c : Dev nD)

/-- What a step writes: the product of its blocks. -/
theorem step (t : Fin cfg0.N) : (outsAt0 m c t : Mat 1024 1024) = nn (K := 3072) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nn
  simp only [View.readAt_eq_ld, (hs0_0 t).read_unread, (hs0_1 t).read_unread, View.ld_unit_zero (S := S1024x3072) zero2, View.ld_unit_zero (S := S3072x1024) zero2]
  pointwise

/-- Where a step's blocks lie. -/
theorem places : ∀ t : Fin cfg0.N,
    win0_0.index t (0 : Fin 2) * 1024 = win0_2.index t (0 : Fin 2) * 1024 ∧ win0_0.index t (1 : Fin 2) * 3072 = 0
    ∧ win0_1.index t (0 : Fin 2) * 3072 = 0 ∧ win0_1.index t (1 : Fin 2) * 1024 = win0_2.index t (1 : Fin 2) * 1024 :=
  (by decide +kernel : ∀ t : Fin grid0.N, _)

/-- The blocks fill the array. -/
theorem covers : win0_2.Covers := by decide +kernel

/-- The product of the two arguments. -/
noncomputable abbrev product : Mat 4096 1024 :=
  nn (K := 3072) (m ((c : Thread nD τ).loc main_arg0) : FVec Ideal S4096x3072 .bf16) (m ((c : Thread nD τ).loc main_arg1) : FVec Ideal S3072x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_block (m := 1024) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel7Ideal.Product

namespace Cert.Reference7Ideal.Product

open Reference7Ideal Reference7Ideal.Gen

/-- What the reference's last buffer holds. -/
theorem value (x : FVec Ideal S4096x3072 .bf16) (w : FVec Ideal S3072x1024 .bf16) :
    (Host.dotGeneral dot_S4096x3072_S3072x1024_S4096x1024_1_0_0_1_n_n none (extf .f32 x bitsLt_bf16_f32) (extf .f32 w bitsLt_bf16_f32) : FVec Ideal S4096x1024 .f32)
    = nn (K := 3072) x w := by
  funext y
  unfold nn
  rw [eq_ix2 y]
  pointwise

end Cert.Reference7Ideal.Product

namespace Cert.Down

/-- The frame of the reference. -/
theorem frame_reference : quiescent_Reference7Ideal := fun m ρ _ => quiet (by decide) (fun _ _ h => h.2) (Reference7Ideal.Value.run m ρ)

/-- The result, from memories that agree on the arguments. -/
theorem equal : algebraic_Kernel7Ideal_Reference7Ideal := fun m ρ m' ρ' _ hm =>
  ⟨fun c => Kernel7Ideal.Product.product m c,
   (θ_run Kernel7Ideal.defs _ _).mono (fun _ h c => ⟨(h c).1.trans (Kernel7Ideal.Product.final m c), (h c).2⟩) (Kernel7Ideal.Value.run_blocks m ρ),
   (θ_run Reference7Ideal.defs _ _).mono (fun _ h c =>
     ⟨(h c).1.trans ((Reference7Ideal.Product.value _ _).trans (congrArg₂ (Products.nn (M := 4096) (N := 1024) (K := 3072)) (hm c).1 (hm c).2)), (h c).2⟩)
     (Reference7Ideal.Value.run m' ρ')⟩

end Cert.Down
-- ==== Proof.DownDx.lean ====
module
public import proofs.«01_k».proof.Proof.Products
public import proofs.«01_k».proof.Proof.Gen.Kernel4Ideal.Value
public import proofs.«01_k».proof.Proof.Gen.Reference4Ideal.Run
@[expose] public section

/-!
# The gradient of the product that leaves the feed-forward layer, in its activations

Six blocks of 2048 × 1024.
-/

open Idealize.ShloMosaic Idealize.ShloMosaic.TcCoe Idealize.ShloMosaic.Tactic Idealize.SL.Sem Cert Cert.Entries Cert.Products

namespace Cert.Kernel4Ideal.Product

open Kernel4Ideal Kernel4Ideal.Gen Kernel4Ideal.Value

variable (m : (ℓ : Loc nD τ sig) → Buf (Elt Ideal) ℓ) (c : Dev nD)

/-- What a step writes: the product of its blocks. -/
theorem step (t : Fin cfg0.N) : (outsAt0 m c t : Mat 2048 1024) = nt (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nt
  simp only [View.readAt_eq_ld, (hs0_0 t).read_unread, (hs0_1 t).read_unread, View.ld_unit_zero (S := S2048x1024) zero2, View.ld_unit_zero (S := S1024x1024) zero2]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (0 : Fin 2) * 1024 = win0_2.index t (1 : Fin 2) * 1024 ∧ win0_1.index t (1 : Fin 2) * 1024 = 0 :=
  (by decide +kernel : ∀ t : Fin grid0.N, _)

/-- The blocks fill the array. -/
theorem covers : win0_2.Covers := by decide +kernel

/-- The product of the two arguments. -/
noncomputable abbrev product : Mat 4096 3072 :=
  nt (K := 1024) (m ((c : Thread nD τ).loc main_arg0) : FVec Ideal S4096x1024 .f32) (m ((c : Thread nD τ).loc main_arg1) : FVec Ideal S3072x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nt_block (m := 2048) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel4Ideal.Product

namespace Cert.Reference4Ideal.Product

open Reference4Ideal Reference4Ideal.Gen

/-- What the reference's last buffer holds. -/
theorem value (x : FVec Ideal S4096x1024 .f32) (w : FVec Ideal S3072x1024 .bf16) :
    (truncf .bf16 (Host.dotGeneral dot_S4096x1024_S3072x1024_S4096x3072_1_1_0_0_n_n none x (extf .f32 w bitsLt_bf16_f32)) bitsLt_bf16_f32 : FVec Ideal S4096x3072 .bf16)
    = nt (K := 1024) x w := by
  funext y
  unfold nt
  rw [eq_ix2 y]
  pointwise

end Cert.Reference4Ideal.Product

namespace Cert.DownDx

/-- The frame of the reference. -/
theorem frame_reference : quiescent_Reference4Ideal := fun m ρ _ => quiet (by decide) (fun _ _ h => h.2) (Reference4Ideal.Value.run m ρ)

/-- The result, from memories that agree on the arguments. -/
theorem equal : algebraic_Kernel4Ideal_Reference4Ideal := fun m ρ m' ρ' _ hm =>
  ⟨fun c => Kernel4Ideal.Product.product m c,
   (θ_run Kernel4Ideal.defs _ _).mono (fun _ h c => ⟨(h c).1.trans (Kernel4Ideal.Product.final m c), (h c).2⟩) (Kernel4Ideal.Value.run_blocks m ρ),
   (θ_run Reference4Ideal.defs _ _).mono (fun _ h c =>
     ⟨(h c).1.trans ((Reference4Ideal.Product.value _ _).trans (congrArg₂ (Products.nt (M := 4096) (N := 3072) (K := 1024)) (hm c).1 (hm c).2)), (h c).2⟩)
     (Reference4Ideal.Value.run m' ρ')⟩

end Cert.DownDx
-- ==== Proof.DownDw.lean ====
module
public import proofs.«01_k».proof.Proof.Products
public import proofs.«01_k».proof.Proof.Gen.Kernel5Ideal.Value
public import proofs.«01_k».proof.Proof.Gen.Reference5Ideal.Run
@[expose] public section

/-!
# The gradient of the product that leaves the feed-forward layer, in its weight

Six blocks of 1024 × 512.
-/

open Idealize.ShloMosaic Idealize.ShloMosaic.TcCoe Idealize.ShloMosaic.Tactic Idealize.SL.Sem Cert Cert.Entries Cert.Products

namespace Cert.Kernel5Ideal.Product

open Kernel5Ideal Kernel5Ideal.Gen Kernel5Ideal.Value

variable (m : (ℓ : Loc nD τ sig) → Buf (Elt Ideal) ℓ) (c : Dev nD)

/-- What a step writes: the product of its blocks. -/
theorem step (t : Fin cfg0.N) : (outsAt0 m c t : Mat 1024 512) = tn (K := 4096) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 tn
  simp only [View.readAt_eq_ld, (hs0_0 t).read_unread, (hs0_1 t).read_unread, View.ld_unit_zero (S := S4096x1024) zero2, View.ld_unit_zero (S := S4096x512) zero2]
  pointwise

/-- Where a step's blocks lie. -/
theorem places : ∀ t : Fin cfg0.N,
    win0_0.index t (0 : Fin 2) * 4096 = 0 ∧ win0_0.index t (1 : Fin 2) * 1024 = win0_2.index t (0 : Fin 2) * 1024
    ∧ win0_1.index t (0 : Fin 2) * 4096 = 0 ∧ win0_1.index t (1 : Fin 2) * 512 = win0_2.index t (1 : Fin 2) * 512 :=
  (by decide +kernel : ∀ t : Fin grid0.N, _)

/-- The blocks fill the array. -/
theorem covers : win0_2.Covers := by decide +kernel

/-- The product of the two arguments. -/
noncomputable abbrev product : Mat 3072 1024 :=
  tn (K := 4096) (m ((c : Thread nD τ).loc main_arg0) : FVec Ideal S4096x3072 .bf16) (m ((c : Thread nD τ).loc main_arg1) : FVec Ideal S4096x1024 .f32)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_block (m := 1024) (n := 512) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel5Ideal.Product

namespace Cert.Reference5Ideal.Product

open Reference5Ideal Reference5Ideal.Gen

/-- What the reference's last buffer holds. -/
theorem value (x : FVec Ideal S4096x3072 .bf16) (w : FVec Ideal S4096x1024 .f32) :
    (truncf .bf16 (transpose S3072x1024 [1, 0] (Host.dotGeneral dot_S4096x1024_S4096x3072_S1024x3072_0_0_1_1_n_n none w (extf .f32 x bitsLt_bf16_f32)) transposes_S1024x3072_S3072x1024_1_0) bitsLt_bf16_f32 : FVec Ideal S3072x1024 .bf16)
    = tn (K := 4096) x w := by
  funext y
  unfold tn
  rw [eq_ix2 y]
  refine Eq.trans ?_ (Finset.sum_congr rfl fun k _ => mul_comm (G := EReal) _ _)
  pointwise

end Cert.Reference5Ideal.Product

namespace Cert.DownDw

/-- The frame of the reference. -/
theorem frame_reference : quiescent_Reference5Ideal := fun m ρ _ => quiet (by decide) (fun _ _ h => h.2) (Reference5Ideal.Value.run m ρ)

/-- The result, from memories that agree on the arguments. -/
theorem equal : algebraic_Kernel5Ideal_Reference5Ideal := fun m ρ m' ρ' _ hm =>
  ⟨fun c => Kernel5Ideal.Product.product m c,
   (θ_run Kernel5Ideal.defs _ _).mono (fun _ h c => ⟨(h c).1.trans (Kernel5Ideal.Product.final m c), (h c).2⟩) (Kernel5Ideal.Value.run_blocks m ρ),
   (θ_run Reference5Ideal.defs _ _).mono (fun _ h c =>
     ⟨(h c).1.trans ((Reference5Ideal.Product.value _ _).trans (congrArg₂ (Products.tn (M := 3072) (N := 1024) (K := 4096)) (hm c).1 (hm c).2)), (h c).2⟩)
     (Reference5Ideal.Value.run m' ρ')⟩

end Cert.DownDw
-- ==== Proof.GateDx.lean ====
module
public import proofs.«01_k».proof.Proof.Products
public import proofs.«01_k».proof.Proof.Gen.Kernel8Ideal.Value
public import proofs.«01_k».proof.Proof.Gen.Reference8Ideal.Run
@[expose] public section

/-!
# The gradient of the gate's product in its activations

Four blocks of 1024 rows.
-/

open Idealize.ShloMosaic Idealize.ShloMosaic.TcCoe Idealize.ShloMosaic.Tactic Idealize.SL.Sem Cert Cert.Entries Cert.Products

namespace Cert.Kernel8Ideal.Product

open Kernel8Ideal Kernel8Ideal.Gen Kernel8Ideal.Value

variable (m : (ℓ : Loc nD τ sig) → Buf (Elt Ideal) ℓ) (c : Dev nD)

/-- What a step writes: the product of its blocks. -/
theorem step (t : Fin cfg0.N) : (outsAt0 m c t : Mat 1024 1024) = nt (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nt
  simp only [View.readAt_eq_ld, (hs0_0 t).read_unread, (hs0_1 t).read_unread, View.ld_unit_zero (S := S1024x1024) zero2]
  pointwise

/-- Where a step's blocks lie. -/
theorem places : ∀ t : Fin cfg0.N,
    win0_0.index t (0 : Fin 2) * 1024 = win0_2.index t (0 : Fin 2) * 1024 ∧ win0_0.index t (1 : Fin 2) * 1024 = 0
    ∧ win0_1.index t (0 : Fin 2) * 1024 = win0_2.index t (1 : Fin 2) * 1024 ∧ win0_1.index t (1 : Fin 2) * 1024 = 0 :=
  (by decide +kernel : ∀ t : Fin grid0.N, _)

/-- The blocks fill the array. -/
theorem covers : win0_2.Covers := by decide +kernel

/-- The product of the two arguments. -/
noncomputable abbrev product : Mat 4096 1024 :=
  nt (K := 1024) (m ((c : Thread nD τ).loc main_arg0) : FVec Ideal S4096x1024 .f32) (m ((c : Thread nD τ).loc main_arg1) : FVec Ideal S1024x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nt_block (m := 1024) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel8Ideal.Product

namespace Cert.Reference8Ideal.Product

open Reference8Ideal Reference8Ideal.Gen

/-- What the reference's last buffer holds. -/
theorem value (x : FVec Ideal S4096x1024 .f32) (w : FVec Ideal S1024x1024 .bf16) :
    (Host.dotGeneral dot_S4096x1024_S1024x1024_S4096x1024_1_1_0_0_n_n none x (extf .f32 w bitsLt_bf16_f32) : FVec Ideal S4096x1024 .f32)
    = nt (K := 1024) x w := by
  funext y
  unfold nt
  rw [eq_ix2 y]
  pointwise

end Cert.Reference8Ideal.Product

namespace Cert.GateDx

/-- The frame of the reference. -/
theorem frame_reference : quiescent_Reference8Ideal := fun m ρ _ => quiet (by decide) (fun _ _ h => h.2) (Reference8Ideal.Value.run m ρ)

/-- The result, from memories that agree on the arguments. -/
theorem equal : algebraic_Kernel8Ideal_Reference8Ideal := fun m ρ m' ρ' _ hm =>
  ⟨fun c => Kernel8Ideal.Product.product m c,
   (θ_run Kernel8Ideal.defs _ _).mono (fun _ h c => ⟨(h c).1.trans (Kernel8Ideal.Product.final m c), (h c).2⟩) (Kernel8Ideal.Value.run_blocks m ρ),
   (θ_run Reference8Ideal.defs _ _).mono (fun _ h c =>
     ⟨(h c).1.trans ((Reference8Ideal.Product.value _ _).trans (congrArg₂ (Products.nt (M := 4096) (N := 1024) (K := 1024)) (hm c).1 (hm c).2)), (h c).2⟩)
     (Reference8Ideal.Value.run m' ρ')⟩

end Cert.GateDx
-- ==== Proof.SquareDw.lean ====
module
public import proofs.«01_k».proof.Proof.Products
public import proofs.«01_k».proof.Proof.Gen.Kernel9Ideal.Value
public import proofs.«01_k».proof.Proof.Gen.Reference9Ideal.Run
@[expose] public section

/-!
# The gradient of a square weight

Two blocks of 512 columns. The weight is the gate's, or the one that leaves the gated linear attention.
-/

open Idealize.ShloMosaic Idealize.ShloMosaic.TcCoe Idealize.ShloMosaic.Tactic Idealize.SL.Sem Cert Cert.Entries Cert.Products

namespace Cert.Kernel9Ideal.Product

open Kernel9Ideal Kernel9Ideal.Gen Kernel9Ideal.Value

variable (m : (ℓ : Loc nD τ sig) → Buf (Elt Ideal) ℓ) (c : Dev nD)

/-- What a step writes: the product of its blocks. -/
theorem step (t : Fin cfg0.N) : (outsAt0 m c t : Mat 1024 512) = tn (K := 4096) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 tn
  simp only [View.readAt_eq_ld, (hs0_0 t).read_unread, (hs0_1 t).read_unread, View.ld_unit_zero (S := S4096x1024) zero2, View.ld_unit_zero (S := S4096x512) zero2]
  pointwise

/-- Where a step's blocks lie. -/
theorem places : ∀ t : Fin cfg0.N,
    win0_0.index t (0 : Fin 2) * 4096 = 0 ∧ win0_0.index t (1 : Fin 2) * 1024 = win0_2.index t (0 : Fin 2) * 1024
    ∧ win0_1.index t (0 : Fin 2) * 4096 = 0 ∧ win0_1.index t (1 : Fin 2) * 512 = win0_2.index t (1 : Fin 2) * 512 :=
  (by decide +kernel : ∀ t : Fin grid0.N, _)

/-- The blocks fill the array. -/
theorem covers : win0_2.Covers := by decide +kernel

/-- The product of the two arguments. -/
noncomputable abbrev product : Mat 1024 1024 :=
  tn (K := 4096) (m ((c : Thread nD τ).loc main_arg0) : FVec Ideal S4096x1024 .bf16) (m ((c : Thread nD τ).loc main_arg1) : FVec Ideal S4096x1024 .f32)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_block (m := 1024) (n := 512) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel9Ideal.Product

namespace Cert.Reference9Ideal.Product

open Reference9Ideal Reference9Ideal.Gen

/-- What the reference's last buffer holds. -/
theorem value (x : FVec Ideal S4096x1024 .bf16) (w : FVec Ideal S4096x1024 .f32) :
    (truncf .bf16 (transpose S1024x1024 [1, 0] (Host.dotGeneral dot_S4096x1024_S4096x1024_S1024x1024_0_0_1_1_n_n none w (extf .f32 x bitsLt_bf16_f32)) transposes_S1024x1024_S1024x1024_1_0) bitsLt_bf16_f32 : FVec Ideal S1024x1024 .bf16)
    = tn (K := 4096) x w := by
  funext y
  unfold tn
  rw [eq_ix2 y]
  refine Eq.trans ?_ (Finset.sum_congr rfl fun k _ => mul_comm (G := EReal) _ _)
  pointwise

end Cert.Reference9Ideal.Product

namespace Cert.SquareDw

/-- The frame of the reference. -/
theorem frame_reference : quiescent_Reference9Ideal := fun m ρ _ => quiet (by decide) (fun _ _ h => h.2) (Reference9Ideal.Value.run m ρ)

/-- The result, from memories that agree on the arguments. -/
theorem equal : algebraic_Kernel9Ideal_Reference9Ideal := fun m ρ m' ρ' _ hm =>
  ⟨fun c => Kernel9Ideal.Product.product m c,
   (θ_run Kernel9Ideal.defs _ _).mono (fun _ h c => ⟨(h c).1.trans (Kernel9Ideal.Product.final m c), (h c).2⟩) (Kernel9Ideal.Value.run_blocks m ρ),
   (θ_run Reference9Ideal.defs _ _).mono (fun _ h c =>
     ⟨(h c).1.trans ((Reference9Ideal.Product.value _ _).trans (congrArg₂ (Products.tn (M := 1024) (N := 1024) (K := 4096)) (hm c).1 (hm c).2)), (h c).2⟩)
     (Reference9Ideal.Value.run m' ρ')⟩

end Cert.SquareDw
-- ==== Proof.SquareFwd.lean ====
module
public import proofs.«01_k».proof.Proof.Products
public import proofs.«01_k».proof.Proof.Gen.Kernel10Ideal.Value
public import proofs.«01_k».proof.Proof.Gen.Reference10Ideal.Run
@[expose] public section

/-!
# The product with a square weight

Two blocks of 2048 rows. The weight is the gate's, or the one that leaves the gated linear attention.
-/

open Idealize.ShloMosaic Idealize.ShloMosaic.TcCoe Idealize.ShloMosaic.Tactic Idealize.SL.Sem Cert Cert.Entries Cert.Products

namespace Cert.Kernel10Ideal.Product

open Kernel10Ideal Kernel10Ideal.Gen Kernel10Ideal.Value

variable (m : (ℓ : Loc nD τ sig) → Buf (Elt Ideal) ℓ) (c : Dev nD)

/-- What a step writes: the product of its blocks. -/
theorem step (t : Fin cfg0.N) : (outsAt0 m c t : Mat 2048 1024) = nn (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nn
  simp only [View.readAt_eq_ld, (hs0_0 t).read_unread, (hs0_1 t).read_unread, View.ld_unit_zero (S := S2048x1024) zero2, View.ld_unit_zero (S := S1024x1024) zero2]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (0 : Fin 2) * 1024 = 0 ∧ win0_1.index t (1 : Fin 2) * 1024 = win0_2.index t (1 : Fin 2) * 1024 :=
  (by decide +kernel : ∀ t : Fin grid0.N, _)

/-- The blocks fill the array. -/
theorem covers : win0_2.Covers := by decide +kernel

/-- The product of the two arguments. -/
noncomputable abbrev product : Mat 4096 1024 :=
  nn (K := 1024) (m ((c : Thread nD τ).loc main_arg0) : FVec Ideal S4096x1024 .bf16) (m ((c : Thread nD τ).loc main_arg1) : FVec Ideal S1024x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_block (m := 2048) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel10Ideal.Product

namespace Cert.Reference10Ideal.Product

open Reference10Ideal Reference10Ideal.Gen

/-- What the reference's last buffer holds. -/
theorem value (x : FVec Ideal S4096x1024 .bf16) (w : FVec Ideal S1024x1024 .bf16) :
    (Host.dotGeneral dot_S4096x1024_S1024x1024_S4096x1024_1_0_0_1_n_n none (extf .f32 x bitsLt_bf16_f32) (extf .f32 w bitsLt_bf16_f32) : FVec Ideal S4096x1024 .f32)
    = nn (K := 1024) x w := by
  funext y
  unfold nn
  rw [eq_ix2 y]
  pointwise

end Cert.Reference10Ideal.Product

namespace Cert.SquareFwd

/-- The frame of the reference. -/
theorem frame_reference : quiescent_Reference10Ideal := fun m ρ _ => quiet (by decide) (fun _ _ h => h.2) (Reference10Ideal.Value.run m ρ)

/-- The result, from memories that agree on the arguments. -/
theorem equal : algebraic_Kernel10Ideal_Reference10Ideal := fun m ρ m' ρ' _ hm =>
  ⟨fun c => Kernel10Ideal.Product.product m c,
   (θ_run Kernel10Ideal.defs _ _).mono (fun _ h c => ⟨(h c).1.trans (Kernel10Ideal.Product.final m c), (h c).2⟩) (Kernel10Ideal.Value.run_blocks m ρ),
   (θ_run Reference10Ideal.defs _ _).mono (fun _ h c =>
     ⟨(h c).1.trans ((Reference10Ideal.Product.value _ _).trans (congrArg₂ (Products.nn (M := 4096) (N := 1024) (K := 1024)) (hm c).1 (hm c).2)), (h c).2⟩)
     (Reference10Ideal.Value.run m' ρ')⟩

end Cert.SquareFwd
-- ==== Proof.GlaOutDx.lean ====
module
public import proofs.«01_k».proof.Proof.Products
public import proofs.«01_k».proof.Proof.Gen.Kernel11Ideal.Value
public import proofs.«01_k».proof.Proof.Gen.Reference11Ideal.Run
@[expose] public section

/-!
# The gradient of the product that leaves the gated linear attention, in its activations

Two blocks of 2048 rows.
-/

open Idealize.ShloMosaic Idealize.ShloMosaic.TcCoe Idealize.ShloMosaic.Tactic Idealize.SL.Sem Cert Cert.Entries Cert.Products

namespace Cert.Kernel11Ideal.Product

open Kernel11Ideal Kernel11Ideal.Gen Kernel11Ideal.Value

variable (m : (ℓ : Loc nD τ sig) → Buf (Elt Ideal) ℓ) (c : Dev nD)

/-- What a step writes: the product of its blocks. -/
theorem step (t : Fin cfg0.N) : (outsAt0 m c t : Mat 2048 1024) = nt (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nt
  simp only [View.readAt_eq_ld, (hs0_0 t).read_unread, (hs0_1 t).read_unread, View.ld_unit_zero (S := S2048x1024) zero2, View.ld_unit_zero (S := S1024x1024) zero2]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (0 : Fin 2) * 1024 = win0_2.index t (1 : Fin 2) * 1024 ∧ win0_1.index t (1 : Fin 2) * 1024 = 0 :=
  (by decide +kernel : ∀ t : Fin grid0.N, _)

/-- The blocks fill the array. -/
theorem covers : win0_2.Covers := by decide +kernel

/-- The product of the two arguments. -/
noncomputable abbrev product : Mat 4096 1024 :=
  nt (K := 1024) (m ((c : Thread nD τ).loc main_arg0) : FVec Ideal S4096x1024 .f32) (m ((c : Thread nD τ).loc main_arg1) : FVec Ideal S1024x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nt_block (m := 2048) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel11Ideal.Product

namespace Cert.Reference11Ideal.Product

open Reference11Ideal Reference11Ideal.Gen

/-- What the reference's last buffer holds. -/
theorem value (x : FVec Ideal S4096x1024 .f32) (w : FVec Ideal S1024x1024 .bf16) :
    (truncf .bf16 (Host.dotGeneral dot_S4096x1024_S1024x1024_S4096x1024_1_1_0_0_n_n none x (extf .f32 w bitsLt_bf16_f32)) bitsLt_bf16_f32 : FVec Ideal S4096x1024 .bf16)
    = nt (K := 1024) x w := by
  funext y
  unfold nt
  rw [eq_ix2 y]
  pointwise

end Cert.Reference11Ideal.Product

namespace Cert.GlaOutDx

/-- The frame of the reference. -/
theorem frame_reference : quiescent_Reference11Ideal := fun m ρ _ => quiet (by decide) (fun _ _ h => h.2) (Reference11Ideal.Value.run m ρ)

/-- The result, from memories that agree on the arguments. -/
theorem equal : algebraic_Kernel11Ideal_Reference11Ideal := fun m ρ m' ρ' _ hm =>
  ⟨fun c => Kernel11Ideal.Product.product m c,
   (θ_run Kernel11Ideal.defs _ _).mono (fun _ h c => ⟨(h c).1.trans (Kernel11Ideal.Product.final m c), (h c).2⟩) (Kernel11Ideal.Value.run_blocks m ρ),
   (θ_run Reference11Ideal.defs _ _).mono (fun _ h c =>
     ⟨(h c).1.trans ((Reference11Ideal.Product.value _ _).trans (congrArg₂ (Products.nt (M := 4096) (N := 1024) (K := 1024)) (hm c).1 (hm c).2)), (h c).2⟩)
     (Reference11Ideal.Value.run m' ρ')⟩

end Cert.GlaOutDx
-- ==== Proof.GlaInDx.lean ====
module
public import proofs.«01_k».proof.Proof.Products
public import proofs.«01_k».proof.Proof.Gen.Kernel12Ideal.Value
public import proofs.«01_k».proof.Proof.Gen.Reference12Ideal.Run
@[expose] public section

/-!
# The gradient of the product that enters the gated linear attention, in its activations

Four blocks of 1024 rows.
-/

open Idealize.ShloMosaic Idealize.ShloMosaic.TcCoe Idealize.ShloMosaic.Tactic Idealize.SL.Sem Cert Cert.Entries Cert.Products

namespace Cert.Kernel12Ideal.Product

open Kernel12Ideal Kernel12Ideal.Gen Kernel12Ideal.Value

variable (m : (ℓ : Loc nD τ sig) → Buf (Elt Ideal) ℓ) (c : Dev nD)

/-- What a step writes: the product of its blocks. -/
theorem step (t : Fin cfg0.N) : (outsAt0 m c t : Mat 1024 1024) = nt (K := 3072) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nt
  simp only [View.readAt_eq_ld, (hs0_0 t).read_unread, (hs0_1 t).read_unread, View.ld_unit_zero (S := S1024x3072) zero2]
  pointwise

/-- Where a step's blocks lie. -/
theorem places : ∀ t : Fin cfg0.N,
    win0_0.index t (0 : Fin 2) * 1024 = win0_2.index t (0 : Fin 2) * 1024 ∧ win0_0.index t (1 : Fin 2) * 3072 = 0
    ∧ win0_1.index t (0 : Fin 2) * 1024 = win0_2.index t (1 : Fin 2) * 1024 ∧ win0_1.index t (1 : Fin 2) * 3072 = 0 :=
  (by decide +kernel : ∀ t : Fin grid0.N, _)

/-- The blocks fill the array. -/
theorem covers : win0_2.Covers := by decide +kernel

/-- The product of the two arguments. -/
noncomputable abbrev product : Mat 4096 1024 :=
  nt (K := 3072) (m ((c : Thread nD τ).loc main_arg0) : FVec Ideal S4096x3072 .bf16) (m ((c : Thread nD τ).loc main_arg1) : FVec Ideal S1024x3072 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nt_block (m := 1024) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel12Ideal.Product

namespace Cert.Reference12Ideal.Product

open Reference12Ideal Reference12Ideal.Gen

/-- What the reference's last buffer holds. -/
theorem value (x : FVec Ideal S4096x3072 .bf16) (w : FVec Ideal S1024x3072 .bf16) :
    (Host.dotGeneral dot_S4096x3072_S1024x3072_S4096x1024_1_1_0_0_n_n none (extf .f32 x bitsLt_bf16_f32) (extf .f32 w bitsLt_bf16_f32) : FVec Ideal S4096x1024 .f32)
    = nt (K := 3072) x w := by
  funext y
  unfold nt
  rw [eq_ix2 y]
  pointwise

end Cert.Reference12Ideal.Product

namespace Cert.GlaInDx

/-- The frame of the reference. -/
theorem frame_reference : quiescent_Reference12Ideal := fun m ρ _ => quiet (by decide) (fun _ _ h => h.2) (Reference12Ideal.Value.run m ρ)

/-- The result, from memories that agree on the arguments. -/
theorem equal : algebraic_Kernel12Ideal_Reference12Ideal := fun m ρ m' ρ' _ hm =>
  ⟨fun c => Kernel12Ideal.Product.product m c,
   (θ_run Kernel12Ideal.defs _ _).mono (fun _ h c => ⟨(h c).1.trans (Kernel12Ideal.Product.final m c), (h c).2⟩) (Kernel12Ideal.Value.run_blocks m ρ),
   (θ_run Reference12Ideal.defs _ _).mono (fun _ h c =>
     ⟨(h c).1.trans ((Reference12Ideal.Product.value _ _).trans (congrArg₂ (Products.nt (M := 4096) (N := 1024) (K := 3072)) (hm c).1 (hm c).2)), (h c).2⟩)
     (Reference12Ideal.Value.run m' ρ')⟩

end Cert.GlaInDx
-- ==== Proof.GlaInDw.lean ====
module
public import proofs.«01_k».proof.Proof.Products
public import proofs.«01_k».proof.Proof.Gen.Kernel13Ideal.Value
public import proofs.«01_k».proof.Proof.Gen.Reference13Ideal.Run
@[expose] public section

/-!
# The gradient of the product that enters the gated linear attention, in its weight

Four blocks of 512 × 1536.
-/

open Idealize.ShloMosaic Idealize.ShloMosaic.TcCoe Idealize.ShloMosaic.Tactic Idealize.SL.Sem Cert Cert.Entries Cert.Products

namespace Cert.Kernel13Ideal.Product

open Kernel13Ideal Kernel13Ideal.Gen Kernel13Ideal.Value

variable (m : (ℓ : Loc nD τ sig) → Buf (Elt Ideal) ℓ) (c : Dev nD)

/-- What a step writes: the product of its blocks. -/
theorem step (t : Fin cfg0.N) : (outsAt0 m c t : Mat 512 1536) = tn (K := 4096) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 tn
  simp only [View.readAt_eq_ld, (hs0_0 t).read_unread, (hs0_1 t).read_unread, View.ld_unit_zero (S := S4096x512) zero2, View.ld_unit_zero (S := S4096x1536) zero2]
  pointwise

/-- Where a step's blocks lie. -/
theorem places : ∀ t : Fin cfg0.N,
    win0_0.index t (0 : Fin 2) * 4096 = 0 ∧ win0_0.index t (1 : Fin 2) * 512 = win0_2.index t (0 : Fin 2) * 512
    ∧ win0_1.index t (0 : Fin 2) * 4096 = 0 ∧ win0_1.index t (1 : Fin 2) * 1536 = win0_2.index t (1 : Fin 2) * 1536 :=
  (by decide +kernel : ∀ t : Fin grid0.N, _)

/-- The blocks fill the array. -/
theorem covers : win0_2.Covers := by decide +kernel

/-- The product of the two arguments. -/
noncomputable abbrev product : Mat 1024 3072 :=
  tn (K := 4096) (m ((c : Thread nD τ).loc main_arg0) : FVec Ideal S4096x1024 .bf16) (m ((c : Thread nD τ).loc main_arg1) : FVec Ideal S4096x3072 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_block (m := 512) (n := 1536) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel13Ideal.Product

namespace Cert.Reference13Ideal.Product

open Reference13Ideal Reference13Ideal.Gen

/-- What the reference's last buffer holds. -/
theorem value (x : FVec Ideal S4096x1024 .bf16) (w : FVec Ideal S4096x3072 .bf16) :
    (truncf .bf16 (transpose S1024x3072 [1, 0] (Host.dotGeneral dot_S4096x3072_S4096x1024_S3072x1024_0_0_1_1_n_n none (extf .f32 w bitsLt_bf16_f32) (extf .f32 x bitsLt_bf16_f32)) transposes_S3072x1024_S1024x3072_1_0) bitsLt_bf16_f32 : FVec Ideal S1024x3072 .bf16)
    = tn (K := 4096) x w := by
  funext y
  unfold tn
  rw [eq_ix2 y]
  refine Eq.trans ?_ (Finset.sum_congr rfl fun k _ => mul_comm (G := EReal) _ _)
  pointwise

end Cert.Reference13Ideal.Product

namespace Cert.GlaInDw

/-- The frame of the reference. -/
theorem frame_reference : quiescent_Reference13Ideal := fun m ρ _ => quiet (by decide) (fun _ _ h => h.2) (Reference13Ideal.Value.run m ρ)

/-- The result, from memories that agree on the arguments. -/
theorem equal : algebraic_Kernel13Ideal_Reference13Ideal := fun m ρ m' ρ' _ hm =>
  ⟨fun c => Kernel13Ideal.Product.product m c,
   (θ_run Kernel13Ideal.defs _ _).mono (fun _ h c => ⟨(h c).1.trans (Kernel13Ideal.Product.final m c), (h c).2⟩) (Kernel13Ideal.Value.run_blocks m ρ),
   (θ_run Reference13Ideal.defs _ _).mono (fun _ h c =>
     ⟨(h c).1.trans ((Reference13Ideal.Product.value _ _).trans (congrArg₂ (Products.tn (M := 1024) (N := 3072) (K := 4096)) (hm c).1 (hm c).2)), (h c).2⟩)
     (Reference13Ideal.Value.run m' ρ')⟩

end Cert.GlaInDw
-- ==== Proof.GlaInFwd.lean ====
module
public import proofs.«01_k».proof.Proof.Products
public import proofs.«01_k».proof.Proof.Gen.Kernel14Ideal.Value
public import proofs.«01_k».proof.Proof.Gen.Reference14Ideal.Run
@[expose] public section

/-!
# The product that enters the gated linear attention

Four blocks of 2048 × 1536.
-/

open Idealize.ShloMosaic Idealize.ShloMosaic.TcCoe Idealize.ShloMosaic.Tactic Idealize.SL.Sem Cert Cert.Entries Cert.Products

namespace Cert.Kernel14Ideal.Product

open Kernel14Ideal Kernel14Ideal.Gen Kernel14Ideal.Value

variable (m : (ℓ : Loc nD τ sig) → Buf (Elt Ideal) ℓ) (c : Dev nD)

/-- What a step writes: the product of its blocks. -/
theorem step (t : Fin cfg0.N) : (outsAt0 m c t : Mat 2048 1536) = nn (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nn
  simp only [View.readAt_eq_ld, (hs0_0 t).read_unread, (hs0_1 t).read_unread, View.ld_unit_zero (S := S2048x1024) zero2, View.ld_unit_zero (S := S1024x1536) zero2]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (0 : Fin 2) * 1024 = 0 ∧ win0_1.index t (1 : Fin 2) * 1536 = win0_2.index t (1 : Fin 2) * 1536 :=
  (by decide +kernel : ∀ t : Fin grid0.N, _)

/-- The blocks fill the array. -/
theorem covers : win0_2.Covers := by decide +kernel

/-- The product of the two arguments. -/
noncomputable abbrev product : Mat 4096 3072 :=
  nn (K := 1024) (m ((c : Thread nD τ).loc main_arg0) : FVec Ideal S4096x1024 .bf16) (m ((c : Thread nD τ).loc main_arg1) : FVec Ideal S1024x3072 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_block (m := 2048) (n := 1536) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel14Ideal.Product

namespace Cert.Reference14Ideal.Product

open Reference14Ideal Reference14Ideal.Gen

/-- What the reference's last buffer holds. -/
theorem value (x : FVec Ideal S4096x1024 .bf16) (w : FVec Ideal S1024x3072 .bf16) :
    (truncf .bf16 (Host.dotGeneral dot_S4096x1024_S1024x3072_S4096x3072_1_0_0_1_n_n none (extf .f32 x bitsLt_bf16_f32) (extf .f32 w bitsLt_bf16_f32)) bitsLt_bf16_f32 : FVec Ideal S4096x3072 .bf16)
    = nn (K := 1024) x w := by
  funext y
  unfold nn
  rw [eq_ix2 y]
  pointwise

end Cert.Reference14Ideal.Product

namespace Cert.GlaInFwd

/-- The frame of the reference. -/
theorem frame_reference : quiescent_Reference14Ideal := fun m ρ _ => quiet (by decide) (fun _ _ h => h.2) (Reference14Ideal.Value.run m ρ)

/-- The result, from memories that agree on the arguments. -/
theorem equal : algebraic_Kernel14Ideal_Reference14Ideal := fun m ρ m' ρ' _ hm =>
  ⟨fun c => Kernel14Ideal.Product.product m c,
   (θ_run Kernel14Ideal.defs _ _).mono (fun _ h c => ⟨(h c).1.trans (Kernel14Ideal.Product.final m c), (h c).2⟩) (Kernel14Ideal.Value.run_blocks m ρ),
   (θ_run Reference14Ideal.defs _ _).mono (fun _ h c =>
     ⟨(h c).1.trans ((Reference14Ideal.Product.value _ _).trans (congrArg₂ (Products.nn (M := 4096) (N := 3072) (K := 1024)) (hm c).1 (hm c).2)), (h c).2⟩)
     (Reference14Ideal.Value.run m' ρ')⟩

end Cert.GlaInFwd
-- ==== Proof.MlaOutDx.lean ====
module
public import proofs.«01_k».proof.Proof.Products
public import proofs.«01_k».proof.Proof.Gen.Kernel15Ideal.Value
public import proofs.«01_k».proof.Proof.Gen.Reference15Ideal.Run
@[expose] public section

/-!
# The gradient of the product that leaves the attention, in its activations

Four blocks of 2048 × 1024.
-/

open Idealize.ShloMosaic Idealize.ShloMosaic.TcCoe Idealize.ShloMosaic.Tactic Idealize.SL.Sem Cert Cert.Entries Cert.Products

namespace Cert.Kernel15Ideal.Product

open Kernel15Ideal Kernel15Ideal.Gen Kernel15Ideal.Value

variable (m : (ℓ : Loc nD τ sig) → Buf (Elt Ideal) ℓ) (c : Dev nD)

/-- What a step writes: the product of its blocks. -/
theorem step (t : Fin cfg0.N) : (outsAt0 m c t : Mat 2048 1024) = nt (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nt
  simp only [View.readAt_eq_ld, (hs0_0 t).read_unread, (hs0_1 t).read_unread, View.ld_unit_zero (S := S2048x1024) zero2, View.ld_unit_zero (S := S1024x1024) zero2]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (0 : Fin 2) * 1024 = win0_2.index t (1 : Fin 2) * 1024 ∧ win0_1.index t (1 : Fin 2) * 1024 = 0 :=
  (by decide +kernel : ∀ t : Fin grid0.N, _)

/-- The blocks fill the array. -/
theorem covers : win0_2.Covers := by decide +kernel

/-- The product of the two arguments. -/
noncomputable abbrev product : Mat 4096 2048 :=
  nt (K := 1024) (m ((c : Thread nD τ).loc main_arg0) : FVec Ideal S4096x1024 .f32) (m ((c : Thread nD τ).loc main_arg1) : FVec Ideal S2048x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nt_block (m := 2048) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel15Ideal.Product

namespace Cert.Reference15Ideal.Product

open Reference15Ideal Reference15Ideal.Gen

/-- What the reference's last buffer holds. -/
theorem value (x : FVec Ideal S4096x1024 .f32) (w : FVec Ideal S2048x1024 .bf16) :
    (truncf .bf16 (Host.dotGeneral dot_S4096x1024_S2048x1024_S4096x2048_1_1_0_0_n_n none x (extf .f32 w bitsLt_bf16_f32)) bitsLt_bf16_f32 : FVec Ideal S4096x2048 .bf16)
    = nt (K := 1024) x w := by
  funext y
  unfold nt
  rw [eq_ix2 y]
  pointwise

end Cert.Reference15Ideal.Product

namespace Cert.MlaOutDx

/-- The frame of the reference. -/
theorem frame_reference : quiescent_Reference15Ideal := fun m ρ _ => quiet (by decide) (fun _ _ h => h.2) (Reference15Ideal.Value.run m ρ)

/-- The result, from memories that agree on the arguments. -/
theorem equal : algebraic_Kernel15Ideal_Reference15Ideal := fun m ρ m' ρ' _ hm =>
  ⟨fun c => Kernel15Ideal.Product.product m c,
   (θ_run Kernel15Ideal.defs _ _).mono (fun _ h c => ⟨(h c).1.trans (Kernel15Ideal.Product.final m c), (h c).2⟩) (Kernel15Ideal.Value.run_blocks m ρ),
   (θ_run Reference15Ideal.defs _ _).mono (fun _ h c =>
     ⟨(h c).1.trans ((Reference15Ideal.Product.value _ _).trans (congrArg₂ (Products.nt (M := 4096) (N := 2048) (K := 1024)) (hm c).1 (hm c).2)), (h c).2⟩)
     (Reference15Ideal.Value.run m' ρ')⟩

end Cert.MlaOutDx
-- ==== Proof.MlaOutDw.lean ====
module
public import proofs.«01_k».proof.Proof.Products
public import proofs.«01_k».proof.Proof.Gen.Kernel16Ideal.Value
public import proofs.«01_k».proof.Proof.Gen.Reference16Ideal.Run
@[expose] public section

/-!
# The gradient of the product that leaves the attention, in its weight

Four blocks of 1024 × 512.
-/

open Idealize.ShloMosaic Idealize.ShloMosaic.TcCoe Idealize.ShloMosaic.Tactic Idealize.SL.Sem Cert Cert.Entries Cert.Products

namespace Cert.Kernel16Ideal.Product

open Kernel16Ideal Kernel16Ideal.Gen Kernel16Ideal.Value

variable (m : (ℓ : Loc nD τ sig) → Buf (Elt Ideal) ℓ) (c : Dev nD)

/-- What a step writes: the product of its blocks. -/
theorem step (t : Fin cfg0.N) : (outsAt0 m c t : Mat 1024 512) = tn (K := 4096) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 tn
  simp only [View.readAt_eq_ld, (hs0_0 t).read_unread, (hs0_1 t).read_unread, View.ld_unit_zero (S := S4096x1024) zero2, View.ld_unit_zero (S := S4096x512) zero2]
  pointwise

/-- Where a step's blocks lie. -/
theorem places : ∀ t : Fin cfg0.N,
    win0_0.index t (0 : Fin 2) * 4096 = 0 ∧ win0_0.index t (1 : Fin 2) * 1024 = win0_2.index t (0 : Fin 2) * 1024
    ∧ win0_1.index t (0 : Fin 2) * 4096 = 0 ∧ win0_1.index t (1 : Fin 2) * 512 = win0_2.index t (1 : Fin 2) * 512 :=
  (by decide +kernel : ∀ t : Fin grid0.N, _)

/-- The blocks fill the array. -/
theorem covers : win0_2.Covers := by decide +kernel

/-- The product of the two arguments. -/
noncomputable abbrev product : Mat 2048 1024 :=
  tn (K := 4096) (m ((c : Thread nD τ).loc main_arg0) : FVec Ideal S4096x2048 .bf16) (m ((c : Thread nD τ).loc main_arg1) : FVec Ideal S4096x1024 .f32)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_block (m := 1024) (n := 512) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel16Ideal.Product

namespace Cert.Reference16Ideal.Product

open Reference16Ideal Reference16Ideal.Gen

/-- What the reference's last buffer holds. -/
theorem value (x : FVec Ideal S4096x2048 .bf16) (w : FVec Ideal S4096x1024 .f32) :
    (truncf .bf16 (transpose S2048x1024 [1, 0] (Host.dotGeneral dot_S4096x1024_S4096x2048_S1024x2048_0_0_1_1_n_n none w (extf .f32 x bitsLt_bf16_f32)) transposes_S1024x2048_S2048x1024_1_0) bitsLt_bf16_f32 : FVec Ideal S2048x1024 .bf16)
    = tn (K := 4096) x w := by
  funext y
  unfold tn
  rw [eq_ix2 y]
  refine Eq.trans ?_ (Finset.sum_congr rfl fun k _ => mul_comm (G := EReal) _ _)
  pointwise

end Cert.Reference16Ideal.Product

namespace Cert.MlaOutDw

/-- The frame of the reference. -/
theorem frame_reference : quiescent_Reference16Ideal := fun m ρ _ => quiet (by decide) (fun _ _ h => h.2) (Reference16Ideal.Value.run m ρ)

/-- The result, from memories that agree on the arguments. -/
theorem equal : algebraic_Kernel16Ideal_Reference16Ideal := fun m ρ m' ρ' _ hm =>
  ⟨fun c => Kernel16Ideal.Product.product m c,
   (θ_run Kernel16Ideal.defs _ _).mono (fun _ h c => ⟨(h c).1.trans (Kernel16Ideal.Product.final m c), (h c).2⟩) (Kernel16Ideal.Value.run_blocks m ρ),
   (θ_run Reference16Ideal.defs _ _).mono (fun _ h c =>
     ⟨(h c).1.trans ((Reference16Ideal.Product.value _ _).trans (congrArg₂ (Products.tn (M := 2048) (N := 1024) (K := 4096)) (hm c).1 (hm c).2)), (h c).2⟩)
     (Reference16Ideal.Value.run m' ρ')⟩

end Cert.MlaOutDw
-- ==== Proof.MlaOutFwd.lean ====
module
public import proofs.«01_k».proof.Proof.Products
public import proofs.«01_k».proof.Proof.Gen.Kernel17Ideal.Value
public import proofs.«01_k».proof.Proof.Gen.Reference17Ideal.Run
@[expose] public section

/-!
# The product that leaves the attention

Four blocks of 1024 rows.
-/

open Idealize.ShloMosaic Idealize.ShloMosaic.TcCoe Idealize.ShloMosaic.Tactic Idealize.SL.Sem Cert Cert.Entries Cert.Products

namespace Cert.Kernel17Ideal.Product

open Kernel17Ideal Kernel17Ideal.Gen Kernel17Ideal.Value

variable (m : (ℓ : Loc nD τ sig) → Buf (Elt Ideal) ℓ) (c : Dev nD)

/-- What a step writes: the product of its blocks. -/
theorem step (t : Fin cfg0.N) : (outsAt0 m c t : Mat 1024 1024) = nn (K := 2048) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nn
  simp only [View.readAt_eq_ld, (hs0_0 t).read_unread, (hs0_1 t).read_unread, View.ld_unit_zero (S := S1024x2048) zero2, View.ld_unit_zero (S := S2048x1024) zero2]
  pointwise

/-- Where a step's blocks lie. -/
theorem places : ∀ t : Fin cfg0.N,
    win0_0.index t (0 : Fin 2) * 1024 = win0_2.index t (0 : Fin 2) * 1024 ∧ win0_0.index t (1 : Fin 2) * 2048 = 0
    ∧ win0_1.index t (0 : Fin 2) * 2048 = 0 ∧ win0_1.index t (1 : Fin 2) * 1024 = win0_2.index t (1 : Fin 2) * 1024 :=
  (by decide +kernel : ∀ t : Fin grid0.N, _)

/-- The blocks fill the array. -/
theorem covers : win0_2.Covers := by decide +kernel

/-- The product of the two arguments. -/
noncomputable abbrev product : Mat 4096 1024 :=
  nn (K := 2048) (m ((c : Thread nD τ).loc main_arg0) : FVec Ideal S4096x2048 .bf16) (m ((c : Thread nD τ).loc main_arg1) : FVec Ideal S2048x1024 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_block (m := 1024) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel17Ideal.Product

namespace Cert.Reference17Ideal.Product

open Reference17Ideal Reference17Ideal.Gen

/-- What the reference's last buffer holds. -/
theorem value (x : FVec Ideal S4096x2048 .bf16) (w : FVec Ideal S2048x1024 .bf16) :
    (Host.dotGeneral dot_S4096x2048_S2048x1024_S4096x1024_1_0_0_1_n_n none (extf .f32 x bitsLt_bf16_f32) (extf .f32 w bitsLt_bf16_f32) : FVec Ideal S4096x1024 .f32)
    = nn (K := 2048) x w := by
  funext y
  unfold nn
  rw [eq_ix2 y]
  pointwise

end Cert.Reference17Ideal.Product

namespace Cert.MlaOutFwd

/-- The frame of the reference. -/
theorem frame_reference : quiescent_Reference17Ideal := fun m ρ _ => quiet (by decide) (fun _ _ h => h.2) (Reference17Ideal.Value.run m ρ)

/-- The result, from memories that agree on the arguments. -/
theorem equal : algebraic_Kernel17Ideal_Reference17Ideal := fun m ρ m' ρ' _ hm =>
  ⟨fun c => Kernel17Ideal.Product.product m c,
   (θ_run Kernel17Ideal.defs _ _).mono (fun _ h c => ⟨(h c).1.trans (Kernel17Ideal.Product.final m c), (h c).2⟩) (Kernel17Ideal.Value.run_blocks m ρ),
   (θ_run Reference17Ideal.defs _ _).mono (fun _ h c =>
     ⟨(h c).1.trans ((Reference17Ideal.Product.value _ _).trans (congrArg₂ (Products.nn (M := 4096) (N := 1024) (K := 2048)) (hm c).1 (hm c).2)), (h c).2⟩)
     (Reference17Ideal.Value.run m' ρ')⟩

end Cert.MlaOutFwd
-- ==== Proof.MlaInDx.lean ====
module
public import proofs.«01_k».proof.Proof.Products
public import proofs.«01_k».proof.Proof.Gen.Kernel18Ideal.Value
public import proofs.«01_k».proof.Proof.Gen.Reference18Ideal.Run
@[expose] public section

/-!
# The gradient of the product that enters the attention, in its activations

Four blocks of 1024 rows.
-/

open Idealize.ShloMosaic Idealize.ShloMosaic.TcCoe Idealize.ShloMosaic.Tactic Idealize.SL.Sem Cert Cert.Entries Cert.Products

namespace Cert.Kernel18Ideal.Product

open Kernel18Ideal Kernel18Ideal.Gen Kernel18Ideal.Value

variable (m : (ℓ : Loc nD τ sig) → Buf (Elt Ideal) ℓ) (c : Dev nD)

/-- What a step writes: the product of its blocks. -/
theorem step (t : Fin cfg0.N) : (outsAt0 m c t : Mat 1024 1024) = nt (K := 896) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nt
  simp only [View.readAt_eq_ld, (hs0_0 t).read_unread, (hs0_1 t).read_unread, View.ld_unit_zero (S := S1024x896) zero2]
  pointwise

/-- Where a step's blocks lie. -/
theorem places : ∀ t : Fin cfg0.N,
    win0_0.index t (0 : Fin 2) * 1024 = win0_2.index t (0 : Fin 2) * 1024 ∧ win0_0.index t (1 : Fin 2) * 896 = 0
    ∧ win0_1.index t (0 : Fin 2) * 1024 = win0_2.index t (1 : Fin 2) * 1024 ∧ win0_1.index t (1 : Fin 2) * 896 = 0 :=
  (by decide +kernel : ∀ t : Fin grid0.N, _)

/-- The blocks fill the array. -/
theorem covers : win0_2.Covers := by decide +kernel

/-- The product of the two arguments. -/
noncomputable abbrev product : Mat 4096 1024 :=
  nt (K := 896) (m ((c : Thread nD τ).loc main_arg0) : FVec Ideal S4096x896 .f32) (m ((c : Thread nD τ).loc main_arg1) : FVec Ideal S1024x896 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nt_block (m := 1024) (n := 1024) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel18Ideal.Product

namespace Cert.Reference18Ideal.Product

open Reference18Ideal Reference18Ideal.Gen

/-- What the reference's last buffer holds. -/
theorem value (x : FVec Ideal S4096x896 .f32) (w : FVec Ideal S1024x896 .bf16) :
    (Host.dotGeneral dot_S4096x896_S1024x896_S4096x1024_1_1_0_0_n_n none x (extf .f32 w bitsLt_bf16_f32) : FVec Ideal S4096x1024 .f32)
    = nt (K := 896) x w := by
  funext y
  unfold nt
  rw [eq_ix2 y]
  pointwise

end Cert.Reference18Ideal.Product

namespace Cert.MlaInDx

/-- The frame of the reference. -/
theorem frame_reference : quiescent_Reference18Ideal := fun m ρ _ => quiet (by decide) (fun _ _ h => h.2) (Reference18Ideal.Value.run m ρ)

/-- The result, from memories that agree on the arguments. -/
theorem equal : algebraic_Kernel18Ideal_Reference18Ideal := fun m ρ m' ρ' _ hm =>
  ⟨fun c => Kernel18Ideal.Product.product m c,
   (θ_run Kernel18Ideal.defs _ _).mono (fun _ h c => ⟨(h c).1.trans (Kernel18Ideal.Product.final m c), (h c).2⟩) (Kernel18Ideal.Value.run_blocks m ρ),
   (θ_run Reference18Ideal.defs _ _).mono (fun _ h c =>
     ⟨(h c).1.trans ((Reference18Ideal.Product.value _ _).trans (congrArg₂ (Products.nt (M := 4096) (N := 1024) (K := 896)) (hm c).1 (hm c).2)), (h c).2⟩)
     (Reference18Ideal.Value.run m' ρ')⟩

end Cert.MlaInDx
-- ==== Proof.MlaInFwd.lean ====
module
public import proofs.«01_k».proof.Proof.Products
public import proofs.«01_k».proof.Proof.Gen.Kernel19Ideal.Value
public import proofs.«01_k».proof.Proof.Gen.Reference19Ideal.Run
@[expose] public section

/-!
# The product that enters the attention

Two blocks of 2048 rows.
-/

open Idealize.ShloMosaic Idealize.ShloMosaic.TcCoe Idealize.ShloMosaic.Tactic Idealize.SL.Sem Cert Cert.Entries Cert.Products

namespace Cert.Kernel19Ideal.Product

open Kernel19Ideal Kernel19Ideal.Gen Kernel19Ideal.Value

variable (m : (ℓ : Loc nD τ sig) → Buf (Elt Ideal) ℓ) (c : Dev nD)

/-- What a step writes: the product of its blocks. -/
theorem step (t : Fin cfg0.N) : (outsAt0 m c t : Mat 2048 896) = nn (K := 1024) (iblk m c 0 t) (iblk m c 1 t) := by
  funext y
  unfold outsAt0 out0_A_2
  rw [View.read_writes_eq_canon _ _ _ (cover0_A_2 c _ _ _ _ _ _ _ _ _ _ _)]
  unfold kernelRun0_A
  dsimp only
  rw [View.canon_unit_zero zero2, eq_ix2 y]
  unfold k0_pay1 nn
  simp only [View.readAt_eq_ld, (hs0_0 t).read_unread, (hs0_1 t).read_unread, View.ld_unit_zero (S := S2048x1024) zero2, View.ld_unit_zero (S := S1024x896) zero2]
  pointwise

/-- Where a step's blocks lie. -/
theorem places : ∀ t : Fin cfg0.N,
    win0_0.index t (0 : Fin 2) * 2048 = win0_2.index t (0 : Fin 2) * 2048 ∧ win0_0.index t (1 : Fin 2) * 1024 = 0
    ∧ win0_1.index t (0 : Fin 2) * 1024 = 0 ∧ win0_1.index t (1 : Fin 2) * 896 = win0_2.index t (1 : Fin 2) * 896 :=
  (by decide +kernel : ∀ t : Fin grid0.N, _)

/-- The blocks fill the array. -/
theorem covers : win0_2.Covers := by decide +kernel

/-- The product of the two arguments. -/
noncomputable abbrev product : Mat 4096 896 :=
  nn (K := 1024) (m ((c : Thread nD τ).loc main_arg0) : FVec Ideal S4096x1024 .bf16) (m ((c : Thread nD τ).loc main_arg1) : FVec Ideal S1024x896 .bf16)

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_block (m := 2048) (n := 896) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel19Ideal.Product

namespace Cert.Reference19Ideal.Product

open Reference19Ideal Reference19Ideal.Gen

/-- What the reference's last buffer holds. -/
theorem value (x : FVec Ideal S4096x1024 .bf16) (w : FVec Ideal S1024x896 .bf16) :
    (Host.dotGeneral dot_S4096x1024_S1024x896_S4096x896_1_0_0_1_n_n none (extf .f32 x bitsLt_bf16_f32) (extf .f32 w bitsLt_bf16_f32) : FVec Ideal S4096x896 .f32)
    = nn (K := 1024) x w := by
  funext y
  unfold nn
  rw [eq_ix2 y]
  pointwise

end Cert.Reference19Ideal.Product

namespace Cert.MlaInFwd

/-- The frame of the reference. -/
theorem frame_reference : quiescent_Reference19Ideal := fun m ρ _ => quiet (by decide) (fun _ _ h => h.2) (Reference19Ideal.Value.run m ρ)

/-- The result, from memories that agree on the arguments. -/
theorem equal : algebraic_Kernel19Ideal_Reference19Ideal := fun m ρ m' ρ' _ hm =>
  ⟨fun c => Kernel19Ideal.Product.product m c,
   (θ_run Kernel19Ideal.defs _ _).mono (fun _ h c => ⟨(h c).1.trans (Kernel19Ideal.Product.final m c), (h c).2⟩) (Kernel19Ideal.Value.run_blocks m ρ),
   (θ_run Reference19Ideal.defs _ _).mono (fun _ h c =>
     ⟨(h c).1.trans ((Reference19Ideal.Product.value _ _).trans (congrArg₂ (Products.nn (M := 4096) (N := 896) (K := 1024)) (hm c).1 (hm c).2)), (h c).2⟩)
     (Reference19Ideal.Value.run m' ρ')⟩

end Cert.MlaInFwd
-- ==== Proof.QueryDx.lean ====
module
public import proofs.«01_k».proof.Proof.Slabs
public import proofs.«01_k».proof.Proof.Gen.Kernel20Ideal.Value
public import proofs.«01_k».proof.Proof.Gen.Reference20Ideal.Run
@[expose] public section

/-!
# The gradient of the product that makes the queries, in its activations

Two blocks of 2048 rows. Each is summed over four grid points, 1024 of the 4096 columns at a time: the first point stores its part in a
scratch array, the next two add theirs, and the last adds its part and writes the block.
-/

open Idealize.ShloMosaic Idealize.ShloMosaic.TcCoe Idealize.ShloMosaic.Tactic Idealize.SL.Sem Cert Cert.Entries Cert.Products

namespace Cert.Kernel20Ideal.Product

open Kernel20Ideal Kernel20Ideal.Gen Kernel20Ideal.Value

variable (m : (ℓ : Loc nD τ sig) → Buf (Elt Ideal) ℓ) (c : Dev nD)

/-! ## One grid point -/

/-- What one grid point adds. -/
noncomputable abbrev part (x : Vec Ideal S2048x1024 .bf16) (w : Vec Ideal S2x512x512 .bf16) : Mat 2048 512 := nt (K := 1024) x (wide (B := 2) (C := 512) (by decide) w)

section
variable (c : Dev nD) (i : grid0.Coords) (a3 : Memref sig .tc .vmem S2048x1024 .bf16) (h3 : a3.IsWhole)
    (a4 : Memref sig .tc .vmem S2x512x512 .bf16) (h4 : a4.IsWhole) (a5 : Memref sig .tc .vmem S2048x512 .bf16) (h5 : a5.IsWhole)
    (a6 : Memref sig .tc .vmem S2048x512 .f32) (h6 : a6.IsWhole) (x : Vec Ideal S2048x1024 .bf16) (w : Vec Ideal S2x512x512 .bf16)

theorem first (hc0 : cond0_0 i) (hc1 : ¬cond0_1 i) (hc2 : ¬cond0_2 i) (y : S2048x512.Idx) :
    (sout0_A_0 c i a3 h3 a4 h4 a5 h5 a6 h6 hc0 hc1 hc2 x w : Vec Ideal S2048x512 .f32) y = part x w y := by
  refine Eq.trans ?_ (nt_pair x w y).symm
  unfold sout0_A_0
  rw [View.read_writes_eq_canon _ _ _ (scover0_A_0 c i a3 h3 a4 h4 a5 h5 a6 h6 hc0 hc1 hc2 x w)]
  unfold kernelRun0_A
  dsimp only
  rw [View.canon_unit_zero zero2, eq_ix2 y]
  unfold k0_pay2 k0_pay1
  simp only [View.readAt_eq_ld, h3.read_unread, h4.read_unread]
  pointwise

theorem middle (hc0 : ¬cond0_0 i) (hc1 : cond0_1 i) (hc2 : ¬cond0_2 i) (s : Vec Ideal S2048x512 .f32) (y : S2048x512.Idx) :
    (sout0_B_0 c i a3 h3 a4 h4 a5 h5 a6 h6 hc0 hc1 hc2 x w s : Vec Ideal S2048x512 .f32) y = (s y : EReal) + part x w y := by
  refine Eq.trans ?_ (congrArg (fun e : EReal => s y + e) (nt_pair x w y).symm)
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2, eq_ix2 y]
  unfold k0_pay3 k0_pay1
  simp only [View.readAt_eq_ld, h3.read_unread, h4.read_unread, h6.read_unread, View.ld_unit_zero (S := S2048x512) zero2]
  pointwise

theorem last (hc0 : ¬cond0_0 i) (hc1 : cond0_1 i) (hc2 : cond0_2 i) (s : Vec Ideal S2048x512 .f32) (y : S2048x512.Idx) :
    (out0_C_2 c i a3 h3 a4 h4 a5 h5 a6 h6 hc0 hc1 hc2 x w s : Vec Ideal S2048x512 .bf16) y = (s y : EReal) + part x w y := by
  refine Eq.trans ?_ (congrArg (fun e : EReal => s y + e) (nt_pair x w y).symm)
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S2048x512) _ zero2, eq_ix2 y]
  unfold k0_pay4 k0_pay3 k0_pay1
  simp only [View.readAt_eq_ld, h3.read_unread, h4.read_unread, h6.read_unread, View.ld_unit_zero (S := S2048x512) zero2]
  pointwise

end

/-! ## The four points of a block -/

/-- What point `t` adds. -/
noncomputable def added (t : Fin cfg0.N) : Mat 2048 512 := part (iblk m c 0 t) (iblk m c 1 t)

/-- The scratch array after point `n`. -/
noncomputable def scratch (n : ℕ) (hn : n < cfg0.N) : FVec Ideal S2048x512 .f32 := (outsAt0 m c n hn).2

theorem point_first (n : ℕ) (hn : n < cfg0.N) (h0 : n % 4 = 0) (y : S2048x512.Idx) : (scratch m c n hn y : EReal) = added m c ⟨n, hn⟩ y := by
  unfold scratch
  rw [outsAt0_A m c ⟨n, hn⟩ h0 (by dsimp only; omega) (by dsimp only; omega)]
  have e := first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    (iblk m c 0 ⟨n, hn⟩) (iblk m c 1 ⟨n, hn⟩) ((hcond0_0 ⟨n, hn⟩).mpr h0)
    (fun h => by have := (hcond0_1 ⟨n, hn⟩).mp h; dsimp only at this; omega) (fun h => by have := (hcond0_2 ⟨n, hn⟩).mp h; dsimp only at this; omega) y
  unfold added
  dsimp only at e ⊢
  exact e

theorem point_middle (n : ℕ) (hn : n + 1 < cfg0.N) (h0 : ¬(n + 1) % 4 = 0) (h3 : ¬(n + 1) % 4 = 3) (y : S2048x512.Idx) :
    (scratch m c (n + 1) hn y : EReal) = scratch m c n (Nat.lt_of_succ_lt hn) y + added m c ⟨n + 1, hn⟩ y := by
  unfold scratch
  rw [outsAt0_B m c ⟨n + 1, hn⟩ h0 (by dsimp only; omega) h3]
  have e := middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _)
    (iblk m c 0 ⟨n + 1, hn⟩) (iblk m c 1 ⟨n + 1, hn⟩) (fun h => h0 ((hcond0_0 ⟨n + 1, hn⟩).mp h))
    ((hcond0_1 ⟨n + 1, hn⟩).mpr (by dsimp only; omega)) (fun h => h3 ((hcond0_2 ⟨n + 1, hn⟩).mp h)) (scratch m c n (Nat.lt_of_succ_lt hn)) y
  unfold added
  unfold scratch at e
  dsimp only at e ⊢
  exact e

/-- What the last point of a block writes. -/
theorem point_last (n : ℕ) (hn : n + 3 < cfg0.N) (h0 : n % 4 = 0) (y : S2048x512.Idx) :
    (scratch m c (n + 2) (by omega) y : EReal) + added m c ⟨n + 3, hn⟩ y
      = added m c ⟨n, by omega⟩ y + added m c ⟨n + 1, by omega⟩ y + added m c ⟨n + 2, by omega⟩ y + added m c ⟨n + 3, hn⟩ y := by
  rw [point_middle m c (n + 1) (by omega) (by omega) (by omega), point_middle m c n (by omega) (by omega) (by omega), point_first m c n (by omega) h0]

/-! ## The whole product -/

/-- The whole product. -/
noncomputable abbrev whole (x : FVec Ideal S4096x4096 .bf16) (w : FVec Ideal S8x512x512 .bf16) : Mat 4096 512 :=
  nt (K := 4096) x (wide (B := 8) (C := 512) (by decide) w)

/-- The product of the two arguments. -/
noncomputable abbrev product : Mat 4096 512 := whole (m ((c : Thread nD τ).loc main_arg0)) (m ((c : Thread nD τ).loc main_arg1))

/-- Where the blocks of the points that share a block of the result lie. -/
theorem places : ∀ t t' : Fin cfg0.N, t.val / 4 = t'.val / 4 →
    win0_0.index t (0 : Fin 2) * 2048 = win0_2.index t' (0 : Fin 2) * 2048 ∧ win0_0.index t (1 : Fin 2) * 1024 = 1024 * (t.val % 4)
    ∧ win0_1.index t (0 : Fin 3) * 2 * 512 = 1024 * (t.val % 4) ∧ win0_1.index t (1 : Fin 3) * 512 = 0 ∧ win0_1.index t (2 : Fin 3) * 512 = 0
    ∧ win0_2.index t' (1 : Fin 2) * 512 = 0 :=
  (by decide +kernel : ∀ t t' : Fin grid0.N, _)

/-- What point `t` adds is 1024 columns' part of the whole product. -/
theorem added_eq (t t' : Fin cfg0.N) (h : t.val / 4 = t'.val / 4) (d : ℕ) (hd : 1024 * (t.val % 4) = d) (y : ((cfg0.win 2).xblock (grid0.coords t')).Idx) :
    added m c t ((cfg0.win 2).xinj (grid0.coords t') y)
      = piece (K := 4096) (m ((c : Thread nD τ).loc main_arg0) : FVec Ideal S4096x4096 .bf16)
          (wide (B := 8) (C := 512) (by decide) (m ((c : Thread nD τ).loc main_arg1) : FVec Ideal S8x512x512 .bf16)) 1024 d (((cfg0.win 2).blk t').view.emb y) := by
  subst hd
  exact nt_piece (m := 2048) (C := 512) (b := 2) (ex := ((cfg0.win 0).blk t).view.emb) (ew := ((cfg0.win 1).blk t).view.emb)
    (eo := ((cfg0.win 2).blk t').view.emb) (fun _ => ⟨rfl, rfl⟩) (fun _ => ⟨rfl, rfl, rfl⟩) (fun _ => ⟨rfl, rfl⟩) (places t t' h) y

theorem flushed (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨t, ht⟩ := t
  obtain ⟨n, rfl⟩ : ∃ n, t = n + 3 := ⟨t - 3, by dsimp only at h3; omega⟩
  dsimp only at h3
  have hn : n % 4 = 0 := by omega
  rw [flushed2_C m c ⟨n + 3, ht⟩ (by dsimp only; omega) (by dsimp only; omega) h3]
  funext y
  have e := last c (grid0.coords ⟨n + 3, ht⟩) (ms0_0 ⟨n + 3, ht⟩) (hs0_0 ⟨n + 3, ht⟩) (ms0_1 ⟨n + 3, ht⟩) (hs0_1 ⟨n + 3, ht⟩) (ms0_2 ⟨n + 3, ht⟩) (hs0_2 ⟨n + 3, ht⟩) scM0_0 (Memref.isWhole_whole _)
    (iblk m c 0 ⟨n + 3, ht⟩) (iblk m c 1 ⟨n + 3, ht⟩)
    (fun h => by have := (hcond0_0 ⟨n + 3, ht⟩).mp h; dsimp only at this; omega) ((hcond0_1 ⟨n + 3, ht⟩).mpr (by dsimp only; omega)) ((hcond0_2 ⟨n + 3, ht⟩).mpr h3)
    (scratch m c (n + 2) (by omega)) ((cfg0.win 2).xinj (grid0.coords ⟨n + 3, ht⟩) y)
  refine e.trans ((point_last m c n ht hn _).trans ?_)
  rw [added_eq m c ⟨n, by omega⟩ ⟨n + 3, ht⟩ (by dsimp only; omega) 0 (by dsimp only; omega),
    added_eq m c ⟨n + 1, by omega⟩ ⟨n + 3, ht⟩ (by dsimp only; omega) 1024 (by dsimp only; omega),
    added_eq m c ⟨n + 2, by omega⟩ ⟨n + 3, ht⟩ (by dsimp only; omega) (1024 + 1024) (by dsimp only; omega),
    added_eq m c ⟨n + 3, ht⟩ ⟨n + 3, ht⟩ rfl (1024 + 1024 + 1024) (by dsimp only; omega)]
  exact nt_four (M := 4096) (N := 512) (K := 4096) (W := 1024) rfl _ _ _

/-- The blocks fill the array. -/
theorem covers : win0_2.Covers := by decide +kernel

/-- What the array holds at the end. -/
theorem final : (dats m 0 c).arrAt 2 cfg0.N = product m c :=
  (dats m 0 c).arrAt_eq_of_cover 2 _ (fun t hf => flushed m c t hf) (covers.cover _ (Memref.isWhole_whole _))

end Cert.Kernel20Ideal.Product

namespace Cert.Reference20Ideal.Product

open Reference20Ideal Reference20Ideal.Gen

/-- What the reference's last buffer holds. -/
theorem value (x : FVec Ideal S4096x4096 .bf16) (w : FVec Ideal S8x512x512 .bf16) :
    (truncf .bf16 (Host.dotGeneral dot_S4096x4096_S512x4096_S4096x512_1_1_0_0_n_n none (extf .f32 x bitsLt_bf16_f32) (extf .f32 (shapeCast _ (transpose S512x8x512 [1, 0, 2] w transposes_S8x512x512_S512x8x512_1_0_2) shapeCasts_S512x8x512_S512x4096) bitsLt_bf16_f32)) bitsLt_bf16_f32 : FVec Ideal S4096x512 .bf16)
    = Kernel20Ideal.Product.whole x w := by
  funext y
  unfold Kernel20Ideal.Product.whole nt wide
  rw [eq_ix2 y]
  pointwise

end Cert.Reference20Ideal.Product

namespace Cert.QueryDx

/-- The frame of the reference. -/
theorem frame_reference : quiescent_Reference20Ideal := fun m ρ _ => quiet (by decide) (fun _ _ h => h.2) (Reference20Ideal.Value.run m ρ)

/-- The result, from memories that agree on the arguments. -/
theorem equal : algebraic_Kernel20Ideal_Reference20Ideal := fun m ρ m' ρ' _ hm =>
  ⟨fun c => Kernel20Ideal.Product.product m c,
   (θ_run Kernel20Ideal.defs _ _).mono (fun _ h c => ⟨(h c).1.trans (Kernel20Ideal.Product.final m c), (h c).2⟩) (Kernel20Ideal.Value.run_blocks m ρ),
   (θ_run Reference20Ideal.defs _ _).mono (fun _ h c =>
     ⟨(h c).1.trans ((Reference20Ideal.Product.value _ _).trans (congrArg₂ Kernel20Ideal.Product.whole (hm c).1 (hm c).2)), (h c).2⟩)
     (Reference20Ideal.Value.run m' ρ')⟩

end Cert.QueryDx
-- ==== Proof.QueryDw.lean ====
module
public import proofs.«01_k».proof.Proof.Slabs
public import proofs.«01_k».proof.Proof.Gen.Kernel21Ideal.Value
public import proofs.«01_k».proof.Proof.Gen.Reference21Ideal.Run
@[expose] public section

/-!
# The gradient of the product that makes the queries, in its weight

Eight slabs of 512 × 512.
-/

open Idealize.ShloMosaic Idealize.ShloMosaic.TcCoe Idealize.ShloMosaic.Tactic Idealize.SL.Sem Cert Cert.Entries Cert.Products

namespace Cert.Kernel21Ideal.Product

open Kernel21Ideal Kernel21Ideal.Gen Kernel21Ideal.Value

variable (m : (ℓ : Loc nD τ sig) → Buf (Elt Ideal) ℓ) (c : Dev nD)

/-- What a step writes: the product of its blocks. -/
theorem step (t : Fin cfg0.N) : (outsAt0 m c t : Slab 1 512 512) = slabs (B := 1) (C := 512) (by decide) (tn (K := 4096) (M := 512) (N := 512) (iblk m c 0 t) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero3, slabs_one, eq_ix3 y]
  unfold k0_pay1 tn
  simp only [View.readAt_eq_ld, (hs0_0 t).read_unread, (hs0_1 t).read_unread, View.ld_unit_zero (S := S4096x512) zero2]
  pointwise

/-- Where a step's blocks lie. -/
theorem places : ∀ t : Fin cfg0.N,
    win0_0.index t (0 : Fin 2) * 4096 = 0 ∧ win0_0.index t (1 : Fin 2) * 512 = win0_2.index t (1 : Fin 3) * 512
    ∧ win0_1.index t (0 : Fin 2) * 4096 = 0 ∧ win0_1.index t (1 : Fin 2) * 512 = win0_2.index t (0 : Fin 3) * 1 * 512 ∧ win0_2.index t (2 : Fin 3) * 512 = 0 :=
  (by decide +kernel : ∀ t : Fin grid0.N, _)

/-- The blocks fill the array. -/
theorem covers : win0_2.Covers := by decide +kernel

/-- The whole product. -/
noncomputable abbrev whole (x : FVec Ideal S4096x512 .bf16) (w : FVec Ideal S4096x4096 .bf16) : Slab 8 512 512 :=
  slabs (B := 8) (C := 512) (by decide) (tn (K := 4096) (M := 512) (N := 4096) x w)

/-- The product of the two arguments. -/
noncomputable abbrev product : Slab 8 512 512 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_slab (m := 512) (C := 512) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel21Ideal.Product

namespace Cert.Reference21Ideal.Product

open Reference21Ideal Reference21Ideal.Gen

/-- What the reference's last buffer holds. -/
theorem value (x : FVec Ideal S4096x512 .bf16) (w : FVec Ideal S4096x4096 .bf16) :
    (truncf .bf16 (transpose S8x512x512 [1, 0, 2] (shapeCast _ (transpose S512x4096 [1, 0] (Host.dotGeneral dot_S4096x4096_S4096x512_S4096x512_0_0_1_1_n_n none (extf .f32 w bitsLt_bf16_f32) (extf .f32 x bitsLt_bf16_f32)) transposes_S4096x512_S512x4096_1_0) shapeCasts_S512x4096_S512x8x512) transposes_S512x8x512_S8x512x512_1_0_2) bitsLt_bf16_f32 : FVec Ideal S8x512x512 .bf16)
    = Kernel21Ideal.Product.whole x w := by
  funext y
  unfold Kernel21Ideal.Product.whole slabs tn
  rw [eq_ix3 y]
  refine Eq.trans ?_ (Finset.sum_congr rfl fun k _ => mul_comm (G := EReal) _ _)
  pointwise
  rfl

end Cert.Reference21Ideal.Product

namespace Cert.QueryDw

/-- The frame of the reference. -/
theorem frame_reference : quiescent_Reference21Ideal := fun m ρ _ => quiet (by decide) (fun _ _ h => h.2) (Reference21Ideal.Value.run m ρ)

/-- The result, from memories that agree on the arguments. -/
theorem equal : algebraic_Kernel21Ideal_Reference21Ideal := fun m ρ m' ρ' _ hm =>
  ⟨fun c => Kernel21Ideal.Product.product m c,
   (θ_run Kernel21Ideal.defs _ _).mono (fun _ h c => ⟨(h c).1.trans (Kernel21Ideal.Product.final m c), (h c).2⟩) (Kernel21Ideal.Value.run_blocks m ρ),
   (θ_run Reference21Ideal.defs _ _).mono (fun _ h c =>
     ⟨(h c).1.trans ((Reference21Ideal.Product.value _ _).trans (congrArg₂ Kernel21Ideal.Product.whole (hm c).1 (hm c).2)), (h c).2⟩)
     (Reference21Ideal.Value.run m' ρ')⟩

end Cert.QueryDw
-- ==== Proof.QueryFwd.lean ====
module
public import proofs.«01_k».proof.Proof.Slabs
public import proofs.«01_k».proof.Proof.Gen.Kernel22Ideal.Value
public import proofs.«01_k».proof.Proof.Gen.Reference22Ideal.Run
@[expose] public section

/-!
# The product that makes the queries

Sixteen blocks of 2048 × 512, each with one slab of the weight.
-/

open Idealize.ShloMosaic Idealize.ShloMosaic.TcCoe Idealize.ShloMosaic.Tactic Idealize.SL.Sem Cert Cert.Entries Cert.Products

namespace Cert.Kernel22Ideal.Product

open Kernel22Ideal Kernel22Ideal.Gen Kernel22Ideal.Value

variable (m : (ℓ : Loc nD τ sig) → Buf (Elt Ideal) ℓ) (c : Dev nD)

/-- What a step writes: the product of its blocks. -/
theorem step (t : Fin cfg0.N) : (outsAt0 m c t : Mat 2048 512) = nn (K := 512) (iblk m c 0 t) (wide (N := 512) (C := 512) (B := 1) (by decide) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero2, nn_one, eq_ix2 y]
  unfold k0_pay1
  simp only [View.readAt_eq_ld, (hs0_0 t).read_unread, (hs0_1 t).read_unread, View.ld_unit_zero (S := S2048x512) zero2, View.ld_unit_zero (S := S1x512x512) zero3]
  pointwise

/-- Where a step's blocks lie. -/
theorem places : ∀ t : Fin cfg0.N,
    win0_0.index t (0 : Fin 2) * 2048 = win0_2.index t (0 : Fin 2) * 2048 ∧ win0_0.index t (1 : Fin 2) * 512 = 0
    ∧ win0_1.index t (1 : Fin 3) * 512 = 0 ∧ win0_1.index t (2 : Fin 3) * 512 = 0 ∧ win0_1.index t (0 : Fin 3) * 1 * 512 = win0_2.index t (1 : Fin 2) * 512 :=
  (by decide +kernel : ∀ t : Fin grid0.N, _)

/-- The blocks fill the array. -/
theorem covers : win0_2.Covers := by decide +kernel

/-- The whole product. -/
noncomputable abbrev whole (x : FVec Ideal S4096x512 .bf16) (w : FVec Ideal S8x512x512 .bf16) : Mat 4096 4096 :=
  nn (K := 512) x (wide (N := 4096) (B := 8) (C := 512) (by decide) w)

/-- The product of the two arguments. -/
noncomputable abbrev product : Mat 4096 4096 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_slab (m := 2048) (C := 512) (ex := ((cfg0.win 0).blk t).view.emb) (ew := ((cfg0.win 1).blk t).view.emb)
    (eo := ((cfg0.win 2).blk t).view.emb) (fun _ => ⟨rfl, rfl⟩) (fun _ => ⟨rfl, rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel22Ideal.Product

namespace Cert.Reference22Ideal.Product

open Reference22Ideal Reference22Ideal.Gen

/-- What the reference's last buffer holds. -/
theorem value (x : FVec Ideal S4096x512 .bf16) (w : FVec Ideal S8x512x512 .bf16) :
    (truncf .bf16 (Host.dotGeneral dot_S4096x512_S512x4096_S4096x4096_1_0_0_1_n_n none (extf .f32 x bitsLt_bf16_f32) (extf .f32 (shapeCast _ (transpose S512x8x512 [1, 0, 2] w transposes_S8x512x512_S512x8x512_1_0_2) shapeCasts_S512x8x512_S512x4096) bitsLt_bf16_f32)) bitsLt_bf16_f32 : FVec Ideal S4096x4096 .bf16)
    = Kernel22Ideal.Product.whole x w := by
  funext y
  unfold Kernel22Ideal.Product.whole nn wide
  rw [eq_ix2 y]
  pointwise

end Cert.Reference22Ideal.Product

namespace Cert.QueryFwd

/-- The frame of the reference. -/
theorem frame_reference : quiescent_Reference22Ideal := fun m ρ _ => quiet (by decide) (fun _ _ h => h.2) (Reference22Ideal.Value.run m ρ)

/-- The result, from memories that agree on the arguments. -/
theorem equal : algebraic_Kernel22Ideal_Reference22Ideal := fun m ρ m' ρ' _ hm =>
  ⟨fun c => Kernel22Ideal.Product.product m c,
   (θ_run Kernel22Ideal.defs _ _).mono (fun _ h c => ⟨(h c).1.trans (Kernel22Ideal.Product.final m c), (h c).2⟩) (Kernel22Ideal.Value.run_blocks m ρ),
   (θ_run Reference22Ideal.defs _ _).mono (fun _ h c =>
     ⟨(h c).1.trans ((Reference22Ideal.Product.value _ _).trans (congrArg₂ Kernel22Ideal.Product.whole (hm c).1 (hm c).2)), (h c).2⟩)
     (Reference22Ideal.Value.run m' ρ')⟩

end Cert.QueryFwd
-- ==== Proof.KeyDx.lean ====
module
public import proofs.«01_k».proof.Proof.Slabs
public import proofs.«01_k».proof.Proof.Gen.Kernel23Ideal.Value
public import proofs.«01_k».proof.Proof.Gen.Reference23Ideal.Run
@[expose] public section

/-!
# The gradient of the product that makes the keys or the values, in its activations

Two blocks of 2048 rows. Each is summed over four grid points, 512 of the 2048 columns at a time: the first point stores its part in a
scratch array, the next two add theirs, and the last adds its part and writes the block.
-/

open Idealize.ShloMosaic Idealize.ShloMosaic.TcCoe Idealize.ShloMosaic.Tactic Idealize.SL.Sem Cert Cert.Entries Cert.Products

namespace Cert.Kernel23Ideal.Product

open Kernel23Ideal Kernel23Ideal.Gen Kernel23Ideal.Value

variable (m : (ℓ : Loc nD τ sig) → Buf (Elt Ideal) ℓ) (c : Dev nD)

/-! ## One grid point -/

/-- What one grid point adds. -/
noncomputable abbrev part (x : Vec Ideal S2048x512 .bf16) (w : Vec Ideal S2x256x256 .bf16) : Mat 2048 256 := nt (K := 512) x (wide (B := 2) (C := 256) (by decide) w)

section
variable (c : Dev nD) (i : grid0.Coords) (a3 : Memref sig .tc .vmem S2048x512 .bf16) (h3 : a3.IsWhole)
    (a4 : Memref sig .tc .vmem S2x256x256 .bf16) (h4 : a4.IsWhole) (a5 : Memref sig .tc .vmem S2048x256 .bf16) (h5 : a5.IsWhole)
    (a6 : Memref sig .tc .vmem S2048x256 .f32) (h6 : a6.IsWhole) (x : Vec Ideal S2048x512 .bf16) (w : Vec Ideal S2x256x256 .bf16)

theorem first (hc0 : cond0_0 i) (hc1 : ¬cond0_1 i) (hc2 : ¬cond0_2 i) (y : S2048x256.Idx) :
    (sout0_A_0 c i a3 h3 a4 h4 a5 h5 a6 h6 hc0 hc1 hc2 x w : Vec Ideal S2048x256 .f32) y = part x w y := by
  refine Eq.trans ?_ (nt_pair x w y).symm
  unfold sout0_A_0
  rw [View.read_writes_eq_canon _ _ _ (scover0_A_0 c i a3 h3 a4 h4 a5 h5 a6 h6 hc0 hc1 hc2 x w)]
  unfold kernelRun0_A
  dsimp only
  rw [View.canon_unit_zero zero2, eq_ix2 y]
  unfold k0_pay2 k0_pay1
  simp only [View.readAt_eq_ld, h3.read_unread, h4.read_unread]
  pointwise

theorem middle (hc0 : ¬cond0_0 i) (hc1 : cond0_1 i) (hc2 : ¬cond0_2 i) (s : Vec Ideal S2048x256 .f32) (y : S2048x256.Idx) :
    (sout0_B_0 c i a3 h3 a4 h4 a5 h5 a6 h6 hc0 hc1 hc2 x w s : Vec Ideal S2048x256 .f32) y = (s y : EReal) + part x w y := by
  refine Eq.trans ?_ (congrArg (fun e : EReal => s y + e) (nt_pair x w y).symm)
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2, eq_ix2 y]
  unfold k0_pay3 k0_pay1
  simp only [View.readAt_eq_ld, h3.read_unread, h4.read_unread, h6.read_unread, View.ld_unit_zero (S := S2048x256) zero2]
  pointwise

theorem last (hc0 : ¬cond0_0 i) (hc1 : cond0_1 i) (hc2 : cond0_2 i) (s : Vec Ideal S2048x256 .f32) (y : S2048x256.Idx) :
    (out0_C_2 c i a3 h3 a4 h4 a5 h5 a6 h6 hc0 hc1 hc2 x w s : Vec Ideal S2048x256 .bf16) y = (s y : EReal) + part x w y := by
  refine Eq.trans ?_ (congrArg (fun e : EReal => s y + e) (nt_pair x w y).symm)
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S2048x256) _ zero2, eq_ix2 y]
  unfold k0_pay4 k0_pay3 k0_pay1
  simp only [View.readAt_eq_ld, h3.read_unread, h4.read_unread, h6.read_unread, View.ld_unit_zero (S := S2048x256) zero2]
  pointwise

end

/-! ## The four points of a block -/

/-- What point `t` adds. -/
noncomputable def added (t : Fin cfg0.N) : Mat 2048 256 := part (iblk m c 0 t) (iblk m c 1 t)

/-- The scratch array after point `n`. -/
noncomputable def scratch (n : ℕ) (hn : n < cfg0.N) : FVec Ideal S2048x256 .f32 := (outsAt0 m c n hn).2

theorem point_first (n : ℕ) (hn : n < cfg0.N) (h0 : n % 4 = 0) (y : S2048x256.Idx) : (scratch m c n hn y : EReal) = added m c ⟨n, hn⟩ y := by
  unfold scratch
  rw [outsAt0_A m c ⟨n, hn⟩ h0 (by dsimp only; omega) (by dsimp only; omega)]
  have e := first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    (iblk m c 0 ⟨n, hn⟩) (iblk m c 1 ⟨n, hn⟩) ((hcond0_0 ⟨n, hn⟩).mpr h0)
    (fun h => by have := (hcond0_1 ⟨n, hn⟩).mp h; dsimp only at this; omega) (fun h => by have := (hcond0_2 ⟨n, hn⟩).mp h; dsimp only at this; omega) y
  unfold added
  dsimp only at e ⊢
  exact e

theorem point_middle (n : ℕ) (hn : n + 1 < cfg0.N) (h0 : ¬(n + 1) % 4 = 0) (h3 : ¬(n + 1) % 4 = 3) (y : S2048x256.Idx) :
    (scratch m c (n + 1) hn y : EReal) = scratch m c n (Nat.lt_of_succ_lt hn) y + added m c ⟨n + 1, hn⟩ y := by
  unfold scratch
  rw [outsAt0_B m c ⟨n + 1, hn⟩ h0 (by dsimp only; omega) h3]
  have e := middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _)
    (iblk m c 0 ⟨n + 1, hn⟩) (iblk m c 1 ⟨n + 1, hn⟩) (fun h => h0 ((hcond0_0 ⟨n + 1, hn⟩).mp h))
    ((hcond0_1 ⟨n + 1, hn⟩).mpr (by dsimp only; omega)) (fun h => h3 ((hcond0_2 ⟨n + 1, hn⟩).mp h)) (scratch m c n (Nat.lt_of_succ_lt hn)) y
  unfold added
  unfold scratch at e
  dsimp only at e ⊢
  exact e

/-- What the last point of a block writes. -/
theorem point_last (n : ℕ) (hn : n + 3 < cfg0.N) (h0 : n % 4 = 0) (y : S2048x256.Idx) :
    (scratch m c (n + 2) (by omega) y : EReal) + added m c ⟨n + 3, hn⟩ y
      = added m c ⟨n, by omega⟩ y + added m c ⟨n + 1, by omega⟩ y + added m c ⟨n + 2, by omega⟩ y + added m c ⟨n + 3, hn⟩ y := by
  rw [point_middle m c (n + 1) (by omega) (by omega) (by omega), point_middle m c n (by omega) (by omega) (by omega), point_first m c n (by omega) h0]

/-! ## The whole product -/

/-- The whole product. -/
noncomputable abbrev whole (x : FVec Ideal S4096x2048 .bf16) (w : FVec Ideal S8x256x256 .bf16) : Mat 4096 256 :=
  nt (K := 2048) x (wide (B := 8) (C := 256) (by decide) w)

/-- The product of the two arguments. -/
noncomputable abbrev product : Mat 4096 256 := whole (m ((c : Thread nD τ).loc main_arg0)) (m ((c : Thread nD τ).loc main_arg1))

/-- Where the blocks of the points that share a block of the result lie. -/
theorem places : ∀ t t' : Fin cfg0.N, t.val / 4 = t'.val / 4 →
    win0_0.index t (0 : Fin 2) * 2048 = win0_2.index t' (0 : Fin 2) * 2048 ∧ win0_0.index t (1 : Fin 2) * 512 = 512 * (t.val % 4)
    ∧ win0_1.index t (0 : Fin 3) * 2 * 256 = 512 * (t.val % 4) ∧ win0_1.index t (1 : Fin 3) * 256 = 0 ∧ win0_1.index t (2 : Fin 3) * 256 = 0
    ∧ win0_2.index t' (1 : Fin 2) * 256 = 0 :=
  (by decide +kernel : ∀ t t' : Fin grid0.N, _)

/-- What point `t` adds is 512 columns' part of the whole product. -/
theorem added_eq (t t' : Fin cfg0.N) (h : t.val / 4 = t'.val / 4) (d : ℕ) (hd : 512 * (t.val % 4) = d) (y : ((cfg0.win 2).xblock (grid0.coords t')).Idx) :
    added m c t ((cfg0.win 2).xinj (grid0.coords t') y)
      = piece (K := 2048) (m ((c : Thread nD τ).loc main_arg0) : FVec Ideal S4096x2048 .bf16)
          (wide (B := 8) (C := 256) (by decide) (m ((c : Thread nD τ).loc main_arg1) : FVec Ideal S8x256x256 .bf16)) 512 d (((cfg0.win 2).blk t').view.emb y) := by
  subst hd
  exact nt_piece (m := 2048) (C := 256) (b := 2) (ex := ((cfg0.win 0).blk t).view.emb) (ew := ((cfg0.win 1).blk t).view.emb)
    (eo := ((cfg0.win 2).blk t').view.emb) (fun _ => ⟨rfl, rfl⟩) (fun _ => ⟨rfl, rfl, rfl⟩) (fun _ => ⟨rfl, rfl⟩) (places t t' h) y

theorem flushed (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨t, ht⟩ := t
  obtain ⟨n, rfl⟩ : ∃ n, t = n + 3 := ⟨t - 3, by dsimp only at h3; omega⟩
  dsimp only at h3
  have hn : n % 4 = 0 := by omega
  rw [flushed2_C m c ⟨n + 3, ht⟩ (by dsimp only; omega) (by dsimp only; omega) h3]
  funext y
  have e := last c (grid0.coords ⟨n + 3, ht⟩) (ms0_0 ⟨n + 3, ht⟩) (hs0_0 ⟨n + 3, ht⟩) (ms0_1 ⟨n + 3, ht⟩) (hs0_1 ⟨n + 3, ht⟩) (ms0_2 ⟨n + 3, ht⟩) (hs0_2 ⟨n + 3, ht⟩) scM0_0 (Memref.isWhole_whole _)
    (iblk m c 0 ⟨n + 3, ht⟩) (iblk m c 1 ⟨n + 3, ht⟩)
    (fun h => by have := (hcond0_0 ⟨n + 3, ht⟩).mp h; dsimp only at this; omega) ((hcond0_1 ⟨n + 3, ht⟩).mpr (by dsimp only; omega)) ((hcond0_2 ⟨n + 3, ht⟩).mpr h3)
    (scratch m c (n + 2) (by omega)) ((cfg0.win 2).xinj (grid0.coords ⟨n + 3, ht⟩) y)
  refine e.trans ((point_last m c n ht hn _).trans ?_)
  rw [added_eq m c ⟨n, by omega⟩ ⟨n + 3, ht⟩ (by dsimp only; omega) 0 (by dsimp only; omega),
    added_eq m c ⟨n + 1, by omega⟩ ⟨n + 3, ht⟩ (by dsimp only; omega) 512 (by dsimp only; omega),
    added_eq m c ⟨n + 2, by omega⟩ ⟨n + 3, ht⟩ (by dsimp only; omega) (512 + 512) (by dsimp only; omega),
    added_eq m c ⟨n + 3, ht⟩ ⟨n + 3, ht⟩ rfl (512 + 512 + 512) (by dsimp only; omega)]
  exact nt_four (M := 4096) (N := 256) (K := 2048) (W := 512) rfl _ _ _

/-- The blocks fill the array. -/
theorem covers : win0_2.Covers := by decide +kernel

/-- What the array holds at the end. -/
theorem final : (dats m 0 c).arrAt 2 cfg0.N = product m c :=
  (dats m 0 c).arrAt_eq_of_cover 2 _ (fun t hf => flushed m c t hf) (covers.cover _ (Memref.isWhole_whole _))

end Cert.Kernel23Ideal.Product

namespace Cert.Reference23Ideal.Product

open Reference23Ideal Reference23Ideal.Gen

/-- What the reference's last buffer holds. -/
theorem value (x : FVec Ideal S4096x2048 .bf16) (w : FVec Ideal S8x256x256 .bf16) :
    (truncf .bf16 (Host.dotGeneral dot_S4096x2048_S256x2048_S4096x256_1_1_0_0_n_n none (extf .f32 x bitsLt_bf16_f32) (extf .f32 (shapeCast _ (transpose S256x8x256 [1, 0, 2] w transposes_S8x256x256_S256x8x256_1_0_2) shapeCasts_S256x8x256_S256x2048) bitsLt_bf16_f32)) bitsLt_bf16_f32 : FVec Ideal S4096x256 .bf16)
    = Kernel23Ideal.Product.whole x w := by
  funext y
  unfold Kernel23Ideal.Product.whole nt wide
  rw [eq_ix2 y]
  pointwise

end Cert.Reference23Ideal.Product

namespace Cert.KeyDx

/-- The frame of the reference. -/
theorem frame_reference : quiescent_Reference23Ideal := fun m ρ _ => quiet (by decide) (fun _ _ h => h.2) (Reference23Ideal.Value.run m ρ)

/-- The result, from memories that agree on the arguments. -/
theorem equal : algebraic_Kernel23Ideal_Reference23Ideal := fun m ρ m' ρ' _ hm =>
  ⟨fun c => Kernel23Ideal.Product.product m c,
   (θ_run Kernel23Ideal.defs _ _).mono (fun _ h c => ⟨(h c).1.trans (Kernel23Ideal.Product.final m c), (h c).2⟩) (Kernel23Ideal.Value.run_blocks m ρ),
   (θ_run Reference23Ideal.defs _ _).mono (fun _ h c =>
     ⟨(h c).1.trans ((Reference23Ideal.Product.value _ _).trans (congrArg₂ Kernel23Ideal.Product.whole (hm c).1 (hm c).2)), (h c).2⟩)
     (Reference23Ideal.Value.run m' ρ')⟩

end Cert.KeyDx
-- ==== Proof.KeyDw.lean ====
module
public import proofs.«01_k».proof.Proof.Slabs
public import proofs.«01_k».proof.Proof.Gen.Kernel24Ideal.Value
public import proofs.«01_k».proof.Proof.Gen.Reference24Ideal.Run
@[expose] public section

/-!
# The gradient of the product that makes the keys or the values, in its weight

Eight slabs of 256 × 256.
-/

open Idealize.ShloMosaic Idealize.ShloMosaic.TcCoe Idealize.ShloMosaic.Tactic Idealize.SL.Sem Cert Cert.Entries Cert.Products

namespace Cert.Kernel24Ideal.Product

open Kernel24Ideal Kernel24Ideal.Gen Kernel24Ideal.Value

variable (m : (ℓ : Loc nD τ sig) → Buf (Elt Ideal) ℓ) (c : Dev nD)

/-- What a step writes: the product of its blocks. -/
theorem step (t : Fin cfg0.N) : (outsAt0 m c t : Slab 1 256 256) = slabs (B := 1) (C := 256) (by decide) (tn (K := 4096) (M := 256) (N := 256) (iblk m c 0 t) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero3, slabs_one, eq_ix3 y]
  unfold k0_pay1 tn
  simp only [View.readAt_eq_ld, (hs0_0 t).read_unread, (hs0_1 t).read_unread, View.ld_unit_zero (S := S4096x256) zero2]
  pointwise

/-- Where a step's blocks lie. -/
theorem places : ∀ t : Fin cfg0.N,
    win0_0.index t (0 : Fin 2) * 4096 = 0 ∧ win0_0.index t (1 : Fin 2) * 256 = win0_2.index t (1 : Fin 3) * 256
    ∧ win0_1.index t (0 : Fin 2) * 4096 = 0 ∧ win0_1.index t (1 : Fin 2) * 256 = win0_2.index t (0 : Fin 3) * 1 * 256 ∧ win0_2.index t (2 : Fin 3) * 256 = 0 :=
  (by decide +kernel : ∀ t : Fin grid0.N, _)

/-- The blocks fill the array. -/
theorem covers : win0_2.Covers := by decide +kernel

/-- The whole product. -/
noncomputable abbrev whole (x : FVec Ideal S4096x256 .bf16) (w : FVec Ideal S4096x2048 .bf16) : Slab 8 256 256 :=
  slabs (B := 8) (C := 256) (by decide) (tn (K := 4096) (M := 256) (N := 2048) x w)

/-- The product of the two arguments. -/
noncomputable abbrev product : Slab 8 256 256 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_slab (m := 256) (C := 256) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel24Ideal.Product

namespace Cert.Reference24Ideal.Product

open Reference24Ideal Reference24Ideal.Gen

/-- What the reference's last buffer holds. -/
theorem value (x : FVec Ideal S4096x256 .bf16) (w : FVec Ideal S4096x2048 .bf16) :
    (truncf .bf16 (transpose S8x256x256 [1, 0, 2] (shapeCast _ (transpose S256x2048 [1, 0] (Host.dotGeneral dot_S4096x2048_S4096x256_S2048x256_0_0_1_1_n_n none (extf .f32 w bitsLt_bf16_f32) (extf .f32 x bitsLt_bf16_f32)) transposes_S2048x256_S256x2048_1_0) shapeCasts_S256x2048_S256x8x256) transposes_S256x8x256_S8x256x256_1_0_2) bitsLt_bf16_f32 : FVec Ideal S8x256x256 .bf16)
    = Kernel24Ideal.Product.whole x w := by
  funext y
  unfold Kernel24Ideal.Product.whole slabs tn
  rw [eq_ix3 y]
  refine Eq.trans ?_ (Finset.sum_congr rfl fun k _ => mul_comm (G := EReal) _ _)
  pointwise
  rfl

end Cert.Reference24Ideal.Product

namespace Cert.KeyDw

/-- The frame of the reference. -/
theorem frame_reference : quiescent_Reference24Ideal := fun m ρ _ => quiet (by decide) (fun _ _ h => h.2) (Reference24Ideal.Value.run m ρ)

/-- The result, from memories that agree on the arguments. -/
theorem equal : algebraic_Kernel24Ideal_Reference24Ideal := fun m ρ m' ρ' _ hm =>
  ⟨fun c => Kernel24Ideal.Product.product m c,
   (θ_run Kernel24Ideal.defs _ _).mono (fun _ h c => ⟨(h c).1.trans (Kernel24Ideal.Product.final m c), (h c).2⟩) (Kernel24Ideal.Value.run_blocks m ρ),
   (θ_run Reference24Ideal.defs _ _).mono (fun _ h c =>
     ⟨(h c).1.trans ((Reference24Ideal.Product.value _ _).trans (congrArg₂ Kernel24Ideal.Product.whole (hm c).1 (hm c).2)), (h c).2⟩)
     (Reference24Ideal.Value.run m' ρ')⟩

end Cert.KeyDw
-- ==== Proof.KeyFwd.lean ====
module
public import proofs.«01_k».proof.Proof.Slabs
public import proofs.«01_k».proof.Proof.Gen.Kernel25Ideal.Value
public import proofs.«01_k».proof.Proof.Gen.Reference25Ideal.Run
@[expose] public section

/-!
# The product that makes the keys or the values

Sixteen blocks of 2048 × 256, each with one slab of the weight.
-/

open Idealize.ShloMosaic Idealize.ShloMosaic.TcCoe Idealize.ShloMosaic.Tactic Idealize.SL.Sem Cert Cert.Entries Cert.Products

namespace Cert.Kernel25Ideal.Product

open Kernel25Ideal Kernel25Ideal.Gen Kernel25Ideal.Value

variable (m : (ℓ : Loc nD τ sig) → Buf (Elt Ideal) ℓ) (c : Dev nD)

/-- What a step writes: the product of its blocks. -/
theorem step (t : Fin cfg0.N) : (outsAt0 m c t : Mat 2048 256) = nn (K := 256) (iblk m c 0 t) (wide (N := 256) (C := 256) (B := 1) (by decide) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero2, nn_one, eq_ix2 y]
  unfold k0_pay1
  simp only [View.readAt_eq_ld, (hs0_0 t).read_unread, (hs0_1 t).read_unread, View.ld_unit_zero (S := S2048x256) zero2, View.ld_unit_zero (S := S1x256x256) zero3]
  pointwise

/-- Where a step's blocks lie. -/
theorem places : ∀ t : Fin cfg0.N,
    win0_0.index t (0 : Fin 2) * 2048 = win0_2.index t (0 : Fin 2) * 2048 ∧ win0_0.index t (1 : Fin 2) * 256 = 0
    ∧ win0_1.index t (1 : Fin 3) * 256 = 0 ∧ win0_1.index t (2 : Fin 3) * 256 = 0 ∧ win0_1.index t (0 : Fin 3) * 1 * 256 = win0_2.index t (1 : Fin 2) * 256 :=
  (by decide +kernel : ∀ t : Fin grid0.N, _)

/-- The blocks fill the array. -/
theorem covers : win0_2.Covers := by decide +kernel

/-- The whole product. -/
noncomputable abbrev whole (x : FVec Ideal S4096x256 .bf16) (w : FVec Ideal S8x256x256 .bf16) : Mat 4096 2048 :=
  nn (K := 256) x (wide (N := 2048) (B := 8) (C := 256) (by decide) w)

/-- The product of the two arguments. -/
noncomputable abbrev product : Mat 4096 2048 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_slab (m := 2048) (C := 256) (ex := ((cfg0.win 0).blk t).view.emb) (ew := ((cfg0.win 1).blk t).view.emb)
    (eo := ((cfg0.win 2).blk t).view.emb) (fun _ => ⟨rfl, rfl⟩) (fun _ => ⟨rfl, rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel25Ideal.Product

namespace Cert.Reference25Ideal.Product

open Reference25Ideal Reference25Ideal.Gen

/-- What the reference's last buffer holds. -/
theorem value (x : FVec Ideal S4096x256 .bf16) (w : FVec Ideal S8x256x256 .bf16) :
    (truncf .bf16 (Host.dotGeneral dot_S4096x256_S256x2048_S4096x2048_1_0_0_1_n_n none (extf .f32 x bitsLt_bf16_f32) (extf .f32 (shapeCast _ (transpose S256x8x256 [1, 0, 2] w transposes_S8x256x256_S256x8x256_1_0_2) shapeCasts_S256x8x256_S256x2048) bitsLt_bf16_f32)) bitsLt_bf16_f32 : FVec Ideal S4096x2048 .bf16)
    = Kernel25Ideal.Product.whole x w := by
  funext y
  unfold Kernel25Ideal.Product.whole nn wide
  rw [eq_ix2 y]
  pointwise

end Cert.Reference25Ideal.Product

namespace Cert.KeyFwd

/-- The frame of the reference. -/
theorem frame_reference : quiescent_Reference25Ideal := fun m ρ _ => quiet (by decide) (fun _ _ h => h.2) (Reference25Ideal.Value.run m ρ)

/-- The result, from memories that agree on the arguments. -/
theorem equal : algebraic_Kernel25Ideal_Reference25Ideal := fun m ρ m' ρ' _ hm =>
  ⟨fun c => Kernel25Ideal.Product.product m c,
   (θ_run Kernel25Ideal.defs _ _).mono (fun _ h c => ⟨(h c).1.trans (Kernel25Ideal.Product.final m c), (h c).2⟩) (Kernel25Ideal.Value.run_blocks m ρ),
   (θ_run Reference25Ideal.defs _ _).mono (fun _ h c =>
     ⟨(h c).1.trans ((Reference25Ideal.Product.value _ _).trans (congrArg₂ Kernel25Ideal.Product.whole (hm c).1 (hm c).2)), (h c).2⟩)
     (Reference25Ideal.Value.run m' ρ')⟩

end Cert.KeyFwd
-- ==== Proof.MlaInDw.lean ====
module
public import proofs.«01_k».proof.Proof.Slabs
public import proofs.«01_k».proof.Proof.Gen.Kernel26Ideal.Value
public import proofs.«01_k».proof.Proof.Gen.Reference26Ideal.Run
@[expose] public section

/-!
# The gradient of the product that enters the attention, in its weight

One block, summed over two grid points of 2048 rows each: the first stores its part in a scratch array, the second adds its part and
writes the block.
-/

open Idealize.ShloMosaic Idealize.ShloMosaic.TcCoe Idealize.ShloMosaic.Tactic Idealize.SL.Sem Cert Cert.Entries Cert.Products

namespace Cert.Kernel26Ideal.Product

open Kernel26Ideal Kernel26Ideal.Gen Kernel26Ideal.Value

variable (m : (ℓ : Loc nD τ sig) → Buf (Elt Ideal) ℓ) (c : Dev nD)

/-! ## One grid point -/

section
variable (c : Dev nD) (i : grid0.Coords) (a3 : Memref sig .tc .vmem S2048x1024 .bf16) (h3 : a3.IsWhole)
    (a4 : Memref sig .tc .vmem S2048x896 .f32) (h4 : a4.IsWhole) (a5 : Memref sig .tc .vmem S1024x896 .bf16) (h5 : a5.IsWhole)
    (a6 : Memref sig .tc .vmem S1024x896 .f32) (h6 : a6.IsWhole) (x : Vec Ideal S2048x1024 .bf16) (w : Vec Ideal S2048x896 .f32)

theorem first (hc0 : cond0_0 i) (hc1 : ¬cond0_1 i) (hc2 : ¬cond0_2 i) (y : S1024x896.Idx) :
    (sout0_A_0 c i a3 h3 a4 h4 a5 h5 a6 h6 hc0 hc1 hc2 x w : Vec Ideal S1024x896 .f32) y = tn (K := 2048) x w y := by
  unfold sout0_A_0 tn
  rw [View.read_writes_eq_canon _ _ _ (scover0_A_0 c i a3 h3 a4 h4 a5 h5 a6 h6 hc0 hc1 hc2 x w)]
  unfold kernelRun0_A
  dsimp only
  rw [View.canon_unit_zero zero2, eq_ix2 y]
  unfold k0_pay2 k0_pay1
  simp only [View.readAt_eq_ld, h3.read_unread, h4.read_unread, View.ld_unit_zero (S := S2048x1024) zero2, View.ld_unit_zero (S := S2048x896) zero2]
  pointwise

theorem last (hc0 : ¬cond0_0 i) (hc1 : cond0_1 i) (hc2 : cond0_2 i) (s : Vec Ideal S1024x896 .f32) (y : S1024x896.Idx) :
    (out0_B_2 c i a3 h3 a4 h4 a5 h5 a6 h6 hc0 hc1 hc2 x w s : Vec Ideal S1024x896 .bf16) y = (s y : EReal) + tn (K := 2048) x w y := by
  unfold out0_B_2 tn
  rw [View.read_writes_eq_canon _ _ _ (cover0_B_2 c i a3 h3 a4 h4 a5 h5 a6 h6 hc0 hc1 hc2 x w s)]
  unfold kernelRun0_B
  dsimp only
  sl_unfold_words
  rw [View.canon_unit_zero zero2, View.readCov_unit_zero (S := S1024x896) _ zero2, eq_ix2 y]
  unfold k0_pay4 k0_pay3 k0_pay1
  simp only [View.readAt_eq_ld, h3.read_unread, h4.read_unread, h6.read_unread, View.ld_unit_zero (S := S2048x1024) zero2, View.ld_unit_zero (S := S2048x896) zero2,
    View.ld_unit_zero (S := S1024x896) zero2]
  pointwise

end

/-! ## The two points -/

/-- What point `t` adds. -/
noncomputable def added (t : Fin cfg0.N) : Mat 1024 896 := tn (K := 2048) (iblk m c 0 t) (iblk m c 1 t)

/-- The scratch array after point `n`. -/
noncomputable def scratch (n : ℕ) (hn : n < cfg0.N) : FVec Ideal S1024x896 .f32 := (outsAt0 m c n hn).2

theorem point_first (n : ℕ) (hn : n < cfg0.N) (h0 : n % 2 = 0) (y : S1024x896.Idx) : (scratch m c n hn y : EReal) = added m c ⟨n, hn⟩ y := by
  unfold scratch
  rw [outsAt0_A m c ⟨n, hn⟩ h0 (by dsimp only; omega) (by dsimp only; omega)]
  have e := first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
    (iblk m c 0 ⟨n, hn⟩) (iblk m c 1 ⟨n, hn⟩) ((hcond0_0 ⟨n, hn⟩).mpr h0)
    (fun h => by have := (hcond0_1 ⟨n, hn⟩).mp h; dsimp only at this; omega) (fun h => by have := (hcond0_2 ⟨n, hn⟩).mp h; dsimp only at this; omega) y
  unfold added
  dsimp only at e ⊢
  exact e

/-! ## The whole product -/

/-- The whole product. -/
noncomputable abbrev whole (x : FVec Ideal S4096x1024 .bf16) (w : FVec Ideal S4096x896 .f32) : Mat 1024 896 := tn (K := 4096) x w

/-- The product of the two arguments. -/
noncomputable abbrev product : Mat 1024 896 := whole (m ((c : Thread nD τ).loc main_arg0)) (m ((c : Thread nD τ).loc main_arg1))

/-- Where the blocks of the two points lie. -/
theorem places : ∀ t t' : Fin cfg0.N,
    win0_0.index t (0 : Fin 2) * 2048 = 2048 * t.val ∧ win0_0.index t (1 : Fin 2) * 1024 = win0_2.index t' (0 : Fin 2) * 1024
    ∧ win0_1.index t (0 : Fin 2) * 2048 = 2048 * t.val ∧ win0_1.index t (1 : Fin 2) * 896 = win0_2.index t' (1 : Fin 2) * 896 :=
  (by decide +kernel : ∀ t t' : Fin grid0.N, _)

/-- What point `t` adds is 2048 rows' part of the whole product. -/
theorem added_eq (t t' : Fin cfg0.N) (d : ℕ) (hd : 2048 * t.val = d) (y : ((cfg0.win 2).xblock (grid0.coords t')).Idx) :
    added m c t ((cfg0.win 2).xinj (grid0.coords t') y)
      = piece (K := 4096) (flip (m ((c : Thread nD τ).loc main_arg0) : FVec Ideal S4096x1024 .bf16))
          (flip (m ((c : Thread nD τ).loc main_arg1) : FVec Ideal S4096x896 .f32)) 2048 d (((cfg0.win 2).blk t').view.emb y) := by
  subst hd
  exact tn_piece (m := 1024) (n := 896) (ex := ((cfg0.win 0).blk t).view.emb) (ew := ((cfg0.win 1).blk t).view.emb)
    (eo := ((cfg0.win 2).blk t').view.emb) (fun _ => ⟨rfl, rfl⟩) (fun _ => ⟨rfl, rfl⟩) (fun _ => ⟨rfl, rfl⟩) (places t t') y

theorem flushed (t : Fin cfg0.N) (hf : (cfg0.win 2).flush t = true) :
    (dats m 0 c).flushed 2 t = ((cfg0.win 2).blk t).view.read (Elt Ideal) (product m c) := by
  have hN : t.val < 2 := lt_of_lt_of_eq t.isLt N_0
  have h3 : t.val % 2 = 1 := (flush0_2 t).mp hf
  obtain ⟨t, h1⟩ := t
  obtain rfl : t = 1 := by dsimp only at h3 hN; omega
  rw [flushed2_B m c ⟨1, h1⟩ (fun h => by dsimp only at h; omega) h3 h3]
  funext y
  have e := last c (grid0.coords ⟨1, h1⟩) (ms0_0 ⟨1, h1⟩) (hs0_0 ⟨1, h1⟩) (ms0_1 ⟨1, h1⟩) (hs0_1 ⟨1, h1⟩) (ms0_2 ⟨1, h1⟩) (hs0_2 ⟨1, h1⟩) scM0_0 (Memref.isWhole_whole _)
    (iblk m c 0 ⟨1, h1⟩) (iblk m c 1 ⟨1, h1⟩)
    (fun h => by have := (hcond0_0 ⟨1, h1⟩).mp h; dsimp only at this; omega) ((hcond0_1 ⟨1, h1⟩).mpr h3) ((hcond0_2 ⟨1, h1⟩).mpr h3)
    (scratch m c 0 (by omega)) ((cfg0.win 2).xinj (grid0.coords ⟨1, h1⟩) y)
  refine e.trans ((congrArg₂ (fun a b : EReal => a + b) (point_first m c 0 (by omega) rfl _) rfl).trans ?_)
  refine (congrArg₂ (fun a b : EReal => a + b) (added_eq m c ⟨0, by omega⟩ ⟨1, h1⟩ 0 rfl y) (added_eq m c ⟨1, h1⟩ ⟨1, h1⟩ 2048 rfl y)).trans ?_
  exact nt_two (M := 1024) (N := 896) (K := 4096) (W := 2048) rfl _ _ _

/-- The block is the array. -/
theorem covers : win0_2.Covers := by decide +kernel

/-- What the array holds at the end. -/
theorem final : (dats m 0 c).arrAt 2 cfg0.N = product m c :=
  (dats m 0 c).arrAt_eq_of_cover 2 _ (fun t hf => flushed m c t hf) (covers.cover _ (Memref.isWhole_whole _))

end Cert.Kernel26Ideal.Product

namespace Cert.Reference26Ideal.Product

open Reference26Ideal Reference26Ideal.Gen

/-- What the reference's last buffer holds. -/
theorem value (x : FVec Ideal S4096x1024 .bf16) (w : FVec Ideal S4096x896 .f32) :
    (truncf .bf16 (transpose S1024x896 [1, 0] (Host.dotGeneral dot_S4096x896_S4096x1024_S896x1024_0_0_1_1_n_n none w (extf .f32 x bitsLt_bf16_f32)) transposes_S896x1024_S1024x896_1_0) bitsLt_bf16_f32 : FVec Ideal S1024x896 .bf16)
    = Kernel26Ideal.Product.whole x w := by
  funext y
  unfold Kernel26Ideal.Product.whole tn
  rw [eq_ix2 y]
  refine Eq.trans ?_ (Finset.sum_congr rfl fun k _ => mul_comm (G := EReal) _ _)
  pointwise

end Cert.Reference26Ideal.Product

namespace Cert.MlaInDw

/-- The frame of the reference. -/
theorem frame_reference : quiescent_Reference26Ideal := fun m ρ _ => quiet (by decide) (fun _ _ h => h.2) (Reference26Ideal.Value.run m ρ)

/-- The result, from memories that agree on the arguments. -/
theorem equal : algebraic_Kernel26Ideal_Reference26Ideal := fun m ρ m' ρ' _ hm =>
  ⟨fun c => Kernel26Ideal.Product.product m c,
   (θ_run Kernel26Ideal.defs _ _).mono (fun _ h c => ⟨(h c).1.trans (Kernel26Ideal.Product.final m c), (h c).2⟩) (Kernel26Ideal.Value.run_blocks m ρ),
   (θ_run Reference26Ideal.defs _ _).mono (fun _ h c =>
     ⟨(h c).1.trans ((Reference26Ideal.Product.value _ _).trans (congrArg₂ Kernel26Ideal.Product.whole (hm c).1 (hm c).2)), (h c).2⟩)
     (Reference26Ideal.Value.run m' ρ')⟩

end Cert.MlaInDw
-- ==== Proof.PleDw.lean ====
module
public import proofs.«01_k».proof.Proof.Slabs
public import proofs.«01_k».proof.Proof.Gen.Kernel27Ideal.Value
public import proofs.«01_k».proof.Proof.Gen.Reference27Ideal.Run
@[expose] public section

/-!
# The gradient of the product with the per-layer embedding, in its weight

Eight slabs of 256 × 128.
-/

open Idealize.ShloMosaic Idealize.ShloMosaic.TcCoe Idealize.ShloMosaic.Tactic Idealize.SL.Sem Cert Cert.Entries Cert.Products

namespace Cert.Kernel27Ideal.Product

open Kernel27Ideal Kernel27Ideal.Gen Kernel27Ideal.Value

variable (m : (ℓ : Loc nD τ sig) → Buf (Elt Ideal) ℓ) (c : Dev nD)

/-- What a step writes: the product of its blocks. -/
theorem step (t : Fin cfg0.N) : (outsAt0 m c t : Slab 1 256 128) = slabs (B := 1) (C := 128) (by decide) (tn (K := 4096) (M := 256) (N := 128) (iblk m c 0 t) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero3, slabs_one, eq_ix3 y]
  unfold k0_pay1 tn
  simp only [View.readAt_eq_ld, (hs0_0 t).read_unread, (hs0_1 t).read_unread, View.ld_unit_zero (S := S4096x256) zero2, View.ld_unit_zero (S := S4096x128) zero2]
  pointwise

/-- Where a step's blocks lie. -/
theorem places : ∀ t : Fin cfg0.N,
    win0_0.index t (0 : Fin 2) * 4096 = 0 ∧ win0_0.index t (1 : Fin 2) * 256 = win0_2.index t (1 : Fin 3) * 256
    ∧ win0_1.index t (0 : Fin 2) * 4096 = 0 ∧ win0_1.index t (1 : Fin 2) * 128 = win0_2.index t (0 : Fin 3) * 1 * 128 ∧ win0_2.index t (2 : Fin 3) * 128 = 0 :=
  (by decide +kernel : ∀ t : Fin grid0.N, _)

/-- The blocks fill the array. -/
theorem covers : win0_2.Covers := by decide +kernel

/-- The whole product. -/
noncomputable abbrev whole (x : FVec Ideal S4096x256 .f32) (w : FVec Ideal S4096x1024 .f32) : Slab 8 256 128 :=
  slabs (B := 8) (C := 128) (by decide) (tn (K := 4096) (M := 256) (N := 1024) x w)

/-- The product of the two arguments. -/
noncomputable abbrev product : Slab 8 256 128 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact tn_slab (m := 256) (C := 128) (ex := ((cfg0.win 0).blk t).view.emb) (ew := ((cfg0.win 1).blk t).view.emb)
    (eo := ((cfg0.win 2).blk t).view.emb) (fun _ => ⟨rfl, rfl⟩) (fun _ => ⟨rfl, rfl⟩) (fun _ => ⟨rfl, rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel27Ideal.Product

namespace Cert.Reference27Ideal.Product

open Reference27Ideal Reference27Ideal.Gen

/-- What the reference's last buffer holds. -/
theorem value (x : FVec Ideal S4096x256 .f32) (w : FVec Ideal S4096x1024 .f32) :
    (truncf .bf16 (transpose S8x256x128 [1, 0, 2] (shapeCast _ (transpose S256x1024 [1, 0] (Host.dotGeneral dot_S4096x1024_S4096x256_S1024x256_0_0_1_1_n_n none w x) transposes_S1024x256_S256x1024_1_0) shapeCasts_S256x1024_S256x8x128) transposes_S256x8x128_S8x256x128_1_0_2) bitsLt_bf16_f32 : FVec Ideal S8x256x128 .bf16)
    = Kernel27Ideal.Product.whole x w := by
  funext y
  unfold Kernel27Ideal.Product.whole slabs tn
  rw [eq_ix3 y]
  refine Eq.trans ?_ (Finset.sum_congr rfl fun k _ => mul_comm (G := EReal) _ _)
  pointwise
  rfl

end Cert.Reference27Ideal.Product

namespace Cert.PleDw

/-- The frame of the reference. -/
theorem frame_reference : quiescent_Reference27Ideal := fun m ρ _ => quiet (by decide) (fun _ _ h => h.2) (Reference27Ideal.Value.run m ρ)

/-- The result, from memories that agree on the arguments. -/
theorem equal : algebraic_Kernel27Ideal_Reference27Ideal := fun m ρ m' ρ' _ hm =>
  ⟨fun c => Kernel27Ideal.Product.product m c,
   (θ_run Kernel27Ideal.defs _ _).mono (fun _ h c => ⟨(h c).1.trans (Kernel27Ideal.Product.final m c), (h c).2⟩) (Kernel27Ideal.Value.run_blocks m ρ),
   (θ_run Reference27Ideal.defs _ _).mono (fun _ h c =>
     ⟨(h c).1.trans ((Reference27Ideal.Product.value _ _).trans (congrArg₂ Kernel27Ideal.Product.whole (hm c).1 (hm c).2)), (h c).2⟩)
     (Reference27Ideal.Value.run m' ρ')⟩

end Cert.PleDw
-- ==== Proof.PleFwd.lean ====
module
public import proofs.«01_k».proof.Proof.Slabs
public import proofs.«01_k».proof.Proof.Gen.Kernel28Ideal.Value
public import proofs.«01_k».proof.Proof.Gen.Reference28Ideal.Run
@[expose] public section

/-!
# The product with the per-layer embedding

Sixteen blocks of 2048 × 128, each with one slab of the weight.
-/

open Idealize.ShloMosaic Idealize.ShloMosaic.TcCoe Idealize.ShloMosaic.Tactic Idealize.SL.Sem Cert Cert.Entries Cert.Products

namespace Cert.Kernel28Ideal.Product

open Kernel28Ideal Kernel28Ideal.Gen Kernel28Ideal.Value

variable (m : (ℓ : Loc nD τ sig) → Buf (Elt Ideal) ℓ) (c : Dev nD)

/-- What a step writes: the product of its blocks. -/
theorem step (t : Fin cfg0.N) : (outsAt0 m c t : Mat 2048 128) = nn (K := 256) (iblk m c 0 t) (wide (N := 128) (C := 128) (B := 1) (by decide) (iblk m c 1 t)) := by
  funext y
  unfold outsAt0 out0_A_2
  rw [View.read_writes_eq_canon _ _ _ (cover0_A_2 c _ _ _ _ _ _ _ _ _ _ _)]
  unfold kernelRun0_A
  dsimp only
  rw [View.canon_unit_zero zero2, nn_one, eq_ix2 y]
  unfold k0_pay1
  simp only [View.readAt_eq_ld, (hs0_0 t).read_unread, (hs0_1 t).read_unread, View.ld_unit_zero (S := S2048x256) zero2, View.ld_unit_zero (S := S1x256x128) zero3]
  pointwise

/-- Where a step's blocks lie. -/
theorem places : ∀ t : Fin cfg0.N,
    win0_0.index t (0 : Fin 2) * 2048 = win0_2.index t (0 : Fin 2) * 2048 ∧ win0_0.index t (1 : Fin 2) * 256 = 0
    ∧ win0_1.index t (1 : Fin 3) * 256 = 0 ∧ win0_1.index t (2 : Fin 3) * 128 = 0 ∧ win0_1.index t (0 : Fin 3) * 1 * 128 = win0_2.index t (1 : Fin 2) * 128 :=
  (by decide +kernel : ∀ t : Fin grid0.N, _)

/-- The blocks fill the array. -/
theorem covers : win0_2.Covers := by decide +kernel

/-- The whole product. -/
noncomputable abbrev whole (x : FVec Ideal S4096x256 .f32) (w : FVec Ideal S8x256x128 .bf16) : Mat 4096 1024 :=
  nn (K := 256) x (wide (N := 1024) (B := 8) (C := 128) (by decide) w)

/-- The product of the two arguments. -/
noncomputable abbrev product : Mat 4096 1024 := whole (m ((c : Thread nD τ).loc main_arg0)) (m ((c : Thread nD τ).loc main_arg1))

theorem flushed (t : Fin cfg0.N) : (dats m 0 c).flushed 2 t = ((cfg0.win 2).blk t).view.read (Elt Ideal) (product m c) := by
  rw [flushed2]
  funext y
  refine (congrFun (step m c t) ((cfg0.win 2).xinj (grid0.coords t) y)).trans ?_
  show @Eq EReal _ (product m c (((cfg0.win 2).blk t).view.emb y))
  exact nn_slab (m := 2048) (C := 128) (ex := ((cfg0.win 0).blk t).view.emb) (ew := ((cfg0.win 1).blk t).view.emb)
    (eo := ((cfg0.win 2).blk t).view.emb) (fun _ => ⟨rfl, rfl⟩) (fun _ => ⟨rfl, rfl, rfl⟩) (fun _ => ⟨rfl, rfl⟩) (places t) y

/-- What the array holds at the end. -/
theorem final : (dats m 0 c).arrAt 2 cfg0.N = product m c :=
  (dats m 0 c).arrAt_eq_of_cover 2 _ (fun t _ => flushed m c t) (covers.cover _ (Memref.isWhole_whole _))

end Cert.Kernel28Ideal.Product

namespace Cert.Reference28Ideal.Product

open Reference28Ideal Reference28Ideal.Gen

/-- What the reference's last buffer holds. -/
theorem value (x : FVec Ideal S4096x256 .f32) (w : FVec Ideal S8x256x128 .bf16) :
    (Host.dotGeneral dot_S4096x256_S256x1024_S4096x1024_1_0_0_1_n_n none x (extf .f32 (shapeCast _ (transpose S256x8x128 [1, 0, 2] w transposes_S8x256x128_S256x8x128_1_0_2) shapeCasts_S256x8x128_S256x1024) bitsLt_bf16_f32) : FVec Ideal S4096x1024 .f32)
    = Kernel28Ideal.Product.whole x w := by
  funext y
  unfold Kernel28Ideal.Product.whole nn wide
  rw [eq_ix2 y]
  pointwise

end Cert.Reference28Ideal.Product

namespace Cert.PleFwd

/-- The frame of the reference. -/
theorem frame_reference : quiescent_Reference28Ideal := fun m ρ _ => quiet (by decide) (fun _ _ h => h.2) (Reference28Ideal.Value.run m ρ)

/-- The result, from memories that agree on the arguments. -/
theorem equal : algebraic_Kernel28Ideal_Reference28Ideal := fun m ρ m' ρ' _ hm =>
  ⟨fun c => Kernel28Ideal.Product.product m c,
   (θ_run Kernel28Ideal.defs _ _).mono (fun _ h c => ⟨(h c).1.trans (Kernel28Ideal.Product.final m c), (h c).2⟩) (Kernel28Ideal.Value.run_blocks m ρ),
   (θ_run Reference28Ideal.defs _ _).mono (fun _ h c =>
     ⟨(h c).1.trans ((Reference28Ideal.Product.value _ _).trans (congrArg₂ Kernel28Ideal.Product.whole (hm c).1 (hm c).2)), (h c).2⟩)
     (Reference28Ideal.Value.run m' ρ')⟩

end Cert.PleFwd
-- ==== Proof.Adam.lean ====
module
public import Idealize.ShloMosaic.Lib.Pointwise
@[expose] public section

/-!
# One step of the optimiser, entry by entry
-/

namespace Cert.Adam

open Idealize.ShloMosaic

variable {s t : Shape}

/-- The new first moment, from the gradient and the old one. -/
noncomputable def first (g m : FVec Ideal s .f32) : FVec Ideal s .f32 :=
  addf (mulf (broadcast s (Scalar.ofBits .f32 0x3F666666#32)) m) (mulf (broadcast s (Scalar.ofBits .f32 0x3DCCCCCD#32)) g)

/-- The new second moment, from the gradient and the old one. -/
noncomputable def second (g v : FVec Ideal s .f32) : FVec Ideal s .f32 :=
  addf (mulf (broadcast s (Scalar.ofBits .f32 0x3F7FBE77#32)) v) (mulf (broadcast s (Scalar.ofBits .f32 0x3A83126F#32)) (mulf g g))

/-- What is added to the weight. -/
noncomputable def delta (w g m v : FVec Ideal s .f32) : FVec Ideal s .f32 :=
  mulf (broadcast s (Scalar.ofBits .f32 0xBA83126F#32))
    (addf (divf (divf (first g m) (broadcast s (Scalar.ofBits .f32 0x3F26BD02#32)))
        (addf (sqrt (divf (second g v) (broadcast s (Scalar.ofBits .f32 0x3C231ACC#32)))) (broadcast s (Scalar.ofBits .f32 0x322BCC77#32))))
      (mulf (broadcast s (Scalar.ofBits .f32 0x3C23D70A#32)) w))

/-- A block of the step is the step taken on the blocks. -/
theorem first_block (e : t.Idx → s.Idx) (g m : FVec Ideal s .f32) :
    first (fun y => g (e y) : FVec Ideal t .f32) (fun y => m (e y)) = fun y => first g m (e y) := rfl

theorem second_block (e : t.Idx → s.Idx) (g v : FVec Ideal s .f32) :
    second (fun y => g (e y) : FVec Ideal t .f32) (fun y => v (e y)) = fun y => second g v (e y) := rfl

theorem delta_block (e : t.Idx → s.Idx) (w g m v : FVec Ideal s .f32) :
    delta (fun y => w (e y) : FVec Ideal t .f32) (fun y => g (e y)) (fun y => m (e y)) (fun y => v (e y)) = fun y => delta w g m v (e y) := rfl

/-- An array laid out in the shape it has is itself. -/
theorem shapeCast_same (x : FVec Ideal s .f32) (h : s.ShapeCasts s) : shapeCast s x h = x :=
  funext fun i => shapeCast_apply x h i i rfl

end Cert.Adam
-- ==== Proof.AdamFlat.lean ====
module
public import proofs.«01_k».proof.Defs
public import proofs.«01_k».proof.Proof.Entries
public import proofs.«01_k».proof.Proof.Adam
public import Idealize.ShloMosaic.Lib.Pipeline.ValueKit.Geometry
public import proofs.«01_k».proof.Proof.Gen.Kernel30Ideal.Value
public import proofs.«01_k».proof.Proof.Gen.Reference30Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run
public import proofs.«01_k».proof.Proof.Gen.Kernel43Ideal.Value
public import proofs.«01_k».proof.Proof.Gen.Reference43Ideal.Run
@[expose] public section

/-!
# The optimiser on a weight of two dimensions

A single block, stored as a whole.
-/

open Idealize.ShloMosaic Idealize.ShloMosaic.TcCoe Idealize.SL.Sem Cert Cert.Adam Cert.Entries

namespace Cert.Adam30

theorem frame_reference : quiescent_Reference30Ideal := fun m ρ _ => quiet (by decide) (fun _ _ h => h.2.2.2) (Reference30Ideal.Value.run m ρ)

theorem equal : algebraic_Kernel30Ideal_Reference30Ideal := fun m ρ m' ρ' _ hm =>
  ⟨_, _, _, Kernel30Ideal.Value.run m ρ, (θ_run Reference30Ideal.defs _ _).mono (fun _ h c => by
    have k := h c
    rw [(hm c).1, (hm c).2.1, (hm c).2.2.1, (hm c).2.2.2] at k
    obtain ⟨a, b, d, _⟩ := k
    exact ⟨a, b, d, (h c).2.2.2⟩) (Reference30Ideal.Value.run m' ρ')⟩

end Cert.Adam30

namespace Cert.Adam32

theorem frame_reference : quiescent_Reference32Ideal := fun m ρ _ => quiet (by decide) (fun _ _ h => h.2.2.2) (Reference32Ideal.Value.run m ρ)

theorem equal : algebraic_Kernel32Ideal_Reference32Ideal := fun m ρ m' ρ' _ hm =>
  ⟨_, _, _, Kernel32Ideal.Value.run m ρ, (θ_run Reference32Ideal.defs _ _).mono (fun _ h c => by
    have k := h c
    rw [(hm c).1, (hm c).2.1, (hm c).2.2.1, (hm c).2.2.2] at k
    obtain ⟨a, b, d, _⟩ := k
    exact ⟨a, b, d, (h c).2.2.2⟩) (Reference32Ideal.Value.run m' ρ')⟩

end Cert.Adam32

namespace Cert.Adam33

theorem frame_reference : quiescent_Reference33Ideal := fun m ρ _ => quiet (by decide) (fun _ _ h => h.2.2.2) (Reference33Ideal.Value.run m ρ)

theorem equal : algebraic_Kernel33Ideal_Reference33Ideal := fun m ρ m' ρ' _ hm =>
  ⟨_, _, _, Kernel33Ideal.Value.run m ρ, (θ_run Reference33Ideal.defs _ _).mono (fun _ h c => by
    have k := h c
    rw [(hm c).1, (hm c).2.1, (hm c).2.2.1, (hm c).2.2.2] at k
    obtain ⟨a, b, d, _⟩ := k
    exact ⟨a, b, d, (h c).2.2.2⟩) (Reference33Ideal.Value.run m' ρ')⟩

end Cert.Adam33

namespace Cert.Adam39

theorem frame_reference : quiescent_Reference39Ideal := fun m ρ _ => quiet (by decide) (fun _ _ h => h.2.2.2) (Reference39Ideal.Value.run m ρ)

theorem equal : algebraic_Kernel39Ideal_Reference39Ideal := fun m ρ m' ρ' _ hm =>
  ⟨_, _, _, Kernel39Ideal.Value.run m ρ, (θ_run Reference39Ideal.defs _ _).mono (fun _ h c => by
    have k := h c
    rw [(hm c).1, (hm c).2.1, (hm c).2.2.1, (hm c).2.2.2] at k
    obtain ⟨a, b, d, _⟩ := k
    exact ⟨a, b, d, (h c).2.2.2⟩) (Reference39Ideal.Value.run m' ρ')⟩

end Cert.Adam39

namespace Cert.Adam40

theorem frame_reference : quiescent_Reference40Ideal := fun m ρ _ => quiet (by decide) (fun _ _ h => h.2.2.2) (Reference40Ideal.Value.run m ρ)

theorem equal : algebraic_Kernel40Ideal_Reference40Ideal := fun m ρ m' ρ' _ hm =>
  ⟨_, _, _, Kernel40Ideal.Value.run m ρ, (θ_run Reference40Ideal.defs _ _).mono (fun _ h c => by
    have k := h c
    rw [(hm c).1, (hm c).2.1, (hm c).2.2.1, (hm c).2.2.2] at k
    obtain ⟨a, b, d, _⟩ := k
    exact ⟨a, b, d, (h c).2.2.2⟩) (Reference40Ideal.Value.run m' ρ')⟩

end Cert.Adam40

namespace Cert.Adam43

theorem frame_reference : quiescent_Reference43Ideal := fun m ρ _ => quiet (by decide) (fun _ _ h => h.2.2.2) (Reference43Ideal.Value.run m ρ)

theorem equal : algebraic_Kernel43Ideal_Reference43Ideal := fun m ρ m' ρ' _ hm =>
  ⟨_, _, _, Kernel43Ideal.Value.run m ρ, (θ_run Reference43Ideal.defs _ _).mono (fun _ h c => by
    have k := h c
    rw [(hm c).1, (hm c).2.1, (hm c).2.2.1, (hm c).2.2.2] at k
    obtain ⟨a, b, d, _⟩ := k
    exact ⟨a, b, d, (h c).2.2.2⟩) (Reference43Ideal.Value.run m' ρ')⟩

end Cert.Adam43
-- ==== Proof.AdamRows.lean ====
module
public import proofs.«01_k».proof.Proof.Entries
public import proofs.«01_k».proof.Proof.Adam
public import proofs.«01_k».proof.Proof.Gen.Kernel29Ideal.Value
public import proofs.«01_k».proof.Proof.Gen.Reference29Ideal.Run
public import proofs.«01_k».proof.Proof.Gen.Kernel31Ideal.Value
public import proofs.«01_k».proof.Proof.Gen.Reference31Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run
@[expose] public section

/-!
# The optimiser on a weight of three dimensions

The weight is laid out as rows, and each grid point updates a block of rows. The blocks of all seven windows lie at the same place, so a
block of the result is the step taken on the blocks of the arguments; the blocks fill the array.
-/

open Idealize.ShloMosaic Idealize.ShloMosaic.TcCoe Idealize.SL.Sem Cert Cert.Adam Cert.Entries

namespace Cert.Adam29

open Kernel29Ideal Kernel29Ideal.Gen Kernel29Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S4096x704) (V m c main_v0) (V m c main_v1) (V m c main_v2) (V m c main_v3))
    ∧ (dats m 0 c).flushed 5 t = ((cfg0.win 5).blk t).view.read (Elt Ideal) (first (s := S4096x704) (V m c main_v1) (V m c main_v2))
    ∧ (dats m 0 c).flushed 6 t = ((cfg0.win 6).blk t).view.read (Elt Ideal) (second (s := S4096x704) (V m c main_v1) (V m c main_v3)) := by
  rw [flushed4, flushed5, flushed6]
  unfold out0_4 out0_5 out0_6 k0_pay4 k0_pay3 k0_pay2 k0_pay1
  simp only [View.canon_unit_zero (S := S512x704) zero2, shapeCast_same, View.ld_unit_zero (S := S512x704) zero2]
  exact ⟨delta_block (t := S512x704) ((cfg0.win 4).blk t).view.emb (V m c main_v0) (V m c main_v1) (V m c main_v2) (V m c main_v3), first_block (t := S512x704) ((cfg0.win 5).blk t).view.emb (V m c main_v1) (V m c main_v2), second_block (t := S512x704) ((cfg0.win 6).blk t).view.emb (V m c main_v1) (V m c main_v3)⟩

theorem covers : win0_4.Covers ∧ win0_5.Covers ∧ win0_6.Covers := by decide +kernel

theorem frame_reference : quiescent_Reference29Ideal := fun m ρ _ => quiet (by decide) (fun _ _ h => h.2.2.2) (Reference29Ideal.Value.run m ρ)

theorem equal : algebraic_Kernel29Ideal_Reference29Ideal := fun m ρ m' ρ' _ hm =>
  ⟨_, _, _, Kernel29Ideal.Value.run_blocks m ρ, (θ_run Reference29Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference29Ideal.Value.run m' ρ')⟩

end Cert.Adam29

namespace Cert.Adam31

open Kernel31Ideal Kernel31Ideal.Gen Kernel31Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S256x832) (V m c main_v0) (V m c main_v1) (V m c main_v2) (V m c main_v3))
    ∧ (dats m 0 c).flushed 5 t = ((cfg0.win 5).blk t).view.read (Elt Ideal) (first (s := S256x832) (V m c main_v1) (V m c main_v2))
    ∧ (dats m 0 c).flushed 6 t = ((cfg0.win 6).blk t).view.read (Elt Ideal) (second (s := S256x832) (V m c main_v1) (V m c main_v3)) := by
  rw [flushed4, flushed5, flushed6]
  unfold out0_4 out0_5 out0_6 k0_pay4 k0_pay3 k0_pay2 k0_pay1
  simp only [View.canon_unit_zero (S := S256x832) zero2, shapeCast_same, View.ld_unit_zero (S := S256x832) zero2]
  exact ⟨delta_block (t := S256x832) ((cfg0.win 4).blk t).view.emb (V m c main_v0) (V m c main_v1) (V m c main_v2) (V m c main_v3), first_block (t := S256x832) ((cfg0.win 5).blk t).view.emb (V m c main_v1) (V m c main_v2), second_block (t := S256x832) ((cfg0.win 6).blk t).view.emb (V m c main_v1) (V m c main_v3)⟩

theorem covers : win0_4.Covers ∧ win0_5.Covers ∧ win0_6.Covers := by decide +kernel

theorem frame_reference : quiescent_Reference31Ideal := fun m ρ _ => quiet (by decide) (fun _ _ h => h.2.2.2) (Reference31Ideal.Value.run m ρ)

theorem equal : algebraic_Kernel31Ideal_Reference31Ideal := fun m ρ m' ρ' _ hm =>
  ⟨_, _, _, Kernel31Ideal.Value.run_blocks m ρ, (θ_run Reference31Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference31Ideal.Value.run m' ρ')⟩

end Cert.Adam31

namespace Cert.Adam34

open Kernel34Ideal Kernel34Ideal.Gen Kernel34Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S1024x384) (V m c main_v0) (V m c main_v1) (V m c main_v2) (V m c main_v3))
    ∧ (dats m 0 c).flushed 5 t = ((cfg0.win 5).blk t).view.read (Elt Ideal) (first (s := S1024x384) (V m c main_v1) (V m c main_v2))
    ∧ (dats m 0 c).flushed 6 t = ((cfg0.win 6).blk t).view.read (Elt Ideal) (second (s := S1024x384) (V m c main_v1) (V m c main_v3)) := by
  rw [flushed4, flushed5, flushed6]
  unfold out0_4 out0_5 out0_6 k0_pay4 k0_pay3 k0_pay2 k0_pay1
  simp only [View.canon_unit_zero (S := S512x384) zero2, shapeCast_same, View.ld_unit_zero (S := S512x384) zero2]
  exact ⟨delta_block (t := S512x384) ((cfg0.win 4).blk t).view.emb (V m c main_v0) (V m c main_v1) (V m c main_v2) (V m c main_v3), first_block (t := S512x384) ((cfg0.win 5).blk t).view.emb (V m c main_v1) (V m c main_v2), second_block (t := S512x384) ((cfg0.win 6).blk t).view.emb (V m c main_v1) (V m c main_v3)⟩

theorem covers : win0_4.Covers ∧ win0_5.Covers ∧ win0_6.Covers := by decide +kernel

theorem frame_reference : quiescent_Reference34Ideal := fun m ρ _ => quiet (by decide) (fun _ _ h => h.2.2.2) (Reference34Ideal.Value.run m ρ)

theorem equal : algebraic_Kernel34Ideal_Reference34Ideal := fun m ρ m' ρ' _ hm =>
  ⟨_, _, _, Kernel34Ideal.Value.run_blocks m ρ, (θ_run Reference34Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference34Ideal.Value.run m' ρ')⟩

end Cert.Adam34

namespace Cert.Adam35

open Kernel35Ideal Kernel35Ideal.Gen Kernel35Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S512x256) (V m c main_v0) (V m c main_v1) (V m c main_v2) (V m c main_v3))
    ∧ (dats m 0 c).flushed 5 t = ((cfg0.win 5).blk t).view.read (Elt Ideal) (first (s := S512x256) (V m c main_v1) (V m c main_v2))
    ∧ (dats m 0 c).flushed 6 t = ((cfg0.win 6).blk t).view.read (Elt Ideal) (second (s := S512x256) (V m c main_v1) (V m c main_v3)) := by
  rw [flushed4, flushed5, flushed6]
  unfold out0_4 out0_5 out0_6 k0_pay4 k0_pay3 k0_pay2 k0_pay1
  simp only [View.canon_unit_zero (S := S512x256) zero2, shapeCast_same, View.ld_unit_zero (S := S512x256) zero2]
  exact ⟨delta_block (t := S512x256) ((cfg0.win 4).blk t).view.emb (V m c main_v0) (V m c main_v1) (V m c main_v2) (V m c main_v3), first_block (t := S512x256) ((cfg0.win 5).blk t).view.emb (V m c main_v1) (V m c main_v2), second_block (t := S512x256) ((cfg0.win 6).blk t).view.emb (V m c main_v1) (V m c main_v3)⟩

theorem covers : win0_4.Covers ∧ win0_5.Covers ∧ win0_6.Covers := by decide +kernel

theorem frame_reference : quiescent_Reference35Ideal := fun m ρ _ => quiet (by decide) (fun _ _ h => h.2.2.2) (Reference35Ideal.Value.run m ρ)

theorem equal : algebraic_Kernel35Ideal_Reference35Ideal := fun m ρ m' ρ' _ hm =>
  ⟨_, _, _, Kernel35Ideal.Value.run_blocks m ρ, (θ_run Reference35Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference35Ideal.Value.run m' ρ')⟩

end Cert.Adam35

namespace Cert.Adam36

open Kernel36Ideal Kernel36Ideal.Gen Kernel36Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S512x1024) (V m c main_v0) (V m c main_v1) (V m c main_v2) (V m c main_v3))
    ∧ (dats m 0 c).flushed 5 t = ((cfg0.win 5).blk t).view.read (Elt Ideal) (first (s := S512x1024) (V m c main_v1) (V m c main_v2))
    ∧ (dats m 0 c).flushed 6 t = ((cfg0.win 6).blk t).view.read (Elt Ideal) (second (s := S512x1024) (V m c main_v1) (V m c main_v3)) := by
  rw [flushed4, flushed5, flushed6]
  unfold out0_4 out0_5 out0_6 k0_pay4 k0_pay3 k0_pay2 k0_pay1
  simp only [View.canon_unit_zero (S := S512x1024) zero2, shapeCast_same, View.ld_unit_zero (S := S512x1024) zero2]
  exact ⟨delta_block (t := S512x1024) ((cfg0.win 4).blk t).view.emb (V m c main_v0) (V m c main_v1) (V m c main_v2) (V m c main_v3), first_block (t := S512x1024) ((cfg0.win 5).blk t).view.emb (V m c main_v1) (V m c main_v2), second_block (t := S512x1024) ((cfg0.win 6).blk t).view.emb (V m c main_v1) (V m c main_v3)⟩

theorem covers : win0_4.Covers ∧ win0_5.Covers ∧ win0_6.Covers := by decide +kernel

theorem frame_reference : quiescent_Reference36Ideal := fun m ρ _ => quiet (by decide) (fun _ _ h => h.2.2.2) (Reference36Ideal.Value.run m ρ)

theorem equal : algebraic_Kernel36Ideal_Reference36Ideal := fun m ρ m' ρ' _ hm =>
  ⟨_, _, _, Kernel36Ideal.Value.run_blocks m ρ, (θ_run Reference36Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference36Ideal.Value.run m' ρ')⟩

end Cert.Adam36

namespace Cert.Adam37

open Kernel37Ideal Kernel37Ideal.Gen Kernel37Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S2048x386) (V m c main_v0) (V m c main_v1) (V m c main_v2) (V m c main_v3))
    ∧ (dats m 0 c).flushed 5 t = ((cfg0.win 5).blk t).view.read (Elt Ideal) (first (s := S2048x386) (V m c main_v1) (V m c main_v2))
    ∧ (dats m 0 c).flushed 6 t = ((cfg0.win 6).blk t).view.read (Elt Ideal) (second (s := S2048x386) (V m c main_v1) (V m c main_v3)) := by
  rw [flushed4, flushed5, flushed6]
  unfold out0_4 out0_5 out0_6 k0_pay4 k0_pay3 k0_pay2 k0_pay1
  simp only [View.canon_unit_zero (S := S512x386) zero2, shapeCast_same, View.ld_unit_zero (S := S512x386) zero2]
  exact ⟨delta_block (t := S512x386) ((cfg0.win 4).blk t).view.emb (V m c main_v0) (V m c main_v1) (V m c main_v2) (V m c main_v3), first_block (t := S512x386) ((cfg0.win 5).blk t).view.emb (V m c main_v1) (V m c main_v2), second_block (t := S512x386) ((cfg0.win 6).blk t).view.emb (V m c main_v1) (V m c main_v3)⟩

theorem covers : win0_4.Covers ∧ win0_5.Covers ∧ win0_6.Covers := by decide +kernel

theorem frame_reference : quiescent_Reference37Ideal := fun m ρ _ => quiet (by decide) (fun _ _ h => h.2.2.2) (Reference37Ideal.Value.run m ρ)

theorem equal : algebraic_Kernel37Ideal_Reference37Ideal := fun m ρ m' ρ' _ hm =>
  ⟨_, _, _, Kernel37Ideal.Value.run_blocks m ρ, (θ_run Reference37Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference37Ideal.Value.run m' ρ')⟩

end Cert.Adam37
-- ==== Proof.AdamMore.lean ====
module
public import proofs.«01_k».proof.Proof.Entries
public import proofs.«01_k».proof.Proof.Adam
public import proofs.«01_k».proof.Proof.Gen.Kernel38Ideal.Value
public import proofs.«01_k».proof.Proof.Gen.Reference38Ideal.Run
public import proofs.«01_k».proof.Proof.Gen.Kernel41Ideal.Value
public import proofs.«01_k».proof.Proof.Gen.Reference41Ideal.Run
public import proofs.«01_k».proof.Proof.Gen.Kernel42Ideal.Value
public import proofs.«01_k».proof.Proof.Gen.Reference42Ideal.Run
public import proofs.«01_k».proof.Proof.Gen.Kernel44Ideal.Value
public import proofs.«01_k».proof.Proof.Gen.Reference44Ideal.Run
public import proofs.«01_k».proof.Proof.Gen.Kernel45Ideal.Value
public import proofs.«01_k».proof.Proof.Gen.Reference45Ideal.Run
public import proofs.«01_k».proof.Proof.Gen.Kernel46Ideal.Value
public import proofs.«01_k».proof.Proof.Gen.Reference46Ideal.Run
@[expose] public section

/-!
# The optimiser on a weight of three dimensions

The weight is laid out as rows, and each grid point updates a block of rows. The blocks of all seven windows lie at the same place, so a
block of the result is the step taken on the blocks of the arguments; the blocks fill the array.
-/

open Idealize.ShloMosaic Idealize.ShloMosaic.TcCoe Idealize.SL.Sem Cert Cert.Adam Cert.Entries

namespace Cert.Adam38

open Kernel38Ideal Kernel38Ideal.Gen Kernel38Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S32x64) (V m c main_v0) (V m c main_v1) (V m c main_v2) (V m c main_v3))
    ∧ (dats m 0 c).flushed 5 t = ((cfg0.win 5).blk t).view.read (Elt Ideal) (first (s := S32x64) (V m c main_v1) (V m c main_v2))
    ∧ (dats m 0 c).flushed 6 t = ((cfg0.win 6).blk t).view.read (Elt Ideal) (second (s := S32x64) (V m c main_v1) (V m c main_v3)) := by
  rw [flushed4, flushed5, flushed6]
  unfold out0_4 out0_5 out0_6 k0_pay4 k0_pay3 k0_pay2 k0_pay1
  simp only [View.canon_unit_zero (S := S32x64) zero2, shapeCast_same, View.ld_unit_zero (S := S32x64) zero2]
  exact ⟨delta_block (t := S32x64) ((cfg0.win 4).blk t).view.emb (V m c main_v0) (V m c main_v1) (V m c main_v2) (V m c main_v3), first_block (t := S32x64) ((cfg0.win 5).blk t).view.emb (V m c main_v1) (V m c main_v2), second_block (t := S32x64) ((cfg0.win 6).blk t).view.emb (V m c main_v1) (V m c main_v3)⟩

theorem covers : win0_4.Covers ∧ win0_5.Covers ∧ win0_6.Covers := by decide +kernel

theorem frame_reference : quiescent_Reference38Ideal := fun m ρ _ => quiet (by decide) (fun _ _ h => h.2.2.2) (Reference38Ideal.Value.run m ρ)

theorem equal : algebraic_Kernel38Ideal_Reference38Ideal := fun m ρ m' ρ' _ hm =>
  ⟨_, _, _, Kernel38Ideal.Value.run_blocks m ρ, (θ_run Reference38Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference38Ideal.Value.run m' ρ')⟩

end Cert.Adam38

namespace Cert.Adam41

open Kernel41Ideal Kernel41Ideal.Gen Kernel41Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S256x1024) (V m c main_v0) (V m c main_v1) (V m c main_v2) (V m c main_v3))
    ∧ (dats m 0 c).flushed 5 t = ((cfg0.win 5).blk t).view.read (Elt Ideal) (first (s := S256x1024) (V m c main_v1) (V m c main_v2))
    ∧ (dats m 0 c).flushed 6 t = ((cfg0.win 6).blk t).view.read (Elt Ideal) (second (s := S256x1024) (V m c main_v1) (V m c main_v3)) := by
  rw [flushed4, flushed5, flushed6]
  unfold out0_4 out0_5 out0_6 k0_pay4 k0_pay3 k0_pay2 k0_pay1
  simp only [View.canon_unit_zero (S := S256x1024) zero2, shapeCast_same, View.ld_unit_zero (S := S256x1024) zero2]
  exact ⟨delta_block (t := S256x1024) ((cfg0.win 4).blk t).view.emb (V m c main_v0) (V m c main_v1) (V m c main_v2) (V m c main_v3), first_block (t := S256x1024) ((cfg0.win 5).blk t).view.emb (V m c main_v1) (V m c main_v2), second_block (t := S256x1024) ((cfg0.win 6).blk t).view.emb (V m c main_v1) (V m c main_v3)⟩

theorem covers : win0_4.Covers ∧ win0_5.Covers ∧ win0_6.Covers := by decide +kernel

theorem frame_reference : quiescent_Reference41Ideal := fun m ρ _ => quiet (by decide) (fun _ _ h => h.2.2.2) (Reference41Ideal.Value.run m ρ)

theorem equal : algebraic_Kernel41Ideal_Reference41Ideal := fun m ρ m' ρ' _ hm =>
  ⟨_, _, _, Kernel41Ideal.Value.run_blocks m ρ, (θ_run Reference41Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference41Ideal.Value.run m' ρ')⟩

end Cert.Adam41

namespace Cert.Adam42

open Kernel42Ideal Kernel42Ideal.Gen Kernel42Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S12x704) (V m c main_v0) (V m c main_v1) (V m c main_v2) (V m c main_v3))
    ∧ (dats m 0 c).flushed 5 t = ((cfg0.win 5).blk t).view.read (Elt Ideal) (first (s := S12x704) (V m c main_v1) (V m c main_v2))
    ∧ (dats m 0 c).flushed 6 t = ((cfg0.win 6).blk t).view.read (Elt Ideal) (second (s := S12x704) (V m c main_v1) (V m c main_v3)) := by
  rw [flushed4, flushed5, flushed6]
  unfold out0_4 out0_5 out0_6 k0_pay4 k0_pay3 k0_pay2 k0_pay1
  simp only [View.canon_unit_zero (S := S12x704) zero2, shapeCast_same, View.ld_unit_zero (S := S12x704) zero2]
  exact ⟨delta_block (t := S12x704) ((cfg0.win 4).blk t).view.emb (V m c main_v0) (V m c main_v1) (V m c main_v2) (V m c main_v3), first_block (t := S12x704) ((cfg0.win 5).blk t).view.emb (V m c main_v1) (V m c main_v2), second_block (t := S12x704) ((cfg0.win 6).blk t).view.emb (V m c main_v1) (V m c main_v3)⟩

theorem covers : win0_4.Covers ∧ win0_5.Covers ∧ win0_6.Covers := by decide +kernel

theorem frame_reference : quiescent_Reference42Ideal := fun m ρ _ => quiet (by decide) (fun _ _ h => h.2.2.2) (Reference42Ideal.Value.run m ρ)

theorem equal : algebraic_Kernel42Ideal_Reference42Ideal := fun m ρ m' ρ' _ hm =>
  ⟨_, _, _, Kernel42Ideal.Value.run_blocks m ρ, (θ_run Reference42Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference42Ideal.Value.run m' ρ')⟩

end Cert.Adam42

namespace Cert.Adam44

open Kernel44Ideal Kernel44Ideal.Gen Kernel44Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S1408x1024) (V m c main_v0) (V m c main_v1) (V m c main_v2) (V m c main_v3))
    ∧ (dats m 0 c).flushed 5 t = ((cfg0.win 5).blk t).view.read (Elt Ideal) (first (s := S1408x1024) (V m c main_v1) (V m c main_v2))
    ∧ (dats m 0 c).flushed 6 t = ((cfg0.win 6).blk t).view.read (Elt Ideal) (second (s := S1408x1024) (V m c main_v1) (V m c main_v3)) := by
  rw [flushed4, flushed5, flushed6]
  unfold out0_4 out0_5 out0_6 k0_pay4 k0_pay3 k0_pay2 k0_pay1
  simp only [View.canon_unit_zero (S := S352x1024) zero2, shapeCast_same, View.ld_unit_zero (S := S352x1024) zero2]
  exact ⟨delta_block (t := S352x1024) ((cfg0.win 4).blk t).view.emb (V m c main_v0) (V m c main_v1) (V m c main_v2) (V m c main_v3), first_block (t := S352x1024) ((cfg0.win 5).blk t).view.emb (V m c main_v1) (V m c main_v2), second_block (t := S352x1024) ((cfg0.win 6).blk t).view.emb (V m c main_v1) (V m c main_v3)⟩

theorem covers : win0_4.Covers ∧ win0_5.Covers ∧ win0_6.Covers := by decide +kernel

theorem frame_reference : quiescent_Reference44Ideal := fun m ρ _ => quiet (by decide) (fun _ _ h => h.2.2.2) (Reference44Ideal.Value.run m ρ)

theorem equal : algebraic_Kernel44Ideal_Reference44Ideal := fun m ρ m' ρ' _ hm =>
  ⟨_, _, _, Kernel44Ideal.Value.run_blocks m ρ, (θ_run Reference44Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference44Ideal.Value.run m' ρ')⟩

end Cert.Adam44

namespace Cert.Adam45

open Kernel45Ideal Kernel45Ideal.Gen Kernel45Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S1024x128) (V m c main_v0) (V m c main_v1) (V m c main_v2) (V m c main_v3))
    ∧ (dats m 0 c).flushed 5 t = ((cfg0.win 5).blk t).view.read (Elt Ideal) (first (s := S1024x128) (V m c main_v1) (V m c main_v2))
    ∧ (dats m 0 c).flushed 6 t = ((cfg0.win 6).blk t).view.read (Elt Ideal) (second (s := S1024x128) (V m c main_v1) (V m c main_v3)) := by
  rw [flushed4, flushed5, flushed6]
  unfold out0_4 out0_5 out0_6 k0_pay4 k0_pay3 k0_pay2 k0_pay1
  simp only [View.canon_unit_zero (S := S512x128) zero2, shapeCast_same, View.ld_unit_zero (S := S512x128) zero2]
  exact ⟨delta_block (t := S512x128) ((cfg0.win 4).blk t).view.emb (V m c main_v0) (V m c main_v1) (V m c main_v2) (V m c main_v3), first_block (t := S512x128) ((cfg0.win 5).blk t).view.emb (V m c main_v1) (V m c main_v2), second_block (t := S512x128) ((cfg0.win 6).blk t).view.emb (V m c main_v1) (V m c main_v3)⟩

theorem covers : win0_4.Covers ∧ win0_5.Covers ∧ win0_6.Covers := by decide +kernel

theorem frame_reference : quiescent_Reference45Ideal := fun m ρ _ => quiet (by decide) (fun _ _ h => h.2.2.2) (Reference45Ideal.Value.run m ρ)

theorem equal : algebraic_Kernel45Ideal_Reference45Ideal := fun m ρ m' ρ' _ hm =>
  ⟨_, _, _, Kernel45Ideal.Value.run_blocks m ρ, (θ_run Reference45Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference45Ideal.Value.run m' ρ')⟩

end Cert.Adam45

namespace Cert.Adam46

open Kernel46Ideal Kernel46Ideal.Gen Kernel46Ideal.Value

theorem blocks (m : (ℓ : Loc nD τ sig) → Buf (Elt Ideal) ℓ) (c : Dev nD) (t : Fin cfg0.N) :
    (dats m 0 c).flushed 4 t = ((cfg0.win 4).blk t).view.read (Elt Ideal) (delta (s := S512x1024) (V m c main_v0) (V m c main_v1) (V m c main_v2) (V m c main_v3))
    ∧ (dats m 0 c).flushed 5 t = ((cfg0.win 5).blk t).view.read (Elt Ideal) (first (s := S512x1024) (V m c main_v1) (V m c main_v2))
    ∧ (dats m 0 c).flushed 6 t = ((cfg0.win 6).blk t).view.read (Elt Ideal) (second (s := S512x1024) (V m c main_v1) (V m c main_v3)) := by
  rw [flushed4, flushed5, flushed6]
  unfold out0_4 out0_5 out0_6 k0_pay4 k0_pay3 k0_pay2 k0_pay1
  simp only [View.canon_unit_zero (S := S512x1024) zero2, shapeCast_same, View.ld_unit_zero (S := S512x1024) zero2]
  exact ⟨delta_block (t := S512x1024) ((cfg0.win 4).blk t).view.emb (V m c main_v0) (V m c main_v1) (V m c main_v2) (V m c main_v3), first_block (t := S512x1024) ((cfg0.win 5).blk t).view.emb (V m c main_v1) (V m c main_v2), second_block (t := S512x1024) ((cfg0.win 6).blk t).view.emb (V m c main_v1) (V m c main_v3)⟩

theorem covers : win0_4.Covers ∧ win0_5.Covers ∧ win0_6.Covers := by decide +kernel

theorem frame_reference : quiescent_Reference46Ideal := fun m ρ _ => quiet (by decide) (fun _ _ h => h.2.2.2) (Reference46Ideal.Value.run m ρ)

theorem equal : algebraic_Kernel46Ideal_Reference46Ideal := fun m ρ m' ρ' _ hm =>
  ⟨_, _, _, Kernel46Ideal.Value.run_blocks m ρ, (θ_run Reference46Ideal.defs _ _).mono (fun _ h c => by
    have k := h c
    rw [(hm c).1, (hm c).2.1, (hm c).2.2.1, (hm c).2.2.2] at k
    rw [(dats m 0 c).arrAt_eq_of_cover 4 _ (fun t _ => (blocks m c t).1) (covers.1.cover _ (Memref.isWhole_whole _)),
      (dats m 0 c).arrAt_eq_of_cover 5 _ (fun t _ => (blocks m c t).2.1) (covers.2.1.cover _ (Memref.isWhole_whole _)),
      (dats m 0 c).arrAt_eq_of_cover 6 _ (fun t _ => (blocks m c t).2.2) (covers.2.2.cover _ (Memref.isWhole_whole _))]
    obtain ⟨a, b, d, _⟩ := k
    exact ⟨a, b, d, (h c).2.2.2⟩) (Reference46Ideal.Value.run m' ρ')⟩

end Cert.Adam46
-- ==== Proof.Loss.lean ====
module
public import proofs.«01_k».proof.Proof.Products
public import proofs.«01_k».proof.Proof.Gen.Kernel47Ideal.Frame
public import proofs.«01_k».proof.Proof.Gen.Reference47Ideal.Run
public import Idealize.ShloMosaic.Lib.Pipeline.Value
@[expose] public section

/-!
# The loss and its gradient in the last layer's output

Eight blocks of 512 rows. Each block of the gradient is written at its own grid point; the sums of squares of the columns are kept in one
row to which every point adds its block's. The lines after the call add up that row and scale it.
-/

open Idealize.ShloMosaic Idealize.ShloMosaic.TcCoe Idealize.ShloMosaic.Tactic Idealize.SL.Sem Cert Cert.Entries Cert.Products

namespace Cert.Kernel47Ideal.Loss

open Kernel47Ideal Kernel47Ideal.Gen

/-- The square of a difference. -/
noncomputable abbrev square (a b : EReal) : EReal := (a - b) * (a - b)

/-- The squares of the differences in column `q`, summed. -/
noncomputable def column {R : ℕ} (x z : Mat R 1024) (q : Fin 1024) : EReal := ∑ k : Fin R, square (x (ix2 k q)) (z (ix2 k q))

/-- The gradient, in the kernel's spelling. -/
noncomputable def slope {R : ℕ} (x z : Mat R 1024) : Mat R 1024 := fun y => (x y - z y) * Ideal.ofBits .f32 0x3A800000#32

section
variable (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1024 .f32) (h3 : a3.IsWhole)
    (a4 : Memref sig .tc .vmem S512x1024 .f32) (h4 : a4.IsWhole) (x z : Vec Ideal S512x1024 .f32)

theorem first (hc0 : cond0_0 i) (hc1 : ¬cond0_1 i) (q : Fin 1024) :
    (out0_A_2 c i a1 h1 a2 h2 a3 h3 a4 h4 hc0 hc1 x z : Vec Ideal S1x1024 .f32) (ix2 (0 : Fin 1) q) = column x z q := by
  unfold out0_A_2
  rw [View.read_writes_eq_canon _ _ _ (cover0_A_2 c i a1 h1 a2 h2 a3 h3 a4 h4 hc0 hc1 x z)]
  unfold kernelRun0_A
  dsimp only
  rw [View.canon_unit_zero zero2]
  unfold k0_pay3 k0_pay1 column
  simp only [View.readAt_eq_ld, h1.read_unread, h2.read_unread, View.ld_unit_zero (S := S512x1024) zero2]
  pointwise

theorem next (hc0 : ¬cond0_0 i) (hc1 : cond0_1 i) (s : Vec Ideal S1x1024 .f32) (q : Fin 1024) :
    (out0_B_2 c i a1 h1 a2 h2 a3 h3 a4 h4 hc0 hc1 x z s : Vec Ideal S1x1024 .f32) (ix2 (0 : Fin 1) q) = (s (ix2 (0 : Fin 1) q) : EReal) + column x z q := by
  unfold out0_B_2
  rw [View.read_writes_eq_canon _ _ _ (cover0_B_2 c i a1 h1 a2 h2 a3 h3 a4 h4 hc0 hc1 x z s)]
  unfold kernelRun0_B
  dsimp only
  rw [View.canon_unit_zero zero2]
  unfold k0_pay4 k0_pay3 k0_pay1 column
  simp only [View.readAt_eq_ld, h1.read_unread, h2.read_unread, h3.read_unread, View.ld_unit_zero (S := S512x1024) zero2, View.ld_unit_zero (S := S1x1024) zero2]
  pointwise

theorem slope_first (hc0 : cond0_0 i) (hc1 : ¬cond0_1 i) :
    (out0_A_3 c i a1 h1 a2 h2 a3 h3 a4 h4 hc0 hc1 x z : Vec Ideal S512x1024 .f32) = slope x z := by
  unfold out0_A_3
  rw [View.read_writes_eq_canon _ _ _ (cover0_A_3 c i a1 h1 a2 h2 a3 h3 a4 h4 hc0 hc1 x z)]
  unfold kernelRun0_A
  dsimp only
  rw [View.canon_unit_zero zero2]
  unfold k0_pay2 k0_pay1 slope
  simp only [View.readAt_eq_ld, h1.read_unread, h2.read_unread, View.ld_unit_zero (S := S512x1024) zero2]
  funext y
  pointwise

theorem slope_next (hc0 : ¬cond0_0 i) (hc1 : cond0_1 i) (s : Vec Ideal S1x1024 .f32) :
    (out0_B_3 c i a1 h1 a2 h2 a3 h3 a4 h4 hc0 hc1 x z s : Vec Ideal S512x1024 .f32) = slope x z := by
  unfold out0_B_3
  rw [View.read_writes_eq_canon _ _ _ (cover0_B_3 c i a1 h1 a2 h2 a3 h3 a4 h4 hc0 hc1 x z s)]
  unfold kernelRun0_B
  dsimp only
  rw [View.canon_unit_zero zero2]
  unfold k0_pay2 k0_pay1 slope
  simp only [View.readAt_eq_ld, h1.read_unread, h2.read_unread, View.ld_unit_zero (S := S512x1024) zero2]
  funext y
  pointwise

end

variable (m : (ℓ : Loc nD τ sig) → Buf (Elt Ideal) ℓ) (c : Dev nD)

/-- The output of the last layer and the target. -/
noncomputable abbrev output : Mat 4096 1024 := m ((c : Thread nD τ).loc main_arg0)
noncomputable abbrev target : Mat 4096 1024 := m ((c : Thread nD τ).loc main_arg1)

/-- The square in row `n`, and zero past the last row. -/
noncomputable def row (q : Fin 1024) (n : ℕ) : EReal := if h : n < 4096 then square (output m c (ix2 ⟨n, h⟩ q)) (target m c (ix2 ⟨n, h⟩ q)) else 0

theorem row_sum (q : Fin 1024) : ∑ k ∈ Finset.range 4096, row m c q k = column (output m c) (target m c) q := by
  rw [← Fin.sum_univ_eq_sum_range]
  exact Finset.sum_congr rfl fun k _ => dif_pos k.isLt

/-- Where the blocks lie. -/
theorem places : ∀ t : Fin cfg0.N, t.val < 8 ∧ win0_0.index t (0 : Fin 2) * 512 = 512 * t.val ∧ win0_0.index t (1 : Fin 2) * 1024 = 0
    ∧ win0_1.index t (0 : Fin 2) * 512 = 512 * t.val ∧ win0_1.index t (1 : Fin 2) * 1024 = 0
    ∧ win0_3.index t (0 : Fin 2) * 512 = 512 * t.val ∧ win0_3.index t (1 : Fin 2) * 1024 = 0 ∧ win0_2.index t (1 : Fin 2) * 1024 = 0 :=
  (by decide +kernel : ∀ t : Fin grid0.N, _)

/-- Entries of the two blocks at point `t`. -/
theorem entry (t : Fin cfg0.N) (k : (⟨2, ![512, 1024]⟩ : Shape).Idx) (y : (⟨2, ![4096, 1024]⟩ : Shape).Idx)
    (h0 : 512 * t.val + (k 0).val = (y 0).val) (h1 : (k 1).val = (y 1).val) :
    (iblk m c 0 t k : EReal) = output m c y ∧ (iblk m c 1 t k : EReal) = target m c y := by
  obtain ⟨-, p0, p1, p2, p3, -⟩ := places t
  refine ⟨same2 (output m c) _ _ ?_ ?_, same2 (target m c) _ _ ?_ ?_⟩
  · show win0_0.index t (0 : Fin 2) * 512 + 1 * (k 0).val = _
    omega
  · show win0_0.index t (1 : Fin 2) * 1024 + 1 * (k 1).val = _
    omega
  · show win0_1.index t (0 : Fin 2) * 512 + 1 * (k 0).val = _
    omega
  · show win0_1.index t (1 : Fin 2) * 1024 + 1 * (k 1).val = _
    omega

theorem column_block (t : Fin cfg0.N) (q : Fin 1024) :
    column (R := 512) (iblk m c 0 t) (iblk m c 1 t) q = ∑ k ∈ Finset.range 512, row m c q (512 * t.val + k) := by
  rw [← Fin.sum_univ_eq_sum_range (fun k => row m c q (512 * t.val + k))]
  refine Finset.sum_congr rfl fun k _ => Eq.trans ?_ (dif_pos (by have := k.isLt; have := (places t).1; omega)).symm
  have e := entry m c t (ix2 k q) (ix2 ⟨512 * t.val + k.val, by have := k.isLt; have := (places t).1; omega⟩ q) rfl rfl
  exact congrArg₂ square e.1 e.2

theorem point_first (t : Fin cfg0.N) (h : t.val = 0) :
    (∀ q : Fin 1024, ((outsAt0 m c t.val t.isLt).1 (ix2 (0 : Fin 1) q) : EReal) = column (R := 512) (iblk m c 0 t) (iblk m c 1 t) q)
    ∧ ((outsAt0 m c t.val t.isLt).2 : Mat 512 1024) = slope (R := 512) (iblk m c 0 t) (iblk m c 1 t) := by
  rw [outsAt0_A m c t (by omega) (by omega)]
  have e := first c (grid0.coords t) (ms0_0 t) (hs0_0 t) (ms0_1 t) (hs0_1 t) (ms0_2 t) (hs0_2 t) (ms0_3 t) (hs0_3 t) (iblk m c 0 t) (iblk m c 1 t) ((hcond0_0 t).mpr (by omega)) (fun h' => absurd ((hcond0_1 t).mp h') (by omega))
  have e' := slope_first c (grid0.coords t) (ms0_0 t) (hs0_0 t) (ms0_1 t) (hs0_1 t) (ms0_2 t) (hs0_2 t) (ms0_3 t) (hs0_3 t) (iblk m c 0 t) (iblk m c 1 t) ((hcond0_0 t).mpr (by omega)) (fun h' => absurd ((hcond0_1 t).mp h') (by omega))
  dsimp only at e e' ⊢
  exact ⟨e, e'⟩

theorem point_next (t : Fin cfg0.N) (h : ¬t.val = 0) :
    (∀ q : Fin 1024, ((outsAt0 m c t.val t.isLt).1 (ix2 (0 : Fin 1) q) : EReal)
      = (outsAt0 m c (t.val - 1) (Nat.lt_of_le_of_lt (Nat.sub_le _ _) t.isLt)).1 (ix2 (0 : Fin 1) q) + column (R := 512) (iblk m c 0 t) (iblk m c 1 t) q)
    ∧ ((outsAt0 m c t.val t.isLt).2 : Mat 512 1024) = slope (R := 512) (iblk m c 0 t) (iblk m c 1 t) := by
  have h8 := (places t).1
  rw [outsAt0_B m c t (by omega) (by omega)]
  have e := next c (grid0.coords t) (ms0_0 t) (hs0_0 t) (ms0_1 t) (hs0_1 t) (ms0_2 t) (hs0_2 t) (ms0_3 t) (hs0_3 t) (iblk m c 0 t) (iblk m c 1 t) (fun h' => absurd ((hcond0_0 t).mp h') (by omega)) ((hcond0_1 t).mpr (by omega))
    (outsAt0 m c (t.val - 1) (Nat.lt_of_le_of_lt (Nat.sub_le _ _) t.isLt)).1
  have e' := slope_next c (grid0.coords t) (ms0_0 t) (hs0_0 t) (ms0_1 t) (hs0_1 t) (ms0_2 t) (hs0_2 t) (ms0_3 t) (hs0_3 t) (iblk m c 0 t) (iblk m c 1 t) (fun h' => absurd ((hcond0_0 t).mp h') (by omega)) ((hcond0_1 t).mpr (by omega))
    (outsAt0 m c (t.val - 1) (Nat.lt_of_le_of_lt (Nat.sub_le _ _) t.isLt)).1
  dsimp only at e e' ⊢
  exact ⟨e, e'⟩

/-- The row of sums after point `n`. -/
theorem sums (q : Fin 1024) : ∀ (n : ℕ) (hn : n < cfg0.N),
    ((outsAt0 m c n hn).1 (ix2 (0 : Fin 1) q) : EReal) = ∑ k ∈ Finset.range (512 * (n + 1)), row m c q k
  | 0, hn => ((point_first m c ⟨0, hn⟩ rfl).1 q).trans ((column_block m c ⟨0, hn⟩ q).trans (Finset.sum_congr rfl fun k _ => by simp))
  | n + 1, hn => by
    rw [Nat.mul_succ 512 (n + 1), Finset.sum_range_add, ← column_block m c ⟨n + 1, hn⟩ q, ← sums q n (Nat.lt_of_succ_lt hn)]
    exact (point_next m c ⟨n + 1, hn⟩ (by dsimp only; omega)).1 q

/-- The block of the gradient at point `t`. -/
theorem slope_at (t : Fin cfg0.N) : ((outsAt0 m c t.val t.isLt).2 : Mat 512 1024) = slope (R := 512) (iblk m c 0 t) (iblk m c 1 t) := by
  by_cases h : t.val = 0
  · exact (point_first m c t h).2
  · exact (point_next m c t h).2

/-- The gradient at the end. -/
theorem final_slope : (dats m 0 c).arrAt 3 cfg0.N = slope (output m c) (target m c) := by
  refine (dats m 0 c).arrAt_eq_of_cover 3 _ (fun t _ => ?_) ((by decide +kernel : win0_3.Covers).cover _ (Memref.isWhole_whole _))
  obtain ⟨-, -, -, -, -, p4, p5, -⟩ := places t
  show (cfg0.win 3).cut (grid0.coords t) ((dats m 0 c).after 3 t) = _
  rw [after0_3, slope_at]
  funext y
  have e := entry m c t ((cfg0.win 3).xinj (grid0.coords t) y) (((cfg0.win 3).blk t).view.emb y)
    (show _ = win0_3.index t (0 : Fin 2) * 512 + 1 * (y 0).val from by rw [p4, Nat.one_mul])
    (show _ = win0_3.index t (1 : Fin 2) * 1024 + 1 * (y 1).val from by rw [p5, Nat.one_mul, Nat.zero_add])
  exact congrArg (· * Ideal.ofBits .f32 0x3A800000#32) (congrArg₂ (fun a b : EReal => a - b) e.1 e.2)

/-- The row of sums at the end. -/
theorem final_sums : (dats m 0 c).arrAt 2 cfg0.N = (fun y => column (output m c) (target m c) (y 1) : Mat 1 1024) := by
  refine (dats m 0 c).arrAt_eq_of_cover 2 _ (fun t hf => ?_) ((by decide +kernel : win0_2.Covers).cover _ (Memref.isWhole_whole _))
  have h7 := (flush0_2 t).mp hf
  have h8 := (places t).1
  have p := (places t).2.2.2.2.2.2.2
  show (cfg0.win 2).cut (grid0.coords t) ((dats m 0 c).after 2 t) = _
  rw [after0_2]
  funext y
  refine Eq.trans (same2 (A := 1) (B := 1024) (outsAt0 m c t.val t.isLt).1 _ _ ?_ ?_) ((sums m c (((cfg0.win 2).blk t).view.emb y 1) t.val t.isLt).trans
    (by rw [show 512 * (t.val + 1) = 4096 by omega]; exact row_sum m c _))
  · exact Nat.lt_one_iff.mp ((cfg0.win 2).xinj (grid0.coords t) y 0).isLt
  · show (y 1).val = win0_2.index t (1 : Fin 2) * 1024 + 1 * (y 1).val
    omega

/-! ## The lines after the call -/

/-- The loss, in the kernel's spelling. -/
noncomputable def loss (x z : Mat 4096 1024) : EReal :=
  Ideal.div (Ideal.ofBits .f32 0x3F000000#32 * ∑ q : Fin 1024, column x z q) (Ideal.ofBits .f32 0x44800000#32)

theorem tail_eq (V : Valuation τ sig (Elt Ideal)) (x z : Mat 4096 1024)
    (h : V (Proc.devRef .tc main_v0_0) = (fun y => column x z (y 1) : Mat 1 1024)) :
    (StableHlo.after hostOps1 V (Proc.devRef .tc main_v3) : FVec Ideal S_ .f32) = fun _ => loss x z := by
  have e : (StableHlo.after hostOps1 V (Proc.devRef .tc main_v3) : FVec Ideal S_ .f32)
      = (Host.divf (mulf (constant S_ .f32 0x3F000000#32) (Host.reduceAdd (V (Proc.devRef .tc main_v0_0) : FVec Ideal S1x1024 .f32) (constant S_ .f32 0x00000000#32) reducesTo_S1x1024_S_d0_1 h_S_))
          (constant S_ .f32 0x44800000#32) : FVec Ideal S_ .f32) := by
    unfold hostOps1
    after_results
  rw [e, h]
  funext y
  unfold loss
  pointwise
  rw [Fin.sum_univ_one]

theorem run (ρ : Dev nD → PrngReg) : θ_run defs (onTc (τ := τ) (main (F := Ideal))) ⟨m, fun _ => 0, ρ⟩ fun r => ∀ c : Dev nD,
      r.2.mem ((c : Thread nD τ).loc main_v3) = (fun _ => loss (output m c) (target m c) : FVec Ideal S_ .f32)
      ∧ r.2.mem ((c : Thread nD τ).loc main_v0_1) = slope (output m c) (target m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (by decide)).trans (tail_eq _ _ _ (((dats m 0 c).withArrays_arrAt launch0.to₀.sharedIn _ (A_eq m c) 2).trans (final_sums m c))),
      ((h c).1 3).trans (final_slope m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel47Ideal.Loss

namespace Cert.Reference47Ideal.Loss

open Reference47Ideal Reference47Ideal.Gen Kernel47Ideal.Loss

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem inverse : Ideal.ofBits .f32 0x3A800000#32 = ((1 / 1024 : ℝ) : EReal) := by
  simp [Ideal.ofBits, Ideal.ieee, -EReal.coe_mul]; norm_num

/-- A sum times a factor that is a real number and not negative. -/
theorem sum_scaled {n : ℕ} (a : ℝ) (ha : 0 ≤ a) (f : Fin n → EReal) : ∑ k, f k * (a : EReal) = (∑ k, f k) * (a : EReal) :=
  (map_sum ({ toFun := fun x => x * (a : EReal), map_zero' := zero_mul _,
              map_add' := fun x y => EReal.right_distrib_of_nonneg_of_ne_top (EReal.coe_nonneg.mpr ha) (EReal.coe_ne_top a) x y } : EReal →+ EReal) f _).symm

/-- What the reference's two results hold. -/
theorem value (x z : FVec Ideal S4096x1024 .f32) :
    (mulf (constant S_ .f32 0x3F000000#32) (Host.reduceAdd (Host.divf (Host.reduceAdd (mulf (subf x z) (subf x z)) (constant S_ .f32 0x00000000#32) reducesTo_S4096x1024_S4096_d1 h_S_)
        (broadcastInDim S4096 ![] bcast_S_S4096 (constant S_ .f32 0x44800000#32))) (constant S_ .f32 0x00000000#32) reducesTo_S4096_S_d0 h_S_) : FVec Ideal S_ .f32) = fun _ => loss x z := by
  funext y
  unfold loss column
  pointwise
  rw [width, half]
  simp only [Ideal.div_coe (show (1024 : ℝ) ≠ 0 by norm_num), zero_add]
  rw [sum_scaled _ (by norm_num), Finset.sum_comm, mul_assoc]

theorem value_slope (x z : FVec Ideal S4096x1024 .f32) :
    (mulf (broadcastInDim S4096x1024 ![0] bcast_S4096_S4096x1024_0 (Host.divf (broadcastInDim S4096 ![] bcast_S_S4096 (mulf (constant S_ .f32 0x3F000000#32) (constant S_ .f32 0x3F800000#32)))
        (broadcastInDim S4096 ![] bcast_S_S4096 (constant S_ .f32 0x44800000#32)))) (mulf (broadcastInDim S4096x1024 ![] bcast_S_S4096x1024 (constant S_ .f32 0x40000000#32)) (subf x z)) : FVec Ideal S4096x1024 .f32)
      = Kernel47Ideal.Loss.slope x z := by
  funext y
  unfold Kernel47Ideal.Loss.slope
  pointwise
  rw [width, half, two, inverse, Ideal.div_coe (by norm_num), mul_comm (x y - z y), ← mul_assoc, ← EReal.coe_mul, ← EReal.coe_mul]
  norm_num

end Cert.Reference47Ideal.Loss

namespace Cert.Loss

/-- The frame of the reference. -/
theorem frame_reference : quiescent_Reference47Ideal := fun m ρ _ => quiet (by decide) (fun _ _ h => h.2.2) (Reference47Ideal.Value.run m ρ)

/-- The two results, from memories that agree on the arguments. -/
theorem equal : algebraic_Kernel47Ideal_Reference47Ideal := fun m ρ m' ρ' _ hm =>
  ⟨_, _, Kernel47Ideal.Loss.run m ρ,
   (θ_run Reference47Ideal.defs _ _).mono (fun _ h c =>
     ⟨((h c).1.trans (Reference47Ideal.Loss.value _ _)).trans (by rw [(hm c).1, (hm c).2]),
      ((h c).2.1.trans (Reference47Ideal.Loss.value_slope _ _)).trans (congrArg₂ Kernel47Ideal.Loss.slope (hm c).1 (hm c).2), (h c).2.2⟩)
     (Reference47Ideal.Value.run m' ρ')⟩

end Cert.Loss
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.GlaRun
public import proofs.«01_k».proof.Proof.RefRun
public import proofs.«01_k».proof.Proof.SameText
public import proofs.«01_k».proof.Proof.Equation
public import proofs.«01_k».proof.Proof.UpFwd
public import proofs.«01_k».proof.Proof.UpDx
public import proofs.«01_k».proof.Proof.UpDw
public import proofs.«01_k».proof.Proof.DownFwd
public import proofs.«01_k».proof.Proof.DownDx
public import proofs.«01_k».proof.Proof.DownDw
public import proofs.«01_k».proof.Proof.GateDx
public import proofs.«01_k».proof.Proof.SquareDw
public import proofs.«01_k».proof.Proof.SquareFwd
public import proofs.«01_k».proof.Proof.GlaOutDx
public import proofs.«01_k».proof.Proof.GlaInDx
public import proofs.«01_k».proof.Proof.GlaInDw
public import proofs.«01_k».proof.Proof.GlaInFwd
public import proofs.«01_k».proof.Proof.MlaOutDx
public import proofs.«01_k».proof.Proof.MlaOutDw
public import proofs.«01_k».proof.Proof.MlaOutFwd
public import proofs.«01_k».proof.Proof.MlaInDx
public import proofs.«01_k».proof.Proof.MlaInFwd
public import proofs.«01_k».proof.Proof.QueryDx
public import proofs.«01_k».proof.Proof.QueryDw
public import proofs.«01_k».proof.Proof.QueryFwd
public import proofs.«01_k».proof.Proof.KeyDx
public import proofs.«01_k».proof.Proof.KeyDw
public import proofs.«01_k».proof.Proof.KeyFwd
public import proofs.«01_k».proof.Proof.MlaInDw
public import proofs.«01_k».proof.Proof.PleDw
public import proofs.«01_k».proof.Proof.PleFwd
public import proofs.«01_k».proof.Proof.AdamFlat
public import proofs.«01_k».proof.Proof.AdamRows
public import proofs.«01_k».proof.Proof.AdamMore
public import proofs.«01_k».proof.Proof.Loss
public import Idealize.ShloMosaic.Adequacy
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Gen.Kernel42.Frame
public import proofs.«01_k».proof.Proof.Gen.Kernel43.Frame
public import proofs.«01_k».proof.Proof.Gen.Kernel44.Frame
public import proofs.«01_k».proof.Proof.Gen.Kernel45.Frame
public import proofs.«01_k».proof.Proof.Gen.Kernel46.Frame
public import proofs.«01_k».proof.Proof.Gen.Kernel47.Frame
public import proofs.«01_k».proof.Proof.Gen.Kernel47Ideal.Frame
public import proofs.«01_k».proof.Proof.Gen.Reference47Ideal.Run
public import Idealize.ShloMosaic.Init

@[expose] public section

noncomputable section

namespace Cert.Proof

open Idealize.ShloMosaic Idealize.SL.Sem Cert.Kernel

/-- The kernel's frame, over any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c =>
    ⟨(h.1 c _ (KernelIdeal.Both.mem_uc Cert.KernelIdeal.main_arg0 (by decide))).trans (KernelIdeal.Both.W2_main_arg0 m c),
     (h.1 c _ (KernelIdeal.Both.mem_uc Cert.KernelIdeal.main_arg1 (by decide))).trans (KernelIdeal.Both.W2_main_arg1 m c),
     (h.1 c _ (KernelIdeal.Both.mem_uc Cert.KernelIdeal.main_arg2 (by decide))).trans (KernelIdeal.Both.W2_main_arg2 m c)⟩, h.2⟩)
    (KernelIdeal.Both.run_main m ρ)

/-- The frame at the extended reals. -/
theorem frame_kernelIdeal : Cert.quiescent_KernelIdeal := fun m ρ _ => frame_any m ρ

/-- The frame at the machine's words: the two programs have the same text. -/
theorem frame_kernel : Cert.quiescent_Kernel := fun m ρ _ => by
  rw [SameText.defs_eq, SameText.main_eq]
  exact frame_any (F := Bits) m ρ

/-- The reference's frame. -/
theorem frame_reference : Cert.quiescent_ReferenceIdeal := fun m ρ _ =>
  (θ_run Cert.ReferenceIdeal.defs _ _).mono (fun _ h => ⟨fun c =>
    ⟨(h.1 c Cert.ReferenceIdeal.main_arg0 (by decide)).trans (ReferenceIdeal.Two.finalR_main_arg0 m c),
     (h.1 c Cert.ReferenceIdeal.main_arg1 (by decide)).trans (ReferenceIdeal.Two.finalR_main_arg1 m c),
     (h.1 c Cert.ReferenceIdeal.main_arg2 (by decide)).trans (ReferenceIdeal.Two.finalR_main_arg2 m c)⟩, h.2⟩)
    (ReferenceIdeal.Two.run_final (F := Ideal) m ρ)

/-- The results, from memories that agree on the arguments. -/
theorem equal_results : Cert.algebraic_KernelIdeal_ReferenceIdeal := fun m ρ m' ρ' _ hm =>
  ⟨fun c => KernelIdeal.Both.W2 m c (Proc.devRef .tc Cert.KernelIdeal.main_v0_0),
   fun c => KernelIdeal.Both.W2 m c (Proc.devRef .tc Cert.KernelIdeal.main_v1_0),
   fun c => KernelIdeal.Both.W2 m c (Proc.devRef .tc Cert.KernelIdeal.main_v1_1),
   fun c => KernelIdeal.Both.W2 m c (Proc.devRef .tc Cert.KernelIdeal.main_v1_2),
   fun c => KernelIdeal.Both.W2 m c (Proc.devRef .tc Cert.KernelIdeal.main_v1_3),
   (θ_run Cert.KernelIdeal.defs _ _).mono (fun _ h c =>
     ⟨h.1 c _ (KernelIdeal.Both.mem_uc Cert.KernelIdeal.main_v0_0 (by decide)),
      h.1 c _ (KernelIdeal.Both.mem_uc Cert.KernelIdeal.main_v1_0 (by decide)),
      h.1 c _ (KernelIdeal.Both.mem_uc Cert.KernelIdeal.main_v1_1 (by decide)),
      h.1 c _ (KernelIdeal.Both.mem_uc Cert.KernelIdeal.main_v1_2 (by decide)),
      h.1 c _ (KernelIdeal.Both.mem_uc Cert.KernelIdeal.main_v1_3 (by decide)),
      (h.1 c _ (KernelIdeal.Both.mem_uc Cert.KernelIdeal.main_arg0 (by decide))).trans (KernelIdeal.Both.W2_main_arg0 m c),
      (h.1 c _ (KernelIdeal.Both.mem_uc Cert.KernelIdeal.main_arg1 (by decide))).trans (KernelIdeal.Both.W2_main_arg1 m c),
      (h.1 c _ (KernelIdeal.Both.mem_uc Cert.KernelIdeal.main_arg2 (by decide))).trans (KernelIdeal.Both.W2_main_arg2 m c)⟩)
     (KernelIdeal.Both.run_main (F := Ideal) m ρ),
   (θ_run Cert.ReferenceIdeal.defs _ _).mono (fun _ h c =>
     ⟨(h.1 c Cert.ReferenceIdeal.main_v67 (by decide)).trans (Equation.o_eq m m' c (hm c).1 (hm c).2.1),
      (h.1 c Cert.ReferenceIdeal.main_v69 (by decide)).trans (Equation.dq_eq m m' c (hm c).1 (hm c).2.1 (hm c).2.2),
      (h.1 c Cert.ReferenceIdeal.main_v71 (by decide)).trans (Equation.dk_eq m m' c (hm c).1 (hm c).2.1 (hm c).2.2),
      (h.1 c Cert.ReferenceIdeal.main_v73 (by decide)).trans (Equation.dv_eq m m' c (hm c).1 (hm c).2.1 (hm c).2.2),
      (h.1 c Cert.ReferenceIdeal.main_v74 (by decide)).trans (Equation.dla_eq m m' c (hm c).1 (hm c).2.1 (hm c).2.2),
      (h.1 c Cert.ReferenceIdeal.main_arg0 (by decide)).trans (ReferenceIdeal.Two.finalR_main_arg0 m' c),
      (h.1 c Cert.ReferenceIdeal.main_arg1 (by decide)).trans (ReferenceIdeal.Two.finalR_main_arg1 m' c),
      (h.1 c Cert.ReferenceIdeal.main_arg2 (by decide)).trans (ReferenceIdeal.Two.finalR_main_arg2 m' c)⟩)
     (ReferenceIdeal.Two.run_final (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  frame_kernel, frame_kernelIdeal, frame_reference,
  fun m ρ _ => Cert.Kernel2.Gen.frame m ρ, fun m ρ _ => Cert.Kernel2Ideal.Gen.frame m ρ, Cert.UpDx.frame_reference,
  fun m ρ _ => Cert.Kernel3.Gen.frame m ρ, fun m ρ _ => Cert.Kernel3Ideal.Gen.frame m ρ, Cert.UpDw.frame_reference,
  fun m ρ _ => Cert.Kernel4.Gen.frame m ρ, fun m ρ _ => Cert.Kernel4Ideal.Gen.frame m ρ, Cert.DownDx.frame_reference,
  fun m ρ _ => Cert.Kernel5.Gen.frame m ρ, fun m ρ _ => Cert.Kernel5Ideal.Gen.frame m ρ, Cert.DownDw.frame_reference,
  fun m ρ _ => Cert.Kernel6.Gen.frame m ρ, fun m ρ _ => Cert.Kernel6Ideal.Gen.frame m ρ, Cert.Up.frame_reference,
  fun m ρ _ => Cert.Kernel7.Gen.frame m ρ, fun m ρ _ => Cert.Kernel7Ideal.Gen.frame m ρ, Cert.Down.frame_reference,
  fun m ρ _ => Cert.Kernel8.Gen.frame m ρ, fun m ρ _ => Cert.Kernel8Ideal.Gen.frame m ρ, Cert.GateDx.frame_reference,
  fun m ρ _ => Cert.Kernel9.Gen.frame m ρ, fun m ρ _ => Cert.Kernel9Ideal.Gen.frame m ρ, Cert.SquareDw.frame_reference,
  fun m ρ _ => Cert.Kernel10.Gen.frame m ρ, fun m ρ _ => Cert.Kernel10Ideal.Gen.frame m ρ, Cert.SquareFwd.frame_reference,
  fun m ρ _ => Cert.Kernel11.Gen.frame m ρ, fun m ρ _ => Cert.Kernel11Ideal.Gen.frame m ρ, Cert.GlaOutDx.frame_reference,
  fun m ρ _ => Cert.Kernel12.Gen.frame m ρ, fun m ρ _ => Cert.Kernel12Ideal.Gen.frame m ρ, Cert.GlaInDx.frame_reference,
  fun m ρ _ => Cert.Kernel13.Gen.frame m ρ, fun m ρ _ => Cert.Kernel13Ideal.Gen.frame m ρ, Cert.GlaInDw.frame_reference,
  fun m ρ _ => Cert.Kernel14.Gen.frame m ρ, fun m ρ _ => Cert.Kernel14Ideal.Gen.frame m ρ, Cert.GlaInFwd.frame_reference,
  fun m ρ _ => Cert.Kernel15.Gen.frame m ρ, fun m ρ _ => Cert.Kernel15Ideal.Gen.frame m ρ, Cert.MlaOutDx.frame_reference,
  fun m ρ _ => Cert.Kernel16.Gen.frame m ρ, fun m ρ _ => Cert.Kernel16Ideal.Gen.frame m ρ, Cert.MlaOutDw.frame_reference,
  fun m ρ _ => Cert.Kernel17.Gen.frame m ρ, fun m ρ _ => Cert.Kernel17Ideal.Gen.frame m ρ, Cert.MlaOutFwd.frame_reference,
  fun m ρ _ => Cert.Kernel18.Gen.frame m ρ, fun m ρ _ => Cert.Kernel18Ideal.Gen.frame m ρ, Cert.MlaInDx.frame_reference,
  fun m ρ _ => Cert.Kernel19.Gen.frame m ρ, fun m ρ _ => Cert.Kernel19Ideal.Gen.frame m ρ, Cert.MlaInFwd.frame_reference,
  fun m ρ _ => Cert.Kernel20.Gen.frame m ρ, fun m ρ _ => Cert.Kernel20Ideal.Gen.frame m ρ, Cert.QueryDx.frame_reference,
  fun m ρ _ => Cert.Kernel21.Gen.frame m ρ, fun m ρ _ => Cert.Kernel21Ideal.Gen.frame m ρ, Cert.QueryDw.frame_reference,
  fun m ρ _ => Cert.Kernel22.Gen.frame m ρ, fun m ρ _ => Cert.Kernel22Ideal.Gen.frame m ρ, Cert.QueryFwd.frame_reference,
  fun m ρ _ => Cert.Kernel23.Gen.frame m ρ, fun m ρ _ => Cert.Kernel23Ideal.Gen.frame m ρ, Cert.KeyDx.frame_reference,
  fun m ρ _ => Cert.Kernel24.Gen.frame m ρ, fun m ρ _ => Cert.Kernel24Ideal.Gen.frame m ρ, Cert.KeyDw.frame_reference,
  fun m ρ _ => Cert.Kernel25.Gen.frame m ρ, fun m ρ _ => Cert.Kernel25Ideal.Gen.frame m ρ, Cert.KeyFwd.frame_reference,
  fun m ρ _ => Cert.Kernel26.Gen.frame m ρ, fun m ρ _ => Cert.Kernel26Ideal.Gen.frame m ρ, Cert.MlaInDw.frame_reference,
  fun m ρ _ => Cert.Kernel27.Gen.frame m ρ, fun m ρ _ => Cert.Kernel27Ideal.Gen.frame m ρ, Cert.PleDw.frame_reference,
  fun m ρ _ => Cert.Kernel28.Gen.frame m ρ, fun m ρ _ => Cert.Kernel28Ideal.Gen.frame m ρ, Cert.PleFwd.frame_reference,
  fun m ρ _ => Cert.Kernel29.Gen.frame m ρ, fun m ρ _ => Cert.Kernel29Ideal.Gen.frame m ρ, Cert.Adam29.frame_reference,
  fun m ρ _ => Cert.Kernel30.Gen.frame m ρ, fun m ρ _ => Cert.Kernel30Ideal.Gen.frame m ρ, Cert.Adam30.frame_reference,
  fun m ρ _ => Cert.Kernel31.Gen.frame m ρ, fun m ρ _ => Cert.Kernel31Ideal.Gen.frame m ρ, Cert.Adam31.frame_reference,
  fun m ρ _ => Cert.Kernel32.Gen.frame m ρ, fun m ρ _ => Cert.Kernel32Ideal.Gen.frame m ρ, Cert.Adam32.frame_reference,
  fun m ρ _ => Cert.Kernel33.Gen.frame m ρ, fun m ρ _ => Cert.Kernel33Ideal.Gen.frame m ρ, Cert.Adam33.frame_reference,
  fun m ρ _ => Cert.Kernel34.Gen.frame m ρ, fun m ρ _ => Cert.Kernel34Ideal.Gen.frame m ρ, Cert.Adam34.frame_reference,
  fun m ρ _ => Cert.Kernel35.Gen.frame m ρ, fun m ρ _ => Cert.Kernel35Ideal.Gen.frame m ρ, Cert.Adam35.frame_reference,
  fun m ρ _ => Cert.Kernel36.Gen.frame m ρ, fun m ρ _ => Cert.Kernel36Ideal.Gen.frame m ρ, Cert.Adam36.frame_reference,
  fun m ρ _ => Cert.Kernel37.Gen.frame m ρ, fun m ρ _ => Cert.Kernel37Ideal.Gen.frame m ρ, Cert.Adam37.frame_reference,
  fun m ρ _ => Cert.Kernel38.Gen.frame m ρ, fun m ρ _ => Cert.Kernel38Ideal.Gen.frame m ρ, Cert.Adam38.frame_reference,
  fun m ρ _ => Cert.Kernel39.Gen.frame m ρ, fun m ρ _ => Cert.Kernel39Ideal.Gen.frame m ρ, Cert.Adam39.frame_reference,
  fun m ρ _ => Cert.Kernel40.Gen.frame m ρ, fun m ρ _ => Cert.Kernel40Ideal.Gen.frame m ρ, Cert.Adam40.frame_reference,
  fun m ρ _ => Cert.Kernel41.Gen.frame m ρ, fun m ρ _ => Cert.Kernel41Ideal.Gen.frame m ρ, Cert.Adam41.frame_reference,
  fun m ρ _ => Cert.Kernel42.Gen.frame m ρ, fun m ρ _ => Cert.Kernel42Ideal.Gen.frame m ρ, Cert.Adam42.frame_reference,
  fun m ρ _ => Cert.Kernel43.Gen.frame m ρ, fun m ρ _ => Cert.Kernel43Ideal.Gen.frame m ρ, Cert.Adam43.frame_reference,
  fun m ρ _ => Cert.Kernel44.Gen.frame m ρ, fun m ρ _ => Cert.Kernel44Ideal.Gen.frame m ρ, Cert.Adam44.frame_reference,
  fun m ρ _ => Cert.Kernel45.Gen.frame m ρ, fun m ρ _ => Cert.Kernel45Ideal.Gen.frame m ρ, Cert.Adam45.frame_reference,
  fun m ρ _ => Cert.Kernel46.Gen.frame m ρ, fun m ρ _ => Cert.Kernel46Ideal.Gen.frame m ρ, Cert.Adam46.frame_reference,
  fun m ρ _ => Cert.Kernel47.Gen.frame m ρ, fun m ρ _ => Cert.Kernel47Ideal.Gen.frame m ρ, Cert.Loss.frame_reference,
  trivial, equal_results,
  trivial, Cert.UpDx.equal,
  trivial, Cert.UpDw.equal,
  trivial, Cert.DownDx.equal,
  trivial, Cert.DownDw.equal,
  trivial, Cert.Up.equal,
  trivial, Cert.Down.equal,
  trivial, Cert.GateDx.equal,
  trivial, Cert.SquareDw.equal,
  trivial, Cert.SquareFwd.equal,
  trivial, Cert.GlaOutDx.equal,
  trivial, Cert.GlaInDx.equal,
  trivial, Cert.GlaInDw.equal,
  trivial, Cert.GlaInFwd.equal,
  trivial, Cert.MlaOutDx.equal,
  trivial, Cert.MlaOutDw.equal,
  trivial, Cert.MlaOutFwd.equal,
  trivial, Cert.MlaInDx.equal,
  trivial, Cert.MlaInFwd.equal,
  trivial, Cert.QueryDx.equal,
  trivial, Cert.QueryDw.equal,
  trivial, Cert.QueryFwd.equal,
  trivial, Cert.KeyDx.equal,
  trivial, Cert.KeyDw.equal,
  trivial, Cert.KeyFwd.equal,
  trivial, Cert.MlaInDw.equal,
  trivial, Cert.PleDw.equal,
  trivial, Cert.PleFwd.equal,
  trivial, Cert.Adam29.equal,
  trivial, Cert.Adam30.equal,
  trivial, Cert.Adam31.equal,
  trivial, Cert.Adam32.equal,
  trivial, Cert.Adam33.equal,
  trivial, Cert.Adam34.equal,
  trivial, Cert.Adam35.equal,
  trivial, Cert.Adam36.equal,
  trivial, Cert.Adam37.equal,
  trivial, Cert.Adam38.equal,
  trivial, Cert.Adam39.equal,
  trivial, Cert.Adam40.equal,
  trivial, Cert.Adam41.equal,
  trivial, Cert.Adam42.equal,
  trivial, Cert.Adam43.equal,
  trivial, Cert.Adam44.equal,
  trivial, Cert.Adam45.equal,
  trivial, Cert.Adam46.equal,
  trivial, Cert.Loss.equal⟩

end Cert.Proof

end
